-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x80x100x152 : Shape := ⟨4, ![4, 80, 100, 152]⟩
abbrev S4x4x100x152 : Shape := ⟨4, ![4, 4, 100, 152]⟩
abbrev S4x1x100x152 : Shape := ⟨4, ![4, 1, 100, 152]⟩
abbrev S15200x2 : Shape := ⟨2, ![15200, 2]⟩
abbrev S4x2 : Shape := ⟨2, ![4, 2]⟩
abbrev S4x1x80x100x152 : Shape := ⟨5, ![4, 1, 80, 100, 152]⟩
abbrev S4x100x152x1x80 : Shape := ⟨5, ![4, 100, 152, 1, 80]⟩
abbrev S4x15200x80 : Shape := ⟨3, ![4, 15200, 80]⟩
abbrev S_ : Shape := ⟨0, ![]⟩
abbrev S4x1x4x100x152 : Shape := ⟨5, ![4, 1, 4, 100, 152]⟩
abbrev S4x100x152x1x4 : Shape := ⟨5, ![4, 100, 152, 1, 4]⟩
abbrev S4x15200x4 : Shape := ⟨3, ![4, 15200, 4]⟩
abbrev S4x1x1x100x152 : Shape := ⟨5, ![4, 1, 1, 100, 152]⟩
abbrev S4x100x152x1x1 : Shape := ⟨5, ![4, 100, 152, 1, 1]⟩
abbrev S4x15200x1 : Shape := ⟨3, ![4, 15200, 1]⟩
abbrev S4x15200 : Shape := ⟨2, ![4, 15200]⟩
abbrev S4x1216000 : Shape := ⟨2, ![4, 1216000]⟩
abbrev S4x1000 : Shape := ⟨2, ![4, 1000]⟩
abbrev S4x1000x1 : Shape := ⟨3, ![4, 1000, 1]⟩
abbrev S1 : Shape := ⟨1, ![1]⟩
abbrev S1x1x1 : Shape := ⟨3, ![1, 1, 1]⟩
abbrev S4x1000x2 : Shape := ⟨3, ![4, 1000, 2]⟩
abbrev S4x1000x4 : Shape := ⟨3, ![4, 1000, 4]⟩
abbrev S4x1 : Shape := ⟨2, ![4, 1]⟩
abbrev S4 : Shape := ⟨1, ![4]⟩
abbrev S4x1x1000 : Shape := ⟨3, ![4, 1, 1000]⟩
abbrev S4x7x1000 : Shape := ⟨3, ![4, 7, 1000]⟩
abbrev S4x7x1024 : Shape := ⟨3, ![4, 7, 1024]⟩
abbrev S4x7x8x128 : Shape := ⟨4, ![4, 7, 8, 128]⟩
abbrev S4x104x8 : Shape := ⟨3, ![4, 104, 8]⟩
abbrev S4x100x6 : Shape := ⟨3, ![4, 100, 6]⟩
abbrev S1x7x8x128 : Shape := ⟨4, ![1, 7, 8, 128]⟩
abbrev S1x104x8 : Shape := ⟨3, ![1, 104, 8]⟩
abbrev S1x1x8x128 : Shape := ⟨4, ![1, 1, 8, 128]⟩
abbrev S8x128 : Shape := ⟨2, ![8, 128]⟩
abbrev S1x8 : Shape := ⟨2, ![1, 8]⟩
abbrev S1x8x128 : Shape := ⟨3, ![1, 8, 128]⟩
abbrev S1x1x8 : Shape := ⟨3, ![1, 1, 8]⟩

abbrev nBuf : Space → Nat
  | .hbm => 229
  | .vmem => 4
  | .smem => 0
  | _ => 0

abbrev hbmTy0_0 (i : Nat) : BufTy := match i % 128 with
  | 0 => ⟨S4x80x100x152, .f32⟩
  | 1 => ⟨S4x4x100x152, .f32⟩
  | 2 => ⟨S4x1x100x152, .f32⟩
  | 3 => ⟨S15200x2, .f32⟩
  | 4 => ⟨S4x2, .i32⟩
  | 5 => ⟨S4x1x80x100x152, .f32⟩
  | 6 => ⟨S4x100x152x1x80, .f32⟩
  | 7 => ⟨S4x15200x80, .f32⟩
  | 8 => ⟨S4x15200x80, .f32⟩
  | 9 => ⟨S4x15200x80, .f32⟩
  | 10 => ⟨S_, .f32⟩
  | 11 => ⟨S4x15200x80, .f32⟩
  | 12 => ⟨S4x15200x80, .f32⟩
  | 13 => ⟨S_, .f32⟩
  | 14 => ⟨S4x15200x80, .f32⟩
  | 15 => ⟨S4x15200x80, .f32⟩
  | 16 => ⟨S4x1x4x100x152, .f32⟩
  | 17 => ⟨S4x100x152x1x4, .f32⟩
  | 18 => ⟨S4x15200x4, .f32⟩
  | 19 => ⟨S4x1x1x100x152, .f32⟩
  | 20 => ⟨S4x100x152x1x1, .f32⟩
  | 21 => ⟨S4x15200x1, .f32⟩
  | 22 => ⟨S4x15200, .f32⟩
  | 23 => ⟨S4x15200, .f32⟩
  | 24 => ⟨S4x15200, .f32⟩
  | 25 => ⟨S_, .f32⟩
  | 26 => ⟨S4x15200, .f32⟩
  | 27 => ⟨S4x15200, .f32⟩
  | 28 => ⟨S_, .f32⟩
  | 29 => ⟨S4x15200, .f32⟩
  | 30 => ⟨S4x15200, .f32⟩
  | 31 => ⟨S_, .f32⟩
  | 32 => ⟨S4x15200x80, .f32⟩
  | 33 => ⟨S4x15200x80, .i1⟩
  | 34 => ⟨S4x15200x1, .f32⟩
  | 35 => ⟨S4x15200x80, .f32⟩
  | 36 => ⟨S4x15200x80, .f32⟩
  | 37 => ⟨S4x15200x80, .f32⟩
  | 38 => ⟨S4x15200x80, .f32⟩
  | 39 => ⟨S4x1216000, .f32⟩
  | 40 => ⟨S4x1000, .f32⟩
  | 41 => ⟨S4x1000, .i32⟩
  | 42 => ⟨S_, .i32⟩
  | 43 => ⟨S_, .i32⟩
  | 44 => ⟨S4x1000, .i32⟩
  | 45 => ⟨S4x1000, .i32⟩
  | 46 => ⟨S4x1000, .i32⟩
  | 47 => ⟨S_, .i32⟩
  | 48 => ⟨S4x1000, .i32⟩
  | 49 => ⟨S4x1000, .i1⟩
  | 50 => ⟨S4x1000, .i32⟩
  | 51 => ⟨S4x1000, .i32⟩
  | 52 => ⟨S_, .i32⟩
  | 53 => ⟨S4x1000, .i32⟩
  | 54 => ⟨S4x1000, .i1⟩
  | 55 => ⟨S4x1000, .i1⟩
  | 56 => ⟨S_, .i32⟩
  | 57 => ⟨S4x1000, .i32⟩
  | 58 => ⟨S4x1000, .i32⟩
  | 59 => ⟨S4x1000, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S4x1000, .i32⟩
  | 67 => ⟨S4x1000, .i32⟩
  | 68 => ⟨S_, .i32⟩
  | 69 => ⟨S4x1000, .i32⟩
  | 70 => ⟨S4x1000, .i1⟩
  | 71 => ⟨S_, .i32⟩
  | 72 => ⟨S4x1000, .i32⟩
  | 73 => ⟨S4x1000, .i1⟩
  | 74 => ⟨S_, .i32⟩
  | 75 => ⟨S_, .i1⟩
  | 76 => ⟨S4x1000, .i1⟩
  | 77 => ⟨S4x1000, .i1⟩
  | 78 => ⟨S4x1000, .i1⟩
  | 79 => ⟨S4x1000, .i32⟩
  | 80 => ⟨S4x1000, .i32⟩
  | 81 => ⟨S4x1000, .i32⟩
  | 82 => ⟨S_, .i32⟩
  | 83 => ⟨S4x1000, .i32⟩
  | 84 => ⟨S4x1000, .i32⟩
  | 85 => ⟨S4x1216000, .i1⟩
  | 86 => ⟨S_, .i32⟩
  | 87 => ⟨S4x1000, .i32⟩
  | 88 => ⟨S4x1000, .i1⟩
  | 89 => ⟨S_, .i32⟩
  | 90 => ⟨S4x1000, .i32⟩
  | 91 => ⟨S4x1000, .i32⟩
  | 92 => ⟨S4x1000, .i32⟩
  | 93 => ⟨S4x1000x1, .i32⟩
  | 94 => ⟨S1, .i32⟩
  | 95 => ⟨S_, .i32⟩
  | 96 => ⟨S4x1000x1, .i32⟩
  | 97 => ⟨S4x1000x1, .i1⟩
  | 98 => ⟨S1x1x1, .i32⟩
  | 99 => ⟨S4x1000x1, .i32⟩
  | 100 => ⟨S4x1000x1, .i1⟩
  | 101 => ⟨S4x1000x1, .i1⟩
  | 102 => ⟨S_, .i1⟩
  | 103 => ⟨S4x1000, .i1⟩
  | 104 => ⟨S4x1000, .i1⟩
  | 105 => ⟨S_, .i1⟩
  | 106 => ⟨S4x1000, .i1⟩
  | 107 => ⟨S4x1000, .i1⟩
  | 108 => ⟨S_, .i32⟩
  | 109 => ⟨S4x1000, .i32⟩
  | 110 => ⟨S4x1000, .i1⟩
  | 111 => ⟨S_, .i32⟩
  | 112 => ⟨S4x1000, .i32⟩
  | 113 => ⟨S4x1000, .i32⟩
  | 114 => ⟨S4x1000, .i32⟩
  | 115 => ⟨S4x1000x1, .i32⟩
  | 116 => ⟨S4x1000x2, .f32⟩
  | 117 => ⟨S4x1000x1, .i32⟩
  | 118 => ⟨S_, .i32⟩
  | 119 => ⟨S4x1000x1, .i32⟩
  | 120 => ⟨S4x1000x1, .i1⟩
  | 121 => ⟨S_, .i32⟩
  | 122 => ⟨S4x1000x1, .i32⟩
  | 123 => ⟨S4x1000x1, .i32⟩
  | 124 => ⟨S4x1000x1, .i32⟩
  | 125 => ⟨S1, .i32⟩
  | 126 => ⟨S_, .i32⟩
  | 127 => ⟨S4x1000x1, .i32⟩
  | _ => ⟨S4x80x100x152, .f32⟩

abbrev hbmTy0_1 (i : Nat) : BufTy := match i % 128 with
  | 0 => ⟨S4x1000x1, .i1⟩
  | 1 => ⟨S1x1x1, .i32⟩
  | 2 => ⟨S4x1000x1, .i32⟩
  | 3 => ⟨S4x1000x1, .i1⟩
  | 4 => ⟨S4x1000x1, .i1⟩
  | 5 => ⟨S_, .i1⟩
  | 6 => ⟨S4x1000, .i1⟩
  | 7 => ⟨S4x1000x4, .f32⟩
  | 8 => ⟨S4x1000x4, .i1⟩
  | 9 => ⟨S_, .f32⟩
  | 10 => ⟨S4x1000x4, .f32⟩
  | 11 => ⟨S4x1000x4, .f32⟩
  | 12 => ⟨S4x1000x1, .f32⟩
  | 13 => ⟨S4x1000, .f32⟩
  | 14 => ⟨S4x1000x1, .f32⟩
  | 15 => ⟨S4x1000, .f32⟩
  | 16 => ⟨S4x1000, .f32⟩
  | 17 => ⟨S4x1000x1, .f32⟩
  | 18 => ⟨S4x1000, .f32⟩
  | 19 => ⟨S4x1000x1, .f32⟩
  | 20 => ⟨S4x1000, .f32⟩
  | 21 => ⟨S4x1000, .f32⟩
  | 22 => ⟨S4x1000x1, .f32⟩
  | 23 => ⟨S4x1000, .f32⟩
  | 24 => ⟨S4x1000x1, .f32⟩
  | 25 => ⟨S4x1000, .f32⟩
  | 26 => ⟨S4x1000, .f32⟩
  | 27 => ⟨S4x1000x1, .f32⟩
  | 28 => ⟨S4x1000, .f32⟩
  | 29 => ⟨S4x1000x1, .f32⟩
  | 30 => ⟨S4x1000, .f32⟩
  | 31 => ⟨S4x1000, .f32⟩
  | 32 => ⟨S4x1, .i32⟩
  | 33 => ⟨S4, .i32⟩
  | 34 => ⟨S4, .f32⟩
  | 35 => ⟨S_, .f32⟩
  | 36 => ⟨S4, .f32⟩
  | 37 => ⟨S4, .f32⟩
  | 38 => ⟨S4x1, .f32⟩
  | 39 => ⟨S4x1, .i32⟩
  | 40 => ⟨S4, .i32⟩
  | 41 => ⟨S4, .f32⟩
  | 42 => ⟨S_, .f32⟩
  | 43 => ⟨S4, .f32⟩
  | 44 => ⟨S4, .f32⟩
  | 45 => ⟨S4x1, .f32⟩
  | 46 => ⟨S_, .f32⟩
  | 47 => ⟨S_, .f32⟩
  | 48 => ⟨S4x1000, .f32⟩
  | 49 => ⟨S4x1000, .f32⟩
  | 50 => ⟨S4x1000, .f32⟩
  | 51 => ⟨S4x1000, .f32⟩
  | 52 => ⟨S_, .f32⟩
  | 53 => ⟨S_, .f32⟩
  | 54 => ⟨S4x1000, .f32⟩
  | 55 => ⟨S4x1000, .f32⟩
  | 56 => ⟨S4x1000, .f32⟩
  | 57 => ⟨S4x1000, .f32⟩
  | 58 => ⟨S_, .f32⟩
  | 59 => ⟨S_, .f32⟩
  | 60 => ⟨S4x1000, .f32⟩
  | 61 => ⟨S4x1000, .f32⟩
  | 62 => ⟨S4x1000, .f32⟩
  | 63 => ⟨S4x1000, .f32⟩
  | 64 => ⟨S_, .f32⟩
  | 65 => ⟨S_, .f32⟩
  | 66 => ⟨S4x1000, .f32⟩
  | 67 => ⟨S4x1000, .f32⟩
  | 68 => ⟨S4x1000, .f32⟩
  | 69 => ⟨S4x1000, .f32⟩
  | 70 => ⟨S4x1000, .f32⟩
  | 71 => ⟨S_, .f32⟩
  | 72 => ⟨S4x1000, .f32⟩
  | 73 => ⟨S4x1000, .i1⟩
  | 74 => ⟨S4x1000, .i1⟩
  | 75 => ⟨S4x1000, .f32⟩
  | 76 => ⟨S_, .f32⟩
  | 77 => ⟨S4x1000, .f32⟩
  | 78 => ⟨S4x1000, .i1⟩
  | 79 => ⟨S4x1000, .i1⟩
  | 80 => ⟨S_, .f32⟩
  | 81 => ⟨S_, .f32⟩
  | 82 => ⟨S4x1000, .f32⟩
  | 83 => ⟨S4x1000, .f32⟩
  | 84 => ⟨S4x1000, .f32⟩
  | 85 => ⟨S4x1000, .f32⟩
  | 86 => ⟨S4x1000, .f32⟩
  | 87 => ⟨S4x1x1000, .f32⟩
  | 88 => ⟨S4x1x1000, .f32⟩
  | 89 => ⟨S4x1x1000, .f32⟩
  | 90 => ⟨S4x1x1000, .f32⟩
  | 91 => ⟨S4x1x1000, .f32⟩
  | 92 => ⟨S4x1x1000, .f32⟩
  | 93 => ⟨S4x1x1000, .f32⟩
  | 94 => ⟨S4x7x1000, .f32⟩
  | 95 => ⟨S_, .i32⟩
  | 96 => ⟨S_, .f32⟩
  | 97 => ⟨S4x7x1024, .f32⟩
  | 98 => ⟨S4x7x8x128, .f32⟩
  | 99 => ⟨S4x104x8, .f32⟩
  | 100 => ⟨S4x100x6, .f32⟩
  | _ => ⟨S4x80x100x152, .f32⟩

abbrev hbmTy (i : Nat) : BufTy := match i / 128 with
  | 0 => hbmTy0_0 i
  | 1 => hbmTy0_1 i
  | _ => ⟨S4x80x100x152, .f32⟩

abbrev bufTy : (tb : Table) → Fin (tcTables nBuf tb) → BufTy
  | .hbm, ⟨i, _⟩ => hbmTy i
  | .local _ .vmem, ⟨0, _⟩ => ⟨S1x7x8x128, .f32⟩
  | .local _ .vmem, ⟨1, _⟩ => ⟨S1x7x8x128, .f32⟩
  | .local _ .vmem, ⟨2, _⟩ => ⟨S1x104x8, .f32⟩
  | .local _ .vmem, ⟨3, _⟩ => ⟨S1x104x8, .f32⟩
  | _, _ => ⟨S4x80x100x152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_call0_v6 : Ref sig .tc := ⟨.hbm, 12, rfl⟩
abbrev main_call0_cst_0 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_call0_v17 : Ref sig .tc := ⟨.hbm, 24, rfl⟩
abbrev main_call0_cst_1 : Ref sig .tc := ⟨.hbm, 25, rfl⟩
abbrev main_call0_v18 : Ref sig .tc := ⟨.hbm, 26, rfl⟩
abbrev main_call0_v19 : Ref sig .tc := ⟨.hbm, 27, rfl⟩
abbrev main_call0_cst_2 : Ref sig .tc := ⟨.hbm, 28, rfl⟩
abbrev main_call0_v20 : Ref sig .tc := ⟨.hbm, 29, rfl⟩
abbrev main_call0_v21 : Ref sig .tc := ⟨.hbm, 30, rfl⟩
abbrev main_call0_cst_3 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_v26 : Ref sig .tc := ⟨.hbm, 36, rfl⟩
abbrev main_call0_v27 : Ref sig .tc := ⟨.hbm, 37, rfl⟩
abbrev main_call0_v28 : Ref sig .tc := ⟨.hbm, 38, rfl⟩
abbrev main_call0_v29 : Ref sig .tc := ⟨.hbm, 39, rfl⟩
abbrev main_call0_values : Ref sig .tc := ⟨.hbm, 40, rfl⟩
abbrev main_call0_indices : Ref sig .tc := ⟨.hbm, 41, rfl⟩
abbrev main_call0_c : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_c : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_call0_c_0 : Ref sig .tc := ⟨.hbm, 56, rfl⟩
abbrev main_call0_call0_v12 : Ref sig .tc := ⟨.hbm, 57, rfl⟩
abbrev main_call0_call0_v13 : Ref sig .tc := ⟨.hbm, 58, rfl⟩
abbrev main_call0_v30 : Ref sig .tc := ⟨.hbm, 59, rfl⟩
abbrev main_call0_c_4 : Ref sig .tc := ⟨.hbm, 60, rfl⟩
abbrev main_call0_call1_v0 : Ref sig .tc := ⟨.hbm, 61, rfl⟩
abbrev main_call0_call1_c : Ref sig .tc := ⟨.hbm, 62, rfl⟩
abbrev main_call0_call1_v1 : Ref sig .tc := ⟨.hbm, 63, rfl⟩
abbrev main_call0_call1_c_0 : Ref sig .tc := ⟨.hbm, 64, rfl⟩
abbrev main_call0_call1_v2 : Ref sig .tc := ⟨.hbm, 65, rfl⟩
abbrev main_call0_call1_v3 : Ref sig .tc := ⟨.hbm, 66, rfl⟩
abbrev main_call0_call1_v4 : Ref sig .tc := ⟨.hbm, 67, rfl⟩
abbrev main_call0_call1_c_1 : Ref sig .tc := ⟨.hbm, 68, rfl⟩
abbrev main_call0_call1_v5 : Ref sig .tc := ⟨.hbm, 69, rfl⟩
abbrev main_call0_call1_v6 : Ref sig .tc := ⟨.hbm, 70, rfl⟩
abbrev main_call0_call1_c_2 : Ref sig .tc := ⟨.hbm, 71, rfl⟩
abbrev main_call0_call1_v7 : Ref sig .tc := ⟨.hbm, 72, rfl⟩
abbrev main_call0_call1_v8 : Ref sig .tc := ⟨.hbm, 73, rfl⟩
abbrev main_call0_call1_c_3 : Ref sig .tc := ⟨.hbm, 74, rfl⟩
abbrev main_call0_call1_v9 : Ref sig .tc := ⟨.hbm, 75, rfl⟩
abbrev main_call0_call1_v10 : Ref sig .tc := ⟨.hbm, 76, rfl⟩
abbrev main_call0_call1_v11 : Ref sig .tc := ⟨.hbm, 77, rfl⟩
abbrev main_call0_call1_v12 : Ref sig .tc := ⟨.hbm, 78, rfl⟩
abbrev main_call0_call1_v13 : Ref sig .tc := ⟨.hbm, 79, rfl⟩
abbrev main_call0_call1_v14 : Ref sig .tc := ⟨.hbm, 80, rfl⟩
abbrev main_call0_v31 : Ref sig .tc := ⟨.hbm, 81, rfl⟩
abbrev main_call0_c_5 : Ref sig .tc := ⟨.hbm, 82, rfl⟩
abbrev main_call0_v32 : Ref sig .tc := ⟨.hbm, 83, rfl⟩
abbrev main_call0_v33 : Ref sig .tc := ⟨.hbm, 84, rfl⟩
abbrev main_call0_v34 : Ref sig .tc := ⟨.hbm, 85, rfl⟩
abbrev main_call0_call2_c : Ref sig .tc := ⟨.hbm, 86, rfl⟩
abbrev main_call0_call2_v0 : Ref sig .tc := ⟨.hbm, 87, rfl⟩
abbrev main_call0_call2_v1 : Ref sig .tc := ⟨.hbm, 88, rfl⟩
abbrev main_call0_call2_c_0 : Ref sig .tc := ⟨.hbm, 89, rfl⟩
abbrev main_call0_call2_v2 : Ref sig .tc := ⟨.hbm, 90, rfl⟩
abbrev main_call0_call2_v3 : Ref sig .tc := ⟨.hbm, 91, rfl⟩
abbrev main_call0_call2_v4 : Ref sig .tc := ⟨.hbm, 92, rfl⟩
abbrev main_call0_call2_v5 : Ref sig .tc := ⟨.hbm, 93, rfl⟩
abbrev main_call0_call2_c_1 : Ref sig .tc := ⟨.hbm, 94, rfl⟩
abbrev main_call0_call2_c_2 : Ref sig .tc := ⟨.hbm, 95, rfl⟩
abbrev main_call0_call2_v6 : Ref sig .tc := ⟨.hbm, 96, rfl⟩
abbrev main_call0_call2_v7 : Ref sig .tc := ⟨.hbm, 97, rfl⟩
abbrev main_call0_call2_v8 : Ref sig .tc := ⟨.hbm, 98, rfl⟩
abbrev main_call0_call2_v9 : Ref sig .tc := ⟨.hbm, 99, rfl⟩
abbrev main_call0_call2_v10 : Ref sig .tc := ⟨.hbm, 100, rfl⟩
abbrev main_call0_call2_v11 : Ref sig .tc := ⟨.hbm, 101, rfl⟩
abbrev main_call0_call2_c_3 : Ref sig .tc := ⟨.hbm, 102, rfl⟩
abbrev main_call0_call2_v12 : Ref sig .tc := ⟨.hbm, 103, rfl⟩
abbrev main_call0_call2_v13 : Ref sig .tc := ⟨.hbm, 104, rfl⟩
abbrev main_call0_call2_c_4 : Ref sig .tc := ⟨.hbm, 105, rfl⟩
abbrev main_call0_call2_v14 : Ref sig .tc := ⟨.hbm, 106, rfl⟩
abbrev main_call0_v35 : Ref sig .tc := ⟨.hbm, 107, rfl⟩
abbrev main_call0_c_6 : Ref sig .tc := ⟨.hbm, 108, rfl⟩
abbrev main_call0_v36 : Ref sig .tc := ⟨.hbm, 109, rfl⟩
abbrev main_call0_v37 : Ref sig .tc := ⟨.hbm, 110, rfl⟩
abbrev main_call0_c_7 : Ref sig .tc := ⟨.hbm, 111, rfl⟩
abbrev main_call0_v38 : Ref sig .tc := ⟨.hbm, 112, rfl⟩
abbrev main_call0_v39 : Ref sig .tc := ⟨.hbm, 113, rfl⟩
abbrev main_call0_v40 : Ref sig .tc := ⟨.hbm, 114, rfl⟩
abbrev main_call0_v41 : Ref sig .tc := ⟨.hbm, 115, rfl⟩
abbrev main_call0_v42 : Ref sig .tc := ⟨.hbm, 116, rfl⟩
abbrev main_call0_v43 : Ref sig .tc := ⟨.hbm, 117, rfl⟩
abbrev main_call0_call3_c : Ref sig .tc := ⟨.hbm, 118, rfl⟩
abbrev main_call0_call3_v0 : Ref sig .tc := ⟨.hbm, 119, rfl⟩
abbrev main_call0_call3_v1 : Ref sig .tc := ⟨.hbm, 120, rfl⟩
abbrev main_call0_call3_c_0 : Ref sig .tc := ⟨.hbm, 121, rfl⟩
abbrev main_call0_call3_v2 : Ref sig .tc := ⟨.hbm, 122, rfl⟩
abbrev main_call0_call3_v3 : Ref sig .tc := ⟨.hbm, 123, rfl⟩
abbrev main_call0_call3_v4 : Ref sig .tc := ⟨.hbm, 124, rfl⟩
abbrev main_call0_call3_c_1 : Ref sig .tc := ⟨.hbm, 125, rfl⟩
abbrev main_call0_call3_c_2 : Ref sig .tc := ⟨.hbm, 126, rfl⟩
abbrev main_call0_call3_v5 : Ref sig .tc := ⟨.hbm, 127, rfl⟩
abbrev main_call0_call3_v6 : Ref sig .tc := ⟨.hbm, 128, rfl⟩
abbrev main_call0_call3_v7 : Ref sig .tc := ⟨.hbm, 129, rfl⟩
abbrev main_call0_call3_v8 : Ref sig .tc := ⟨.hbm, 130, rfl⟩
abbrev main_call0_call3_v9 : Ref sig .tc := ⟨.hbm, 131, rfl⟩
abbrev main_call0_call3_v10 : Ref sig .tc := ⟨.hbm, 132, rfl⟩
abbrev main_call0_call3_c_3 : Ref sig .tc := ⟨.hbm, 133, rfl⟩
abbrev main_call0_call3_v11 : Ref sig .tc := ⟨.hbm, 134, rfl⟩
abbrev main_call0_call3_v12 : Ref sig .tc := ⟨.hbm, 135, rfl⟩
abbrev main_call0_call3_v13 : Ref sig .tc := ⟨.hbm, 136, rfl⟩
abbrev main_call0_call3_cst : Ref sig .tc := ⟨.hbm, 137, rfl⟩
abbrev main_call0_call3_v14 : Ref sig .tc := ⟨.hbm, 138, rfl⟩
abbrev main_call0_v44 : Ref sig .tc := ⟨.hbm, 139, rfl⟩
abbrev main_call0_v45 : Ref sig .tc := ⟨.hbm, 140, rfl⟩
abbrev main_call0_v46 : Ref sig .tc := ⟨.hbm, 141, rfl⟩
abbrev main_call0_v47 : Ref sig .tc := ⟨.hbm, 142, rfl⟩
abbrev main_call0_v48 : Ref sig .tc := ⟨.hbm, 143, rfl⟩
abbrev main_call0_v49 : Ref sig .tc := ⟨.hbm, 144, rfl⟩
abbrev main_call0_v50 : Ref sig .tc := ⟨.hbm, 145, rfl⟩
abbrev main_call0_v51 : Ref sig .tc := ⟨.hbm, 146, rfl⟩
abbrev main_call0_v52 : Ref sig .tc := ⟨.hbm, 147, rfl⟩
abbrev main_call0_v53 : Ref sig .tc := ⟨.hbm, 148, rfl⟩
abbrev main_call0_v54 : Ref sig .tc := ⟨.hbm, 149, rfl⟩
abbrev main_call0_v55 : Ref sig .tc := ⟨.hbm, 150, rfl⟩
abbrev main_call0_v56 : Ref sig .tc := ⟨.hbm, 151, rfl⟩
abbrev main_call0_v57 : Ref sig .tc := ⟨.hbm, 152, rfl⟩
abbrev main_call0_v58 : Ref sig .tc := ⟨.hbm, 153, rfl⟩
abbrev main_call0_v59 : Ref sig .tc := ⟨.hbm, 154, rfl⟩
abbrev main_call0_v60 : Ref sig .tc := ⟨.hbm, 155, rfl⟩
abbrev main_call0_v61 : Ref sig .tc := ⟨.hbm, 156, rfl⟩
abbrev main_call0_v62 : Ref sig .tc := ⟨.hbm, 157, rfl⟩
abbrev main_call0_v63 : Ref sig .tc := ⟨.hbm, 158, rfl⟩
abbrev main_call0_v64 : Ref sig .tc := ⟨.hbm, 159, rfl⟩
abbrev main_call0_v65 : Ref sig .tc := ⟨.hbm, 160, rfl⟩
abbrev main_call0_v66 : Ref sig .tc := ⟨.hbm, 161, rfl⟩
abbrev main_call0_v67 : Ref sig .tc := ⟨.hbm, 162, rfl⟩
abbrev main_call0_cst_8 : Ref sig .tc := ⟨.hbm, 163, rfl⟩
abbrev main_call0_v68 : Ref sig .tc := ⟨.hbm, 164, rfl⟩
abbrev main_call0_v69 : Ref sig .tc := ⟨.hbm, 165, rfl⟩
abbrev main_call0_v70 : Ref sig .tc := ⟨.hbm, 166, rfl⟩
abbrev main_call0_v71 : Ref sig .tc := ⟨.hbm, 167, rfl⟩
abbrev main_call0_v72 : Ref sig .tc := ⟨.hbm, 168, rfl⟩
abbrev main_call0_v73 : Ref sig .tc := ⟨.hbm, 169, rfl⟩
abbrev main_call0_cst_9 : Ref sig .tc := ⟨.hbm, 170, rfl⟩
abbrev main_call0_v74 : Ref sig .tc := ⟨.hbm, 171, rfl⟩
abbrev main_call0_v75 : Ref sig .tc := ⟨.hbm, 172, rfl⟩
abbrev main_call0_v76 : Ref sig .tc := ⟨.hbm, 173, rfl⟩
abbrev main_call0_cst_10 : Ref sig .tc := ⟨.hbm, 174, rfl⟩
abbrev main_call0_call4_v0 : Ref sig .tc := ⟨.hbm, 175, rfl⟩
abbrev main_call0_call4_v1 : Ref sig .tc := ⟨.hbm, 176, rfl⟩
abbrev main_call0_call4_v2 : Ref sig .tc := ⟨.hbm, 177, rfl⟩
abbrev main_call0_call4_v3 : Ref sig .tc := ⟨.hbm, 178, rfl⟩
abbrev main_call0_v77 : Ref sig .tc := ⟨.hbm, 179, rfl⟩
abbrev main_call0_cst_11 : Ref sig .tc := ⟨.hbm, 180, rfl⟩
abbrev main_call0_call5_v0 : Ref sig .tc := ⟨.hbm, 181, rfl⟩
abbrev main_call0_call5_v1 : Ref sig .tc := ⟨.hbm, 182, rfl⟩
abbrev main_call0_call5_v2 : Ref sig .tc := ⟨.hbm, 183, rfl⟩
abbrev main_call0_call5_v3 : Ref sig .tc := ⟨.hbm, 184, rfl⟩
abbrev main_call0_v78 : Ref sig .tc := ⟨.hbm, 185, rfl⟩
abbrev main_call0_cst_12 : Ref sig .tc := ⟨.hbm, 186, rfl⟩
abbrev main_call0_call6_v0 : Ref sig .tc := ⟨.hbm, 187, rfl⟩
abbrev main_call0_call6_v1 : Ref sig .tc := ⟨.hbm, 188, rfl⟩
abbrev main_call0_call6_v2 : Ref sig .tc := ⟨.hbm, 189, rfl⟩
abbrev main_call0_call6_v3 : Ref sig .tc := ⟨.hbm, 190, rfl⟩
abbrev main_call0_v79 : Ref sig .tc := ⟨.hbm, 191, rfl⟩
abbrev main_call0_cst_13 : Ref sig .tc := ⟨.hbm, 192, rfl⟩
abbrev main_call0_call7_v0 : Ref sig .tc := ⟨.hbm, 193, rfl⟩
abbrev main_call0_call7_v1 : Ref sig .tc := ⟨.hbm, 194, rfl⟩
abbrev main_call0_call7_v2 : Ref sig .tc := ⟨.hbm, 195, rfl⟩
abbrev main_call0_call7_v3 : Ref sig .tc := ⟨.hbm, 196, rfl⟩
abbrev main_call0_v80 : Ref sig .tc := ⟨.hbm, 197, rfl⟩
abbrev main_call0_v81 : Ref sig .tc := ⟨.hbm, 198, rfl⟩
abbrev main_call0_cst_14 : Ref sig .tc := ⟨.hbm, 199, rfl⟩
abbrev main_call0_v82 : Ref sig .tc := ⟨.hbm, 200, rfl⟩
abbrev main_call0_v83 : Ref sig .tc := ⟨.hbm, 201, rfl⟩
abbrev main_call0_v84 : Ref sig .tc := ⟨.hbm, 202, rfl⟩
abbrev main_call0_v85 : Ref sig .tc := ⟨.hbm, 203, rfl⟩
abbrev main_call0_cst_15 : Ref sig .tc := ⟨.hbm, 204, rfl⟩
abbrev main_call0_v86 : Ref sig .tc := ⟨.hbm, 205, rfl⟩
abbrev main_call0_v87 : Ref sig .tc := ⟨.hbm, 206, rfl⟩
abbrev main_call0_v88 : Ref sig .tc := ⟨.hbm, 207, rfl⟩
abbrev main_call0_cst_16 : Ref sig .tc := ⟨.hbm, 208, rfl⟩
abbrev main_call0_call8_v0 : Ref sig .tc := ⟨.hbm, 209, rfl⟩
abbrev main_call0_call8_v1 : Ref sig .tc := ⟨.hbm, 210, rfl⟩
abbrev main_call0_v89 : Ref sig .tc := ⟨.hbm, 211, rfl⟩
abbrev main_call0_v90 : Ref sig .tc := ⟨.hbm, 212, rfl⟩
abbrev main_call0_v91 : Ref sig .tc := ⟨.hbm, 213, rfl⟩
abbrev main_call0_v92 : Ref sig .tc := ⟨.hbm, 214, rfl⟩
abbrev main_call0_v93 : Ref sig .tc := ⟨.hbm, 215, rfl⟩
abbrev main_call0_v94 : Ref sig .tc := ⟨.hbm, 216, rfl⟩
abbrev main_call0_v95 : Ref sig .tc := ⟨.hbm, 217, rfl⟩
abbrev main_call0_v96 : Ref sig .tc := ⟨.hbm, 218, rfl⟩
abbrev main_call0_v97 : Ref sig .tc := ⟨.hbm, 219, rfl⟩
abbrev main_call0_v98 : Ref sig .tc := ⟨.hbm, 220, rfl⟩
abbrev main_call0_v99 : Ref sig .tc := ⟨.hbm, 221, rfl⟩
abbrev main_call0_v100 : Ref sig .tc := ⟨.hbm, 222, rfl⟩
abbrev main_call0_c_17 : Ref sig .tc := ⟨.hbm, 223, rfl⟩
abbrev main_call0_call9_v0 : Ref sig .tc := ⟨.hbm, 224, rfl⟩
abbrev main_call0_v101 : Ref sig .tc := ⟨.hbm, 225, rfl⟩
abbrev main_call0_v102 : Ref sig .tc := ⟨.hbm, 226, rfl⟩
abbrev main_call0_v103 : Ref sig .tc := ⟨.hbm, 227, rfl⟩
abbrev main_v0 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c100_i32 : BitVec 32 := 100#32
  let v33 : BitVec 32 := Scalar.addi c0_i32 c100_i32
  let c1_i32 : BitVec 32 := 1#32
  ⟨c0_i32, v33, c1_i32⟩
def k0_off1 (k0_t1 : Fin k0_t1_loop.trips) : Fin 3 → Nat :=
  let c0_64 : Index := 0#32
  let c0_i32 : BitVec 32 := 0#32
  let c1_i32 : BitVec 32 := 1#32
  let arg3 : BitVec 32 := Scf.iv c0_i32 c1_i32 k0_t1
  let v180 : Index := Scalar.indexCast arg3
  let c0_65 : Index := 0#32
  ![0, v180.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x7x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x104x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x80x100x152 : Shape := ⟨4, ![4, 80, 100, 152]⟩
abbrev S4x4x100x152 : Shape := ⟨4, ![4, 4, 100, 152]⟩
abbrev S4x1x100x152 : Shape := ⟨4, ![4, 1, 100, 152]⟩
abbrev S15200x2 : Shape := ⟨2, ![15200, 2]⟩
abbrev S4x2 : Shape := ⟨2, ![4, 2]⟩
abbrev S4x1x80x100x152 : Shape := ⟨5, ![4, 1, 80, 100, 152]⟩
abbrev S4x100x152x1x80 : Shape := ⟨5, ![4, 100, 152, 1, 80]⟩
abbrev S4x15200x80 : Shape := ⟨3, ![4, 15200, 80]⟩
abbrev S_ : Shape := ⟨0, ![]⟩
abbrev S4x1x4x100x152 : Shape := ⟨5, ![4, 1, 4, 100, 152]⟩
abbrev S4x100x152x1x4 : Shape := ⟨5, ![4, 100, 152, 1, 4]⟩
abbrev S4x15200x4 : Shape := ⟨3, ![4, 15200, 4]⟩
abbrev S4x1x1x100x152 : Shape := ⟨5, ![4, 1, 1, 100, 152]⟩
abbrev S4x100x152x1x1 : Shape := ⟨5, ![4, 100, 152, 1, 1]⟩
abbrev S4x15200x1 : Shape := ⟨3, ![4, 15200, 1]⟩
abbrev S4x15200 : Shape := ⟨2, ![4, 15200]⟩
abbrev S4x1216000 : Shape := ⟨2, ![4, 1216000]⟩
abbrev S4x1000 : Shape := ⟨2, ![4, 1000]⟩
abbrev S4x1000x1 : Shape := ⟨3, ![4, 1000, 1]⟩
abbrev S1 : Shape := ⟨1, ![1]⟩
abbrev S1x1x1 : Shape := ⟨3, ![1, 1, 1]⟩
abbrev S4x1000x2 : Shape := ⟨3, ![4, 1000, 2]⟩
abbrev S4x1000x4 : Shape := ⟨3, ![4, 1000, 4]⟩
abbrev S4x1 : Shape := ⟨2, ![4, 1]⟩
abbrev S4 : Shape := ⟨1, ![4]⟩
abbrev S4x1000x1x2 : Shape := ⟨4, ![4, 1000, 1, 2]⟩
abbrev S4x1x1000x2 : Shape := ⟨4, ![4, 1, 1000, 2]⟩
abbrev S4x1000x1000x2 : Shape := ⟨4, ![4, 1000, 1000, 2]⟩
abbrev S4x1000x1000x1 : Shape := ⟨4, ![4, 1000, 1000, 1]⟩
abbrev S4x1000x1000 : Shape := ⟨3, ![4, 1000, 1000]⟩
abbrev S4x1x1000 : Shape := ⟨3, ![4, 1, 1000]⟩
abbrev S100x4 : Shape := ⟨2, ![100, 4]⟩
abbrev S4x1x1 : Shape := ⟨3, ![4, 1, 1]⟩
abbrev S1000 : Shape := ⟨1, ![1000]⟩
abbrev S1x1000 : Shape := ⟨2, ![1, 1000]⟩
abbrev S1x4 : Shape := ⟨2, ![1, 4]⟩
abbrev S4x100 : Shape := ⟨2, ![4, 100]⟩
abbrev S4x100x1 : Shape := ⟨3, ![4, 100, 1]⟩
abbrev S4x100x4 : Shape := ⟨3, ![4, 100, 4]⟩
abbrev S4x100x6 : Shape := ⟨3, ![4, 100, 6]⟩

abbrev nBuf : Space → Nat
  | .hbm => 387
  | .vmem => 0
  | .smem => 0
  | _ => 0

abbrev hbmTy0_0 (i : Nat) : BufTy := match i % 128 with
  | 0 => ⟨S4x80x100x152, .f32⟩
  | 1 => ⟨S4x4x100x152, .f32⟩
  | 2 => ⟨S4x1x100x152, .f32⟩
  | 3 => ⟨S15200x2, .f32⟩
  | 4 => ⟨S4x2, .i32⟩
  | 5 => ⟨S4x1x80x100x152, .f32⟩
  | 6 => ⟨S4x100x152x1x80, .f32⟩
  | 7 => ⟨S4x15200x80, .f32⟩
  | 8 => ⟨S4x15200x80, .f32⟩
  | 9 => ⟨S4x15200x80, .f32⟩
  | 10 => ⟨S_, .f32⟩
  | 11 => ⟨S4x15200x80, .f32⟩
  | 12 => ⟨S4x15200x80, .f32⟩
  | 13 => ⟨S_, .f32⟩
  | 14 => ⟨S4x15200x80, .f32⟩
  | 15 => ⟨S4x15200x80, .f32⟩
  | 16 => ⟨S4x1x4x100x152, .f32⟩
  | 17 => ⟨S4x100x152x1x4, .f32⟩
  | 18 => ⟨S4x15200x4, .f32⟩
  | 19 => ⟨S4x1x1x100x152, .f32⟩
  | 20 => ⟨S4x100x152x1x1, .f32⟩
  | 21 => ⟨S4x15200x1, .f32⟩
  | 22 => ⟨S4x15200, .f32⟩
  | 23 => ⟨S4x15200, .f32⟩
  | 24 => ⟨S4x15200, .f32⟩
  | 25 => ⟨S_, .f32⟩
  | 26 => ⟨S4x15200, .f32⟩
  | 27 => ⟨S4x15200, .f32⟩
  | 28 => ⟨S_, .f32⟩
  | 29 => ⟨S4x15200, .f32⟩
  | 30 => ⟨S4x15200, .f32⟩
  | 31 => ⟨S_, .f32⟩
  | 32 => ⟨S4x15200x80, .f32⟩
  | 33 => ⟨S4x15200x80, .i1⟩
  | 34 => ⟨S4x15200x1, .f32⟩
  | 35 => ⟨S4x15200x80, .f32⟩
  | 36 => ⟨S4x15200x80, .f32⟩
  | 37 => ⟨S4x15200x80, .f32⟩
  | 38 => ⟨S4x15200x80, .f32⟩
  | 39 => ⟨S4x1216000, .f32⟩
  | 40 => ⟨S4x1000, .f32⟩
  | 41 => ⟨S4x1000, .i32⟩
  | 42 => ⟨S_, .i32⟩
  | 43 => ⟨S_, .i32⟩
  | 44 => ⟨S4x1000, .i32⟩
  | 45 => ⟨S4x1000, .i32⟩
  | 46 => ⟨S4x1000, .i32⟩
  | 47 => ⟨S_, .i32⟩
  | 48 => ⟨S4x1000, .i32⟩
  | 49 => ⟨S4x1000, .i1⟩
  | 50 => ⟨S4x1000, .i32⟩
  | 51 => ⟨S4x1000, .i32⟩
  | 52 => ⟨S_, .i32⟩
  | 53 => ⟨S4x1000, .i32⟩
  | 54 => ⟨S4x1000, .i1⟩
  | 55 => ⟨S4x1000, .i1⟩
  | 56 => ⟨S_, .i32⟩
  | 57 => ⟨S4x1000, .i32⟩
  | 58 => ⟨S4x1000, .i32⟩
  | 59 => ⟨S4x1000, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S4x1000, .i32⟩
  | 67 => ⟨S4x1000, .i32⟩
  | 68 => ⟨S_, .i32⟩
  | 69 => ⟨S4x1000, .i32⟩
  | 70 => ⟨S4x1000, .i1⟩
  | 71 => ⟨S_, .i32⟩
  | 72 => ⟨S4x1000, .i32⟩
  | 73 => ⟨S4x1000, .i1⟩
  | 74 => ⟨S_, .i32⟩
  | 75 => ⟨S_, .i1⟩
  | 76 => ⟨S4x1000, .i1⟩
  | 77 => ⟨S4x1000, .i1⟩
  | 78 => ⟨S4x1000, .i1⟩
  | 79 => ⟨S4x1000, .i32⟩
  | 80 => ⟨S4x1000, .i32⟩
  | 81 => ⟨S4x1000, .i32⟩
  | 82 => ⟨S_, .i32⟩
  | 83 => ⟨S4x1000, .i32⟩
  | 84 => ⟨S4x1000, .i32⟩
  | 85 => ⟨S4x1216000, .i1⟩
  | 86 => ⟨S_, .i32⟩
  | 87 => ⟨S4x1000, .i32⟩
  | 88 => ⟨S4x1000, .i1⟩
  | 89 => ⟨S_, .i32⟩
  | 90 => ⟨S4x1000, .i32⟩
  | 91 => ⟨S4x1000, .i32⟩
  | 92 => ⟨S4x1000, .i32⟩
  | 93 => ⟨S4x1000x1, .i32⟩
  | 94 => ⟨S1, .i32⟩
  | 95 => ⟨S_, .i32⟩
  | 96 => ⟨S4x1000x1, .i32⟩
  | 97 => ⟨S4x1000x1, .i1⟩
  | 98 => ⟨S1x1x1, .i32⟩
  | 99 => ⟨S4x1000x1, .i32⟩
  | 100 => ⟨S4x1000x1, .i1⟩
  | 101 => ⟨S4x1000x1, .i1⟩
  | 102 => ⟨S_, .i1⟩
  | 103 => ⟨S4x1000, .i1⟩
  | 104 => ⟨S4x1000, .i1⟩
  | 105 => ⟨S_, .i1⟩
  | 106 => ⟨S4x1000, .i1⟩
  | 107 => ⟨S4x1000, .i1⟩
  | 108 => ⟨S_, .i32⟩
  | 109 => ⟨S4x1000, .i32⟩
  | 110 => ⟨S4x1000, .i1⟩
  | 111 => ⟨S_, .i32⟩
  | 112 => ⟨S4x1000, .i32⟩
  | 113 => ⟨S4x1000, .i32⟩
  | 114 => ⟨S4x1000, .i32⟩
  | 115 => ⟨S4x1000x1, .i32⟩
  | 116 => ⟨S4x1000x2, .f32⟩
  | 117 => ⟨S4x1000x1, .i32⟩
  | 118 => ⟨S_, .i32⟩
  | 119 => ⟨S4x1000x1, .i32⟩
  | 120 => ⟨S4x1000x1, .i1⟩
  | 121 => ⟨S_, .i32⟩
  | 122 => ⟨S4x1000x1, .i32⟩
  | 123 => ⟨S4x1000x1, .i32⟩
  | 124 => ⟨S4x1000x1, .i32⟩
  | 125 => ⟨S1, .i32⟩
  | 126 => ⟨S_, .i32⟩
  | 127 => ⟨S4x1000x1, .i32⟩
  | _ => ⟨S4x80x100x152, .f32⟩

abbrev hbmTy0_1 (i : Nat) : BufTy := match i % 128 with
  | 0 => ⟨S4x1000x1, .i1⟩
  | 1 => ⟨S1x1x1, .i32⟩
  | 2 => ⟨S4x1000x1, .i32⟩
  | 3 => ⟨S4x1000x1, .i1⟩
  | 4 => ⟨S4x1000x1, .i1⟩
  | 5 => ⟨S_, .i1⟩
  | 6 => ⟨S4x1000, .i1⟩
  | 7 => ⟨S4x1000x4, .f32⟩
  | 8 => ⟨S4x1000x4, .i1⟩
  | 9 => ⟨S_, .f32⟩
  | 10 => ⟨S4x1000x4, .f32⟩
  | 11 => ⟨S4x1000x4, .f32⟩
  | 12 => ⟨S4x1000x1, .f32⟩
  | 13 => ⟨S4x1000, .f32⟩
  | 14 => ⟨S4x1000x1, .f32⟩
  | 15 => ⟨S4x1000, .f32⟩
  | 16 => ⟨S4x1000, .f32⟩
  | 17 => ⟨S4x1000x1, .f32⟩
  | 18 => ⟨S4x1000, .f32⟩
  | 19 => ⟨S4x1000x1, .f32⟩
  | 20 => ⟨S4x1000, .f32⟩
  | 21 => ⟨S4x1000, .f32⟩
  | 22 => ⟨S4x1000x1, .f32⟩
  | 23 => ⟨S4x1000, .f32⟩
  | 24 => ⟨S4x1000x1, .f32⟩
  | 25 => ⟨S4x1000, .f32⟩
  | 26 => ⟨S4x1000, .f32⟩
  | 27 => ⟨S4x1000x1, .f32⟩
  | 28 => ⟨S4x1000, .f32⟩
  | 29 => ⟨S4x1000x1, .f32⟩
  | 30 => ⟨S4x1000, .f32⟩
  | 31 => ⟨S4x1000, .f32⟩
  | 32 => ⟨S4x1000x1, .f32⟩
  | 33 => ⟨S4x1000x1, .f32⟩
  | 34 => ⟨S4x1000x1, .f32⟩
  | 35 => ⟨S4x1000x1, .f32⟩
  | 36 => ⟨S4x1000x4, .f32⟩
  | 37 => ⟨S4x1, .i32⟩
  | 38 => ⟨S4, .i32⟩
  | 39 => ⟨S4, .f32⟩
  | 40 => ⟨S_, .f32⟩
  | 41 => ⟨S4, .f32⟩
  | 42 => ⟨S4, .f32⟩
  | 43 => ⟨S4x1, .f32⟩
  | 44 => ⟨S4x1, .i32⟩
  | 45 => ⟨S4, .i32⟩
  | 46 => ⟨S4, .f32⟩
  | 47 => ⟨S_, .f32⟩
  | 48 => ⟨S4, .f32⟩
  | 49 => ⟨S4, .f32⟩
  | 50 => ⟨S4x1, .f32⟩
  | 51 => ⟨S4x1000x1, .f32⟩
  | 52 => ⟨S4x1000, .f32⟩
  | 53 => ⟨S_, .f32⟩
  | 54 => ⟨S_, .f32⟩
  | 55 => ⟨S4x1000, .f32⟩
  | 56 => ⟨S4x1000, .f32⟩
  | 57 => ⟨S4x1000, .f32⟩
  | 58 => ⟨S4x1000, .f32⟩
  | 59 => ⟨S4x1000x1, .f32⟩
  | 60 => ⟨S4x1000, .f32⟩
  | 61 => ⟨S_, .f32⟩
  | 62 => ⟨S_, .f32⟩
  | 63 => ⟨S4x1000, .f32⟩
  | 64 => ⟨S4x1000, .f32⟩
  | 65 => ⟨S4x1000, .f32⟩
  | 66 => ⟨S4x1000, .f32⟩
  | 67 => ⟨S4x1000x1, .f32⟩
  | 68 => ⟨S4x1000, .f32⟩
  | 69 => ⟨S_, .f32⟩
  | 70 => ⟨S_, .f32⟩
  | 71 => ⟨S4x1000, .f32⟩
  | 72 => ⟨S4x1000, .f32⟩
  | 73 => ⟨S4x1000, .f32⟩
  | 74 => ⟨S4x1000, .f32⟩
  | 75 => ⟨S4x1000x1, .f32⟩
  | 76 => ⟨S4x1000, .f32⟩
  | 77 => ⟨S_, .f32⟩
  | 78 => ⟨S_, .f32⟩
  | 79 => ⟨S4x1000, .f32⟩
  | 80 => ⟨S4x1000, .f32⟩
  | 81 => ⟨S4x1000, .f32⟩
  | 82 => ⟨S4x1000, .f32⟩
  | 83 => ⟨S4x1000x1, .f32⟩
  | 84 => ⟨S4x1000x1, .f32⟩
  | 85 => ⟨S4x1000x1, .f32⟩
  | 86 => ⟨S4x1000x1, .f32⟩
  | 87 => ⟨S4x1000x4, .f32⟩
  | 88 => ⟨S4x1000, .f32⟩
  | 89 => ⟨S_, .f32⟩
  | 90 => ⟨S4x1000, .f32⟩
  | 91 => ⟨S4x1000, .i1⟩
  | 92 => ⟨S4x1000, .i1⟩
  | 93 => ⟨S4x1000, .f32⟩
  | 94 => ⟨S_, .f32⟩
  | 95 => ⟨S4x1000, .f32⟩
  | 96 => ⟨S4x1000, .i1⟩
  | 97 => ⟨S4x1000, .i1⟩
  | 98 => ⟨S_, .f32⟩
  | 99 => ⟨S_, .f32⟩
  | 100 => ⟨S4x1000, .f32⟩
  | 101 => ⟨S4x1000, .f32⟩
  | 102 => ⟨S4x1000, .f32⟩
  | 103 => ⟨S4x1000, .f32⟩
  | 104 => ⟨S_, .f32⟩
  | 105 => ⟨S4x1000, .f32⟩
  | 106 => ⟨S4x1000, .f32⟩
  | 107 => ⟨S4x1000x1, .f32⟩
  | 108 => ⟨S4x1000x4, .f32⟩
  | 109 => ⟨S4x1000x4, .f32⟩
  | 110 => ⟨S4x1000x1, .f32⟩
  | 111 => ⟨S4x1000, .f32⟩
  | 112 => ⟨S4x1000x1, .f32⟩
  | 113 => ⟨S4x1000, .f32⟩
  | 114 => ⟨S4x1000, .f32⟩
  | 115 => ⟨S4x1000x1, .f32⟩
  | 116 => ⟨S4x1000, .f32⟩
  | 117 => ⟨S4x1000x1, .f32⟩
  | 118 => ⟨S4x1000, .f32⟩
  | 119 => ⟨S4x1000, .f32⟩
  | 120 => ⟨S4x1000, .f32⟩
  | 121 => ⟨S4x1000x2, .f32⟩
  | 122 => ⟨S4x1000x1x2, .f32⟩
  | 123 => ⟨S4x1000x2, .f32⟩
  | 124 => ⟨S4x1x1000x2, .f32⟩
  | 125 => ⟨S4x1000x1000x2, .f32⟩
  | 126 => ⟨S4x1000x1000x2, .f32⟩
  | 127 => ⟨S4x1000x1000x2, .f32⟩
  | _ => ⟨S4x80x100x152, .f32⟩

abbrev hbmTy0_2 (i : Nat) : BufTy := match i % 128 with
  | 0 => ⟨S4x1000x2, .f32⟩
  | 1 => ⟨S4x1000x1x2, .f32⟩
  | 2 => ⟨S4x1000x2, .f32⟩
  | 3 => ⟨S4x1x1000x2, .f32⟩
  | 4 => ⟨S4x1000x1000x2, .f32⟩
  | 5 => ⟨S4x1000x1000x2, .f32⟩
  | 6 => ⟨S4x1000x1000x2, .f32⟩
  | 7 => ⟨S4x1000x1000x2, .f32⟩
  | 8 => ⟨S_, .f32⟩
  | 9 => ⟨S_, .f32⟩
  | 10 => ⟨S4x1000x1000x2, .f32⟩
  | 11 => ⟨S4x1000x1000x2, .f32⟩
  | 12 => ⟨S4x1000x1000x1, .f32⟩
  | 13 => ⟨S4x1000x1000, .f32⟩
  | 14 => ⟨S4x1000x1000x1, .f32⟩
  | 15 => ⟨S4x1000x1000, .f32⟩
  | 16 => ⟨S4x1000x1000, .f32⟩
  | 17 => ⟨S4x1000x1, .f32⟩
  | 18 => ⟨S4x1x1000, .f32⟩
  | 19 => ⟨S4x1000x1000, .f32⟩
  | 20 => ⟨S4x1000x1000, .f32⟩
  | 21 => ⟨S4x1000x1000, .f32⟩
  | 22 => ⟨S4x1000x1000, .f32⟩
  | 23 => ⟨S_, .f32⟩
  | 24 => ⟨S4x1000x1000, .f32⟩
  | 25 => ⟨S4x1000x1000, .f32⟩
  | 26 => ⟨S4x1000x1000, .f32⟩
  | 27 => ⟨S_, .f32⟩
  | 28 => ⟨S_, .f32⟩
  | 29 => ⟨S4x1000, .f32⟩
  | 30 => ⟨S4x1000, .f32⟩
  | 31 => ⟨S_, .i32⟩
  | 32 => ⟨S100x4, .i32⟩
  | 33 => ⟨S_, .i1⟩
  | 34 => ⟨S100x4, .i1⟩
  | 35 => ⟨S_, .i32⟩
  | 36 => ⟨S4x1000x1000, .f32⟩
  | 37 => ⟨S_, .i32⟩
  | 38 => ⟨S4x1000, .f32⟩
  | 39 => ⟨S100x4, .i32⟩
  | 40 => ⟨S100x4, .i1⟩
  | 41 => ⟨S_, .i32⟩
  | 42 => ⟨S_, .i1⟩
  | 43 => ⟨S4x1000, .i32⟩
  | 44 => ⟨S_, .f32⟩
  | 45 => ⟨S_, .i32⟩
  | 46 => ⟨S4, .f32⟩
  | 47 => ⟨S4, .i32⟩
  | 48 => ⟨S4x1, .i32⟩
  | 49 => ⟨S_, .i32⟩
  | 50 => ⟨S4x1, .i32⟩
  | 51 => ⟨S4x1, .i1⟩
  | 52 => ⟨S_, .i32⟩
  | 53 => ⟨S4x1, .i32⟩
  | 54 => ⟨S4x1, .i32⟩
  | 55 => ⟨S4x1, .i32⟩
  | 56 => ⟨S4x1x1, .i32⟩
  | 57 => ⟨S4x1, .f32⟩
  | 58 => ⟨S4, .f32⟩
  | 59 => ⟨S_, .f32⟩
  | 60 => ⟨S4, .f32⟩
  | 61 => ⟨S4, .i1⟩
  | 62 => ⟨S4x1x1, .i32⟩
  | 63 => ⟨S_, .i32⟩
  | 64 => ⟨S4x1x1, .i32⟩
  | 65 => ⟨S4x1x1, .i1⟩
  | 66 => ⟨S_, .i32⟩
  | 67 => ⟨S4x1x1, .i32⟩
  | 68 => ⟨S4x1x1, .i32⟩
  | 69 => ⟨S4x1x1, .i32⟩
  | 70 => ⟨S4x1x1000, .f32⟩
  | 71 => ⟨S4x1000, .f32⟩
  | 72 => ⟨S_, .f32⟩
  | 73 => ⟨S4x1000, .f32⟩
  | 74 => ⟨S4x1000, .i1⟩
  | 75 => ⟨S1000, .i32⟩
  | 76 => ⟨S4x1, .i32⟩
  | 77 => ⟨S1x1000, .i32⟩
  | 78 => ⟨S4x1000, .i32⟩
  | 79 => ⟨S4x1000, .i32⟩
  | 80 => ⟨S4x1000, .i1⟩
  | 81 => ⟨S4x1000, .i1⟩
  | 82 => ⟨S_, .f32⟩
  | 83 => ⟨S_, .f32⟩
  | 84 => ⟨S4x1000, .f32⟩
  | 85 => ⟨S4x1000, .f32⟩
  | 86 => ⟨S1x4, .i32⟩
  | 87 => ⟨S_, .i32⟩
  | 88 => ⟨S100x4, .i32⟩
  | 89 => ⟨S1x4, .i1⟩
  | 90 => ⟨S_, .i32⟩
  | 91 => ⟨S100x4, .i1⟩
  | 92 => ⟨S_, .i32⟩
  | 93 => ⟨S_, .i32⟩
  | 94 => ⟨S4x100, .i32⟩
  | 95 => ⟨S4x100, .i1⟩
  | 96 => ⟨S4x100x1, .i32⟩
  | 97 => ⟨S_, .i32⟩
  | 98 => ⟨S4x100x1, .i32⟩
  | 99 => ⟨S4x100x1, .i1⟩
  | 100 => ⟨S_, .i32⟩
  | 101 => ⟨S4x100x1, .i32⟩
  | 102 => ⟨S4x100x1, .i32⟩
  | 103 => ⟨S4x100x1, .i32⟩
  | 104 => ⟨S4x100x4, .f32⟩
  | 105 => ⟨S_, .i32⟩
  | 106 => ⟨S4x100, .i32⟩
  | 107 => ⟨S4x100, .i1⟩
  | 108 => ⟨S_, .i32⟩
  | 109 => ⟨S4x100, .i32⟩
  | 110 => ⟨S4x100, .i32⟩
  | 111 => ⟨S4x100, .i32⟩
  | 112 => ⟨S4x100x1, .i32⟩
  | 113 => ⟨S4x100, .f32⟩
  | 114 => ⟨S_, .i32⟩
  | 115 => ⟨S4x100, .i32⟩
  | 116 => ⟨S4x100, .i1⟩
  | 117 => ⟨S_, .i32⟩
  | 118 => ⟨S4x100, .i32⟩
  | 119 => ⟨S4x100, .i32⟩
  | 120 => ⟨S4x100, .i32⟩
  | 121 => ⟨S4x100x1, .i32⟩
  | 122 => ⟨S4x100, .i32⟩
  | 123 => ⟨S4x100x1, .f32⟩
  | 124 => ⟨S4x100x1, .i32⟩
  | 125 => ⟨S4x100x1, .f32⟩
  | 126 => ⟨S4x100x6, .f32⟩
  | 127 => ⟨S4x100x1, .i1⟩
  | _ => ⟨S4x80x100x152, .f32⟩

abbrev hbmTy0_3 (i : Nat) : BufTy := match i % 128 with
  | 0 => ⟨S4x100x1, .f32⟩
  | 1 => ⟨S4x100x6, .f32⟩
  | 2 => ⟨S4x100x6, .f32⟩
  | _ => ⟨S4x80x100x152, .f32⟩

abbrev hbmTy (i : Nat) : BufTy := match i / 128 with
  | 0 => hbmTy0_0 i
  | 1 => hbmTy0_1 i
  | 2 => hbmTy0_2 i
  | 3 => hbmTy0_3 i
  | _ => ⟨S4x80x100x152, .f32⟩

abbrev bufTy : (tb : Table) → Fin (tcTables nBuf tb) → BufTy
  | .hbm, ⟨i, _⟩ => hbmTy i
  | _, _ => ⟨S4x80x100x152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_values : Ref sig .tc := ⟨.hbm, 40, rfl⟩
abbrev main_indices : Ref sig .tc := ⟨.hbm, 41, rfl⟩
abbrev main_c : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v30 : Ref sig .tc := ⟨.hbm, 59, rfl⟩
abbrev main_c_4 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v31 : Ref sig .tc := ⟨.hbm, 81, rfl⟩
abbrev main_c_5 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_c_4 : Ref sig .tc := ⟨.hbm, 105, rfl⟩
abbrev main_call2_v14 : Ref sig .tc := ⟨.hbm, 106, rfl⟩
abbrev main_v35 : Ref sig .tc := ⟨.hbm, 107, rfl⟩
abbrev main_c_6 : Ref sig .tc := ⟨.hbm, 108, rfl⟩
abbrev main_v36 : Ref sig .tc := ⟨.hbm, 109, rfl⟩
abbrev main_v37 : Ref sig .tc := ⟨.hbm, 110, rfl⟩
abbrev main_c_7 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_call3_c : Ref sig .tc := ⟨.hbm, 118, rfl⟩
abbrev main_call3_v0 : Ref sig .tc := ⟨.hbm, 119, rfl⟩
abbrev main_call3_v1 : Ref sig .tc := ⟨.hbm, 120, rfl⟩
abbrev main_call3_c_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_c_1 : Ref sig .tc := ⟨.hbm, 125, rfl⟩
abbrev main_call3_c_2 : Ref sig .tc := ⟨.hbm, 126, rfl⟩
abbrev main_call3_v5 : Ref sig .tc := ⟨.hbm, 127, rfl⟩
abbrev main_call3_v6 : Ref sig .tc := ⟨.hbm, 128, rfl⟩
abbrev main_call3_v7 : Ref sig .tc := ⟨.hbm, 129, rfl⟩
abbrev main_call3_v8 : Ref sig .tc := ⟨.hbm, 130, rfl⟩
abbrev main_call3_v9 : Ref sig .tc := ⟨.hbm, 131, rfl⟩
abbrev main_call3_v10 : Ref sig .tc := ⟨.hbm, 132, rfl⟩
abbrev main_call3_c_3 : Ref sig .tc := ⟨.hbm, 133, rfl⟩
abbrev main_call3_v11 : Ref sig .tc := ⟨.hbm, 134, rfl⟩
abbrev main_call3_v12 : Ref sig .tc := ⟨.hbm, 135, rfl⟩
abbrev main_call3_v13 : Ref sig .tc := ⟨.hbm, 136, rfl⟩
abbrev main_call3_cst : Ref sig .tc := ⟨.hbm, 137, rfl⟩
abbrev main_call3_v14 : Ref sig .tc := ⟨.hbm, 138, rfl⟩
abbrev main_v44 : Ref sig .tc := ⟨.hbm, 139, rfl⟩
abbrev main_v45 : Ref sig .tc := ⟨.hbm, 140, rfl⟩
abbrev main_v46 : Ref sig .tc := ⟨.hbm, 141, rfl⟩
abbrev main_v47 : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_cst_8 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_cst_9 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_cst_10 : Ref sig .tc := ⟨.hbm, 181, rfl⟩
abbrev main_call4_v0 : Ref sig .tc := ⟨.hbm, 182, rfl⟩
abbrev main_call4_v1 : Ref sig .tc := ⟨.hbm, 183, rfl⟩
abbrev main_call4_v2 : Ref sig .tc := ⟨.hbm, 184, rfl⟩
abbrev main_call4_v3 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_cst_11 : Ref sig .tc := ⟨.hbm, 189, rfl⟩
abbrev main_call5_v0 : Ref sig .tc := ⟨.hbm, 190, rfl⟩
abbrev main_call5_v1 : Ref sig .tc := ⟨.hbm, 191, rfl⟩
abbrev main_call5_v2 : Ref sig .tc := ⟨.hbm, 192, rfl⟩
abbrev main_call5_v3 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_cst_12 : Ref sig .tc := ⟨.hbm, 197, rfl⟩
abbrev main_call6_v0 : Ref sig .tc := ⟨.hbm, 198, rfl⟩
abbrev main_call6_v1 : Ref sig .tc := ⟨.hbm, 199, rfl⟩
abbrev main_call6_v2 : Ref sig .tc := ⟨.hbm, 200, rfl⟩
abbrev main_call6_v3 : Ref sig .tc := ⟨.hbm, 201, rfl⟩
abbrev main_v90 : Ref sig .tc := ⟨.hbm, 202, rfl⟩
abbrev main_v91 : Ref sig .tc := ⟨.hbm, 203, rfl⟩
abbrev main_v92 : Ref sig .tc := ⟨.hbm, 204, rfl⟩
abbrev main_cst_13 : Ref sig .tc := ⟨.hbm, 205, rfl⟩
abbrev main_call7_v0 : Ref sig .tc := ⟨.hbm, 206, rfl⟩
abbrev main_call7_v1 : Ref sig .tc := ⟨.hbm, 207, rfl⟩
abbrev main_call7_v2 : Ref sig .tc := ⟨.hbm, 208, rfl⟩
abbrev main_call7_v3 : Ref sig .tc := ⟨.hbm, 209, rfl⟩
abbrev main_v93 : Ref sig .tc := ⟨.hbm, 210, rfl⟩
abbrev main_v94 : Ref sig .tc := ⟨.hbm, 211, rfl⟩
abbrev main_v95 : Ref sig .tc := ⟨.hbm, 212, rfl⟩
abbrev main_v96 : Ref sig .tc := ⟨.hbm, 213, rfl⟩
abbrev main_v97 : Ref sig .tc := ⟨.hbm, 214, rfl⟩
abbrev main_v98 : Ref sig .tc := ⟨.hbm, 215, rfl⟩
abbrev main_v99 : Ref sig .tc := ⟨.hbm, 216, rfl⟩
abbrev main_cst_14 : Ref sig .tc := ⟨.hbm, 217, rfl⟩
abbrev main_v100 : Ref sig .tc := ⟨.hbm, 218, rfl⟩
abbrev main_v101 : Ref sig .tc := ⟨.hbm, 219, rfl⟩
abbrev main_v102 : Ref sig .tc := ⟨.hbm, 220, rfl⟩
abbrev main_v103 : Ref sig .tc := ⟨.hbm, 221, rfl⟩
abbrev main_cst_15 : Ref sig .tc := ⟨.hbm, 222, rfl⟩
abbrev main_v104 : Ref sig .tc := ⟨.hbm, 223, rfl⟩
abbrev main_v105 : Ref sig .tc := ⟨.hbm, 224, rfl⟩
abbrev main_v106 : Ref sig .tc := ⟨.hbm, 225, rfl⟩
abbrev main_cst_16 : Ref sig .tc := ⟨.hbm, 226, rfl⟩
abbrev main_call8_v0 : Ref sig .tc := ⟨.hbm, 227, rfl⟩
abbrev main_call8_v1 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_cst_17 : Ref sig .tc := ⟨.hbm, 232, rfl⟩
abbrev main_v110 : Ref sig .tc := ⟨.hbm, 233, rfl⟩
abbrev main_v111 : Ref sig .tc := ⟨.hbm, 234, rfl⟩
abbrev main_v112 : Ref sig .tc := ⟨.hbm, 235, rfl⟩
abbrev main_v113 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_cst_18 : Ref sig .tc := ⟨.hbm, 264, rfl⟩
abbrev main_call9_v0 : Ref sig .tc := ⟨.hbm, 265, rfl⟩
abbrev main_call9_v1 : Ref sig .tc := ⟨.hbm, 266, rfl⟩
abbrev main_v141 : Ref sig .tc := ⟨.hbm, 267, rfl⟩
abbrev main_v142 : Ref sig .tc := ⟨.hbm, 268, rfl⟩
abbrev main_v143 : Ref sig .tc := ⟨.hbm, 269, rfl⟩
abbrev main_v144 : Ref sig .tc := ⟨.hbm, 270, rfl⟩
abbrev main_v145 : Ref sig .tc := ⟨.hbm, 271, rfl⟩
abbrev main_v146 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_v151 : Ref sig .tc := ⟨.hbm, 277, rfl⟩
abbrev main_v152 : Ref sig .tc := ⟨.hbm, 278, rfl⟩
abbrev main_cst_19 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_cst_20 : Ref sig .tc := ⟨.hbm, 283, rfl⟩
abbrev main_call10_v0 : Ref sig .tc := ⟨.hbm, 284, rfl⟩
abbrev main_call10_v1 : Ref sig .tc := ⟨.hbm, 285, rfl⟩
abbrev main_v156 : Ref sig .tc := ⟨.hbm, 286, rfl⟩
abbrev main_c_21 : Ref sig .tc := ⟨.hbm, 287, rfl⟩
abbrev main_v157 : Ref sig .tc := ⟨.hbm, 288, rfl⟩
abbrev main_c_22 : Ref sig .tc := ⟨.hbm, 289, rfl⟩
abbrev main_v158 : Ref sig .tc := ⟨.hbm, 290, rfl⟩
abbrev main_c_23 : Ref sig .tc := ⟨.hbm, 291, rfl⟩
abbrev main_v159_0 : Ref sig .tc := ⟨.hbm, 292, rfl⟩
abbrev main_v159_1 : Ref sig .tc := ⟨.hbm, 293, rfl⟩
abbrev main_v159_2 : Ref sig .tc := ⟨.hbm, 294, rfl⟩
abbrev main_v159_3 : Ref sig .tc := ⟨.hbm, 295, rfl⟩
abbrev main_v159_4 : Ref sig .tc := ⟨.hbm, 296, rfl⟩
abbrev main_while0c_c_28 : Ref sig .tc := ⟨.hbm, 297, rfl⟩
abbrev main_while0c_v174 : Ref sig .tc := ⟨.hbm, 298, rfl⟩
abbrev main_while0b_call11_v0 : Ref sig .tc := ⟨.hbm, 299, rfl⟩
abbrev main_while0b_call11_cst : Ref sig .tc := ⟨.hbm, 300, rfl⟩
abbrev main_while0b_call11_c : Ref sig .tc := ⟨.hbm, 301, rfl⟩
abbrev main_while0b_call11_v1_0 : Ref sig .tc := ⟨.hbm, 302, rfl⟩
abbrev main_while0b_v174 : Ref sig .tc := ⟨.hbm, 303, rfl⟩
abbrev main_while0b_v175 : Ref sig .tc := ⟨.hbm, 304, rfl⟩
abbrev main_while0b_call12_c : Ref sig .tc := ⟨.hbm, 305, rfl⟩
abbrev main_while0b_call12_v0 : Ref sig .tc := ⟨.hbm, 306, rfl⟩
abbrev main_while0b_call12_v1 : Ref sig .tc := ⟨.hbm, 307, rfl⟩
abbrev main_while0b_call12_c_0 : Ref sig .tc := ⟨.hbm, 308, rfl⟩
abbrev main_while0b_call12_v2 : Ref sig .tc := ⟨.hbm, 309, rfl⟩
abbrev main_while0b_call12_v3 : Ref sig .tc := ⟨.hbm, 310, rfl⟩
abbrev main_while0b_call12_v4 : Ref sig .tc := ⟨.hbm, 311, rfl⟩
abbrev main_while0b_call12_v5 : Ref sig .tc := ⟨.hbm, 312, rfl⟩
abbrev main_while0b_v176 : Ref sig .tc := ⟨.hbm, 313, rfl⟩
abbrev main_while0b_v177 : Ref sig .tc := ⟨.hbm, 314, rfl⟩
abbrev main_while0b_cst_28 : Ref sig .tc := ⟨.hbm, 315, rfl⟩
abbrev main_while0b_v178 : Ref sig .tc := ⟨.hbm, 316, rfl⟩
abbrev main_while0b_v179 : Ref sig .tc := ⟨.hbm, 317, rfl⟩
abbrev main_while0b_v180 : Ref sig .tc := ⟨.hbm, 318, rfl⟩
abbrev main_while0b_call13_c : Ref sig .tc := ⟨.hbm, 319, rfl⟩
abbrev main_while0b_call13_v0 : Ref sig .tc := ⟨.hbm, 320, rfl⟩
abbrev main_while0b_call13_v1 : Ref sig .tc := ⟨.hbm, 321, rfl⟩
abbrev main_while0b_call13_c_0 : Ref sig .tc := ⟨.hbm, 322, rfl⟩
abbrev main_while0b_call13_v2 : Ref sig .tc := ⟨.hbm, 323, rfl⟩
abbrev main_while0b_call13_v3 : Ref sig .tc := ⟨.hbm, 324, rfl⟩
abbrev main_while0b_call13_v4 : Ref sig .tc := ⟨.hbm, 325, rfl⟩
abbrev main_while0b_v181 : Ref sig .tc := ⟨.hbm, 326, rfl⟩
abbrev main_while0b_v182 : Ref sig .tc := ⟨.hbm, 327, rfl⟩
abbrev main_while0b_cst_29 : Ref sig .tc := ⟨.hbm, 328, rfl⟩
abbrev main_while0b_v183 : Ref sig .tc := ⟨.hbm, 329, rfl⟩
abbrev main_while0b_v184 : Ref sig .tc := ⟨.hbm, 330, rfl⟩
abbrev main_while0b_v185 : Ref sig .tc := ⟨.hbm, 331, rfl⟩
abbrev main_while0b_v186 : Ref sig .tc := ⟨.hbm, 332, rfl⟩
abbrev main_while0b_v187 : Ref sig .tc := ⟨.hbm, 333, rfl⟩
abbrev main_while0b_v188 : Ref sig .tc := ⟨.hbm, 334, rfl⟩
abbrev main_while0b_v189 : Ref sig .tc := ⟨.hbm, 335, rfl⟩
abbrev main_while0b_v190 : Ref sig .tc := ⟨.hbm, 336, rfl⟩
abbrev main_while0b_v191 : Ref sig .tc := ⟨.hbm, 337, rfl⟩
abbrev main_while0b_cst_30 : Ref sig .tc := ⟨.hbm, 338, rfl⟩
abbrev main_while0b_call14_v0 : Ref sig .tc := ⟨.hbm, 339, rfl⟩
abbrev main_while0b_call14_v1 : Ref sig .tc := ⟨.hbm, 340, rfl⟩
abbrev main_while0b_v192 : Ref sig .tc := ⟨.hbm, 341, rfl⟩
abbrev main_while0b_call15_v0 : Ref sig .tc := ⟨.hbm, 342, rfl⟩
abbrev main_while0b_call15_c : Ref sig .tc := ⟨.hbm, 343, rfl⟩
abbrev main_while0b_v193 : Ref sig .tc := ⟨.hbm, 344, rfl⟩
abbrev main_while0b_call16_v0 : Ref sig .tc := ⟨.hbm, 345, rfl⟩
abbrev main_while0b_call16_c : Ref sig .tc := ⟨.hbm, 346, rfl⟩
abbrev main_while0b_v194 : Ref sig .tc := ⟨.hbm, 347, rfl⟩
abbrev main_while0b_c_31 : Ref sig .tc := ⟨.hbm, 348, rfl⟩
abbrev main_while0b_v195 : Ref sig .tc := ⟨.hbm, 349, rfl⟩
abbrev main_v160 : Ref sig .tc := ⟨.hbm, 350, rfl⟩
abbrev main_v161 : Ref sig .tc := ⟨.hbm, 351, rfl⟩
abbrev main_v162 : Ref sig .tc := ⟨.hbm, 352, rfl⟩
abbrev main_call17_c : Ref sig .tc := ⟨.hbm, 353, rfl⟩
abbrev main_call17_v0 : Ref sig .tc := ⟨.hbm, 354, rfl⟩
abbrev main_call17_v1 : Ref sig .tc := ⟨.hbm, 355, rfl⟩
abbrev main_call17_c_0 : Ref sig .tc := ⟨.hbm, 356, rfl⟩
abbrev main_call17_v2 : Ref sig .tc := ⟨.hbm, 357, rfl⟩
abbrev main_call17_v3 : Ref sig .tc := ⟨.hbm, 358, rfl⟩
abbrev main_call17_v4 : Ref sig .tc := ⟨.hbm, 359, rfl⟩
abbrev main_v163 : Ref sig .tc := ⟨.hbm, 360, rfl⟩
abbrev main_call18_c : Ref sig .tc := ⟨.hbm, 361, rfl⟩
abbrev main_call18_v0 : Ref sig .tc := ⟨.hbm, 362, rfl⟩
abbrev main_call18_v1 : Ref sig .tc := ⟨.hbm, 363, rfl⟩
abbrev main_call18_c_0 : Ref sig .tc := ⟨.hbm, 364, rfl⟩
abbrev main_call18_v2 : Ref sig .tc := ⟨.hbm, 365, rfl⟩
abbrev main_call18_v3 : Ref sig .tc := ⟨.hbm, 366, rfl⟩
abbrev main_call18_v4 : Ref sig .tc := ⟨.hbm, 367, rfl⟩
abbrev main_call18_v5 : Ref sig .tc := ⟨.hbm, 368, rfl⟩
abbrev main_v164 : Ref sig .tc := ⟨.hbm, 369, rfl⟩
abbrev main_call19_c : Ref sig .tc := ⟨.hbm, 370, rfl⟩
abbrev main_call19_v0 : Ref sig .tc := ⟨.hbm, 371, rfl⟩
abbrev main_call19_v1 : Ref sig .tc := ⟨.hbm, 372, rfl⟩
abbrev main_call19_c_0 : Ref sig .tc := ⟨.hbm, 373, rfl⟩
abbrev main_call19_v2 : Ref sig .tc := ⟨.hbm, 374, rfl⟩
abbrev main_call19_v3 : Ref sig .tc := ⟨.hbm, 375, rfl⟩
abbrev main_call19_v4 : Ref sig .tc := ⟨.hbm, 376, rfl⟩
abbrev main_call19_v5 : Ref sig .tc := ⟨.hbm, 377, rfl⟩
abbrev main_v165 : Ref sig .tc := ⟨.hbm, 378, rfl⟩
abbrev main_v166 : Ref sig .tc := ⟨.hbm, 379, rfl⟩
abbrev main_v167 : Ref sig .tc := ⟨.hbm, 380, rfl⟩
abbrev main_v168 : Ref sig .tc := ⟨.hbm, 381, rfl⟩
abbrev main_v169 : Ref sig .tc := ⟨.hbm, 382, rfl⟩
abbrev main_v170 : Ref sig .tc := ⟨.hbm, 383, rfl⟩
abbrev main_v171 : Ref sig .tc := ⟨.hbm, 384, rfl⟩
abbrev main_v172 : Ref sig .tc := ⟨.hbm, 385, rfl⟩
abbrev main_v173 : Ref sig .tc := ⟨.hbm, 386, rfl⟩

abbrev nD : Nat := 1
abbrev τ : Topo := Topo.v7x

variable {F : FTy → Type} [FloatOps F]

abbrev main_while0_count : Scf.Loop 32 := ⟨0#32, 100#32, 1#32⟩
-- ==== Proof.LaunchTail.lean ====
/- A run of a program with one pipelined region, relational proof data and host lines after the region, whose post keeps
   what those lines compute from whatever the arrays may hold when the region is left. -/
module

public import Idealize.ShloMosaic.Lib.Pipeline.FrameSuffix

@[expose] public section

noncomputable section

namespace Cert.LaunchTail

open Idealize.ShloMosaic Idealize.ShloMosaic.Pipeline Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀) (p : P) (kit₁ : LaunchFacts (nD := nD) (τ := τ) cfgs p) (defs₀ : Defs nD τ sig Val Λ₀) (𝒱₀ : Variants)

local notation "pcs" => (fun q => Cfg.toPCfg (Val := Val) (cfgs q))
local notation "adm" => (fun q => Cfg.toPCfg_adm (Val := Val) (cfgs q))
local notation "cfg" => cfgs p
local notation "𝔻" => Pipeline.defs (fun q => Cfg.toPCfg (Val := Val) (cfgs q)) defs₀

/-- What the run ends with: on each core the arrays at some contents `A` that the region may leave, and every other
    buffer at what the later lines compute from `A` and the contents before the region. -/
def Post (rdat : (c : Dev nD) → RDat τ Val Unit ℕ (UR sig nD τ) ℕ (cfg) c) (V₀ : Dev nD → Valuation τ sig Val)
    (opss : List (List (HloOp τ sig Val))) (r : PUnit × MemSt nD τ sig Val) : Prop :=
  (∀ c : Dev nD, ∃ A : (w : Fin (cfg).W) → Buf Val (((cfg).spec w).arr.view.loc (c.tc : Thread nD τ)),
      (∀ w, (rdat c).ArrAt w (cfg).N (A w))
      ∧ ∀ b ∈ restRefs sig (cfg).spec, r.2.mem ((c.tc : Thread nD τ).loc b)
          = StableHlo.after opss.flatten (withArrays (cfg).spec c (V₀ c) A) (Proc.devRef .tc b))
    ∧ r.2.sem = fun _ => 0

include kit₁ in
theorem run_tail (rdat : (c : Dev nD) → RDat τ Val Unit ℕ (UR sig nD τ) ℕ (cfg) c)
    (m : (ℓ : Loc nD τ sig) → Buf Val ℓ) (g : Dev nD → PrngReg)
    (main : Dev nD → Prog (TpuEff nD τ sig Val (Sig Λ₀ P fun q => (pcs q).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfg).spec)
    (hfresh : ∀ ops ∈ opss, ∀ op ∈ ops, op.fresh = ∅)
    (hkeep : ∀ ops ∈ opss, ∀ op ∈ ops, ∀ w, Proc.devRef .tc (arrRef (cfg).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfg).spec w)))
    (hΦ : ∀ c t, (rdat c).Φ t = ΦA (cfg).spec c) :
    θ_run 𝔻 (onTc main) (s₀ m g) (Post cfgs p rdat V₀ opss) := by
  classical
  have kit := kit₁.toP (Val := Val)
  have kit₀ := kit.to₀
  have hq : ∀ c w, ((cfg).spec w).isOut = false → (rdat c).q w = shareOf (cfg).spec w :=
    fun c w hw => (rdat c).q_eq_shareOf_of_share_full kit.win.arr_inj (hshare c) w hw
  let rest := restRefsP sig (pcs p).pre (cfg).spec
  let V : (c : Dev nD) → (b : Ref sig .tc) → Buf Val ((c.tc : Thread nD τ).loc b) := fun c b => V₀ c (Proc.devRef .tc b)
  -- the arrays' final contents, named
  have hopen : ∀ c, ((RDat.familyOf pcs adm p rdat p c).arraysAt (cfg).N : sProp 𝕄)
      ⊢ iprop(∃ A, ⌜∀ w, (rdat c).ArrAt w (cfg).N (A w)⌝ ∗ (rdat c).arrays A) := fun c => by
    rw [RDat.familyOf_self]; unfold RDat.arraysAt
    iintro Ha
    ihave Hb := (BI.bigSep_exists_pi Finset.univ (fun w X => iprop(⌜(rdat c).ArrAt w (cfg).N X⌝
        ∗ ((cfg).win w).arr.view.loc (c.tc : Thread nD τ) ↦[((cfg).win w).arr.view.set]{(rdat c).share w} X))) $$ Ha
    icases Hb with ⟨%A, Ha⟩
    ihave Hb := (BI.bigSep_pure_sep Finset.univ (fun w => (rdat c).ArrAt w (cfg).N (A w))
        (fun w => ((cfg).win w).arr.view.loc (c.tc : Thread nD τ) ↦[((cfg).win w).arr.view.set]{(rdat c).share w} A w)) $$ Ha
    icases Hb with ⟨%hw, Ha⟩
    iexists A; isplitr; · ipureintro; exact fun w => hw w (Finset.mem_univ w)
    unfold RDat.arrays
    iexact Ha
  have hclose : ∀ c A, (∀ w, (rdat c).ArrAt w (cfg).N (A w)) →
      ((rdat c).arrays A : sProp 𝕄) ⊢ (RDat.familyOf pcs adm p rdat p c).arraysAt (cfg).N := fun c A hw => by
    rw [RDat.familyOf_self]; unfold RDat.arraysAt RDat.arrays
    refine BI.bigSep_mono fun w _ => ?_
    show (((cfg).win w).arr.view.loc (c.tc : Thread nD τ) ↦[((cfg).win w).arr.view.set]{(rdat c).share w} A w : sProp 𝕄)
      ⊢ iprop(∃ X, ⌜(rdat c).ArrAt w (cfg).N X⌝ ∗ ((cfg).win w).arr.view.loc (c.tc : Thread nD τ) ↦[((cfg).win w).arr.view.set]{(rdat c).share w} X)
    iintro H; iexists (A w); isplitr; · ipureintro; exact hw w
    iexact H
  exact RDat.θ_run_region_pf_tail_quiescent pcs adm (RDat.familyOf pcs adm p rdat) () (kit₀.cellOf_inj adm) p kit₀.win
    (OwnSemFacts.none (cfg).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs adm) (kit₀.cellOf_inj adm)) (launchToks (pin pcs adm) (kit₀.cellOf_inj adm)))
    (hu₀ := by
      iintro Hu; imodintro
      isplitl [Hu]; · iapply (show (ownU _ : sProp 𝕄) ⊢ BI.own (emb₁ (initOf (cells (pin pcs adm) (kit₀.cellOf_inj adm)) (launchToks (pin pcs adm) (kit₀.cellOf_inj adm)))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by rw [RDat.familyOf_self]; exact (rdat c).arrays_split_shared kit₀.sharedIn kit₀.arr_whole (hq c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (pcs p).pre (cfg).spec c (V c))
    (Z' := fun c => iprop(∃ A : (w : Fin (cfg).W) → Buf Val (((cfg).spec w).arr.view.loc (c.tc : Thread nD τ)),
      ⌜∀ w, (rdat c).ArrAt w (cfg).N (A w)⌝ ∗ unscopedRestP (Ix := Unit) (Name := ℕ) (U := UR sig nD τ) (Lvl := ℕ) (pcs p).pre (cfg).spec c
        (fun b => StableHlo.after opss.flatten (withArrays (cfg).spec c (V₀ c) A) (Proc.devRef .tc b))))
    (hX := fun c => by
      iintro ⟨HU, -, -, Hp, -⟩; imodintro
      isplitl [Hp]; · iexists _; iexact Hp
      iexact HU)
    (hin := fun c => by
      rw [RDat.familyOf_self, hΦ]
      unfold ΦA
      iintro ⟨Hp, -, Hr⟩
      isplitl [Hr] <;> iassumption)
    (hout := fun c => by
      rw [RDat.familyOf_self, hΦ, ownSems0_none]
      unfold ΦA
      iintro ⟨Hr, Hp⟩
      isplitl [Hp]; · iexact Hp
      isplitr; · iempintro
      iexact Hr)
    (htail := fun c Q' => by
      iintro ⟨Hk, Hb, Ha, HZ⟩
      ihave Hc := (hopen c) $$ Ha
      icases Hc with ⟨%A, %hw, Ha⟩
      have hB : (rdat c).arrays A = arrBufs (cfg).spec c (fun b => withArrays (cfg).spec c (V₀ c) A (Proc.devRef .tc b)) :=
        ((rdat c).arrBufs_eq_arrays kit₀.sharedIn kit₀.arr_whole (hq c) _ A fun w =>
          (withArrays_arr_shared (cfg).spec c (V₀ c) A ((rdat c).ArrAt_sharedIn kit₀.sharedIn (V₀ c) (hA c) (cfg).N A hw) w).symm).symm
      iapply (tail_seqs_bufs_b pcs defs₀ 𝒱₀ (pcs p).pre (cfg).spec c (V₀ c) A opss hsub hfresh hkeep Q')
      isplitl [Hk]
      · iintro ⟨Hb, Ha, Hu⟩
        iapply Hk
        isplitl [Hb]; · iexact Hb
        isplitl [Ha]; · iapply (hclose c A hw); iapply (Entails.of_eq hB.symm); iexact Ha
        iexists A; isplitr; · ipureintro; exact hw
        iexact Hu
      · isplitl [Hb]; · iexact Hb
        isplitl [Ha]; · iapply (Entails.of_eq hB); iexact Ha
        iexact HZ)
    (QY := fun c s => ∃ A : (w : Fin (cfg).W) → Buf Val (((cfg).spec w).arr.view.loc (c.tc : Thread nD τ)),
      (∀ w, (rdat c).ArrAt w (cfg).N (A w)) ∧ ∀ b ∈ rest, s.mem ((c.tc : Thread nD τ).loc b)
        = StableHlo.after opss.flatten (withArrays (cfg).spec c (V₀ c) A) (Proc.devRef .tc b))
    (hY := fun c s' => by
      iintro ⟨-, HZ, HSI⟩
      icases HZ with ⟨%A, %hw, HZ⟩
      unfold unscopedRestP
      ihave Hc := (pointsTo_read_all rest (fun b => (c.tc : Thread nD τ).loc b)
        (fun b => StableHlo.after opss.flatten (withArrays (cfg).spec c (V₀ c) A) (Proc.devRef .tc b)) s') $$ [HZ HSI]
      · isplitl [HZ] <;> iassumption
      icases Hc with ⟨%hZ, HSI⟩
      imodintro
      isplitr
      · ipureintro; exact ⟨A, hw, hZ⟩
      · iexact HSI)
    (hQ := fun s h hz => ⟨fun c => by
      obtain ⟨A, hw, hr⟩ := (h c).2.2
      refine ⟨A, hw, fun b hb => hr b ?_⟩
      simpa [rest, restRefsP, Cfg.toPCfg, Prefetch.none] using hb, hz⟩)

end Cert.LaunchTail

end
-- ==== Proof.KBody.lean ====
/- One call of the kernel's body: what its hundred trips write into the output block, as a recursion over the carried
   scores. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.DatRel
public import Idealize.ShloMosaic.Lib.Pipeline.ArrRel
public import Idealize.ShloMosaic.Lib.Ring
public import Idealize.ShloMosaic.Lib.WholeRead
public import Idealize.ShloMosaic.Lib.WritesUnit
public import Idealize.ShloMosaic.Lib.Pointwise
public import Idealize.ShloMosaic.Lib.Tactic
public import Idealize.ShloMosaic.Lib.WordCmp

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the kernel holds of one image outside its loop: the candidates' clipped corners, scores and labels, the corners
    moved apart by label, and the areas. -/
structure Lanes (F : FTy → Type) where
  x1 : FVec F S8x128 .f32
  y1 : FVec F S8x128 .f32
  x2 : FVec F S8x128 .f32
  y2 : FVec F S8x128 .f32
  sc : FVec F S8x128 .f32
  lb : FVec F S8x128 .f32
  ox1 : FVec F S8x128 .f32
  oy1 : FVec F S8x128 .f32
  ox2 : FVec F S8x128 .f32
  oy2 : FVec F S8x128 .f32
  area : FVec F S8x128 .f32

/-- Each lane's row number. -/
abbrev rowIota : IVec S8x128 32 := iota .tc S8x128 32 [0] iota_S8x128_d0_w32
/-- Each output column's number. -/
abbrev colIota : IVec S1x8 32 := iota .tc S1x8 32 [1] iota_S1x8_d1_w32
/-- The lane a trip keeps: the first of those with the largest score. -/
def sel (s : FVec F S8x128 .f32) : IVec S8x128 1 := k0_pay4 (k0_pay1 rowIota) s

/-- The scores after one trip. -/
def stepS (P : Lanes F) (s : FVec F S8x128 .f32) : FVec F S8x128 .f32 :=
  k0_pay21 P.area s (sel s) (k0_pay11 (k0_pay10 P.area (k0_pay1 rowIota) s)) (k0_pay18 P.oy1 (k0_pay7 P.oy1 (k0_pay1 rowIota) s))
    (k0_pay19 P.oy2 (k0_pay9 P.oy2 (k0_pay1 rowIota) s))
    (k0_pay20 P.ox1 P.ox2 (k0_pay6 P.ox1 (k0_pay1 rowIota) s) (k0_pay8 P.ox2 (k0_pay1 rowIota) s))

/-- The row one trip writes. -/
def rowS (P : Lanes F) (s : FVec F S8x128 .f32) : FVec F S1x1x8 .f32 :=
  k0_pay2 (k0_pay5 s) (k0_pay12 P.lb (sel s))
    (k0_pay22 colIota (k0_pay14 P.x1 (sel s)) (k0_pay15 P.y1 (sel s)) (k0_pay16 P.x2 (sel s)) (k0_pay17 P.y2 (sel s)))
    (k0_pay23 colIota (k0_pay13 P.sc (sel s)))

/-- The scores before trip `k`. -/
def carry (P : Lanes F) (s₀ : FVec F S8x128 .f32) : ℕ → FVec F S8x128 .f32
  | 0 => s₀
  | k + 1 => stepS P (carry P s₀ k)

/-- A trip yields the next scores. -/
theorem tripR_eq (c : Dev nD) (i : grid0.Coords) (arg1 : Memref sig .tc .vmem S1x7x8x128 .f32) (harg1 : arg1.IsWhole)
    (arg2 : Memref sig .tc .vmem S1x104x8 .f32) (harg2 : arg2.IsWhole) (P : Lanes F) (k : Fin k0_t1_loop.trips) (s : FVec F S8x128 .f32) : tripR_k0_t1 (F := F) Variants.none c none i arg1 harg1 arg2 harg2 P.x1 P.y1 P.x2 P.y2 P.sc P.lb P.ox1 P.oy1 P.ox2 P.oy2 P.area rowIota colIota k s = stepS P s := by
  unfold tripR_k0_t1 trip_k0_t1
  rfl

/-- A trip writes its row. -/
theorem tripL_eq (c : Dev nD) (i : grid0.Coords) (arg1 : Memref sig .tc .vmem S1x7x8x128 .f32) (harg1 : arg1.IsWhole)
    (arg2 : Memref sig .tc .vmem S1x104x8 .f32) (harg2 : arg2.IsWhole) (P : Lanes F) (k : Fin k0_t1_loop.trips) (s : FVec F S8x128 .f32) : tripL_k0_t1 (F := F) Variants.none c none i arg1 harg1 arg2 harg2 P.x1 P.y1 P.x2 P.y2 P.sc P.lb P.ox1 P.oy1 P.ox2 P.oy2 P.area rowIota colIota k s
      = [⟨Rect.unit (s := S1x104x8) (k0_off1 k) S1x1x8.size (k0_off1_inb k), rowS P s⟩] := by
  unfold tripL_k0_t1 trip_k0_t1
  rfl

/-- Trip `k` writes row `k`. -/
theorem off_eq : ∀ k : Fin k0_t1_loop.trips, k0_off1 k = ![0, k.val, 0] := by decide +kernel

/-- The state before trip `k`: the scores as the recursion gives them, and every row written so far in place. -/
theorem st_eq (c : Dev nD) (i : grid0.Coords) (arg1 : Memref sig .tc .vmem S1x7x8x128 .f32) (harg1 : arg1.IsWhole)
    (arg2 : Memref sig .tc .vmem S1x104x8 .f32) (harg2 : arg2.IsWhole) (P : Lanes F) (s₀ : FVec F S8x128 .f32) : ∀ k : ℕ, k ≤ k0_t1_loop.trips →
    (st_k0_t1 (F := F) Variants.none c none i arg1 harg1 arg2 harg2 P.x1 P.y1 P.x2 P.y2 P.sc P.lb P.ox1 P.oy1 P.ox2 P.oy2 P.area rowIota colIota s₀ k).1 = carry P s₀ k
    ∧ ∀ (f : BufTy.Contents (Elt F) arg2.view.ty) (t : Fin 104) (j : Fin 8), t.val < k →
      arg2.view.read (Elt F) (arg2.view.writes (Elt F) f (st_k0_t1 (F := F) Variants.none c none i arg1 harg1 arg2 harg2 P.x1 P.y1 P.x2 P.y2 P.sc P.lb P.ox1 P.oy1 P.ox2 P.oy2 P.area rowIota colIota s₀ k).2) (ix3 0 t j) = rowS P (carry P s₀ t.val) (ix3 0 0 j)
  | 0, _ => ⟨rfl, fun _ _ _ h => absurd h (Nat.not_lt_zero _)⟩
  | k + 1, hk => by
    obtain ⟨h₁, h₂⟩ := st_eq c i arg1 harg1 arg2 harg2 P s₀ k (Nat.le_of_succ_le hk)
    have hs := st_k0_t1_succ (F := F) Variants.none c none i arg1 harg1 arg2 harg2 P.x1 P.y1 P.x2 P.y2 P.sc P.lb P.ox1 P.oy1 P.ox2 P.oy2 P.area rowIota colIota s₀ ⟨k, hk⟩
    simp only at hs
    rw [hs, tripR_eq, tripL_eq, h₁]
    refine ⟨rfl, fun f t j ht => ?_⟩
    by_cases e : t.val = k
    · rw [List.singleton_append, View.read_writes_cons_unit_of_mem _ _ (k0_off1_inb ⟨k, hk⟩) _ _ _ (ix3 0 0 j) (off_eq ⟨k, hk⟩) ?_, e]
      intro a
      fin_cases a
      · rfl
      · exact e
      · show j.val = 0 + j.val
        omega
    · rw [List.singleton_append, View.read_writes_cons_unit_of_not_mem _ _ (k0_off1_inb ⟨k, hk⟩) _ _ _ (off_eq ⟨k, hk⟩) 1
        (.inl (by show t.val < k; omega))]
      exact h₂ f t j (by omega)

/-- Plane `r` of an image's block. -/
abbrev row0 (x0 : Vec F S1x7x8x128 .f32) : Vec F S1x1x8x128 .f32 := View.ld x0 (Rect.unit (s := S1x7x8x128) ![0, 0, 0, 0] S1x1x8x128.size inb_S1x7x8x128_S1x1x8x128_0_0_0_0)
abbrev row1 (x0 : Vec F S1x7x8x128 .f32) : Vec F S1x1x8x128 .f32 := View.ld x0 (Rect.unit (s := S1x7x8x128) ![0, 1, 0, 0] S1x1x8x128.size inb_S1x7x8x128_S1x1x8x128_0_1_0_0)
abbrev row2 (x0 : Vec F S1x7x8x128 .f32) : Vec F S1x1x8x128 .f32 := View.ld x0 (Rect.unit (s := S1x7x8x128) ![0, 2, 0, 0] S1x1x8x128.size inb_S1x7x8x128_S1x1x8x128_0_2_0_0)
abbrev row3 (x0 : Vec F S1x7x8x128 .f32) : Vec F S1x1x8x128 .f32 := View.ld x0 (Rect.unit (s := S1x7x8x128) ![0, 3, 0, 0] S1x1x8x128.size inb_S1x7x8x128_S1x1x8x128_0_3_0_0)
abbrev row4 (x0 : Vec F S1x7x8x128 .f32) : Vec F S1x1x8x128 .f32 := View.ld x0 (Rect.unit (s := S1x7x8x128) ![0, 4, 0, 0] S1x1x8x128.size inb_S1x7x8x128_S1x1x8x128_0_4_0_0)
abbrev row5 (x0 : Vec F S1x7x8x128 .f32) : Vec F S1x1x8x128 .f32 := View.ld x0 (Rect.unit (s := S1x7x8x128) ![0, 5, 0, 0] S1x1x8x128.size inb_S1x7x8x128_S1x1x8x128_0_5_0_0)
abbrev row6 (x0 : Vec F S1x7x8x128 .f32) : Vec F S1x1x8x128 .f32 := View.ld x0 (Rect.unit (s := S1x7x8x128) ![0, 6, 0, 0] S1x1x8x128.size inb_S1x7x8x128_S1x1x8x128_0_6_0_0)

/-- An image's candidates, from its block. -/
def lanesOf (x0 : Vec F S1x7x8x128 .f32) : Lanes F where
  x1 := k0_pay24 (row0 x0)
  y1 := k0_pay25 (row1 x0)
  x2 := k0_pay26 (row2 x0)
  y2 := k0_pay27 (row3 x0)
  sc := k0_pay28 (row4 x0)
  lb := k0_pay29 (row5 x0)
  ox1 := k0_pay31 (row0 x0) (row5 x0)
  oy1 := k0_pay32 (row1 x0) (row5 x0)
  ox2 := k0_pay33 (row2 x0) (row5 x0)
  oy2 := k0_pay34 (row3 x0) (row5 x0)
  area := k0_pay35 (row0 x0) (row1 x0) (row2 x0) (row3 x0) (row5 x0)

/-- The scores before the first trip. -/
def initS (x0 : Vec F S1x7x8x128 .f32) : FVec F S8x128 .f32 := k0_pay36 (row4 x0) (row6 x0)

/-- What one image's rows hold: row `t` of the hundred is trip `t`'s. -/
def Rows (x0 : Vec F S1x7x8x128 .f32) (X : Vec F S1x104x8 .f32) : Prop :=
  ∀ (t : Fin 104) (j : Fin 8), t.val < 100 → X (ix3 0 t j) = rowS (lanesOf x0) (carry (lanesOf x0) (initS x0) t.val) (ix3 0 0 j)

theorem trips_eq : Scf.trips k0_t1_loop.lb k0_t1_loop.ub k0_t1_loop.st = 100 := by decide +kernel

set_option maxHeartbeats 1000000 in
/-- One call of the body reads the image's block and leaves its hundred rows. -/
theorem body_run (c : Dev nD) (i : grid0.Coords) (arg1 : Memref sig .tc .vmem S1x7x8x128 .f32) (harg1 : arg1.IsWhole)
    (arg2 : Memref sig .tc .vmem S1x104x8 .f32) (harg2 : arg2.IsWhole) (x0 : Vec F S1x7x8x128 .f32) :
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ X, ⌜Rows x0 X⌝ ∗ owns (c : Thread nD τ) arg2 fullShare X)) -∗ K ⟨⟩))
          ⊢ wp frame (wpE (defs₀ (F := F)) Variants.none c none) E (cc0__nms_kernel i arg1 harg1 arg2 harg2) K := by
    intro E K
    simp only [cc0__nms_kernel_eq_skeleton]; unfold cc0__nms_kernel_skel
    simp only [k0_part4_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; isplitr; swap
    · iexists _; isplitr; swap; · iexact H1
      ipureintro; rfl
    · ipureintro
      intro t j ht
      rw [trips_eq]
      unfold body_run.sl.r body_run.sl.r_1 body_run.sl.r_2 body_run.sl.r_3 body_run.sl.r_4 body_run.sl.r_5 body_run.sl.r_6
        body_run.sl.r_7 body_run.sl.r_8 body_run.sl.r_9 body_run.sl.r_10 body_run.sl.r_11 body_run.sl.v27
      have hr : ∀ R : Rect S1x7x8x128, View.readAt (Elt F) arg1.view R.toLoadRect (harg1.unread x0) = View.ld x0 R := fun R => by
        funext z; exact harg1.readAt_unread x0 R.toLoadRect z
      simp only [hr]
      exact (st_eq c i arg1 harg1 arg2 harg2 (lanesOf x0) (initS x0) 100 (by decide +kernel)).2 f1 t j ht

end Cert.KernelIdeal.Value

end
-- ==== Proof.KRun.lean ====
/- The kernel's run over any values: the result array holds, per image and row, the row its trip writes, and the arguments
   and counters are as they were. -/
module

public import proofs.«01_k».proof.Proof.KBody
public import proofs.«01_k».proof.Proof.LaunchTail
public import Idealize.ShloMosaic.Lib.Pipeline.ValueKit
public import proofs.«01_k».proof.Defs

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window, of which only a relation is stated. -/
def fgt : Fin 2 → Bool := fun w => w.val == 1

/-- The proof data: the input block stays in place, the output is named nowhere. -/
def dats (c : Dev nD) : Dat τ (Elt F) Unit ℕ (UR sig nD τ) ℕ cfg0 c where
  A w := V m c (Pipeline.arrRef spec0 w)
  after w t := match w with
    | ⟨0, _⟩ => iblk m c 0 t
    | ⟨1, h⟩ => Pipeline.Dat.unnamed (cfg := cfg0) ⟨1, h⟩ t
  Φ _ := Pipeline.ΦA spec0 c
  q _ := fullShare
  owed _ := 0

theorem A_eq (c : Dev nD) (w : Fin cfg0.W) : (dats m c).A w = V m c (Pipeline.arrRef spec0 w) := by
  dsimp only [dats]

theorem after_in (c : Dev nD) (t : Fin cfg0.N) : (dats m c).after 0 t = iblk m c 0 t := by dsimp only [dats]

theorem before_in (c : Dev nD) (t : Fin cfg0.N) (d) : (dats m c).before 0 t d = iblk m c 0 t :=
  before0_0_of m (dats m c) (A_eq m c 0) (after_in m c) t d

/-- The relation the output block is held to: its hundred rows. -/
def Rl (c : Dev nD) : (w : Fin cfg0.W) → Fin cfg0.N → ((cfg0.win w).block.Idx → Elt F (cfg0.win w).elt) → Prop
  | ⟨0, _⟩, _, _ => True
  | ⟨1, _⟩, t, X => Rows (F := F) (iblk m c 0 t) X

theorem body_row (t : Fin cfg0.N) :
    defs₀ (F := F) .tc cfg0.body (cfg0.bodyArgs t (cfg0.slots t)) = bodyAt0 t := by
  unfold defs₀; rw [Defs.onTc_tc]

theorem sound (c : Dev nD) (t : Fin cfg0.N) :
    iprop((dats m c).Φ t.castSucc ∗ (dats m c).owesAt () t.castSucc
      ∗ (∃ d, owns (c : Thread nD τ) (win0_0.stage (cfg0.slots t 0)) fullShare ((dats m c).before 0 t d))
      ∗ (∃ d, ⌜((dats m c).toRRel fgt (Rl m c)).Finds 1 t d⌝ ∗ owns (c : Thread nD τ) (win0_1.stage (cfg0.slots t 1)) fullShare d))
    ⊢ wp frame (wpE (defs₀ (F := F)) Variants.none c none) Set.univ (bodyAt0 t) (fun _ =>
      iprop((dats m c).Φ t.succ ∗ (dats m c).owesAt () t.succ
        ∗ owns (c : Thread nD τ) (win0_0.stage (cfg0.slots t 0)) fullShare ((dats m c).after 0 t)
        ∗ (∃ X, ⌜Rl m c 1 t X⌝ ∗ owns (c : Thread nD τ) (win0_1.stage (cfg0.slots t 1)) fullShare X))) := by
  unfold bodyAt0
  simp only [before_in]
  rw [show (dats m c).Φ t.succ = (dats m c).Φ t.castSucc from rfl,
    show (dats m c).owesAt () t.succ = (dats m c).owesAt () t.castSucc from rfl, after_in]
  iintro ⟨HΦ, Ho, ⟨%d0, H0⟩, ⟨%d1, %hd, H1⟩⟩
  iapply ((body_run c (grid0.coords t) _ _ _ _ (iblk m c 0 t)) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) :
    BodyObligationRel (dats (F := F) m c) (defs₀ (F := F)) Variants.none () Set.univ fgt (Rl m c) := fun t => by
  rw [bigSep_W0, bigSep_W0, body_row]
  exact sound m c t

set_option backward.isDefEq.respectTransparency.types false in
set_option maxHeartbeats 800000 in
theorem launch : θ_run defs (onTc (τ := τ) (main (F := F))) (s₀ m ρ)
    (Cert.LaunchTail.Post cfgs 0 (fun c => (dats m c).toRRel fgt (Rl m c)) (V0 m) [hostOps1]) :=
  Cert.LaunchTail.run_tail cfgs (0 : Fin 1) launch0 defs₀ Variants.none (fun c => (dats m c).toRRel fgt (Rl m c)) m ρ main
    (fun c => (body_obligation m c).toRRel) (fun c => (dats m c).share_full fun _ => rfl) (fun _ _ => rfl)
    (V0 m) [hostOps1] sfx_sub sfx_fresh sfx_keeps (hmain m Variants.none) (A_eq m) (fun _ _ => rfl)

/-- One image's block of the packed candidates. -/
def img (c : Dev nD) (b : Fin 4) : Vec F S1x7x8x128 .f32 := fun z =>
  (V m c main_call0_v102 : (⟨S4x7x8x128, .f32⟩ : BufTy).Contents (Elt F)) (ix4 b (z 1) (z 2) (z 3))

theorem rect_val (w : Pipeline.Window sig grid0) (hk : w.kind = .blocked) (t : Fin grid0.N) (z : (w.rect t).shape.Idx) (a : Fin w.shape.rank) :
    (((w.rect t).emb z a : Fin _) : ℕ) = w.index t a * w.size a + (z a).val :=
  w.rect_emb_val t z a hk

theorem index_in : ∀ t : Fin grid0.N, win0_0.index t = ![t.val, 0, 0, 0] := by decide +kernel
theorem index_out : ∀ t : Fin grid0.N, win0_1.index t = ![t.val, 0, 0] := by decide +kernel

theorem iblk_eq (c : Dev nD) (t : Fin cfg0.N) (b : Fin 4) (h : t.val = b.val) : iblk m c 0 t = img m c b := by
  funext z
  show (V m c main_call0_v102) ((win0_0.rect t).emb z) = _
  unfold img
  refine congrArg (V m c main_call0_v102 : (⟨S4x7x8x128, .f32⟩ : BufTy).Contents (Elt F)) ?_
  have h0 := rect_val win0_0 rfl t z
  have hi := index_in t
  funext a
  apply Fin.ext
  refine (h0 a).trans ?_
  match a with
  | ⟨0, _⟩ =>
    have := congrFun hi 0
    have hz : (z 0).val < 1 := (z 0).isLt
    show win0_0.index t 0 * 1 + (z 0).val = b.val
    rw [this]; show t.val * 1 + (z 0).val = b.val; omega
  | ⟨1, _⟩ =>
    have := congrFun hi 1
    show win0_0.index t 1 * 7 + (z 1).val = (z 1).val
    rw [this]; show 0 * 7 + (z 1).val = (z 1).val; omega
  | ⟨2, _⟩ =>
    have := congrFun hi 2
    show win0_0.index t 2 * 8 + (z 2).val = (z 2).val
    rw [this]; show 0 * 8 + (z 2).val = (z 2).val; omega
  | ⟨3, _⟩ =>
    have := congrFun hi 3
    show win0_0.index t 3 * 128 + (z 3).val = (z 3).val
    rw [this]; show 0 * 128 + (z 3).val = (z 3).val; omega

/-- The row that trip `t` writes for image `b`. -/
def outRow (c : Dev nD) (b : Fin 4) (t : ℕ) (j : Fin 8) : F .f32 :=
  rowS (lanesOf (img m c b)) (carry (lanesOf (img m c b)) (initS (img m c b)) t) (ix3 0 0 j)

theorem arr_rows (c : Dev nD) (G) (h : ((dats m c).toRRel fgt (Rl m c)).ArrAt 1 cfg0.N G) (b : Fin 4) (t : Fin 104) (j : Fin 8)
    (ht : t.val < 100) : (G : (⟨S4x104x8, .f32⟩ : BufTy).Contents (Elt F)) (ix3 b t j) = outRow m c b t.val j := by
  obtain ⟨X, hX, hA⟩ := h.exists_exact
  have e := hA (Function.update (fun _ _ _ => Classical.arbitrary _) 1 X) fun u _ _ => by rw [Function.update_self]
  have key := Dat.arrAt_forall_of_coversWhere (((dats m c).toRRel fgt (Rl m c)).withAfter (Function.update (fun _ _ _ => Classical.arbitrary _) 1 X)) 1
    (fun i v => ∀ (b : Fin 4) (t : Fin 104) (j : Fin 8), t.val < 100 → i = (ix3 b t j : S4x104x8.Idx) → v = outRow m c b t.val j)
    (fun _ => True) (by decide +kernel) ?_ (fun j hj => absurd trivial hj) (ix3 b t j : S4x104x8.Idx)
  · rw [e]; exact key b t j ht rfl
  · intro u hu y b t j ht hi
    have hL := (dats m c).toRRel_leaves (fgt := fgt) (Rl := Rl m c) (w := 1) rfl (hX u u.isLt hu)
    rw [RDat.withAfter_after, Function.update_self]
    have hv := fun a => congrArg (fun i : S4x104x8.Idx => (i a).val) hi
    have h0 := rect_val win0_1 rfl u y
    have hx := index_out u
    have e0 : u.val = b.val := by
      have := (h0 0).symm.trans (hv 0)
      have hz : (y 0).val < 1 := (y 0).isLt
      rw [congrFun hx 0] at this
      change u.val * 1 + (y 0).val = b.val at this
      omega
    have e1 : (y 1).val = t.val := by
      have := (h0 1).symm.trans (hv 1)
      rw [congrFun hx 1] at this
      change 0 * 104 + (y 1).val = t.val at this
      omega
    have e2 : (y 2).val = j.val := by
      have := (h0 2).symm.trans (hv 2)
      rw [congrFun hx 2] at this
      change 0 * 8 + (y 2).val = j.val at this
      omega
    have ey : ((cfg0.win 1).xinj (cfg0.grid.coords u) y : S1x104x8.Idx) = ix3 0 t j := by
      funext a
      apply Fin.ext
      match a with
      | ⟨0, _⟩ => have hz : (y 0).val < 1 := (y 0).isLt
                  show (y 0).val = 0
                  omega
      | ⟨1, _⟩ => exact e1
      | ⟨2, _⟩ => exact e2
    have hg : Rows (F := F) (iblk m c 0 u) (X u) := hL
    rw [iblk_eq m c u b e0] at hg
    exact (congrArg (X u) ey).trans (hg t j ht)

/-- What the kernel's run ends with: the arguments as they were, every counter at zero, and the result's rows. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ ∀ (b : Fin 4) (t : Fin 100) (j : Fin 6), (r.2.mem ((c.tc : Thread nD τ).loc main_v0) : (⟨S4x100x6, .f32⟩ : BufTy).Contents (Elt F)) (ix3 b t j)
          = outRow m c b t.val ⟨j.val, by omega⟩)
      ∧ r.2.sem = fun _ => 0) := by
  refine (θ_run defs _ _).mono (fun r h => ⟨fun c => ?_, h.2⟩) (launch m ρ)
  obtain ⟨A, hA, hb⟩ := h.1 c
  have hk : ∀ b : Ref sig .tc, b ≠ main_v0 → (∀ w, Pipeline.arrRef spec0 w ≠ b) →
      StableHlo.after (List.flatten [hostOps1]) (Pipeline.withArrays spec0 c (V0 m c) A) (Proc.devRef .tc b) = V m c b := by
    intro b hne hw
    rw [StableHlo.after_of_forall_not_mem (b := Proc.devRef .tc b) _ _ (List.forall_iff_forall_mem.mp (by
        simp only [hostOps1, List.flatten_cons, List.flatten_nil, List.append_nil, List.cons_append,
          List.nil_append, List.Forall, StableHlo.unary_writes, Finset.mem_singleton]
        exact StableHlo.devRef_ne_of_ne hne)),
      Pipeline.withArrays_of_ne _ c (V0 m c) _ b hw]
  refine ⟨⟨?_, ?_, ?_, ?_, ?_⟩, fun b t j => ?_⟩
  · exact ((hb main_arg0 (Pipeline.mem_restRefs_of main_arg0 (by decide) (by decide))).trans (hk _ (by decide) (by decide))).trans (V_main_arg0 m c)
  · exact ((hb main_arg1 (Pipeline.mem_restRefs_of main_arg1 (by decide) (by decide))).trans (hk _ (by decide) (by decide))).trans (V_main_arg1 m c)
  · exact ((hb main_arg2 (Pipeline.mem_restRefs_of main_arg2 (by decide) (by decide))).trans (hk _ (by decide) (by decide))).trans (V_main_arg2 m c)
  · exact ((hb main_arg3 (Pipeline.mem_restRefs_of main_arg3 (by decide) (by decide))).trans (hk _ (by decide) (by decide))).trans (V_main_arg3 m c)
  · exact ((hb main_arg4 (Pipeline.mem_restRefs_of main_arg4 (by decide) (by decide))).trans (hk _ (by decide) (by decide))).trans (V_main_arg4 m c)
  · have h0 := hb main_v0 (Pipeline.mem_restRefs_of main_v0 (by decide) (by decide))
    have h1 : StableHlo.after (List.flatten [hostOps1]) (Pipeline.withArrays spec0 c (V0 m c) A) (Proc.devRef .tc main_v0)
        = (extractStridedSlice S4x100x6 ![0, 0, 0] (A 1 : (⟨S4x104x8, .f32⟩ : BufTy).Contents (Elt F)) slices_S4x104x8_S4x100x6_0_0_0) := by
      have e1 := Pipeline.withArrays_arr spec0 launch0.win.arr_inj c (V0 m c) A 1
      rw [← e1]
      rfl
    rw [h0, h1, ← arr_rows m c (A 1) (hA 1) b ⟨t.val, by omega⟩ ⟨j.val, by omega⟩ t.isLt]
    refine congrArg (A 1 : (⟨S4x104x8, .f32⟩ : BufTy).Contents (Elt F)) ?_
    funext a
    apply Fin.ext
    match a with
    | ⟨0, _⟩ => show 0 + b.val = b.val; omega
    | ⟨1, _⟩ => show 0 + t.val = t.val; omega
    | ⟨2, _⟩ => show 0 + j.val = j.val; omega

end Cert.KernelIdeal.Value

end
-- ==== Proof.RefOps.lean ====
/- The reference program's host operations, as lists: the stretches before its loop, the loop's body and the stretches
   after it, and the program as the chain of these stretches. -/
module

public import proofs.«01_k».proof.Proof.Gen.ReferenceIdeal
public import Idealize.ShloMosaic.Lib.Pipeline.Regions
public import Idealize.ShloMosaic.Lib.StableHlo.RunLoop

@[expose] public section

set_option maxRecDepth 16384

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev main_part0_ops0 : List (HloOp τ sig (Elt F)) :=
  ( StableHlo.reshape main_arg0 main_v0 (rfl : (.f32 : EltTy) = .f32) shapeCasts_S4x80x100x152_S4x1x80x100x152
  :: StableHlo.unary main_v0 main_v1 ((transpose S4x100x152x1x80 [0, 3, 4, 1, 2] · transposes_S4x1x80x100x152_S4x100x152x1x80_0_3_4_1_2) : (⟨S4x1x80x100x152, .f32⟩ : BufTy).Contents (Elt F) → (⟨S4x100x152x1x80, .f32⟩ : BufTy).Contents (Elt F))
  :: StableHlo.reshape main_v1 main_v2 (rfl : (.f32 : EltTy) = .f32) shapeCasts_S4x100x152x1x80_S4x15200x80
  :: StableHlo.unary main_v2 main_v3 (Host.negf : (⟨S4x15200x80, .f32⟩ : BufTy).Contents (Elt F) → (⟨S4x15200x80, .f32⟩ : BufTy).Contents (Elt F))
  :: StableHlo.unary main_v3 main_v4 (Host.exp : (⟨S4x15200x80, .f32⟩ : BufTy).Contents (Elt F) → (⟨S4x15200x80, .f32⟩ : BufTy).Contents (Elt F))
  :: StableHlo.nullary main_cst (constant S_ .f32 0x3F800000#32)
  :: StableHlo.unary main_cst main_v5 (broadcastInDim S4x15200x80 ![] bcast_S_S4x15200x80 : (⟨S_, .f32⟩ : BufTy).Contents (Elt F) → (⟨S4x15200x80, .f32⟩ : BufTy).Contents (Elt F))
  :: StableHlo.binary main_v5 main_v4 main_v6 (addf : (⟨S4x15200x80, .f32⟩ : BufTy).Contents (Elt F) → (⟨S4x15200x80, .f32⟩ : BufTy).Contents (Elt F) → (⟨S4x15200x80, .f32⟩ : BufTy).Contents (Elt F))
  :: StableHlo.nullary main_cst_0 (constant S_ .f32 0x3F800000#32)
  :: StableHlo.unary main_cst_0 main_v7 (broadcastInDim S4x15200x80 ![] bcast_S_S4x15200x80 : (⟨S_, .f32⟩ : BufTy).Contents (Elt F) → (⟨S4x15200x80, .f32⟩ : BufTy).Contents (Elt F))
  :: StableHlo.binary main_v7 main_v6 main_v8 (Host.divf : (⟨S4x15200x80, .f32⟩ : BufTy).Contents (Elt F) → (⟨S4x15200x80, .f32⟩ : BufTy).Contents (Elt F) → (⟨S4x15200x80, .f32⟩ : BufTy).Contents (Elt F))
  :: StableHlo.reshape main_arg1 main_v9 (rfl : (.f32 : EltTy) = .f32) shapeCasts_S4x4x100x152_S4x1x4x100x152
  :: StableHlo.unary main_v9 main_v10 ((transpose S4x100x152x1x4 [0, 3, 4, 1, 2] · transposes_S4x1x4x100x152_S4x100x152x1x4_0_3_4_1_2) : (⟨S4x1x4x100x152, .f32⟩ : BufTy).Contents (Elt F) → (⟨S4x100x152x1x4, .f32⟩ : BufTy).Contents (Elt F))
  :: StableHlo.reshape main_v10 main_v11 (rfl : (.f32 : EltTy) = .f32) shapeCasts_S4x100x152x1x4_S4x15200x4
  :: StableHlo.reshape main_arg2 main_v12 (rfl : (.f32 : EltTy) = .f32) shapeCasts_S4x1x100x152_S4x1x1x100x152
  :: StableHlo.unary main_v12 main_v13 ((transpose S4x100x152x1x1 [0, 3, 4, 1, 2] · transposes_S4x1x1x100x152_S4x100x152x1x1_0_3_4_1_2) : (⟨S4x1x1x100x152, .f32⟩ : BufTy).Contents (Elt F) → (⟨S4x100x152x1x1, .f32⟩ : BufTy).Contents (Elt F))
  :: StableHlo.reshape main_v13 main_v14 (rfl : (.f32 : EltTy) = .f32) shapeCasts_S4x100x152x1x1_S4x15200x1
  :: StableHlo.reshape main_v14 main_v15 (rfl : (.f32 : EltTy) = .f32) shapeCasts_S4x15200x1_S4x15200
  :: StableHlo.unary main_v15 main_v16 (Host.negf : (⟨S4x15200, .f32⟩ : BufTy).Contents (Elt F) → (⟨S4x15200, .f32⟩ : BufTy).Contents (Elt F))
  :: StableHlo.unary main_v16 main_v17 (Host.exp : (⟨S4x15200, .f32⟩ : BufTy).Contents (Elt F) → (⟨S4x15200, .f32⟩ : BufTy).Contents (Elt F))
  :: StableHlo.nullary main_cst_1 (constant S_ .f32 0x3F800000#32)
  :: StableHlo.unary main_cst_1 main_v18 (broadcastInDim S4x15200 ![] bcast_S_S4x15200 : (⟨S_, .f32⟩ : BufTy).Contents (Elt F) → (⟨S4x15200, .f32⟩ : BufTy).Contents (Elt F))
  :: StableHlo.binary main_v18 main_v17 main_v19 (addf : (⟨S4x15200, .f32⟩ : BufTy).Contents (Elt F) → (⟨S4x15200, .f32⟩ : BufTy).Contents (Elt F) → (⟨S4x15200, .f32⟩ : BufTy).Contents (Elt F))
  :: StableHlo.nullary main_cst_2 (constant S_ .f32 0x3F800000#32)
  :: StableHlo.unary main_cst_2 main_v20 (broadcastInDim S4x15200 ![] bcast_S_S4x15200 : (⟨S_, .f32⟩ : BufTy).Contents (Elt F) → (⟨S4x15200, .f32⟩ : BufTy).Contents (Elt F))
  :: StableHlo.binary main_v20 main_v19 main_v21 (Host.divf : (⟨S4x15200, .f32⟩ : BufTy).Contents (Elt F) → (⟨S4x15200, .f32⟩ : BufTy).Contents (Elt F) → (⟨S4x15200, .f32⟩ : BufTy).Contents (Elt F))
  :: StableHlo.nullary main_cst_3 (constant S_ .f32 0x3D4CCCCD#32)
  :: StableHlo.unary main_cst_3 main_v22 (broadcastInDim S4x15200x80 ![] bcast_S_S4x15200x80 : (⟨S_, .f32⟩ : BufTy).Contents (Elt F) → (⟨S4x15200x80, .f32⟩ : BufTy).Contents (Elt F))
  :: StableHlo.binary main_v8 main_v22 main_v23 (cmpf .ogt : (⟨S4x15200x80, .f32⟩ : BufTy).Contents (Elt F) → (⟨S4x15200x80, .f32⟩ : BufTy).Contents (Elt F) → (⟨S4x15200x80, .i1⟩ : BufTy).Contents (Elt F))
  :: StableHlo.unary main_v21 main_v24 (broadcastInDim S4x15200x1 ![0, 1] bcast_S4x15200_S4x15200x1_0_1 : (⟨S4x15200, .f32⟩ : BufTy).Contents (Elt F) → (⟨S4x15200x1, .f32⟩ : BufTy).Contents (Elt F))
  :: StableHlo.unary main_v24 main_v25 (broadcastInDim S4x15200x80 ![0, 1, 2] bcast_S4x15200x1_S4x15200x80_0_1_2 : (⟨S4x15200x1, .f32⟩ : BufTy).Contents (Elt F) → (⟨S4x15200x80, .f32⟩ : BufTy).Contents (Elt F))
  :: StableHlo.binary main_v8 main_v25 main_v26 (mulf : (⟨S4x15200x80, .f32⟩ : BufTy).Contents (Elt F) → (⟨S4x15200x80, .f32⟩ : BufTy).Contents (Elt F) → (⟨S4x15200x80, .f32⟩ : BufTy).Contents (Elt F))
  :: StableHlo.unary main_v23 main_v27 (uitofp .f32 : (⟨S4x15200x80, .i1⟩ : BufTy).Contents (Elt F) → (⟨S4x15200x80, .f32⟩ : BufTy).Contents (Elt F))
  :: StableHlo.binary main_v26 main_v27 main_v28 (mulf : (⟨S4x15200x80, .f32⟩ : BufTy).Contents (Elt F) → (⟨S4x15200x80, .f32⟩ : BufTy).Contents (Elt F) → (⟨S4x15200x80, .f32⟩ : BufTy).Contents (Elt F))
  :: StableHlo.reshape main_v28 main_v29 (rfl : (.f32 : EltTy) = .f32) shapeCasts_S4x15200x80_S4x1216000
  :: StableHlo.unary main_v29 main_values ((fun x => (Host.topK S4x1000 1 (FloatOps.cmpfTotal .gt) x sliceFits_S4x1216000_S4x1000).1) : (⟨S4x1216000, .f32⟩ : BufTy).Contents (Elt F) → (⟨S4x1000, .f32⟩ : BufTy).Contents (Elt F))
  :: StableHlo.unary main_v29 main_indices ((fun x => (Host.topK S4x1000 1 (FloatOps.cmpfTotal .gt) x sliceFits_S4x1216000_S4x1000).2) : (⟨S4x1216000, .f32⟩ : BufTy).Contents (Elt F) → (⟨S4x1000, .i32⟩ : BufTy).Contents (Elt F))
  :: StableHlo.nullary main_c (constantI S_ 32 80#32)
  :: [] )
/-- Each touches TensorCore buffers only. -/
theorem main_part0_ops0_sub : (main_part0_ops0 : List (HloOp τ sig (Elt F))).Forall fun op => op.bufs ⊆ StableHlo.tcRefs τ sig :=
  ⟨StableHlo.reshape_bufs_sub .., StableHlo.unary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.unary_bufs_sub .., StableHlo.reshape_bufs_sub .., StableHlo.reshape_bufs_sub .., StableHlo.unary_bufs_sub .., StableHlo.reshape_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.nullary_bufs_sub ..⟩
/-- 17 host operations of @floor_divide (main_call0), window 0 (statements 1 … 60), in order. -/
abbrev main_part0_ops1 : List (HloOp τ sig (Elt F)) :=
  [ StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S4x1000, .i32⟩) (broadcastInDim S4x1000 ![] bcast_S_S4x1000),
    StableHlo.TRef.binary (.of main_indices : StableHlo.TRef sig ⟨S4x1000, .i32⟩) (.of main_call0_v1 : StableHlo.TRef sig ⟨S4x1000, .i32⟩) (.of main_call0_v2 : StableHlo.TRef sig ⟨S4x1000, .i32⟩) Host.divsi,
    StableHlo.TRef.unary (.of main_indices : StableHlo.TRef sig ⟨S4x1000, .i32⟩) (.of main_call0_v3 : StableHlo.TRef sig ⟨S4x1000, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S4x1000, .i32⟩) (broadcastInDim S4x1000 ![] bcast_S_S4x1000),
    StableHlo.TRef.binary (.of main_call0_v3 : StableHlo.TRef sig ⟨S4x1000, .i32⟩) (.of main_call0_v5 : StableHlo.TRef sig ⟨S4x1000, .i32⟩) (.of main_call0_v6 : StableHlo.TRef sig ⟨S4x1000, .i1⟩) (cmpi .ne),
    StableHlo.TRef.unary (.of main_call0_v0 : StableHlo.TRef sig ⟨S_, .i32⟩) (.of main_call0_v7 : StableHlo.TRef sig ⟨S4x1000, .i32⟩) (broadcastInDim S4x1000 ![] bcast_S_S4x1000),
    StableHlo.TRef.binary (.of main_indices : StableHlo.TRef sig ⟨S4x1000, .i32⟩) (.of main_call0_v7 : StableHlo.TRef sig ⟨S4x1000, .i32⟩) (.of main_call0_v8 : StableHlo.TRef sig ⟨S4x1000, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S4x1000, .i32⟩) (broadcastInDim S4x1000 ![] bcast_S_S4x1000),
    StableHlo.TRef.binary (.of main_call0_v8 : StableHlo.TRef sig ⟨S4x1000, .i32⟩) (.of main_call0_v9 : StableHlo.TRef sig ⟨S4x1000, .i32⟩) (.of main_call0_v10 : StableHlo.TRef sig ⟨S4x1000, .i1⟩) (cmpi .ne),
    StableHlo.TRef.binary (.of main_call0_v6 : StableHlo.TRef sig ⟨S4x1000, .i1⟩) (.of main_call0_v10 : StableHlo.TRef sig ⟨S4x1000, .i1⟩) (.of main_call0_v11 : StableHlo.TRef sig ⟨S4x1000, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S4x1000, .i32⟩) (broadcastInDim S4x1000 ![] bcast_S_S4x1000),
    StableHlo.TRef.binary (.of main_call0_v2 : StableHlo.TRef sig ⟨S4x1000, .i32⟩) (.of main_call0_v12 : StableHlo.TRef sig ⟨S4x1000, .i32⟩) (.of main_call0_v13 : StableHlo.TRef sig ⟨S4x1000, .i32⟩) subi,
    StableHlo.TRef.ternary (.of main_call0_v11 : StableHlo.TRef sig ⟨S4x1000, .i1⟩) (.of main_call0_v13 : StableHlo.TRef sig ⟨S4x1000, .i32⟩) (.of main_call0_v2 : StableHlo.TRef sig ⟨S4x1000, .i32⟩) (.of main_v30 : StableHlo.TRef sig ⟨S4x1000, .i32⟩) select ]
/-- Each touches TensorCore buffers only. -/
theorem main_part0_ops1_sub : (main_part0_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 host operation of @main, window 0 (statements 1 … 60), in order. -/
abbrev main_part0_ops2 : List (HloOp τ sig (Elt F)) :=
  [ StableHlo.nullary main_c_4 (constantI S_ 32 80#32) ]
/-- Each touches TensorCore buffers only. -/
theorem main_part0_ops2_sub : (main_part0_ops2 : List (HloOp τ sig (Elt F))).Forall fun op => op.bufs ⊆ StableHlo.tcRefs τ sig :=
  StableHlo.nullary_bufs_sub ..
/-- 21 host operations of @remainder (main_call1), window 0 (statements 1 … 60), in order. -/
abbrev main_part0_ops3 : List (HloOp τ sig (Elt F)) :=
  [ StableHlo.TRef.unary (.of main_c_4 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S4x1000, .i32⟩) (broadcastInDim S4x1000 ![] bcast_S_S4x1000),
    StableHlo.TRef.binary (.of main_indices : StableHlo.TRef sig ⟨S4x1000, .i32⟩) (.of main_call1_v3 : StableHlo.TRef sig ⟨S4x1000, .i32⟩) (.of main_call1_v4 : StableHlo.TRef sig ⟨S4x1000, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S4x1000, .i32⟩) (broadcastInDim S4x1000 ![] bcast_S_S4x1000),
    StableHlo.TRef.binary (.of main_call1_v4 : StableHlo.TRef sig ⟨S4x1000, .i32⟩) (.of main_call1_v5 : StableHlo.TRef sig ⟨S4x1000, .i32⟩) (.of main_call1_v6 : StableHlo.TRef sig ⟨S4x1000, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S4x1000, .i32⟩) (broadcastInDim S4x1000 ![] bcast_S_S4x1000),
    StableHlo.TRef.binary (.of main_call1_v4 : StableHlo.TRef sig ⟨S4x1000, .i32⟩) (.of main_call1_v7 : StableHlo.TRef sig ⟨S4x1000, .i32⟩) (.of main_call1_v8 : StableHlo.TRef sig ⟨S4x1000, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S4x1000, .i1⟩) (broadcastInDim S4x1000 ![] bcast_S_S4x1000),
    StableHlo.TRef.binary (.of main_call1_v8 : StableHlo.TRef sig ⟨S4x1000, .i1⟩) (.of main_call1_v10 : StableHlo.TRef sig ⟨S4x1000, .i1⟩) (.of main_call1_v11 : StableHlo.TRef sig ⟨S4x1000, .i1⟩) (cmpi .ne),
    StableHlo.TRef.binary (.of main_call1_v11 : StableHlo.TRef sig ⟨S4x1000, .i1⟩) (.of main_call1_v6 : StableHlo.TRef sig ⟨S4x1000, .i1⟩) (.of main_call1_v12 : StableHlo.TRef sig ⟨S4x1000, .i1⟩) andi,
    StableHlo.TRef.unary main_call1_call0.v0 (.of main_call1_v13 : StableHlo.TRef sig ⟨S4x1000, .i32⟩) (broadcastInDim S4x1000 ![] bcast_S_S4x1000),
    StableHlo.TRef.binary (.of main_call1_v4 : StableHlo.TRef sig ⟨S4x1000, .i32⟩) (.of main_call1_v13 : StableHlo.TRef sig ⟨S4x1000, .i32⟩) (.of main_call1_v14 : StableHlo.TRef sig ⟨S4x1000, .i32⟩) addi,
    StableHlo.TRef.ternary (.of main_call1_v12 : StableHlo.TRef sig ⟨S4x1000, .i1⟩) (.of main_call1_v14 : StableHlo.TRef sig ⟨S4x1000, .i32⟩) (.of main_call1_v4 : StableHlo.TRef sig ⟨S4x1000, .i32⟩) (.of main_v31 : StableHlo.TRef sig ⟨S4x1000, .i32⟩) select ]
/-- Each touches TensorCore buffers only. -/
theorem main_part0_ops3_sub : (main_part0_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 4 host operations of @main, window 0 (statements 1 … 60), in order. -/
abbrev main_part0_ops4 : List (HloOp τ sig (Elt F)) :=
  [ StableHlo.nullary main_c_5 (constantI S_ 32 1#32),
    StableHlo.unary main_c_5 main_v32 (broadcastInDim S4x1000 ![] bcast_S_S4x1000 : (⟨S_, .i32⟩ : BufTy).Contents (Elt F) → (⟨S4x1000, .i32⟩ : BufTy).Contents (Elt F)),
    StableHlo.binary main_v31 main_v32 main_v33 (addi : (⟨S4x1000, .i32⟩ : BufTy).Contents (Elt F) → (⟨S4x1000, .i32⟩ : BufTy).Contents (Elt F) → (⟨S4x1000, .i32⟩ : BufTy).Contents (Elt F)),
    StableHlo.reshape main_v23 main_v34 (rfl : (.i1 : EltTy) = .i1) shapeCasts_S4x15200x80_S4x1216000 ]
/-- Each touches TensorCore buffers only. -/
theorem main_part0_ops4_sub : (main_part0_ops4 : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub ..⟩
/-- 22 host operations of @take_along_axis (main_call2), window 0 (statements 1 … 60), in order. -/
abbrev main_part0_ops5 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4x1000, .i32⟩) (broadcastInDim S4x1000 ![] bcast_S_S4x1000),
    StableHlo.TRef.binary (.of main_indices : StableHlo.TRef sig ⟨S4x1000, .i32⟩) (.of main_call2_v0 : StableHlo.TRef sig ⟨S4x1000, .i32⟩) (.of main_call2_v1 : StableHlo.TRef sig ⟨S4x1000, .i1⟩) (cmpi .slt),
    StableHlo.TRef.nullary (.of main_call2_c_0 : StableHlo.TRef sig ⟨S_, .i32⟩) (constantI S_ 32 1216000#32),
    StableHlo.TRef.unary (.of main_call2_c_0 : StableHlo.TRef sig ⟨S_, .i32⟩) (.of main_call2_v2 : StableHlo.TRef sig ⟨S4x1000, .i32⟩) (broadcastInDim S4x1000 ![] bcast_S_S4x1000),
    StableHlo.TRef.binary (.of main_indices : StableHlo.TRef sig ⟨S4x1000, .i32⟩) (.of main_call2_v2 : StableHlo.TRef sig ⟨S4x1000, .i32⟩) (.of main_call2_v3 : StableHlo.TRef sig ⟨S4x1000, .i32⟩) addi,
    StableHlo.TRef.ternary (.of main_call2_v1 : StableHlo.TRef sig ⟨S4x1000, .i1⟩) (.of main_call2_v3 : StableHlo.TRef sig ⟨S4x1000, .i32⟩) (.of main_indices : StableHlo.TRef sig ⟨S4x1000, .i32⟩) (.of main_call2_v4 : StableHlo.TRef sig ⟨S4x1000, .i32⟩) select,
    StableHlo.TRef.reshape (.of main_call2_v4 : StableHlo.TRef sig ⟨S4x1000, .i32⟩) (.of main_call2_v5 : StableHlo.TRef sig ⟨S4x1000x1, .i32⟩) (rfl : (.i32 : EltTy) = .i32) shapeCasts_S4x1000_S4x1000x1,
    StableHlo.TRef.nullary (.of main_call2_c_1 : StableHlo.TRef sig ⟨S1, .i32⟩) (constantI S1 32 1215999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S4x1000x1, .i32⟩) (broadcastInDim S4x1000x1 ![] bcast_S_S4x1000x1),
    StableHlo.TRef.binary (.of main_call2_v5 : StableHlo.TRef sig ⟨S4x1000x1, .i32⟩) (.of main_call2_v6 : StableHlo.TRef sig ⟨S4x1000x1, .i32⟩) (.of main_call2_v7 : StableHlo.TRef sig ⟨S4x1000x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S4x1000x1, .i32⟩) (broadcastInDim S4x1000x1 ![0, 1, 2] bcast_S1x1x1_S4x1000x1_0_1_2),
    StableHlo.TRef.binary (.of main_call2_v5 : StableHlo.TRef sig ⟨S4x1000x1, .i32⟩) (.of main_call2_v9 : StableHlo.TRef sig ⟨S4x1000x1, .i32⟩) (.of main_call2_v10 : StableHlo.TRef sig ⟨S4x1000x1, .i1⟩) (cmpi .sle),
    StableHlo.TRef.binary (.of main_call2_v7 : StableHlo.TRef sig ⟨S4x1000x1, .i1⟩) (.of main_call2_v10 : StableHlo.TRef sig ⟨S4x1000x1, .i1⟩) (.of main_call2_v11 : StableHlo.TRef sig ⟨S4x1000x1, .i1⟩) andi,
    StableHlo.TRef.nullary (.of main_call2_c_3 : StableHlo.TRef sig ⟨S_, .i1⟩) (constantI S_ 1 1#1),
    StableHlo.TRef.binary (.of main_call2_v11 : StableHlo.TRef sig ⟨S4x1000x1, .i1⟩) (.of main_call2_c_3 : StableHlo.TRef sig ⟨S_, .i1⟩) (.of main_call2_v12 : StableHlo.TRef sig ⟨S4x1000, .i1⟩) (fun x v => Host.reduce IntOp.andi x v reducesTo_S4x1000x1_S4x1000_d2 h_S_),
    StableHlo.TRef.binary (.of main_v34 : StableHlo.TRef sig ⟨S4x1216000, .i1⟩) (.of main_call2_v5 : StableHlo.TRef sig ⟨S4x1000x1, .i32⟩) (.of main_call2_v13 : StableHlo.TRef sig ⟨S4x1000, .i1⟩) (fun x i => Host.gather gather_S4x1216000_S4x1000x1_S4x1000_n_1_0_0_1_2_11 x i),
    StableHlo.TRef.nullary (.of main_call2_c_4 : StableHlo.TRef sig ⟨S_, .i1⟩) (constantI S_ 1 1#1),
    StableHlo.TRef.unary (.of main_call2_c_4 : StableHlo.TRef sig ⟨S_, .i1⟩) (.of main_call2_v14 : StableHlo.TRef sig ⟨S4x1000, .i1⟩) (broadcastInDim S4x1000 ![] bcast_S_S4x1000),
    StableHlo.TRef.ternary (.of main_call2_v12 : StableHlo.TRef sig ⟨S4x1000, .i1⟩) (.of main_call2_v13 : StableHlo.TRef sig ⟨S4x1000, .i1⟩) (.of main_call2_v14 : StableHlo.TRef sig ⟨S4x1000, .i1⟩) (.of main_v35 : StableHlo.TRef sig ⟨S4x1000, .i1⟩) select ]
/-- Each touches TensorCore buffers only. -/
theorem main_part0_ops5_sub : (main_part0_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- 10 host operations of @main, window 0 (statements 1 … 60), in order. -/
abbrev main_part0_ops6 : List (HloOp τ sig (Elt F)) :=
  [ StableHlo.nullary main_c_6 (constantI S_ 32 0#32),
    StableHlo.unary main_c_6 main_v36 (broadcastInDim S4x1000 ![] bcast_S_S4x1000 : (⟨S_, .i32⟩ : BufTy).Contents (Elt F) → (⟨S4x1000, .i32⟩ : BufTy).Contents (Elt F)),
    StableHlo.binary main_v30 main_v36 main_v37 (cmpi .slt : (⟨S4x1000, .i32⟩ : BufTy).Contents (Elt F) → (⟨S4x1000, .i32⟩ : BufTy).Contents (Elt F) → (⟨S4x1000, .i1⟩ : BufTy).Contents (Elt F)),
    StableHlo.nullary main_c_7 (constantI S_ 32 15200#32),
    StableHlo.unary main_c_7 main_v38 (broadcastInDim S4x1000 ![] bcast_S_S4x1000 : (⟨S_, .i32⟩ : BufTy).Contents (Elt F) → (⟨S4x1000, .i32⟩ : BufTy).Contents (Elt F)),
    StableHlo.binary main_v30 main_v38 main_v39 (addi : (⟨S4x1000, .i32⟩ : BufTy).Contents (Elt F) → (⟨S4x1000, .i32⟩ : BufTy).Contents (Elt F) → (⟨S4x1000, .i32⟩ : BufTy).Contents (Elt F)),
    StableHlo.ternary main_v37 main_v39 main_v30 main_v40 (select : (⟨S4x1000, .i1⟩ : BufTy).Contents (Elt F) → (⟨S4x1000, .i32⟩ : BufTy).Contents (Elt F) → (⟨S4x1000, .i32⟩ : BufTy).Contents (Elt F) → (⟨S4x1000, .i32⟩ : BufTy).Contents (Elt F)),
    StableHlo.unary main_v40 main_v41 (broadcastInDim S4x1000x1 ![0, 1] bcast_S4x1000_S4x1000x1_0_1 : (⟨S4x1000, .i32⟩ : BufTy).Contents (Elt F) → (⟨S4x1000x1, .i32⟩ : BufTy).Contents (Elt F)),
    StableHlo.binary main_arg3 main_v41 main_v42 ((fun x i => Host.gather gather_S15200x2_S4x1000x1_S4x1000x2_2_0_n_n_0_2_12 x i) : (⟨S15200x2, .f32⟩ : BufTy).Contents (Elt F) → (⟨S4x1000x1, .i32⟩ : BufTy).Contents (Elt F) → (⟨S4x1000x2, .f32⟩ : BufTy).Contents (Elt F)),
    StableHlo.unary main_v30 main_v43 (broadcastInDim S4x1000x1 ![0, 1] bcast_S4x1000_S4x1000x1_0_1 : (⟨S4x1000, .i32⟩ : BufTy).Contents (Elt F) → (⟨S4x1000x1, .i32⟩ : BufTy).Contents (Elt F)) ]
/-- Each touches TensorCore buffers only. -/
theorem main_part0_ops6_sub : (main_part0_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩
/-- 22 host operations of @take_along_axis_1 (main_call3), window 0 (statements 1 … 60), in order. -/
abbrev main_part0_ops7 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S4x1000x1, .i32⟩) (broadcastInDim S4x1000x1 ![] bcast_S_S4x1000x1),
    StableHlo.TRef.binary (.of main_v43 : StableHlo.TRef sig ⟨S4x1000x1, .i32⟩) (.of main_call3_v0 : StableHlo.TRef sig ⟨S4x1000x1, .i32⟩) (.of main_call3_v1 : StableHlo.TRef sig ⟨S4x1000x1, .i1⟩) (cmpi .slt),
    StableHlo.TRef.nullary (.of main_call3_c_0 : StableHlo.TRef sig ⟨S_, .i32⟩) (constantI S_ 32 15200#32),
    StableHlo.TRef.unary (.of main_call3_c_0 : StableHlo.TRef sig ⟨S_, .i32⟩) (.of main_call3_v2 : StableHlo.TRef sig ⟨S4x1000x1, .i32⟩) (broadcastInDim S4x1000x1 ![] bcast_S_S4x1000x1),
    StableHlo.TRef.binary (.of main_v43 : StableHlo.TRef sig ⟨S4x1000x1, .i32⟩) (.of main_call3_v2 : StableHlo.TRef sig ⟨S4x1000x1, .i32⟩) (.of main_call3_v3 : StableHlo.TRef sig ⟨S4x1000x1, .i32⟩) addi,
    StableHlo.TRef.ternary (.of main_call3_v1 : StableHlo.TRef sig ⟨S4x1000x1, .i1⟩) (.of main_call3_v3 : StableHlo.TRef sig ⟨S4x1000x1, .i32⟩) (.of main_v43 : StableHlo.TRef sig ⟨S4x1000x1, .i32⟩) (.of main_call3_v4 : StableHlo.TRef sig ⟨S4x1000x1, .i32⟩) select,
    StableHlo.TRef.nullary (.of main_call3_c_1 : StableHlo.TRef sig ⟨S1, .i32⟩) (constantI S1 32 15199#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S4x1000x1, .i32⟩) (broadcastInDim S4x1000x1 ![] bcast_S_S4x1000x1),
    StableHlo.TRef.binary (.of main_call3_v4 : StableHlo.TRef sig ⟨S4x1000x1, .i32⟩) (.of main_call3_v5 : StableHlo.TRef sig ⟨S4x1000x1, .i32⟩) (.of main_call3_v6 : StableHlo.TRef sig ⟨S4x1000x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S4x1000x1, .i32⟩) (broadcastInDim S4x1000x1 ![0, 1, 2] bcast_S1x1x1_S4x1000x1_0_1_2),
    StableHlo.TRef.binary (.of main_call3_v4 : StableHlo.TRef sig ⟨S4x1000x1, .i32⟩) (.of main_call3_v8 : StableHlo.TRef sig ⟨S4x1000x1, .i32⟩) (.of main_call3_v9 : StableHlo.TRef sig ⟨S4x1000x1, .i1⟩) (cmpi .sle),
    StableHlo.TRef.binary (.of main_call3_v6 : StableHlo.TRef sig ⟨S4x1000x1, .i1⟩) (.of main_call3_v9 : StableHlo.TRef sig ⟨S4x1000x1, .i1⟩) (.of main_call3_v10 : StableHlo.TRef sig ⟨S4x1000x1, .i1⟩) andi,
    StableHlo.TRef.nullary (.of main_call3_c_3 : StableHlo.TRef sig ⟨S_, .i1⟩) (constantI S_ 1 1#1),
    StableHlo.TRef.binary (.of main_call3_v10 : StableHlo.TRef sig ⟨S4x1000x1, .i1⟩) (.of main_call3_c_3 : StableHlo.TRef sig ⟨S_, .i1⟩) (.of main_call3_v11 : StableHlo.TRef sig ⟨S4x1000, .i1⟩) (fun x v => Host.reduce IntOp.andi x v reducesTo_S4x1000x1_S4x1000_d2 h_S_),
    StableHlo.TRef.binary (.of main_v11 : StableHlo.TRef sig ⟨S4x15200x4, .f32⟩) (.of main_call3_v4 : StableHlo.TRef sig ⟨S4x1000x1, .i32⟩) (.of main_call3_v12 : StableHlo.TRef sig ⟨S4x1000x4, .f32⟩) (fun x i => Host.gather gather_S4x15200x4_S4x1000x1_S4x1000x4_2_1_0_0_1_2_114 x i),
    StableHlo.TRef.unary (.of main_call3_v11 : StableHlo.TRef sig ⟨S4x1000, .i1⟩) (.of main_call3_v13 : StableHlo.TRef sig ⟨S4x1000x4, .i1⟩) (broadcastInDim S4x1000x4 ![0, 1] bcast_S4x1000_S4x1000x4_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S4x1000x4, .f32⟩) (broadcastInDim S4x1000x4 ![] bcast_S_S4x1000x4),
    StableHlo.TRef.ternary (.of main_call3_v13 : StableHlo.TRef sig ⟨S4x1000x4, .i1⟩) (.of main_call3_v12 : StableHlo.TRef sig ⟨S4x1000x4, .f32⟩) (.of main_call3_v14 : StableHlo.TRef sig ⟨S4x1000x4, .f32⟩) (.of main_v44 : StableHlo.TRef sig ⟨S4x1000x4, .f32⟩) select ]
/-- Each touches TensorCore buffers only. -/
theorem main_part0_ops7_sub : (main_part0_ops7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 3 host operations of @main, window 0 (statements 1 … 60), in order. -/
abbrev main_part0_ops8 : List (HloOp τ sig (Elt F)) :=
  [ StableHlo.unary main_v42 main_v45 ((extractStridedSlice S4x1000x1 ![0, 0, 0] · slices_S4x1000x2_S4x1000x1_0_0_0) : (⟨S4x1000x2, .f32⟩ : BufTy).Contents (Elt F) → (⟨S4x1000x1, .f32⟩ : BufTy).Contents (Elt F)),
    StableHlo.reshape main_v45 main_v46 (rfl : (.f32 : EltTy) = .f32) shapeCasts_S4x1000x1_S4x1000,
    StableHlo.unary main_v44 main_v47 ((extractStridedSlice S4x1000x1 ![0, 0, 0] · slices_S4x1000x4_S4x1000x1_0_0_0) : (⟨S4x1000x4, .f32⟩ : BufTy).Contents (Elt F) → (⟨S4x1000x1, .f32⟩ : BufTy).Contents (Elt F)) ]
/-- Each touches TensorCore buffers only. -/
theorem main_part0_ops8_sub : (main_part0_ops8 : List (HloOp τ sig (Elt F))).Forall fun op => op.bufs ⊆ StableHlo.tcRefs τ sig :=
  ⟨StableHlo.unary_bufs_sub .., StableHlo.reshape_bufs_sub .., StableHlo.unary_bufs_sub ..⟩
/-- The program as the chain of its stretches. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7 ]
  (StableHlo.seq main_part0_ops8) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 39 host operations of @main, window 1 (statements 61 … 120), in order. -/
abbrev main_part1_ops0 : List (HloOp τ sig (Elt F)) :=
  ( StableHlo.reshape main_v47 main_v48 (rfl : (.f32 : EltTy) = .f32) shapeCasts_S4x1000x1_S4x1000
  :: StableHlo.binary main_v46 main_v48 main_v49 (subf : (⟨S4x1000, .f32⟩ : BufTy).Contents (Elt F) → (⟨S4x1000, .f32⟩ : BufTy).Contents (Elt F) → (⟨S4x1000, .f32⟩ : BufTy).Contents (Elt F))
  :: StableHlo.unary main_v42 main_v50 ((extractStridedSlice S4x1000x1 ![0, 0, 1] · slices_S4x1000x2_S4x1000x1_0_0_1) : (⟨S4x1000x2, .f32⟩ : BufTy).Contents (Elt F) → (⟨S4x1000x1, .f32⟩ : BufTy).Contents (Elt F))
  :: StableHlo.reshape main_v50 main_v51 (rfl : (.f32 : EltTy) = .f32) shapeCasts_S4x1000x1_S4x1000
  :: StableHlo.unary main_v44 main_v52 ((extractStridedSlice S4x1000x1 ![0, 0, 1] · slices_S4x1000x4_S4x1000x1_0_0_1) : (⟨S4x1000x4, .f32⟩ : BufTy).Contents (Elt F) → (⟨S4x1000x1, .f32⟩ : BufTy).Contents (Elt F))
  :: StableHlo.reshape main_v52 main_v53 (rfl : (.f32 : EltTy) = .f32) shapeCasts_S4x1000x1_S4x1000
  :: StableHlo.binary main_v51 main_v53 main_v54 (subf : (⟨S4x1000, .f32⟩ : BufTy).Contents (Elt F) → (⟨S4x1000, .f32⟩ : BufTy).Contents (Elt F) → (⟨S4x1000, .f32⟩ : BufTy).Contents (Elt F))
  :: StableHlo.unary main_v42 main_v55 ((extractStridedSlice S4x1000x1 ![0, 0, 0] · slices_S4x1000x2_S4x1000x1_0_0_0) : (⟨S4x1000x2, .f32⟩ : BufTy).Contents (Elt F) → (⟨S4x1000x1, .f32⟩ : BufTy).Contents (Elt F))
  :: StableHlo.reshape main_v55 main_v56 (rfl : (.f32 : EltTy) = .f32) shapeCasts_S4x1000x1_S4x1000
  :: StableHlo.unary main_v44 main_v57 ((extractStridedSlice S4x1000x1 ![0, 0, 2] · slices_S4x1000x4_S4x1000x1_0_0_2) : (⟨S4x1000x4, .f32⟩ : BufTy).Contents (Elt F) → (⟨S4x1000x1, .f32⟩ : BufTy).Contents (Elt F))
  :: StableHlo.reshape main_v57 main_v58 (rfl : (.f32 : EltTy) = .f32) shapeCasts_S4x1000x1_S4x1000
  :: StableHlo.binary main_v56 main_v58 main_v59 (addf : (⟨S4x1000, .f32⟩ : BufTy).Contents (Elt F) → (⟨S4x1000, .f32⟩ : BufTy).Contents (Elt F) → (⟨S4x1000, .f32⟩ : BufTy).Contents (Elt F))
  :: StableHlo.unary main_v42 main_v60 ((extractStridedSlice S4x1000x1 ![0, 0, 1] · slices_S4x1000x2_S4x1000x1_0_0_1) : (⟨S4x1000x2, .f32⟩ : BufTy).Contents (Elt F) → (⟨S4x1000x1, .f32⟩ : BufTy).Contents (Elt F))
  :: StableHlo.reshape main_v60 main_v61 (rfl : (.f32 : EltTy) = .f32) shapeCasts_S4x1000x1_S4x1000
  :: StableHlo.unary main_v44 main_v62 ((extractStridedSlice S4x1000x1 ![0, 0, 3] · slices_S4x1000x4_S4x1000x1_0_0_3) : (⟨S4x1000x4, .f32⟩ : BufTy).Contents (Elt F) → (⟨S4x1000x1, .f32⟩ : BufTy).Contents (Elt F))
  :: StableHlo.reshape main_v62 main_v63 (rfl : (.f32 : EltTy) = .f32) shapeCasts_S4x1000x1_S4x1000
  :: StableHlo.binary main_v61 main_v63 main_v64 (addf : (⟨S4x1000, .f32⟩ : BufTy).Contents (Elt F) → (⟨S4x1000, .f32⟩ : BufTy).Contents (Elt F) → (⟨S4x1000, .f32⟩ : BufTy).Contents (Elt F))
  :: StableHlo.unary main_v49 main_v65 (broadcastInDim S4x1000x1 ![0, 1] bcast_S4x1000_S4x1000x1_0_1 : (⟨S4x1000, .f32⟩ : BufTy).Contents (Elt F) → (⟨S4x1000x1, .f32⟩ : BufTy).Contents (Elt F))
  :: StableHlo.unary main_v54 main_v66 (broadcastInDim S4x1000x1 ![0, 1] bcast_S4x1000_S4x1000x1_0_1 : (⟨S4x1000, .f32⟩ : BufTy).Contents (Elt F) → (⟨S4x1000x1, .f32⟩ : BufTy).Contents (Elt F))
  :: StableHlo.unary main_v59 main_v67 (broadcastInDim S4x1000x1 ![0, 1] bcast_S4x1000_S4x1000x1_0_1 : (⟨S4x1000, .f32⟩ : BufTy).Contents (Elt F) → (⟨S4x1000x1, .f32⟩ : BufTy).Contents (Elt F))
  :: StableHlo.unary main_v64 main_v68 (broadcastInDim S4x1000x1 ![0, 1] bcast_S4x1000_S4x1000x1_0_1 : (⟨S4x1000, .f32⟩ : BufTy).Contents (Elt F) → (⟨S4x1000x1, .f32⟩ : BufTy).Contents (Elt F))
  :: StableHlo.nary ![main_v65, main_v66, main_v67, main_v68] main_v69 (fun u => (concatenate S4x1000x4 2 [⟨S4x1000x1, (u 0 : (⟨S4x1000x1, .f32⟩ : BufTy).Contents (Elt F))⟩, ⟨S4x1000x1, (u 1 : (⟨S4x1000x1, .f32⟩ : BufTy).Contents (Elt F))⟩, ⟨S4x1000x1, (u 2 : (⟨S4x1000x1, .f32⟩ : BufTy).Contents (Elt F))⟩, ⟨S4x1000x1, (u 3 : (⟨S4x1000x1, .f32⟩ : BufTy).Contents (Elt F))⟩] concatenates_S4x1000x1_S4x1000x1_S4x1000x1_S4x1000x1_S4x1000x4_d2 : (⟨S4x1000x4, .f32⟩ : BufTy).Contents (Elt F)))
  :: StableHlo.unary main_arg4 main_v70 ((extractStridedSlice S4x1 ![0, 0] · slices_S4x2_S4x1_0_0) : (⟨S4x2, .i32⟩ : BufTy).Contents (Elt F) → (⟨S4x1, .i32⟩ : BufTy).Contents (Elt F))
  :: StableHlo.reshape main_v70 main_v71 (rfl : (.i32 : EltTy) = .i32) shapeCasts_S4x1_S4
  :: StableHlo.unary main_v71 main_v72 (sitofp .f32 : (⟨S4, .i32⟩ : BufTy).Contents (Elt F) → (⟨S4, .f32⟩ : BufTy).Contents (Elt F))
  :: StableHlo.nullary main_cst_8 (constant S_ .f32 0x3F800000#32)
  :: StableHlo.unary main_cst_8 main_v73 (broadcastInDim S4 ![] bcast_S_S4 : (⟨S_, .f32⟩ : BufTy).Contents (Elt F) → (⟨S4, .f32⟩ : BufTy).Contents (Elt F))
  :: StableHlo.binary main_v72 main_v73 main_v74 (subf : (⟨S4, .f32⟩ : BufTy).Contents (Elt F) → (⟨S4, .f32⟩ : BufTy).Contents (Elt F) → (⟨S4, .f32⟩ : BufTy).Contents (Elt F))
  :: StableHlo.unary main_v74 main_v75 (broadcastInDim S4x1 ![0] bcast_S4_S4x1_0 : (⟨S4, .f32⟩ : BufTy).Contents (Elt F) → (⟨S4x1, .f32⟩ : BufTy).Contents (Elt F))
  :: StableHlo.unary main_arg4 main_v76 ((extractStridedSlice S4x1 ![0, 1] · slices_S4x2_S4x1_0_1) : (⟨S4x2, .i32⟩ : BufTy).Contents (Elt F) → (⟨S4x1, .i32⟩ : BufTy).Contents (Elt F))
  :: StableHlo.reshape main_v76 main_v77 (rfl : (.i32 : EltTy) = .i32) shapeCasts_S4x1_S4
  :: StableHlo.unary main_v77 main_v78 (sitofp .f32 : (⟨S4, .i32⟩ : BufTy).Contents (Elt F) → (⟨S4, .f32⟩ : BufTy).Contents (Elt F))
  :: StableHlo.nullary main_cst_9 (constant S_ .f32 0x3F800000#32)
  :: StableHlo.unary main_cst_9 main_v79 (broadcastInDim S4 ![] bcast_S_S4 : (⟨S_, .f32⟩ : BufTy).Contents (Elt F) → (⟨S4, .f32⟩ : BufTy).Contents (Elt F))
  :: StableHlo.binary main_v78 main_v79 main_v80 (subf : (⟨S4, .f32⟩ : BufTy).Contents (Elt F) → (⟨S4, .f32⟩ : BufTy).Contents (Elt F) → (⟨S4, .f32⟩ : BufTy).Contents (Elt F))
  :: StableHlo.unary main_v80 main_v81 (broadcastInDim S4x1 ![0] bcast_S4_S4x1_0 : (⟨S4, .f32⟩ : BufTy).Contents (Elt F) → (⟨S4x1, .f32⟩ : BufTy).Contents (Elt F))
  :: StableHlo.unary main_v69 main_v82 ((extractStridedSlice S4x1000x1 ![0, 0, 0] · slices_S4x1000x4_S4x1000x1_0_0_0) : (⟨S4x1000x4, .f32⟩ : BufTy).Contents (Elt F) → (⟨S4x1000x1, .f32⟩ : BufTy).Contents (Elt F))
  :: StableHlo.reshape main_v82 main_v83 (rfl : (.f32 : EltTy) = .f32) shapeCasts_S4x1000x1_S4x1000
  :: StableHlo.nullary main_cst_10 (constant S_ .f32 0x00000000#32)
  :: [] )
/-- Each touches TensorCore buffers only. -/
theorem main_part1_ops0_sub : (main_part1_ops0 : List (HloOp τ sig (Elt F))).Forall fun op => op.bufs ⊆ StableHlo.tcRefs τ sig :=
  ⟨StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.nullary_bufs_sub .., StableHlo.unary_bufs_sub .., StableHlo.binary_bufs_sub .., StableHlo.unary_bufs_sub .., StableHlo.unary_bufs_sub .., StableHlo.reshape_bufs_sub .., StableHlo.nullary_bufs_sub ..⟩
/-- 5 host operations of @clip (main_call4), window 1 (statements 61 … 120), in order. -/
abbrev main_part1_ops1 : List (HloOp τ sig (Elt F)) :=
  [ StableHlo.TRef.unary (.of main_cst_10 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S4x1000, .f32⟩) (broadcastInDim S4x1000 ![] bcast_S_S4x1000),
    StableHlo.TRef.binary (.of main_call4_v1 : StableHlo.TRef sig ⟨S4x1000, .f32⟩) (.of main_v83 : StableHlo.TRef sig ⟨S4x1000, .f32⟩) (.of main_call4_v2 : StableHlo.TRef sig ⟨S4x1000, .f32⟩) maximumf,
    StableHlo.TRef.unary (.of main_v75 : StableHlo.TRef sig ⟨S4x1, .f32⟩) (.of main_call4_v3 : StableHlo.TRef sig ⟨S4x1000, .f32⟩) (broadcastInDim S4x1000 ![0, 1] bcast_S4x1_S4x1000_0_1),
    StableHlo.TRef.binary (.of main_call4_v3 : StableHlo.TRef sig ⟨S4x1000, .f32⟩) (.of main_call4_v2 : StableHlo.TRef sig ⟨S4x1000, .f32⟩) (.of main_v84 : StableHlo.TRef sig ⟨S4x1000, .f32⟩) minimumf ]
/-- Each touches TensorCore buffers only. -/
theorem main_part1_ops1_sub : (main_part1_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
/-- 3 host operations of @main, window 1 (statements 61 … 120), in order. -/
abbrev main_part1_ops2 : List (HloOp τ sig (Elt F)) :=
  [ StableHlo.unary main_v69 main_v85 ((extractStridedSlice S4x1000x1 ![0, 0, 1] · slices_S4x1000x4_S4x1000x1_0_0_1) : (⟨S4x1000x4, .f32⟩ : BufTy).Contents (Elt F) → (⟨S4x1000x1, .f32⟩ : BufTy).Contents (Elt F)),
    StableHlo.reshape main_v85 main_v86 (rfl : (.f32 : EltTy) = .f32) shapeCasts_S4x1000x1_S4x1000,
    StableHlo.nullary main_cst_11 (constant S_ .f32 0x00000000#32) ]
/-- Each touches TensorCore buffers only. -/
theorem main_part1_ops2_sub : (main_part1_ops2 : List (HloOp τ sig (Elt F))).Forall fun op => op.bufs ⊆ StableHlo.tcRefs τ sig :=
  ⟨StableHlo.unary_bufs_sub .., StableHlo.reshape_bufs_sub .., StableHlo.nullary_bufs_sub ..⟩
/-- 5 host operations of @clip (main_call5), window 1 (statements 61 … 120), in order. -/
abbrev main_part1_ops3 : List (HloOp τ sig (Elt F)) :=
  [ StableHlo.TRef.unary (.of main_cst_11 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S4x1000, .f32⟩) (broadcastInDim S4x1000 ![] bcast_S_S4x1000),
    StableHlo.TRef.binary (.of main_call5_v1 : StableHlo.TRef sig ⟨S4x1000, .f32⟩) (.of main_v86 : StableHlo.TRef sig ⟨S4x1000, .f32⟩) (.of main_call5_v2 : StableHlo.TRef sig ⟨S4x1000, .f32⟩) maximumf,
    StableHlo.TRef.unary (.of main_v81 : StableHlo.TRef sig ⟨S4x1, .f32⟩) (.of main_call5_v3 : StableHlo.TRef sig ⟨S4x1000, .f32⟩) (broadcastInDim S4x1000 ![0, 1] bcast_S4x1_S4x1000_0_1),
    StableHlo.TRef.binary (.of main_call5_v3 : StableHlo.TRef sig ⟨S4x1000, .f32⟩) (.of main_call5_v2 : StableHlo.TRef sig ⟨S4x1000, .f32⟩) (.of main_v87 : StableHlo.TRef sig ⟨S4x1000, .f32⟩) minimumf ]
/-- Each touches TensorCore buffers only. -/
theorem main_part1_ops3_sub : (main_part1_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
/-- 3 host operations of @main, window 1 (statements 61 … 120), in order. -/
abbrev main_part1_ops4 : List (HloOp τ sig (Elt F)) :=
  [ StableHlo.unary main_v69 main_v88 ((extractStridedSlice S4x1000x1 ![0, 0, 2] · slices_S4x1000x4_S4x1000x1_0_0_2) : (⟨S4x1000x4, .f32⟩ : BufTy).Contents (Elt F) → (⟨S4x1000x1, .f32⟩ : BufTy).Contents (Elt F)),
    StableHlo.reshape main_v88 main_v89 (rfl : (.f32 : EltTy) = .f32) shapeCasts_S4x1000x1_S4x1000,
    StableHlo.nullary main_cst_12 (constant S_ .f32 0x00000000#32) ]
/-- Each touches TensorCore buffers only. -/
theorem main_part1_ops4_sub : (main_part1_ops4 : List (HloOp τ sig (Elt F))).Forall fun op => op.bufs ⊆ StableHlo.tcRefs τ sig :=
  ⟨StableHlo.unary_bufs_sub .., StableHlo.reshape_bufs_sub .., StableHlo.nullary_bufs_sub ..⟩
/-- 5 host operations of @clip (main_call6), window 1 (statements 61 … 120), in order. -/
abbrev main_part1_ops5 : List (HloOp τ sig (Elt F)) :=
  [ StableHlo.TRef.unary (.of main_cst_12 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S4x1000, .f32⟩) (broadcastInDim S4x1000 ![] bcast_S_S4x1000),
    StableHlo.TRef.binary (.of main_call6_v1 : StableHlo.TRef sig ⟨S4x1000, .f32⟩) (.of main_v89 : StableHlo.TRef sig ⟨S4x1000, .f32⟩) (.of main_call6_v2 : StableHlo.TRef sig ⟨S4x1000, .f32⟩) maximumf,
    StableHlo.TRef.unary (.of main_v75 : StableHlo.TRef sig ⟨S4x1, .f32⟩) (.of main_call6_v3 : StableHlo.TRef sig ⟨S4x1000, .f32⟩) (broadcastInDim S4x1000 ![0, 1] bcast_S4x1_S4x1000_0_1),
    StableHlo.TRef.binary (.of main_call6_v3 : StableHlo.TRef sig ⟨S4x1000, .f32⟩) (.of main_call6_v2 : StableHlo.TRef sig ⟨S4x1000, .f32⟩) (.of main_v90 : StableHlo.TRef sig ⟨S4x1000, .f32⟩) minimumf ]
/-- Each touches TensorCore buffers only. -/
theorem main_part1_ops5_sub : (main_part1_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
/-- 3 host operations of @main, window 1 (statements 61 … 120), in order. -/
abbrev main_part1_ops6 : List (HloOp τ sig (Elt F)) :=
  [ StableHlo.unary main_v69 main_v91 ((extractStridedSlice S4x1000x1 ![0, 0, 3] · slices_S4x1000x4_S4x1000x1_0_0_3) : (⟨S4x1000x4, .f32⟩ : BufTy).Contents (Elt F) → (⟨S4x1000x1, .f32⟩ : BufTy).Contents (Elt F)),
    StableHlo.reshape main_v91 main_v92 (rfl : (.f32 : EltTy) = .f32) shapeCasts_S4x1000x1_S4x1000,
    StableHlo.nullary main_cst_13 (constant S_ .f32 0x00000000#32) ]
/-- Each touches TensorCore buffers only. -/
theorem main_part1_ops6_sub : (main_part1_ops6 : List (HloOp τ sig (Elt F))).Forall fun op => op.bufs ⊆ StableHlo.tcRefs τ sig :=
  ⟨StableHlo.unary_bufs_sub .., StableHlo.reshape_bufs_sub .., StableHlo.nullary_bufs_sub ..⟩
/-- 5 host operations of @clip (main_call7), window 1 (statements 61 … 120), in order. -/
abbrev main_part1_ops7 : List (HloOp τ sig (Elt F)) :=
  [ StableHlo.TRef.unary (.of main_cst_13 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S4x1000, .f32⟩) (broadcastInDim S4x1000 ![] bcast_S_S4x1000),
    StableHlo.TRef.binary (.of main_call7_v1 : StableHlo.TRef sig ⟨S4x1000, .f32⟩) (.of main_v92 : StableHlo.TRef sig ⟨S4x1000, .f32⟩) (.of main_call7_v2 : StableHlo.TRef sig ⟨S4x1000, .f32⟩) maximumf,
    StableHlo.TRef.unary (.of main_v81 : StableHlo.TRef sig ⟨S4x1, .f32⟩) (.of main_call7_v3 : StableHlo.TRef sig ⟨S4x1000, .f32⟩) (broadcastInDim S4x1000 ![0, 1] bcast_S4x1_S4x1000_0_1),
    StableHlo.TRef.binary (.of main_call7_v3 : StableHlo.TRef sig ⟨S4x1000, .f32⟩) (.of main_call7_v2 : StableHlo.TRef sig ⟨S4x1000, .f32⟩) (.of main_v93 : StableHlo.TRef sig ⟨S4x1000, .f32⟩) minimumf ]
/-- Each touches TensorCore buffers only. -/
theorem main_part1_ops7_sub : (main_part1_ops7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.binary_bufs_sub ..⟩
/-- 8 host operations of @main, window 1 (statements 61 … 120), in order. -/
abbrev main_part1_ops8 : List (HloOp τ sig (Elt F)) :=
  [ StableHlo.unary main_v84 main_v94 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v87 main_v95 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v90 main_v96 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v93 main_v97 (broadcastInDim S4x1000x1 ![0, 1] bcast_S4x1000_S4x1000x1_0_1 : (⟨S4x1000, .f32⟩ : BufTy).Contents (Elt F) → (⟨S4x1000x1, .f32⟩ : BufTy).Contents (Elt F)),
    StableHlo.nary ![main_v94, main_v95, main_v96, main_v97] main_v98 (fun u => (concatenate S4x1000x4 2 [⟨S4x1000x1, (u 0 : (⟨S4x1000x1, .f32⟩ : BufTy).Contents (Elt F))⟩, ⟨S4x1000x1, (u 1 : (⟨S4x1000x1, .f32⟩ : BufTy).Contents (Elt F))⟩, ⟨S4x1000x1, (u 2 : (⟨S4x1000x1, .f32⟩ : BufTy).Contents (Elt F))⟩, ⟨S4x1000x1, (u 3 : (⟨S4x1000x1, .f32⟩ : BufTy).Contents (Elt F))⟩] concatenates_S4x1000x1_S4x1000x1_S4x1000x1_S4x1000x1_S4x1000x4_d2 : (⟨S4x1000x4, .f32⟩ : BufTy).Contents (Elt F))),
    StableHlo.binary main_v90 main_v84 main_v99 (subf : (⟨S4x1000, .f32⟩ : BufTy).Contents (Elt F) → (⟨S4x1000, .f32⟩ : BufTy).Contents (Elt F) → (⟨S4x1000, .f32⟩ : BufTy).Contents (Elt F)),
    StableHlo.nullary main_cst_14 (constant S_ .f32 0x00000000#32),
    StableHlo.unary main_cst_14 main_v100 (broadcastInDim S4x1000 ![] bcast_S_S4x1000 : (⟨S_, .f32⟩ : BufTy).Contents (Elt F) → (⟨S4x1000, .f32⟩ : BufTy).Contents (Elt F)) ]
/-- Each touches TensorCore buffers only. -/
theorem main_part1_ops8_sub : (main_part1_ops8 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nary_bufs_sub .., StableHlo.binary_bufs_sub .., StableHlo.nullary_bufs_sub .., StableHlo.unary_bufs_sub ..⟩
/-- The program as the chain of its stretches. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7 ]
  (StableHlo.seq main_part1_ops8) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

/-- 8 host operations of @main, window 2 (statements 121 … 180), in order. -/
abbrev main_part2_ops0 : List (HloOp τ sig (Elt F)) :=
  [ StableHlo.binary main_v99 main_v100 main_v101 (cmpf .oge : (⟨S4x1000, .f32⟩ : BufTy).Contents (Elt F) → (⟨S4x1000, .f32⟩ : BufTy).Contents (Elt F) → (⟨S4x1000, .i1⟩ : BufTy).Contents (Elt F)),
    StableHlo.binary main_v35 main_v101 main_v102 (andi : (⟨S4x1000, .i1⟩ : BufTy).Contents (Elt F) → (⟨S4x1000, .i1⟩ : BufTy).Contents (Elt F) → (⟨S4x1000, .i1⟩ : BufTy).Contents (Elt F)),
    StableHlo.binary main_v93 main_v87 main_v103 (subf : (⟨S4x1000, .f32⟩ : BufTy).Contents (Elt F) → (⟨S4x1000, .f32⟩ : BufTy).Contents (Elt F) → (⟨S4x1000, .f32⟩ : BufTy).Contents (Elt F)),
    StableHlo.nullary main_cst_15 (constant S_ .f32 0x00000000#32),
    StableHlo.unary main_cst_15 main_v104 (broadcastInDim S4x1000 ![] bcast_S_S4x1000 : (⟨S_, .f32⟩ : BufTy).Contents (Elt F) → (⟨S4x1000, .f32⟩ : BufTy).Contents (Elt F)),
    StableHlo.binary main_v103 main_v104 main_v105 (cmpf .oge : (⟨S4x1000, .f32⟩ : BufTy).Contents (Elt F) → (⟨S4x1000, .f32⟩ : BufTy).Contents (Elt F) → (⟨S4x1000, .i1⟩ : BufTy).Contents (Elt F)),
    StableHlo.binary main_v102 main_v105 main_v106 (andi : (⟨S4x1000, .i1⟩ : BufTy).Contents (Elt F) → (⟨S4x1000, .i1⟩ : BufTy).Contents (Elt F) → (⟨S4x1000, .i1⟩ : BufTy).Contents (Elt F)),
    StableHlo.nullary main_cst_16 (constant S_ .f32 0x2B8CBCCC#32) ]
/-- Each touches TensorCore buffers only. -/
theorem main_part2_ops0_sub : (main_part2_ops0 : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
/-- 3 host operations of @clip_2 (main_call8), window 2 (statements 121 … 180), in order. -/
abbrev main_part2_ops1 : List (HloOp τ sig (Elt F)) :=
  [ StableHlo.TRef.unary (.of main_cst_16 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S4x1000, .f32⟩) (broadcastInDim S4x1000 ![] bcast_S_S4x1000),
    StableHlo.TRef.binary (.of main_call8_v1 : StableHlo.TRef sig ⟨S4x1000, .f32⟩) (.of main_values : StableHlo.TRef sig ⟨S4x1000, .f32⟩) (.of main_v107 : StableHlo.TRef sig ⟨S4x1000, .f32⟩) maximumf ]
/-- Each touches TensorCore buffers only. -/
theorem main_part2_ops1_sub : (main_part2_ops1 : List (HloOp τ sig (Elt F))).Forall fun op => op.bufs ⊆ StableHlo.tcRefs τ sig :=
  ⟨StableHlo.unary_bufs_sub .., StableHlo.unary_bufs_sub .., StableHlo.binary_bufs_sub ..⟩
/-- 35 host operations of @main, window 2 (statements 121 … 180), in order. -/
abbrev main_part2_ops2 : List (HloOp τ sig (Elt F)) :=
  ( StableHlo.unary main_v107 main_v108 (Host.sqrt : (⟨S4x1000, .f32⟩ : BufTy).Contents (Elt F) → (⟨S4x1000, .f32⟩ : BufTy).Contents (Elt F))
  :: StableHlo.unary main_v33 main_v109 (sitofp .f32 : (⟨S4x1000, .i32⟩ : BufTy).Contents (Elt F) → (⟨S4x1000, .f32⟩ : BufTy).Contents (Elt F))
  :: StableHlo.nullary main_cst_17 (constant S_ .f32 0x47C35000#32)
  :: StableHlo.unary main_cst_17 main_v110 (broadcastInDim S4x1000 ![] bcast_S_S4x1000 : (⟨S_, .f32⟩ : BufTy).Contents (Elt F) → (⟨S4x1000, .f32⟩ : BufTy).Contents (Elt F))
  :: StableHlo.binary main_v109 main_v110 main_v111 (mulf : (⟨S4x1000, .f32⟩ : BufTy).Contents (Elt F) → (⟨S4x1000, .f32⟩ : BufTy).Contents (Elt F) → (⟨S4x1000, .f32⟩ : BufTy).Contents (Elt F))
  :: StableHlo.unary main_v111 main_v112 (broadcastInDim S4x1000x1 ![0, 1] bcast_S4x1000_S4x1000x1_0_1 : (⟨S4x1000, .f32⟩ : BufTy).Contents (Elt F) → (⟨S4x1000x1, .f32⟩ : BufTy).Contents (Elt F))
  :: StableHlo.unary main_v112 main_v113 (broadcastInDim S4x1000x4 ![0, 1, 2] bcast_S4x1000x1_S4x1000x4_0_1_2 : (⟨S4x1000x1, .f32⟩ : BufTy).Contents (Elt F) → (⟨S4x1000x4, .f32⟩ : BufTy).Contents (Elt F))
  :: StableHlo.binary main_v98 main_v113 main_v114 (addf : (⟨S4x1000x4, .f32⟩ : BufTy).Contents (Elt F) → (⟨S4x1000x4, .f32⟩ : BufTy).Contents (Elt F) → (⟨S4x1000x4, .f32⟩ : BufTy).Contents (Elt F))
  :: StableHlo.unary main_v114 main_v115 ((extractStridedSlice S4x1000x1 ![0, 0, 2] · slices_S4x1000x4_S4x1000x1_0_0_2) : (⟨S4x1000x4, .f32⟩ : BufTy).Contents (Elt F) → (⟨S4x1000x1, .f32⟩ : BufTy).Contents (Elt F))
  :: StableHlo.reshape main_v115 main_v116 (rfl : (.f32 : EltTy) = .f32) shapeCasts_S4x1000x1_S4x1000
  :: StableHlo.unary main_v114 main_v117 ((extractStridedSlice S4x1000x1 ![0, 0, 0] · slices_S4x1000x4_S4x1000x1_0_0_0) : (⟨S4x1000x4, .f32⟩ : BufTy).Contents (Elt F) → (⟨S4x1000x1, .f32⟩ : BufTy).Contents (Elt F))
  :: StableHlo.reshape main_v117 main_v118 (rfl : (.f32 : EltTy) = .f32) shapeCasts_S4x1000x1_S4x1000
  :: StableHlo.binary main_v116 main_v118 main_v119 (subf : (⟨S4x1000, .f32⟩ : BufTy).Contents (Elt F) → (⟨S4x1000, .f32⟩ : BufTy).Contents (Elt F) → (⟨S4x1000, .f32⟩ : BufTy).Contents (Elt F))
  :: StableHlo.unary main_v114 main_v120 ((extractStridedSlice S4x1000x1 ![0, 0, 3] · slices_S4x1000x4_S4x1000x1_0_0_3) : (⟨S4x1000x4, .f32⟩ : BufTy).Contents (Elt F) → (⟨S4x1000x1, .f32⟩ : BufTy).Contents (Elt F))
  :: StableHlo.reshape main_v120 main_v121 (rfl : (.f32 : EltTy) = .f32) shapeCasts_S4x1000x1_S4x1000
  :: StableHlo.unary main_v114 main_v122 ((extractStridedSlice S4x1000x1 ![0, 0, 1] · slices_S4x1000x4_S4x1000x1_0_0_1) : (⟨S4x1000x4, .f32⟩ : BufTy).Contents (Elt F) → (⟨S4x1000x1, .f32⟩ : BufTy).Contents (Elt F))
  :: StableHlo.reshape main_v122 main_v123 (rfl : (.f32 : EltTy) = .f32) shapeCasts_S4x1000x1_S4x1000
  :: StableHlo.binary main_v121 main_v123 main_v124 (subf : (⟨S4x1000, .f32⟩ : BufTy).Contents (Elt F) → (⟨S4x1000, .f32⟩ : BufTy).Contents (Elt F) → (⟨S4x1000, .f32⟩ : BufTy).Contents (Elt F))
  :: StableHlo.binary main_v119 main_v124 main_v125 (mulf : (⟨S4x1000, .f32⟩ : BufTy).Contents (Elt F) → (⟨S4x1000, .f32⟩ : BufTy).Contents (Elt F) → (⟨S4x1000, .f32⟩ : BufTy).Contents (Elt F))
  :: StableHlo.unary main_v114 main_v126 ((extractStridedSlice S4x1000x2 ![0, 0, 0] · slices_S4x1000x4_S4x1000x2_0_0_0) : (⟨S4x1000x4, .f32⟩ : BufTy).Contents (Elt F) → (⟨S4x1000x2, .f32⟩ : BufTy).Contents (Elt F))
  :: StableHlo.unary main_v126 main_v127 (broadcastInDim S4x1000x1x2 ![0, 1, 3] bcast_S4x1000x2_S4x1000x1x2_0_1_3 : (⟨S4x1000x2, .f32⟩ : BufTy).Contents (Elt F) → (⟨S4x1000x1x2, .f32⟩ : BufTy).Contents (Elt F))
  :: StableHlo.unary main_v114 main_v128 ((extractStridedSlice S4x1000x2 ![0, 0, 0] · slices_S4x1000x4_S4x1000x2_0_0_0) : (⟨S4x1000x4, .f32⟩ : BufTy).Contents (Elt F) → (⟨S4x1000x2, .f32⟩ : BufTy).Contents (Elt F))
  :: StableHlo.unary main_v128 main_v129 (broadcastInDim S4x1x1000x2 ![0, 2, 3] bcast_S4x1000x2_S4x1x1000x2_0_2_3 : (⟨S4x1000x2, .f32⟩ : BufTy).Contents (Elt F) → (⟨S4x1x1000x2, .f32⟩ : BufTy).Contents (Elt F))
  :: StableHlo.unary main_v127 main_v130 (broadcastInDim S4x1000x1000x2 ![0, 1, 2, 3] bcast_S4x1000x1x2_S4x1000x1000x2_0_1_2_3 : (⟨S4x1000x1x2, .f32⟩ : BufTy).Contents (Elt F) → (⟨S4x1000x1000x2, .f32⟩ : BufTy).Contents (Elt F))
  :: StableHlo.unary main_v129 main_v131 (broadcastInDim S4x1000x1000x2 ![0, 1, 2, 3] bcast_S4x1x1000x2_S4x1000x1000x2_0_1_2_3 : (⟨S4x1x1000x2, .f32⟩ : BufTy).Contents (Elt F) → (⟨S4x1000x1000x2, .f32⟩ : BufTy).Contents (Elt F))
  :: StableHlo.binary main_v130 main_v131 main_v132 (maximumf : (⟨S4x1000x1000x2, .f32⟩ : BufTy).Contents (Elt F) → (⟨S4x1000x1000x2, .f32⟩ : BufTy).Contents (Elt F) → (⟨S4x1000x1000x2, .f32⟩ : BufTy).Contents (Elt F))
  :: StableHlo.unary main_v114 main_v133 ((extractStridedSlice S4x1000x2 ![0, 0, 2] · slices_S4x1000x4_S4x1000x2_0_0_2) : (⟨S4x1000x4, .f32⟩ : BufTy).Contents (Elt F) → (⟨S4x1000x2, .f32⟩ : BufTy).Contents (Elt F))
  :: StableHlo.unary main_v133 main_v134 (broadcastInDim S4x1000x1x2 ![0, 1, 3] bcast_S4x1000x2_S4x1000x1x2_0_1_3 : (⟨S4x1000x2, .f32⟩ : BufTy).Contents (Elt F) → (⟨S4x1000x1x2, .f32⟩ : BufTy).Contents (Elt F))
  :: StableHlo.unary main_v114 main_v135 ((extractStridedSlice S4x1000x2 ![0, 0, 2] · slices_S4x1000x4_S4x1000x2_0_0_2) : (⟨S4x1000x4, .f32⟩ : BufTy).Contents (Elt F) → (⟨S4x1000x2, .f32⟩ : BufTy).Contents (Elt F))
  :: StableHlo.unary main_v135 main_v136 (broadcastInDim S4x1x1000x2 ![0, 2, 3] bcast_S4x1000x2_S4x1x1000x2_0_2_3 : (⟨S4x1000x2, .f32⟩ : BufTy).Contents (Elt F) → (⟨S4x1x1000x2, .f32⟩ : BufTy).Contents (Elt F))
  :: StableHlo.unary main_v134 main_v137 (broadcastInDim S4x1000x1000x2 ![0, 1, 2, 3] bcast_S4x1000x1x2_S4x1000x1000x2_0_1_2_3 : (⟨S4x1000x1x2, .f32⟩ : BufTy).Contents (Elt F) → (⟨S4x1000x1000x2, .f32⟩ : BufTy).Contents (Elt F))
  :: StableHlo.unary main_v136 main_v138 (broadcastInDim S4x1000x1000x2 ![0, 1, 2, 3] bcast_S4x1x1000x2_S4x1000x1000x2_0_1_2_3 : (⟨S4x1x1000x2, .f32⟩ : BufTy).Contents (Elt F) → (⟨S4x1000x1000x2, .f32⟩ : BufTy).Contents (Elt F))
  :: StableHlo.binary main_v137 main_v138 main_v139 (minimumf : (⟨S4x1000x1000x2, .f32⟩ : BufTy).Contents (Elt F) → (⟨S4x1000x1000x2, .f32⟩ : BufTy).Contents (Elt F) → (⟨S4x1000x1000x2, .f32⟩ : BufTy).Contents (Elt F))
  :: StableHlo.binary main_v139 main_v132 main_v140 (subf : (⟨S4x1000x1000x2, .f32⟩ : BufTy).Contents (Elt F) → (⟨S4x1000x1000x2, .f32⟩ : BufTy).Contents (Elt F) → (⟨S4x1000x1000x2, .f32⟩ : BufTy).Contents (Elt F))
  :: StableHlo.nullary main_cst_18 (constant S_ .f32 0x00000000#32)
  :: [] )
/-- Each touches TensorCore buffers only. -/
theorem main_part2_ops2_sub : (main_part2_ops2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
/-- 3 host operations of @clip_3 (main_call9), window 2 (statements 121 … 180), in order. -/
abbrev main_part2_ops3 : List (HloOp τ sig (Elt F)) :=
  [ StableHlo.TRef.unary (.of main_cst_18 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S4x1000x1000x2, .f32⟩) (broadcastInDim S4x1000x1000x2 ![] bcast_S_S4x1000x1000x2),
    StableHlo.TRef.binary (.of main_call9_v1 : StableHlo.TRef sig ⟨S4x1000x1000x2, .f32⟩) (.of main_v140 : StableHlo.TRef sig ⟨S4x1000x1000x2, .f32⟩) (.of main_v141 : StableHlo.TRef sig ⟨S4x1000x1000x2, .f32⟩) maximumf ]
/-- Each touches TensorCore buffers only. -/
theorem main_part2_ops3_sub : (main_part2_ops3 : List (HloOp τ sig (Elt F))).Forall fun op => op.bufs ⊆ StableHlo.tcRefs τ sig :=
  ⟨StableHlo.unary_bufs_sub .., StableHlo.unary_bufs_sub .., StableHlo.binary_bufs_sub ..⟩
/-- 15 host operations of @main, window 2 (statements 121 … 180), in order. -/
abbrev main_part2_ops4 : List (HloOp τ sig (Elt F)) :=
  [ StableHlo.unary main_v141 main_v142 ((extractStridedSlice S4x1000x1000x1 ![0, 0, 0, 0] · slices_S4x1000x1000x2_S4x1000x1000x1_0_0_0_0) : (⟨S4x1000x1000x2, .f32⟩ : BufTy).Contents (Elt F) → (⟨S4x1000x1000x1, .f32⟩ : BufTy).Contents (Elt F)),
    StableHlo.reshape main_v142 main_v143 (rfl : (.f32 : EltTy) = .f32) shapeCasts_S4x1000x1000x1_S4x1000x1000,
    StableHlo.unary main_v141 main_v144 ((extractStridedSlice S4x1000x1000x1 ![0, 0, 0, 1] · slices_S4x1000x1000x2_S4x1000x1000x1_0_0_0_1) : (⟨S4x1000x1000x2, .f32⟩ : BufTy).Contents (Elt F) → (⟨S4x1000x1000x1, .f32⟩ : BufTy).Contents (Elt F)),
    StableHlo.reshape main_v144 main_v145 (rfl : (.f32 : EltTy) = .f32) shapeCasts_S4x1000x1000x1_S4x1000x1000,
    StableHlo.binary main_v143 main_v145 main_v146 (mulf : (⟨S4x1000x1000, .f32⟩ : BufTy).Contents (Elt F) → (⟨S4x1000x1000, .f32⟩ : BufTy).Contents (Elt F) → (⟨S4x1000x1000, .f32⟩ : BufTy).Contents (Elt F)),
    StableHlo.unary main_v125 main_v147 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v125 main_v148 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v147 main_v149 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v148 main_v150 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v149 main_v150 main_v151 (addf : (⟨S4x1000x1000, .f32⟩ : BufTy).Contents (Elt F) → (⟨S4x1000x1000, .f32⟩ : BufTy).Contents (Elt F) → (⟨S4x1000x1000, .f32⟩ : BufTy).Contents (Elt F)),
    StableHlo.binary main_v151 main_v146 main_v152 (subf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_19 (constant S_ .f32 0x3089705F#32),
    StableHlo.unary main_cst_19 main_v153 (broadcastInDim S4x1000x1000 ![] bcast_S_S4x1000x1000 : (⟨S_, .f32⟩ : BufTy).Contents (Elt F) → (⟨S4x1000x1000, .f32⟩ : BufTy).Contents (Elt F)),
    StableHlo.binary main_v152 main_v153 main_v154 (addf : (⟨S4x1000x1000, .f32⟩ : BufTy).Contents (Elt F) → (⟨S4x1000x1000, .f32⟩ : BufTy).Contents (Elt F) → (⟨S4x1000x1000, .f32⟩ : BufTy).Contents (Elt F)),
    StableHlo.binary main_v146 main_v154 main_v155 (Host.divf : (⟨S4x1000x1000, .f32⟩ : BufTy).Contents (Elt F) → (⟨S4x1000x1000, .f32⟩ : BufTy).Contents (Elt F) → (⟨S4x1000x1000, .f32⟩ : BufTy).Contents (Elt F)) ]
/-- Each touches TensorCore buffers only. -/
theorem main_part2_ops4_sub : (main_part2_ops4 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
/-- The program as the chain of its stretches. -/
theorem main_part2_chain (c : Dev nD) : main_part2 (F := F) c = (Pipeline.chainK
  [ StableHlo.seq main_part2_ops0,
    StableHlo.seq main_part2_ops1,
    StableHlo.seq main_part2_ops2,
    StableHlo.seq main_part2_ops3 ]
  (StableHlo.seq main_part2_ops4) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

/-- 1 host operation of @main, window 3 (statements 181 … 208), in order. -/
abbrev main_part3_ops0 : List (HloOp τ sig (Elt F)) :=
  [ StableHlo.nullary main_cst_20 (constant S_ .f32 0xBF800000#32) ]
/-- Each touches TensorCore buffers only. -/
theorem main_part3_ops0_sub : (main_part3_ops0 : List (HloOp τ sig (Elt F))).Forall fun op => op.bufs ⊆ StableHlo.tcRefs τ sig :=
  StableHlo.nullary_bufs_sub ..
/-- 3 host operations of @_where_4 (main_call10), window 3 (statements 181 … 208), in order. -/
abbrev main_part3_ops1 : List (HloOp τ sig (Elt F)) :=
  [ StableHlo.TRef.unary (.of main_cst_20 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S4x1000, .f32⟩) (broadcastInDim S4x1000 ![] bcast_S_S4x1000),
    StableHlo.TRef.ternary (.of main_v106 : StableHlo.TRef sig ⟨S4x1000, .i1⟩) (.of main_v108 : StableHlo.TRef sig ⟨S4x1000, .f32⟩) (.of main_call10_v1 : StableHlo.TRef sig ⟨S4x1000, .f32⟩) (.of main_v156 : StableHlo.TRef sig ⟨S4x1000, .f32⟩) select ]
/-- Each touches TensorCore buffers only. -/
theorem main_part3_ops1_sub : (main_part3_ops1 : List (HloOp τ sig (Elt F))).Forall fun op => op.bufs ⊆ StableHlo.tcRefs τ sig :=
  ⟨StableHlo.unary_bufs_sub .., StableHlo.unary_bufs_sub .., StableHlo.ternary_bufs_sub ..⟩
/-- 10 host operations of @main, window 3 (statements 181 … 208), in order. -/
abbrev main_part3_ops2 : List (HloOp τ sig (Elt F)) :=
  [ StableHlo.nullary main_c_21 (constantI S_ 32 0#32),
    StableHlo.unary main_c_21 main_v157 (broadcastInDim S100x4 ![] bcast_S_S100x4 : (⟨S_, .i32⟩ : BufTy).Contents (Elt F) → (⟨S100x4, .i32⟩ : BufTy).Contents (Elt F)),
    StableHlo.nullary main_c_22 (constantI S_ 1 0#1),
    StableHlo.unary main_c_22 main_v158 (broadcastInDim S100x4 ![] bcast_S_S100x4 : (⟨S_, .i1⟩ : BufTy).Contents (Elt F) → (⟨S100x4, .i1⟩ : BufTy).Contents (Elt F)),
    StableHlo.nullary main_c_23 (constantI S_ 32 0#32),
    StableHlo.unary main_v155 main_v159_0 id,
    StableHlo.unary main_c_23 main_v159_1 id,
    StableHlo.unary main_v156 main_v159_2 id,
    StableHlo.unary main_v157 main_v159_3 id,
    StableHlo.unary main_v158 main_v159_4 id ]
/-- Each touches TensorCore buffers only. -/
theorem main_part3_ops2_sub : (main_part3_ops2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 3 host operations of @main, window 3 (statements 181 … 208), in order. -/
abbrev main_part3_ops3 : List (HloOp τ sig (Elt F)) :=
  [ StableHlo.unary main_v159_3 main_v160 ((transpose S4x100 [1, 0] · transposes_S100x4_S4x100_1_0) : (⟨S100x4, .i32⟩ : BufTy).Contents (Elt F) → (⟨S4x100, .i32⟩ : BufTy).Contents (Elt F)),
    StableHlo.unary main_v159_4 main_v161 ((transpose S4x100 [1, 0] · transposes_S100x4_S4x100_1_0) : (⟨S100x4, .i1⟩ : BufTy).Contents (Elt F) → (⟨S4x100, .i1⟩ : BufTy).Contents (Elt F)),
    StableHlo.unary main_v160 main_v162 (broadcastInDim S4x100x1 ![0, 1] bcast_S4x100_S4x100x1_0_1 : (⟨S4x100, .i32⟩ : BufTy).Contents (Elt F) → (⟨S4x100x1, .i32⟩ : BufTy).Contents (Elt F)) ]
/-- Each touches TensorCore buffers only. -/
theorem main_part3_ops3_sub : (main_part3_ops3 : List (HloOp τ sig (Elt F))).Forall fun op => op.bufs ⊆ StableHlo.tcRefs τ sig :=
  ⟨StableHlo.unary_bufs_sub .., StableHlo.unary_bufs_sub .., StableHlo.unary_bufs_sub ..⟩
/-- 8 host operations of @take_along_axis_9 (main_call17), window 3 (statements 181 … 208), in order. -/
abbrev main_part3_ops4 : List (HloOp τ sig (Elt F)) :=
  [ StableHlo.TRef.nullary (.of main_call17_c : StableHlo.TRef sig ⟨S_, .i32⟩) (constantI S_ 32 0#32),
    StableHlo.TRef.unary (.of main_call17_c : StableHlo.TRef sig ⟨S_, .i32⟩) (.of main_call17_v0 : StableHlo.TRef sig ⟨S4x100x1, .i32⟩) (broadcastInDim S4x100x1 ![] bcast_S_S4x100x1),
    StableHlo.TRef.binary (.of main_v162 : StableHlo.TRef sig ⟨S4x100x1, .i32⟩) (.of main_call17_v0 : StableHlo.TRef sig ⟨S4x100x1, .i32⟩) (.of main_call17_v1 : StableHlo.TRef sig ⟨S4x100x1, .i1⟩) (cmpi .slt),
    StableHlo.TRef.nullary (.of main_call17_c_0 : StableHlo.TRef sig ⟨S_, .i32⟩) (constantI S_ 32 1000#32),
    StableHlo.TRef.unary (.of main_call17_c_0 : StableHlo.TRef sig ⟨S_, .i32⟩) (.of main_call17_v2 : StableHlo.TRef sig ⟨S4x100x1, .i32⟩) (broadcastInDim S4x100x1 ![] bcast_S_S4x100x1),
    StableHlo.TRef.binary (.of main_v162 : StableHlo.TRef sig ⟨S4x100x1, .i32⟩) (.of main_call17_v2 : StableHlo.TRef sig ⟨S4x100x1, .i32⟩) (.of main_call17_v3 : StableHlo.TRef sig ⟨S4x100x1, .i32⟩) addi,
    StableHlo.TRef.ternary (.of main_call17_v1 : StableHlo.TRef sig ⟨S4x100x1, .i1⟩) (.of main_call17_v3 : StableHlo.TRef sig ⟨S4x100x1, .i32⟩) (.of main_v162 : StableHlo.TRef sig ⟨S4x100x1, .i32⟩) (.of main_call17_v4 : StableHlo.TRef sig ⟨S4x100x1, .i32⟩) select,
    StableHlo.TRef.binary (.of main_v98 : StableHlo.TRef sig ⟨S4x1000x4, .f32⟩) (.of main_call17_v4 : StableHlo.TRef sig ⟨S4x100x1, .i32⟩) (.of main_v163 : StableHlo.TRef sig ⟨S4x100x4, .f32⟩) (fun x i => Host.gather gather_S4x1000x4_S4x100x1_S4x100x4_2_1_0_0_1_2_114 x i) ]
/-- Each touches TensorCore buffers only. -/
theorem main_part3_ops4_sub : (main_part3_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 9 host operations of @take_along_axis_10 (main_call18), window 3 (statements 181 … 208), in order. -/
abbrev main_part3_ops5 : List (HloOp τ sig (Elt F)) :=
  [ StableHlo.TRef.nullary (.of main_call18_c : StableHlo.TRef sig ⟨S_, .i32⟩) (constantI S_ 32 0#32),
    StableHlo.TRef.unary (.of main_call18_c : StableHlo.TRef sig ⟨S_, .i32⟩) (.of main_call18_v0 : StableHlo.TRef sig ⟨S4x100, .i32⟩) (broadcastInDim S4x100 ![] bcast_S_S4x100),
    StableHlo.TRef.binary (.of main_v160 : StableHlo.TRef sig ⟨S4x100, .i32⟩) (.of main_call18_v0 : StableHlo.TRef sig ⟨S4x100, .i32⟩) (.of main_call18_v1 : StableHlo.TRef sig ⟨S4x100, .i1⟩) (cmpi .slt),
    StableHlo.TRef.nullary (.of main_call18_c_0 : StableHlo.TRef sig ⟨S_, .i32⟩) (constantI S_ 32 1000#32),
    StableHlo.TRef.unary (.of main_call18_c_0 : StableHlo.TRef sig ⟨S_, .i32⟩) (.of main_call18_v2 : StableHlo.TRef sig ⟨S4x100, .i32⟩) (broadcastInDim S4x100 ![] bcast_S_S4x100),
    StableHlo.TRef.binary (.of main_v160 : StableHlo.TRef sig ⟨S4x100, .i32⟩) (.of main_call18_v2 : StableHlo.TRef sig ⟨S4x100, .i32⟩) (.of main_call18_v3 : StableHlo.TRef sig ⟨S4x100, .i32⟩) addi,
    StableHlo.TRef.ternary (.of main_call18_v1 : StableHlo.TRef sig ⟨S4x100, .i1⟩) (.of main_call18_v3 : StableHlo.TRef sig ⟨S4x100, .i32⟩) (.of main_v160 : StableHlo.TRef sig ⟨S4x100, .i32⟩) (.of main_call18_v4 : StableHlo.TRef sig ⟨S4x100, .i32⟩) select,
    StableHlo.TRef.reshape (.of main_call18_v4 : StableHlo.TRef sig ⟨S4x100, .i32⟩) (.of main_call18_v5 : StableHlo.TRef sig ⟨S4x100x1, .i32⟩) (rfl : (.i32 : EltTy) = .i32) shapeCasts_S4x100_S4x100x1,
    StableHlo.TRef.binary (.of main_v108 : StableHlo.TRef sig ⟨S4x1000, .f32⟩) (.of main_call18_v5 : StableHlo.TRef sig ⟨S4x100x1, .i32⟩) (.of main_v164 : StableHlo.TRef sig ⟨S4x100, .f32⟩) (fun x i => Host.gather gather_S4x1000_S4x100x1_S4x100_n_1_0_0_1_2_11 x i) ]
/-- Each touches TensorCore buffers only. -/
theorem main_part3_ops5_sub : (main_part3_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 9 host operations of @take_along_axis_11 (main_call19), window 3 (statements 181 … 208), in order. -/
abbrev main_part3_ops6 : List (HloOp τ sig (Elt F)) :=
  [ StableHlo.TRef.nullary (.of main_call19_c : StableHlo.TRef sig ⟨S_, .i32⟩) (constantI S_ 32 0#32),
    StableHlo.TRef.unary (.of main_call19_c : StableHlo.TRef sig ⟨S_, .i32⟩) (.of main_call19_v0 : StableHlo.TRef sig ⟨S4x100, .i32⟩) (broadcastInDim S4x100 ![] bcast_S_S4x100),
    StableHlo.TRef.binary (.of main_v160 : StableHlo.TRef sig ⟨S4x100, .i32⟩) (.of main_call19_v0 : StableHlo.TRef sig ⟨S4x100, .i32⟩) (.of main_call19_v1 : StableHlo.TRef sig ⟨S4x100, .i1⟩) (cmpi .slt),
    StableHlo.TRef.nullary (.of main_call19_c_0 : StableHlo.TRef sig ⟨S_, .i32⟩) (constantI S_ 32 1000#32),
    StableHlo.TRef.unary (.of main_call19_c_0 : StableHlo.TRef sig ⟨S_, .i32⟩) (.of main_call19_v2 : StableHlo.TRef sig ⟨S4x100, .i32⟩) (broadcastInDim S4x100 ![] bcast_S_S4x100),
    StableHlo.TRef.binary (.of main_v160 : StableHlo.TRef sig ⟨S4x100, .i32⟩) (.of main_call19_v2 : StableHlo.TRef sig ⟨S4x100, .i32⟩) (.of main_call19_v3 : StableHlo.TRef sig ⟨S4x100, .i32⟩) addi,
    StableHlo.TRef.ternary (.of main_call19_v1 : StableHlo.TRef sig ⟨S4x100, .i1⟩) (.of main_call19_v3 : StableHlo.TRef sig ⟨S4x100, .i32⟩) (.of main_v160 : StableHlo.TRef sig ⟨S4x100, .i32⟩) (.of main_call19_v4 : StableHlo.TRef sig ⟨S4x100, .i32⟩) select,
    StableHlo.TRef.reshape (.of main_call19_v4 : StableHlo.TRef sig ⟨S4x100, .i32⟩) (.of main_call19_v5 : StableHlo.TRef sig ⟨S4x100x1, .i32⟩) (rfl : (.i32 : EltTy) = .i32) shapeCasts_S4x100_S4x100x1,
    StableHlo.TRef.binary (.of main_v33 : StableHlo.TRef sig ⟨S4x1000, .i32⟩) (.of main_call19_v5 : StableHlo.TRef sig ⟨S4x100x1, .i32⟩) (.of main_v165 : StableHlo.TRef sig ⟨S4x100, .i32⟩) (fun x i => Host.gather gather_S4x1000_S4x100x1_S4x100_n_1_0_0_1_2_11 x i) ]
/-- Each touches TensorCore buffers only. -/
theorem main_part3_ops6_sub : (main_part3_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 8 host operations of @main, window 3 (statements 181 … 208), in order. -/
abbrev main_part3_ops7 : List (HloOp τ sig (Elt F)) :=
  [ StableHlo.unary main_v164 main_v166 (broadcastInDim S4x100x1 ![0, 1] bcast_S4x100_S4x100x1_0_1 : (⟨S4x100, .f32⟩ : BufTy).Contents (Elt F) → (⟨S4x100x1, .f32⟩ : BufTy).Contents (Elt F)),
    StableHlo.unary main_v165 main_v167 (broadcastInDim S4x100x1 ![0, 1] bcast_S4x100_S4x100x1_0_1 : (⟨S4x100, .i32⟩ : BufTy).Contents (Elt F) → (⟨S4x100x1, .i32⟩ : BufTy).Contents (Elt F)),
    StableHlo.unary main_v167 main_v168 (sitofp .f32 : (⟨S4x100x1, .i32⟩ : BufTy).Contents (Elt F) → (⟨S4x100x1, .f32⟩ : BufTy).Contents (Elt F)),
    StableHlo.nary ![main_v163, main_v166, main_v168] main_v169 (fun u => (concatenate S4x100x6 2 [⟨S4x100x4, (u 0 : (⟨S4x100x4, .f32⟩ : BufTy).Contents (Elt F))⟩, ⟨S4x100x1, (u 1 : (⟨S4x100x1, .f32⟩ : BufTy).Contents (Elt F))⟩, ⟨S4x100x1, (u 2 : (⟨S4x100x1, .f32⟩ : BufTy).Contents (Elt F))⟩] concatenates_S4x100x4_S4x100x1_S4x100x1_S4x100x6_d2 : (⟨S4x100x6, .f32⟩ : BufTy).Contents (Elt F))),
    StableHlo.unary main_v161 main_v170 (broadcastInDim S4x100x1 ![0, 1] bcast_S4x100_S4x100x1_0_1 : (⟨S4x100, .i1⟩ : BufTy).Contents (Elt F) → (⟨S4x100x1, .i1⟩ : BufTy).Contents (Elt F)),
    StableHlo.unary main_v170 main_v171 (uitofp .f32 : (⟨S4x100x1, .i1⟩ : BufTy).Contents (Elt F) → (⟨S4x100x1, .f32⟩ : BufTy).Contents (Elt F)),
    StableHlo.unary main_v171 main_v172 (broadcastInDim S4x100x6 ![0, 1, 2] bcast_S4x100x1_S4x100x6_0_1_2 : (⟨S4x100x1, .f32⟩ : BufTy).Contents (Elt F) → (⟨S4x100x6, .f32⟩ : BufTy).Contents (Elt F)),
    StableHlo.binary main_v169 main_v172 main_v173 (mulf : (⟨S4x100x6, .f32⟩ : BufTy).Contents (Elt F) → (⟨S4x100x6, .f32⟩ : BufTy).Contents (Elt F) → (⟨S4x100x6, .f32⟩ : BufTy).Contents (Elt F)) ]
/-- Each touches TensorCore buffers only. -/
theorem main_part3_ops7_sub : (main_part3_ops7 : List (HloOp τ sig (Elt F))).Forall fun op => op.bufs ⊆ StableHlo.tcRefs τ sig :=
  ⟨StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.binary_bufs_sub ..⟩
/-- The program as the chain of its stretches. -/
theorem main_part3_chain (c : Dev nD) : main_part3 (F := F) c = (Pipeline.chain
  [ StableHlo.seq main_part3_ops0,
    StableHlo.seq main_part3_ops1,
    StableHlo.seq main_part3_ops2,
    HostLoop.enter 0,
    StableHlo.seq main_part3_ops3,
    StableHlo.seq main_part3_ops4,
    StableHlo.seq main_part3_ops5,
    StableHlo.seq main_part3_ops6,
    StableHlo.seq main_part3_ops7 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons, Pipeline.chain_cons, Pipeline.chain_cons, StableHlo.chain_seq_cons]
  chain_rfl

/-- The program as the chain of its stretches. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part2_ops0,
    StableHlo.seq main_part2_ops1,
    StableHlo.seq main_part2_ops2,
    StableHlo.seq main_part2_ops3,
    StableHlo.seq main_part2_ops4,
    StableHlo.seq main_part3_ops0,
    StableHlo.seq main_part3_ops1,
    StableHlo.seq main_part3_ops2,
    HostLoop.enter 0,
    StableHlo.seq main_part3_ops3,
    StableHlo.seq main_part3_ops4,
    StableHlo.seq main_part3_ops5,
    StableHlo.seq main_part3_ops6,
    StableHlo.seq main_part3_ops7 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl

abbrev while0Ops0 : List (HloOp τ sig (Elt F)) :=
  [ StableHlo.TRef.nullary (.of main_while0b_call11_v0 : StableHlo.TRef sig ⟨S4x1000, .i32⟩) (iotaInDim S4x1000 32 1),
    StableHlo.TRef.nullary (.of main_while0b_call11_cst : StableHlo.TRef sig ⟨S_, .f32⟩) (constant S_ .f32 0xFF800000#32),
    StableHlo.TRef.nullary (.of main_while0b_call11_c : StableHlo.TRef sig ⟨S_, .i32⟩) (constantI S_ 32 0#32),
    StableHlo.TRef.quaternary (.of main_v159_2 : StableHlo.TRef sig ⟨S4x1000, .f32⟩) (.of main_while0b_call11_v0 : StableHlo.TRef sig ⟨S4x1000, .i32⟩) (.of main_while0b_call11_cst : StableHlo.TRef sig ⟨S_, .f32⟩) (.of main_while0b_call11_c : StableHlo.TRef sig ⟨S_, .i32⟩) (.of main_while0b_call11_v1_0 : StableHlo.TRef sig ⟨S4, .f32⟩) (fun x y u v j => (Host.argReduce reducer_argmax_f32_i32 x y u v reducesTo_S4x1000_S4_d1 h_S_ j).1),
    StableHlo.TRef.quaternary (.of main_v159_2 : StableHlo.TRef sig ⟨S4x1000, .f32⟩) (.of main_while0b_call11_v0 : StableHlo.TRef sig ⟨S4x1000, .i32⟩) (.of main_while0b_call11_cst : StableHlo.TRef sig ⟨S_, .f32⟩) (.of main_while0b_call11_c : StableHlo.TRef sig ⟨S_, .i32⟩) (.of main_while0b_v174 : StableHlo.TRef sig ⟨S4, .i32⟩) (fun x y u v j => (Host.argReduce reducer_argmax_f32_i32 x y u v reducesTo_S4x1000_S4_d1 h_S_ j).2) ]
/-- Each touches TensorCore buffers only. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 1 host operation of host loop 0's body region, in order. -/
abbrev while0Ops0_1 : List (HloOp τ sig (Elt F)) :=
  [ StableHlo.unary main_while0b_v174 main_while0b_v175 (broadcastInDim S4x1 ![0] bcast_S4_S4x1_0 : (⟨S4, .i32⟩ : BufTy).Contents (Elt F) → (⟨S4x1, .i32⟩ : BufTy).Contents (Elt F)) ]
/-- Each touches TensorCore buffers only. -/
theorem while0Ops0_1_sub : (while0Ops0_1 : List (HloOp τ sig (Elt F))).Forall fun op => op.bufs ⊆ StableHlo.tcRefs τ sig :=
  StableHlo.unary_bufs_sub ..
/-- 9 host operations of @take_along_axis_5 (main_while0b_call12), in order. -/
abbrev while0Ops0_2 : List (HloOp τ sig (Elt F)) :=
  [ StableHlo.TRef.nullary (.of main_while0b_call12_c : StableHlo.TRef sig ⟨S_, .i32⟩) (constantI S_ 32 0#32),
    StableHlo.TRef.unary (.of main_while0b_call12_c : StableHlo.TRef sig ⟨S_, .i32⟩) (.of main_while0b_call12_v0 : StableHlo.TRef sig ⟨S4x1, .i32⟩) (broadcastInDim S4x1 ![] bcast_S_S4x1),
    StableHlo.TRef.binary (.of main_while0b_v175 : StableHlo.TRef sig ⟨S4x1, .i32⟩) (.of main_while0b_call12_v0 : StableHlo.TRef sig ⟨S4x1, .i32⟩) (.of main_while0b_call12_v1 : StableHlo.TRef sig ⟨S4x1, .i1⟩) (cmpi .slt),
    StableHlo.TRef.nullary (.of main_while0b_call12_c_0 : StableHlo.TRef sig ⟨S_, .i32⟩) (constantI S_ 32 1000#32),
    StableHlo.TRef.unary (.of main_while0b_call12_c_0 : StableHlo.TRef sig ⟨S_, .i32⟩) (.of main_while0b_call12_v2 : StableHlo.TRef sig ⟨S4x1, .i32⟩) (broadcastInDim S4x1 ![] bcast_S_S4x1),
    StableHlo.TRef.binary (.of main_while0b_v175 : StableHlo.TRef sig ⟨S4x1, .i32⟩) (.of main_while0b_call12_v2 : StableHlo.TRef sig ⟨S4x1, .i32⟩) (.of main_while0b_call12_v3 : StableHlo.TRef sig ⟨S4x1, .i32⟩) addi,
    StableHlo.TRef.ternary (.of main_while0b_call12_v1 : StableHlo.TRef sig ⟨S4x1, .i1⟩) (.of main_while0b_call12_v3 : StableHlo.TRef sig ⟨S4x1, .i32⟩) (.of main_while0b_v175 : StableHlo.TRef sig ⟨S4x1, .i32⟩) (.of main_while0b_call12_v4 : StableHlo.TRef sig ⟨S4x1, .i32⟩) select,
    StableHlo.TRef.reshape (.of main_while0b_call12_v4 : StableHlo.TRef sig ⟨S4x1, .i32⟩) (.of main_while0b_call12_v5 : StableHlo.TRef sig ⟨S4x1x1, .i32⟩) (rfl : (.i32 : EltTy) = .i32) shapeCasts_S4x1_S4x1x1,
    StableHlo.TRef.binary (.of main_v159_2 : StableHlo.TRef sig ⟨S4x1000, .f32⟩) (.of main_while0b_call12_v5 : StableHlo.TRef sig ⟨S4x1x1, .i32⟩) (.of main_while0b_v176 : StableHlo.TRef sig ⟨S4x1, .f32⟩) (fun x i => Host.gather gather_S4x1000_S4x1x1_S4x1_n_1_0_0_1_2_11 x i) ]
/-- Each touches TensorCore buffers only. -/
theorem while0Ops0_2_sub : (while0Ops0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.binary_bufs_sub ..⟩
/-- 5 host operations of host loop 0's body region, in order. -/
abbrev while0Ops0_3 : List (HloOp τ sig (Elt F)) :=
  [ StableHlo.reshape main_while0b_v176 main_while0b_v177 (rfl : (.f32 : EltTy) = .f32) shapeCasts_S4x1_S4,
    StableHlo.nullary main_while0b_cst_28 (constant S_ .f32 0x00000000#32),
    StableHlo.unary main_while0b_cst_28 main_while0b_v178 (broadcastInDim S4 ![] bcast_S_S4 : (⟨S_, .f32⟩ : BufTy).Contents (Elt F) → (⟨S4, .f32⟩ : BufTy).Contents (Elt F)),
    StableHlo.binary main_while0b_v177 main_while0b_v178 main_while0b_v179 (cmpf .ogt : (⟨S4, .f32⟩ : BufTy).Contents (Elt F) → (⟨S4, .f32⟩ : BufTy).Contents (Elt F) → (⟨S4, .i1⟩ : BufTy).Contents (Elt F)),
    StableHlo.unary main_while0b_v174 main_while0b_v180 (broadcastInDim S4x1x1 ![0] bcast_S4_S4x1x1_0 : (⟨S4, .i32⟩ : BufTy).Contents (Elt F) → (⟨S4x1x1, .i32⟩ : BufTy).Contents (Elt F)) ]
/-- Each touches TensorCore buffers only. -/
theorem while0Ops0_3_sub : (while0Ops0_3 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.unary_bufs_sub ..⟩
/-- 8 host operations of @take_along_axis_6 (main_while0b_call13), in order. -/
abbrev while0Ops0_4 : List (HloOp τ sig (Elt F)) :=
  [ StableHlo.TRef.nullary (.of main_while0b_call13_c : StableHlo.TRef sig ⟨S_, .i32⟩) (constantI S_ 32 0#32),
    StableHlo.TRef.unary (.of main_while0b_call13_c : StableHlo.TRef sig ⟨S_, .i32⟩) (.of main_while0b_call13_v0 : StableHlo.TRef sig ⟨S4x1x1, .i32⟩) (broadcastInDim S4x1x1 ![] bcast_S_S4x1x1),
    StableHlo.TRef.binary (.of main_while0b_v180 : StableHlo.TRef sig ⟨S4x1x1, .i32⟩) (.of main_while0b_call13_v0 : StableHlo.TRef sig ⟨S4x1x1, .i32⟩) (.of main_while0b_call13_v1 : StableHlo.TRef sig ⟨S4x1x1, .i1⟩) (cmpi .slt),
    StableHlo.TRef.nullary (.of main_while0b_call13_c_0 : StableHlo.TRef sig ⟨S_, .i32⟩) (constantI S_ 32 1000#32),
    StableHlo.TRef.unary (.of main_while0b_call13_c_0 : StableHlo.TRef sig ⟨S_, .i32⟩) (.of main_while0b_call13_v2 : StableHlo.TRef sig ⟨S4x1x1, .i32⟩) (broadcastInDim S4x1x1 ![] bcast_S_S4x1x1),
    StableHlo.TRef.binary (.of main_while0b_v180 : StableHlo.TRef sig ⟨S4x1x1, .i32⟩) (.of main_while0b_call13_v2 : StableHlo.TRef sig ⟨S4x1x1, .i32⟩) (.of main_while0b_call13_v3 : StableHlo.TRef sig ⟨S4x1x1, .i32⟩) addi,
    StableHlo.TRef.ternary (.of main_while0b_call13_v1 : StableHlo.TRef sig ⟨S4x1x1, .i1⟩) (.of main_while0b_call13_v3 : StableHlo.TRef sig ⟨S4x1x1, .i32⟩) (.of main_while0b_v180 : StableHlo.TRef sig ⟨S4x1x1, .i32⟩) (.of main_while0b_call13_v4 : StableHlo.TRef sig ⟨S4x1x1, .i32⟩) select,
    StableHlo.TRef.binary (.of main_v159_0 : StableHlo.TRef sig ⟨S4x1000x1000, .f32⟩) (.of main_while0b_call13_v4 : StableHlo.TRef sig ⟨S4x1x1, .i32⟩) (.of main_while0b_v181 : StableHlo.TRef sig ⟨S4x1x1000, .f32⟩) (fun x i => Host.gather gather_S4x1000x1000_S4x1x1_S4x1x1000_2_1_0_0_1_2_111000 x i) ]
/-- Each touches TensorCore buffers only. -/
theorem while0Ops0_4_sub : (while0Ops0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub ..⟩
/-- 12 host operations of host loop 0's body region, in order. -/
abbrev while0Ops0_5 : List (HloOp τ sig (Elt F)) :=
  [ StableHlo.reshape main_while0b_v181 main_while0b_v182 (rfl : (.f32 : EltTy) = .f32) shapeCasts_S4x1x1000_S4x1000,
    StableHlo.nullary main_while0b_cst_29 (constant S_ .f32 0x3F19999A#32),
    StableHlo.unary main_while0b_cst_29 main_while0b_v183 (broadcastInDim S4x1000 ![] bcast_S_S4x1000 : (⟨S_, .f32⟩ : BufTy).Contents (Elt F) → (⟨S4x1000, .f32⟩ : BufTy).Contents (Elt F)),
    StableHlo.binary main_while0b_v182 main_while0b_v183 main_while0b_v184 (cmpf .ogt : (⟨S4x1000, .f32⟩ : BufTy).Contents (Elt F) → (⟨S4x1000, .f32⟩ : BufTy).Contents (Elt F) → (⟨S4x1000, .i1⟩ : BufTy).Contents (Elt F)),
    StableHlo.nullary main_while0b_v185 (iotaInDim S1000 32 0),
    StableHlo.unary main_while0b_v174 main_while0b_v186 (broadcastInDim S4x1 ![0] bcast_S4_S4x1_0 : (⟨S4, .i32⟩ : BufTy).Contents (Elt F) → (⟨S4x1, .i32⟩ : BufTy).Contents (Elt F)),
    StableHlo.unary main_while0b_v185 main_while0b_v187 (broadcastInDim S1x1000 ![1] bcast_S1000_S1x1000_1 : (⟨S1000, .i32⟩ : BufTy).Contents (Elt F) → (⟨S1x1000, .i32⟩ : BufTy).Contents (Elt F)),
    StableHlo.unary main_while0b_v187 main_while0b_v188 (broadcastInDim S4x1000 ![0, 1] bcast_S1x1000_S4x1000_0_1 : (⟨S1x1000, .i32⟩ : BufTy).Contents (Elt F) → (⟨S4x1000, .i32⟩ : BufTy).Contents (Elt F)),
    StableHlo.unary main_while0b_v186 main_while0b_v189 (broadcastInDim S4x1000 ![0, 1] bcast_S4x1_S4x1000_0_1 : (⟨S4x1, .i32⟩ : BufTy).Contents (Elt F) → (⟨S4x1000, .i32⟩ : BufTy).Contents (Elt F)),
    StableHlo.binary main_while0b_v188 main_while0b_v189 main_while0b_v190 (cmpi .eq : (⟨S4x1000, .i32⟩ : BufTy).Contents (Elt F) → (⟨S4x1000, .i32⟩ : BufTy).Contents (Elt F) → (⟨S4x1000, .i1⟩ : BufTy).Contents (Elt F)),
    StableHlo.binary main_while0b_v184 main_while0b_v190 main_while0b_v191 (ori : (⟨S4x1000, .i1⟩ : BufTy).Contents (Elt F) → (⟨S4x1000, .i1⟩ : BufTy).Contents (Elt F) → (⟨S4x1000, .i1⟩ : BufTy).Contents (Elt F)),
    StableHlo.nullary main_while0b_cst_30 (constant S_ .f32 0xBF800000#32) ]
/-- Each touches TensorCore buffers only. -/
theorem while0Ops0_5_sub : (while0Ops0_5 : List (HloOp τ sig (Elt F))).Forall fun op => op.bufs ⊆ StableHlo.tcRefs τ sig :=
  ⟨StableHlo.reshape_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub ..⟩
/-- 3 host operations of @_where_7 (main_while0b_call14), in order. -/
abbrev while0Ops0_6 : List (HloOp τ sig (Elt F)) :=
  [ StableHlo.TRef.unary (.of main_while0b_cst_30 : StableHlo.TRef sig ⟨S_, .f32⟩) (.of main_while0b_call14_v0 : StableHlo.TRef sig ⟨S_, .f32⟩) id,
    StableHlo.TRef.unary (.of main_while0b_call14_v0 : StableHlo.TRef sig ⟨S_, .f32⟩) (.of main_while0b_call14_v1 : StableHlo.TRef sig ⟨S4x1000, .f32⟩) (broadcastInDim S4x1000 ![] bcast_S_S4x1000),
    StableHlo.TRef.ternary (.of main_while0b_v191 : StableHlo.TRef sig ⟨S4x1000, .i1⟩) (.of main_while0b_call14_v1 : StableHlo.TRef sig ⟨S4x1000, .f32⟩) (.of main_v159_2 : StableHlo.TRef sig ⟨S4x1000, .f32⟩) (.of main_while0b_v192 : StableHlo.TRef sig ⟨S4x1000, .f32⟩) select ]
/-- Each touches TensorCore buffers only. -/
theorem while0Ops0_6_sub : (while0Ops0_6 : List (HloOp τ sig (Elt F))).Forall fun op => op.bufs ⊆ StableHlo.tcRefs τ sig :=
  ⟨StableHlo.unary_bufs_sub .., StableHlo.unary_bufs_sub .., StableHlo.ternary_bufs_sub ..⟩
/-- 3 host operations of @dynamic_update_index_in_dim (main_while0b_call15), in order. -/
abbrev while0Ops0_7 : List (HloOp τ sig (Elt F)) :=
  [ StableHlo.TRef.unary (.of main_while0b_v174 : StableHlo.TRef sig ⟨S4, .i32⟩) (.of main_while0b_call15_v0 : StableHlo.TRef sig ⟨S1x4, .i32⟩) (broadcastInDim S1x4 ![1] bcast_S4_S1x4_1),
    StableHlo.TRef.nullary (.of main_while0b_call15_c : StableHlo.TRef sig ⟨S_, .i32⟩) (constantI S_ 32 0#32),
    StableHlo.TRef.binaryIndexed (.of main_v159_3 : StableHlo.TRef sig ⟨S100x4, .i32⟩) (.of main_while0b_call15_v0 : StableHlo.TRef sig ⟨S1x4, .i32⟩) ![(.of main_v159_1 : StableHlo.TRef sig ⟨S_, .i32⟩), (.of main_while0b_call15_c : StableHlo.TRef sig ⟨S_, .i32⟩)] (.of main_while0b_v193 : StableHlo.TRef sig ⟨S100x4, .i32⟩) (fun x u i => Host.dynamicUpdateSlice x u (fun k => (i k (Shape.Idx.first h_S_)).toInt) updateFits_S100x4_S1x4) ]
/-- Each touches TensorCore buffers only. -/
theorem while0Ops0_7_sub : (while0Ops0_7 : List (HloOp τ sig (Elt F))).Forall fun op => op.bufs ⊆ StableHlo.tcRefs τ sig :=
  ⟨StableHlo.unary_bufs_sub .., StableHlo.nullary_bufs_sub .., StableHlo.binaryIndexed_bufs_sub ..⟩
/-- 3 host operations of @dynamic_update_index_in_dim_8 (main_while0b_call16), in order. -/
abbrev while0Ops0_8 : List (HloOp τ sig (Elt F)) :=
  [ StableHlo.TRef.unary (.of main_while0b_v179 : StableHlo.TRef sig ⟨S4, .i1⟩) (.of main_while0b_call16_v0 : StableHlo.TRef sig ⟨S1x4, .i1⟩) (broadcastInDim S1x4 ![1] bcast_S4_S1x4_1),
    StableHlo.TRef.nullary (.of main_while0b_call16_c : StableHlo.TRef sig ⟨S_, .i32⟩) (constantI S_ 32 0#32),
    StableHlo.TRef.binaryIndexed (.of main_v159_4 : StableHlo.TRef sig ⟨S100x4, .i1⟩) (.of main_while0b_call16_v0 : StableHlo.TRef sig ⟨S1x4, .i1⟩) ![(.of main_v159_1 : StableHlo.TRef sig ⟨S_, .i32⟩), (.of main_while0b_call16_c : StableHlo.TRef sig ⟨S_, .i32⟩)] (.of main_while0b_v194 : StableHlo.TRef sig ⟨S100x4, .i1⟩) (fun x u i => Host.dynamicUpdateSlice x u (fun k => (i k (Shape.Idx.first h_S_)).toInt) updateFits_S100x4_S1x4) ]
/-- Each touches TensorCore buffers only. -/
theorem while0Ops0_8_sub : (while0Ops0_8 : List (HloOp τ sig (Elt F))).Forall fun op => op.bufs ⊆ StableHlo.tcRefs τ sig :=
  ⟨StableHlo.unary_bufs_sub .., StableHlo.nullary_bufs_sub .., StableHlo.binaryIndexed_bufs_sub ..⟩
/-- 6 host operations of host loop 0's body region, in order. -/
abbrev while0Ops0_9 : List (HloOp τ sig (Elt F)) :=
  [ StableHlo.nullary main_while0b_c_31 (constantI S_ 32 1#32),
    StableHlo.binary main_v159_1 main_while0b_c_31 main_while0b_v195 (addi : (⟨S_, .i32⟩ : BufTy).Contents (Elt F) → (⟨S_, .i32⟩ : BufTy).Contents (Elt F) → (⟨S_, .i32⟩ : BufTy).Contents (Elt F)),
    StableHlo.unary main_while0b_v195 main_v159_1 id,
    StableHlo.unary main_while0b_v192 main_v159_2 id,
    StableHlo.unary main_while0b_v193 main_v159_3 id,
    StableHlo.unary main_while0b_v194 main_v159_4 id ]
/-- Each touches TensorCore buffers only. -/
theorem while0Ops0_9_sub : (while0Ops0_9 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The program as the chain of its stretches. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons, Pipeline.chain_cons, Pipeline.chain_cons, Pipeline.chain_cons, StableHlo.chain_seq_cons]
  chain_rfl

end Cert.ReferenceIdeal.Gen
-- ==== Proof.RefRun.lean ====
/- The reference program's run: it terminates, and every buffer ends at the fold of its operations, the loop's body
   folded a hundred times. -/
module

public import proofs.«01_k».proof.Proof.RefOps
public import Idealize.ShloMosaic.Lib.StableHlo.RunRead
public import Idealize.ShloMosaic.Lib.Scf.ExitTest
public import Idealize.ShloMosaic.Lib.Scf.Counter

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem main_part0_ops0_fresh : (main_part0_ops0 : List (HloOp τ sig (Elt F))).Forall fun op => op.fresh = ∅ :=
  StableHlo.forall_fresh_of_map rfl
theorem main_part0_ops1_fresh : (main_part0_ops1 : List (HloOp τ sig (Elt F))).Forall fun op => op.fresh = ∅ :=
  StableHlo.forall_fresh_of_map rfl
theorem main_part0_ops2_fresh : (main_part0_ops2 : List (HloOp τ sig (Elt F))).Forall fun op => op.fresh = ∅ :=
  StableHlo.forall_fresh_of_map rfl
theorem main_part0_ops3_fresh : (main_part0_ops3 : List (HloOp τ sig (Elt F))).Forall fun op => op.fresh = ∅ :=
  StableHlo.forall_fresh_of_map rfl
theorem main_part0_ops4_fresh : (main_part0_ops4 : List (HloOp τ sig (Elt F))).Forall fun op => op.fresh = ∅ :=
  StableHlo.forall_fresh_of_map rfl
theorem main_part0_ops5_fresh : (main_part0_ops5 : List (HloOp τ sig (Elt F))).Forall fun op => op.fresh = ∅ :=
  StableHlo.forall_fresh_of_map rfl
theorem main_part0_ops6_fresh : (main_part0_ops6 : List (HloOp τ sig (Elt F))).Forall fun op => op.fresh = ∅ :=
  StableHlo.forall_fresh_of_map rfl
theorem main_part0_ops7_fresh : (main_part0_ops7 : List (HloOp τ sig (Elt F))).Forall fun op => op.fresh = ∅ :=
  StableHlo.forall_fresh_of_map rfl
theorem main_part0_ops8_fresh : (main_part0_ops8 : List (HloOp τ sig (Elt F))).Forall fun op => op.fresh = ∅ :=
  StableHlo.forall_fresh_of_map rfl
theorem main_part1_ops0_fresh : (main_part1_ops0 : List (HloOp τ sig (Elt F))).Forall fun op => op.fresh = ∅ :=
  StableHlo.forall_fresh_of_map rfl
theorem main_part1_ops1_fresh : (main_part1_ops1 : List (HloOp τ sig (Elt F))).Forall fun op => op.fresh = ∅ :=
  StableHlo.forall_fresh_of_map rfl
theorem main_part1_ops2_fresh : (main_part1_ops2 : List (HloOp τ sig (Elt F))).Forall fun op => op.fresh = ∅ :=
  StableHlo.forall_fresh_of_map rfl
theorem main_part1_ops3_fresh : (main_part1_ops3 : List (HloOp τ sig (Elt F))).Forall fun op => op.fresh = ∅ :=
  StableHlo.forall_fresh_of_map rfl
theorem main_part1_ops4_fresh : (main_part1_ops4 : List (HloOp τ sig (Elt F))).Forall fun op => op.fresh = ∅ :=
  StableHlo.forall_fresh_of_map rfl
theorem main_part1_ops5_fresh : (main_part1_ops5 : List (HloOp τ sig (Elt F))).Forall fun op => op.fresh = ∅ :=
  StableHlo.forall_fresh_of_map rfl
theorem main_part1_ops6_fresh : (main_part1_ops6 : List (HloOp τ sig (Elt F))).Forall fun op => op.fresh = ∅ :=
  StableHlo.forall_fresh_of_map rfl
theorem main_part1_ops7_fresh : (main_part1_ops7 : List (HloOp τ sig (Elt F))).Forall fun op => op.fresh = ∅ :=
  StableHlo.forall_fresh_of_map rfl
theorem main_part1_ops8_fresh : (main_part1_ops8 : List (HloOp τ sig (Elt F))).Forall fun op => op.fresh = ∅ :=
  StableHlo.forall_fresh_of_map rfl
theorem main_part2_ops0_fresh : (main_part2_ops0 : List (HloOp τ sig (Elt F))).Forall fun op => op.fresh = ∅ :=
  StableHlo.forall_fresh_of_map rfl
theorem main_part2_ops1_fresh : (main_part2_ops1 : List (HloOp τ sig (Elt F))).Forall fun op => op.fresh = ∅ :=
  StableHlo.forall_fresh_of_map rfl
theorem main_part2_ops2_fresh : (main_part2_ops2 : List (HloOp τ sig (Elt F))).Forall fun op => op.fresh = ∅ :=
  StableHlo.forall_fresh_of_map rfl
theorem main_part2_ops3_fresh : (main_part2_ops3 : List (HloOp τ sig (Elt F))).Forall fun op => op.fresh = ∅ :=
  StableHlo.forall_fresh_of_map rfl
theorem main_part2_ops4_fresh : (main_part2_ops4 : List (HloOp τ sig (Elt F))).Forall fun op => op.fresh = ∅ :=
  StableHlo.forall_fresh_of_map rfl
theorem main_part3_ops0_fresh : (main_part3_ops0 : List (HloOp τ sig (Elt F))).Forall fun op => op.fresh = ∅ :=
  StableHlo.forall_fresh_of_map rfl
theorem main_part3_ops1_fresh : (main_part3_ops1 : List (HloOp τ sig (Elt F))).Forall fun op => op.fresh = ∅ :=
  StableHlo.forall_fresh_of_map rfl
theorem main_part3_ops2_fresh : (main_part3_ops2 : List (HloOp τ sig (Elt F))).Forall fun op => op.fresh = ∅ :=
  StableHlo.forall_fresh_of_map rfl
theorem main_part3_ops3_fresh : (main_part3_ops3 : List (HloOp τ sig (Elt F))).Forall fun op => op.fresh = ∅ :=
  StableHlo.forall_fresh_of_map rfl
theorem main_part3_ops4_fresh : (main_part3_ops4 : List (HloOp τ sig (Elt F))).Forall fun op => op.fresh = ∅ :=
  StableHlo.forall_fresh_of_map rfl
theorem main_part3_ops5_fresh : (main_part3_ops5 : List (HloOp τ sig (Elt F))).Forall fun op => op.fresh = ∅ :=
  StableHlo.forall_fresh_of_map rfl
theorem main_part3_ops6_fresh : (main_part3_ops6 : List (HloOp τ sig (Elt F))).Forall fun op => op.fresh = ∅ :=
  StableHlo.forall_fresh_of_map rfl
theorem main_part3_ops7_fresh : (main_part3_ops7 : List (HloOp τ sig (Elt F))).Forall fun op => op.fresh = ∅ :=
  StableHlo.forall_fresh_of_map rfl
theorem while0Ops0_fresh : (while0Ops0 : List (HloOp τ sig (Elt F))).Forall fun op => op.fresh = ∅ :=
  StableHlo.forall_fresh_of_map rfl
theorem while0Ops0_1_fresh : (while0Ops0_1 : List (HloOp τ sig (Elt F))).Forall fun op => op.fresh = ∅ :=
  StableHlo.forall_fresh_of_map rfl
theorem while0Ops0_2_fresh : (while0Ops0_2 : List (HloOp τ sig (Elt F))).Forall fun op => op.fresh = ∅ :=
  StableHlo.forall_fresh_of_map rfl
theorem while0Ops0_3_fresh : (while0Ops0_3 : List (HloOp τ sig (Elt F))).Forall fun op => op.fresh = ∅ :=
  StableHlo.forall_fresh_of_map rfl
theorem while0Ops0_4_fresh : (while0Ops0_4 : List (HloOp τ sig (Elt F))).Forall fun op => op.fresh = ∅ :=
  StableHlo.forall_fresh_of_map rfl
theorem while0Ops0_5_fresh : (while0Ops0_5 : List (HloOp τ sig (Elt F))).Forall fun op => op.fresh = ∅ :=
  StableHlo.forall_fresh_of_map rfl
theorem while0Ops0_6_fresh : (while0Ops0_6 : List (HloOp τ sig (Elt F))).Forall fun op => op.fresh = ∅ :=
  StableHlo.forall_fresh_of_map rfl
theorem while0Ops0_7_fresh : (while0Ops0_7 : List (HloOp τ sig (Elt F))).Forall fun op => op.fresh = ∅ :=
  StableHlo.forall_fresh_of_map rfl
theorem while0Ops0_8_fresh : (while0Ops0_8 : List (HloOp τ sig (Elt F))).Forall fun op => op.fresh = ∅ :=
  StableHlo.forall_fresh_of_map rfl
theorem while0Ops0_9_fresh : (while0Ops0_9 : List (HloOp τ sig (Elt F))).Forall fun op => op.fresh = ∅ :=
  StableHlo.forall_fresh_of_map rfl
abbrev while0Ops0_W : List (Ref sig .tc) := [main_while0b_call11_v0, main_while0b_call11_cst, main_while0b_call11_c, main_while0b_call11_v1_0, main_while0b_v174]
theorem while0Ops0_writes : (while0Ops0 : List (HloOp τ sig (Elt F))).Forall fun op => op.writes ⊆ (while0Ops0_W.map (Proc.devRef (τ := τ) .tc)).toFinset :=
  StableHlo.forall_writes_sub_of_map rfl
abbrev while0Ops0_1_W : List (Ref sig .tc) := [main_while0b_v175]
theorem while0Ops0_1_writes : (while0Ops0_1 : List (HloOp τ sig (Elt F))).Forall fun op => op.writes ⊆ (while0Ops0_1_W.map (Proc.devRef (τ := τ) .tc)).toFinset :=
  StableHlo.forall_writes_sub_of_map rfl
abbrev while0Ops0_2_W : List (Ref sig .tc) := [main_while0b_call12_c, main_while0b_call12_v0, main_while0b_call12_v1, main_while0b_call12_c_0, main_while0b_call12_v2, main_while0b_call12_v3, main_while0b_call12_v4, main_while0b_call12_v5, main_while0b_v176]
theorem while0Ops0_2_writes : (while0Ops0_2 : List (HloOp τ sig (Elt F))).Forall fun op => op.writes ⊆ (while0Ops0_2_W.map (Proc.devRef (τ := τ) .tc)).toFinset :=
  StableHlo.forall_writes_sub_of_map rfl
abbrev while0Ops0_3_W : List (Ref sig .tc) := [main_while0b_v177, main_while0b_cst_28, main_while0b_v178, main_while0b_v179, main_while0b_v180]
theorem while0Ops0_3_writes : (while0Ops0_3 : List (HloOp τ sig (Elt F))).Forall fun op => op.writes ⊆ (while0Ops0_3_W.map (Proc.devRef (τ := τ) .tc)).toFinset :=
  StableHlo.forall_writes_sub_of_map rfl
abbrev while0Ops0_4_W : List (Ref sig .tc) := [main_while0b_call13_c, main_while0b_call13_v0, main_while0b_call13_v1, main_while0b_call13_c_0, main_while0b_call13_v2, main_while0b_call13_v3, main_while0b_call13_v4, main_while0b_v181]
theorem while0Ops0_4_writes : (while0Ops0_4 : List (HloOp τ sig (Elt F))).Forall fun op => op.writes ⊆ (while0Ops0_4_W.map (Proc.devRef (τ := τ) .tc)).toFinset :=
  StableHlo.forall_writes_sub_of_map rfl
abbrev while0Ops0_5_W : List (Ref sig .tc) := [main_while0b_v182, main_while0b_cst_29, main_while0b_v183, main_while0b_v184, main_while0b_v185, main_while0b_v186, main_while0b_v187, main_while0b_v188, main_while0b_v189, main_while0b_v190, main_while0b_v191, main_while0b_cst_30]
theorem while0Ops0_5_writes : (while0Ops0_5 : List (HloOp τ sig (Elt F))).Forall fun op => op.writes ⊆ (while0Ops0_5_W.map (Proc.devRef (τ := τ) .tc)).toFinset :=
  StableHlo.forall_writes_sub_of_map rfl
abbrev while0Ops0_6_W : List (Ref sig .tc) := [main_while0b_call14_v0, main_while0b_call14_v1, main_while0b_v192]
theorem while0Ops0_6_writes : (while0Ops0_6 : List (HloOp τ sig (Elt F))).Forall fun op => op.writes ⊆ (while0Ops0_6_W.map (Proc.devRef (τ := τ) .tc)).toFinset :=
  StableHlo.forall_writes_sub_of_map rfl
abbrev while0Ops0_7_W : List (Ref sig .tc) := [main_while0b_call15_v0, main_while0b_call15_c, main_while0b_v193]
theorem while0Ops0_7_writes : (while0Ops0_7 : List (HloOp τ sig (Elt F))).Forall fun op => op.writes ⊆ (while0Ops0_7_W.map (Proc.devRef (τ := τ) .tc)).toFinset :=
  StableHlo.forall_writes_sub_of_map rfl
abbrev while0Ops0_8_W : List (Ref sig .tc) := [main_while0b_call16_v0, main_while0b_call16_c, main_while0b_v194]
theorem while0Ops0_8_writes : (while0Ops0_8 : List (HloOp τ sig (Elt F))).Forall fun op => op.writes ⊆ (while0Ops0_8_W.map (Proc.devRef (τ := τ) .tc)).toFinset :=
  StableHlo.forall_writes_sub_of_map rfl
abbrev while0Ops0_9_W : List (Ref sig .tc) := [main_while0b_c_31, main_while0b_v195, main_v159_1, main_v159_2, main_v159_3, main_v159_4]
theorem while0Ops0_9_writes : (while0Ops0_9 : List (HloOp τ sig (Elt F))).Forall fun op => op.writes ⊆ (while0Ops0_9_W.map (Proc.devRef (τ := τ) .tc)).toFinset :=
  StableHlo.forall_writes_sub_of_map rfl
abbrev condOps : List (HloOp τ sig (Elt F)) :=
  [ StableHlo.nullary main_while0c_c_28 (constantI S_ 32 100#32),
    StableHlo.binary main_v159_1 main_while0c_c_28 main_while0c_v174 (cmpi .slt) ]

/-- @main's stretches before the loop, the loop body's, and @main's after the loop. -/
abbrev preI : List (List (HloOp τ sig (Elt F))) := [main_part0_ops0, main_part0_ops1, main_part0_ops2, main_part0_ops3, main_part0_ops4, main_part0_ops5, main_part0_ops6, main_part0_ops7, main_part0_ops8, main_part1_ops0, main_part1_ops1, main_part1_ops2, main_part1_ops3, main_part1_ops4, main_part1_ops5, main_part1_ops6, main_part1_ops7, main_part1_ops8, main_part2_ops0, main_part2_ops1, main_part2_ops2, main_part2_ops3, main_part2_ops4, main_part3_ops0, main_part3_ops1, main_part3_ops2]
abbrev bodyI : List (List (HloOp τ sig (Elt F))) := [while0Ops0, while0Ops0_1, while0Ops0_2, while0Ops0_3, while0Ops0_4, while0Ops0_5, while0Ops0_6, while0Ops0_7, while0Ops0_8, while0Ops0_9]
abbrev postI : List (List (HloOp τ sig (Elt F))) := [main_part3_ops3, main_part3_ops4, main_part3_ops5, main_part3_ops6, main_part3_ops7]

theorem hpre : Plain (preI (F := F)) := .cons main_part0_ops0_sub (hf := List.forall_iff_forall_mem.mp main_part0_ops0_fresh) (.cons main_part0_ops1_sub (hf := List.forall_iff_forall_mem.mp main_part0_ops1_fresh) (.cons main_part0_ops2_sub (hf := List.forall_iff_forall_mem.mp main_part0_ops2_fresh) (.cons main_part0_ops3_sub (hf := List.forall_iff_forall_mem.mp main_part0_ops3_fresh) (.cons main_part0_ops4_sub (hf := List.forall_iff_forall_mem.mp main_part0_ops4_fresh) (.cons main_part0_ops5_sub (hf := List.forall_iff_forall_mem.mp main_part0_ops5_fresh) (.cons main_part0_ops6_sub (hf := List.forall_iff_forall_mem.mp main_part0_ops6_fresh) (.cons main_part0_ops7_sub (hf := List.forall_iff_forall_mem.mp main_part0_ops7_fresh) (.cons main_part0_ops8_sub (hf := List.forall_iff_forall_mem.mp main_part0_ops8_fresh) (.cons main_part1_ops0_sub (hf := List.forall_iff_forall_mem.mp main_part1_ops0_fresh) (.cons main_part1_ops1_sub (hf := List.forall_iff_forall_mem.mp main_part1_ops1_fresh) (.cons main_part1_ops2_sub (hf := List.forall_iff_forall_mem.mp main_part1_ops2_fresh) (.cons main_part1_ops3_sub (hf := List.forall_iff_forall_mem.mp main_part1_ops3_fresh) (.cons main_part1_ops4_sub (hf := List.forall_iff_forall_mem.mp main_part1_ops4_fresh) (.cons main_part1_ops5_sub (hf := List.forall_iff_forall_mem.mp main_part1_ops5_fresh) (.cons main_part1_ops6_sub (hf := List.forall_iff_forall_mem.mp main_part1_ops6_fresh) (.cons main_part1_ops7_sub (hf := List.forall_iff_forall_mem.mp main_part1_ops7_fresh) (.cons main_part1_ops8_sub (hf := List.forall_iff_forall_mem.mp main_part1_ops8_fresh) (.cons main_part2_ops0_sub (hf := List.forall_iff_forall_mem.mp main_part2_ops0_fresh) (.cons main_part2_ops1_sub (hf := List.forall_iff_forall_mem.mp main_part2_ops1_fresh) (.cons main_part2_ops2_sub (hf := List.forall_iff_forall_mem.mp main_part2_ops2_fresh) (.cons main_part2_ops3_sub (hf := List.forall_iff_forall_mem.mp main_part2_ops3_fresh) (.cons main_part2_ops4_sub (hf := List.forall_iff_forall_mem.mp main_part2_ops4_fresh) (.cons main_part3_ops0_sub (hf := List.forall_iff_forall_mem.mp main_part3_ops0_fresh) (.cons main_part3_ops1_sub (hf := List.forall_iff_forall_mem.mp main_part3_ops1_fresh) (.cons main_part3_ops2_sub (hf := List.forall_iff_forall_mem.mp main_part3_ops2_fresh) (.nil))))))))))))))))))))))))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.nil))))))))))
theorem hpost : Plain (postI (F := F)) := .cons main_part3_ops3_sub (hf := List.forall_iff_forall_mem.mp main_part3_ops3_fresh) (.cons main_part3_ops4_sub (hf := List.forall_iff_forall_mem.mp main_part3_ops4_fresh) (.cons main_part3_ops5_sub (hf := List.forall_iff_forall_mem.mp main_part3_ops5_fresh) (.cons main_part3_ops6_sub (hf := List.forall_iff_forall_mem.mp main_part3_ops6_fresh) (.cons main_part3_ops7_sub (hf := List.forall_iff_forall_mem.mp main_part3_ops7_fresh) (.nil)))))

/-- The reference each operation of `condOps` writes, in order. -/
abbrev condOps_W : List (Ref sig .tc) := [main_while0c_c_28, main_while0c_v174]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v159_1`) is written by one stretch of the body, `while0Ops0_9`: not by the condition, nor by the
    body's other stretches. -/
theorem ctr_cond (V : Valuation τ sig (Elt F)) : after condOps V (Proc.devRef .tc main_v159_1) = V (Proc.devRef .tc main_v159_1) :=
  after_of_writes_sub condOps V condOps_writes (by decide +kernel)
theorem ctr_while0Ops0 (V : Valuation τ sig (Elt F)) : after while0Ops0 V (Proc.devRef .tc main_v159_1) = V (Proc.devRef .tc main_v159_1) :=
  after_of_writes_sub while0Ops0 V while0Ops0_writes (by decide +kernel)
theorem ctr_while0Ops0_1 (V : Valuation τ sig (Elt F)) : after while0Ops0_1 V (Proc.devRef .tc main_v159_1) = V (Proc.devRef .tc main_v159_1) :=
  after_of_writes_sub while0Ops0_1 V while0Ops0_1_writes (by decide +kernel)
theorem ctr_while0Ops0_2 (V : Valuation τ sig (Elt F)) : after while0Ops0_2 V (Proc.devRef .tc main_v159_1) = V (Proc.devRef .tc main_v159_1) :=
  after_of_writes_sub while0Ops0_2 V while0Ops0_2_writes (by decide +kernel)
theorem ctr_while0Ops0_3 (V : Valuation τ sig (Elt F)) : after while0Ops0_3 V (Proc.devRef .tc main_v159_1) = V (Proc.devRef .tc main_v159_1) :=
  after_of_writes_sub while0Ops0_3 V while0Ops0_3_writes (by decide +kernel)
theorem ctr_while0Ops0_4 (V : Valuation τ sig (Elt F)) : after while0Ops0_4 V (Proc.devRef .tc main_v159_1) = V (Proc.devRef .tc main_v159_1) :=
  after_of_writes_sub while0Ops0_4 V while0Ops0_4_writes (by decide +kernel)
theorem ctr_while0Ops0_5 (V : Valuation τ sig (Elt F)) : after while0Ops0_5 V (Proc.devRef .tc main_v159_1) = V (Proc.devRef .tc main_v159_1) :=
  after_of_writes_sub while0Ops0_5 V while0Ops0_5_writes (by decide +kernel)
theorem ctr_while0Ops0_6 (V : Valuation τ sig (Elt F)) : after while0Ops0_6 V (Proc.devRef .tc main_v159_1) = V (Proc.devRef .tc main_v159_1) :=
  after_of_writes_sub while0Ops0_6 V while0Ops0_6_writes (by decide +kernel)
theorem ctr_while0Ops0_7 (V : Valuation τ sig (Elt F)) : after while0Ops0_7 V (Proc.devRef .tc main_v159_1) = V (Proc.devRef .tc main_v159_1) :=
  after_of_writes_sub while0Ops0_7 V while0Ops0_7_writes (by decide +kernel)
theorem ctr_while0Ops0_8 (V : Valuation τ sig (Elt F)) : after while0Ops0_8 V (Proc.devRef .tc main_v159_1) = V (Proc.devRef .tc main_v159_1) :=
  after_of_writes_sub while0Ops0_8 V while0Ops0_8_writes (by decide +kernel)

set_option maxRecDepth 100000 in
/-- `while0Ops0_9` leaves the counter one step on. -/
theorem ctr_step (X : Valuation τ sig (Elt F)) :
    after while0Ops0_9 X (Proc.devRef .tc main_v159_1) = addi (X (Proc.devRef .tc main_v159_1)) (constantI S_ 32 1#32) := by
  after_results
  rfl

/-- The counter is the loop's lower bound at the loop's entry: its last writer before the loop read back. -/
theorem ctr_entry (c : Dev nD) : entryContents preI m c (Proc.devRef .tc main_v159_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v159_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v159_1 HostLoop.idx0)
        (HloOp.result _ (atK m k c) main_while0c_c_28 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain_windows]; rfl) (by rw [while0_body_chain]; rfl) 100 m ρ (cond_spec m)

end Cert.ReferenceIdeal.Value
-- ==== Proof.RefFrame.lean ====
/- The reference program's run leaves its arguments alone and no counter raised. -/
module

public import proofs.«01_k».proof.Proof.RefRun

@[expose] public section

set_option maxRecDepth 16384

noncomputable section

namespace Cert.ReferenceIdeal.Value

open Cert.ReferenceIdeal Cert.ReferenceIdeal.Gen
open Idealize.ShloMosaic Idealize.ShloMosaic.TcCoe
open Idealize.SL.Sem
open Idealize.ShloMosaic.StableHlo

variable {F : FTy → Type} [FloatOps F]

abbrev main_part0_ops0_W : List (Ref sig .tc) := [main_v0, main_v1, main_v2, main_v3, main_v4, main_cst, main_v5, main_v6, main_cst_0, main_v7, main_v8, main_v9, main_v10, main_v11, main_v12, main_v13, main_v14, main_v15, main_v16, main_v17, main_cst_1, main_v18, main_v19, main_cst_2, main_v20, main_v21, main_cst_3, main_v22, main_v23, main_v24, main_v25, main_v26, main_v27, main_v28, main_v29, main_values, main_indices, main_c]
theorem main_part0_ops0_writes : (main_part0_ops0 : List (HloOp τ sig (Elt F))).Forall fun op => op.writes ⊆ (main_part0_ops0_W.map (Proc.devRef (τ := τ) .tc)).toFinset :=
  StableHlo.forall_writes_sub_of_map rfl
abbrev main_part0_ops1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v30]
theorem main_part0_ops1_writes : (main_part0_ops1 : List (HloOp τ sig (Elt F))).Forall fun op => op.writes ⊆ (main_part0_ops1_W.map (Proc.devRef (τ := τ) .tc)).toFinset :=
  StableHlo.forall_writes_sub_of_map rfl
abbrev main_part0_ops2_W : List (Ref sig .tc) := [main_c_4]
theorem main_part0_ops2_writes : (main_part0_ops2 : List (HloOp τ sig (Elt F))).Forall fun op => op.writes ⊆ (main_part0_ops2_W.map (Proc.devRef (τ := τ) .tc)).toFinset :=
  StableHlo.forall_writes_sub_of_map rfl
abbrev main_part0_ops3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v31]
theorem main_part0_ops3_writes : (main_part0_ops3 : List (HloOp τ sig (Elt F))).Forall fun op => op.writes ⊆ (main_part0_ops3_W.map (Proc.devRef (τ := τ) .tc)).toFinset :=
  StableHlo.forall_writes_sub_of_map rfl
abbrev main_part0_ops4_W : List (Ref sig .tc) := [main_c_5, main_v32, main_v33, main_v34]
theorem main_part0_ops4_writes : (main_part0_ops4 : List (HloOp τ sig (Elt F))).Forall fun op => op.writes ⊆ (main_part0_ops4_W.map (Proc.devRef (τ := τ) .tc)).toFinset :=
  StableHlo.forall_writes_sub_of_map rfl
abbrev main_part0_ops5_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v35]
theorem main_part0_ops5_writes : (main_part0_ops5 : List (HloOp τ sig (Elt F))).Forall fun op => op.writes ⊆ (main_part0_ops5_W.map (Proc.devRef (τ := τ) .tc)).toFinset :=
  StableHlo.forall_writes_sub_of_map rfl
abbrev main_part0_ops6_W : List (Ref sig .tc) := [main_c_6, main_v36, main_v37, main_c_7, main_v38, main_v39, main_v40, main_v41, main_v42, main_v43]
theorem main_part0_ops6_writes : (main_part0_ops6 : List (HloOp τ sig (Elt F))).Forall fun op => op.writes ⊆ (main_part0_ops6_W.map (Proc.devRef (τ := τ) .tc)).toFinset :=
  StableHlo.forall_writes_sub_of_map rfl
abbrev main_part0_ops7_W : List (Ref sig .tc) := [main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v44]
theorem main_part0_ops7_writes : (main_part0_ops7 : List (HloOp τ sig (Elt F))).Forall fun op => op.writes ⊆ (main_part0_ops7_W.map (Proc.devRef (τ := τ) .tc)).toFinset :=
  StableHlo.forall_writes_sub_of_map rfl
abbrev main_part0_ops8_W : List (Ref sig .tc) := [main_v45, main_v46, main_v47]
theorem main_part0_ops8_writes : (main_part0_ops8 : List (HloOp τ sig (Elt F))).Forall fun op => op.writes ⊆ (main_part0_ops8_W.map (Proc.devRef (τ := τ) .tc)).toFinset :=
  StableHlo.forall_writes_sub_of_map rfl
abbrev main_part1_ops0_W : List (Ref sig .tc) := [main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_cst_8, main_v73, main_v74, main_v75, main_v76, main_v77, main_v78, main_cst_9, main_v79, main_v80, main_v81, main_v82, main_v83, main_cst_10]
theorem main_part1_ops0_writes : (main_part1_ops0 : List (HloOp τ sig (Elt F))).Forall fun op => op.writes ⊆ (main_part1_ops0_W.map (Proc.devRef (τ := τ) .tc)).toFinset :=
  StableHlo.forall_writes_sub_of_map rfl
abbrev main_part1_ops1_W : List (Ref sig .tc) := [main_call4_v0, main_call4_v1, main_call4_v2, main_call4_v3, main_v84]
theorem main_part1_ops1_writes : (main_part1_ops1 : List (HloOp τ sig (Elt F))).Forall fun op => op.writes ⊆ (main_part1_ops1_W.map (Proc.devRef (τ := τ) .tc)).toFinset :=
  StableHlo.forall_writes_sub_of_map rfl
abbrev main_part1_ops2_W : List (Ref sig .tc) := [main_v85, main_v86, main_cst_11]
theorem main_part1_ops2_writes : (main_part1_ops2 : List (HloOp τ sig (Elt F))).Forall fun op => op.writes ⊆ (main_part1_ops2_W.map (Proc.devRef (τ := τ) .tc)).toFinset :=
  StableHlo.forall_writes_sub_of_map rfl
abbrev main_part1_ops3_W : List (Ref sig .tc) := [main_call5_v0, main_call5_v1, main_call5_v2, main_call5_v3, main_v87]
theorem main_part1_ops3_writes : (main_part1_ops3 : List (HloOp τ sig (Elt F))).Forall fun op => op.writes ⊆ (main_part1_ops3_W.map (Proc.devRef (τ := τ) .tc)).toFinset :=
  StableHlo.forall_writes_sub_of_map rfl
abbrev main_part1_ops4_W : List (Ref sig .tc) := [main_v88, main_v89, main_cst_12]
theorem main_part1_ops4_writes : (main_part1_ops4 : List (HloOp τ sig (Elt F))).Forall fun op => op.writes ⊆ (main_part1_ops4_W.map (Proc.devRef (τ := τ) .tc)).toFinset :=
  StableHlo.forall_writes_sub_of_map rfl
abbrev main_part1_ops5_W : List (Ref sig .tc) := [main_call6_v0, main_call6_v1, main_call6_v2, main_call6_v3, main_v90]
theorem main_part1_ops5_writes : (main_part1_ops5 : List (HloOp τ sig (Elt F))).Forall fun op => op.writes ⊆ (main_part1_ops5_W.map (Proc.devRef (τ := τ) .tc)).toFinset :=
  StableHlo.forall_writes_sub_of_map rfl
abbrev main_part1_ops6_W : List (Ref sig .tc) := [main_v91, main_v92, main_cst_13]
theorem main_part1_ops6_writes : (main_part1_ops6 : List (HloOp τ sig (Elt F))).Forall fun op => op.writes ⊆ (main_part1_ops6_W.map (Proc.devRef (τ := τ) .tc)).toFinset :=
  StableHlo.forall_writes_sub_of_map rfl
abbrev main_part1_ops7_W : List (Ref sig .tc) := [main_call7_v0, main_call7_v1, main_call7_v2, main_call7_v3, main_v93]
theorem main_part1_ops7_writes : (main_part1_ops7 : List (HloOp τ sig (Elt F))).Forall fun op => op.writes ⊆ (main_part1_ops7_W.map (Proc.devRef (τ := τ) .tc)).toFinset :=
  StableHlo.forall_writes_sub_of_map rfl
abbrev main_part1_ops8_W : List (Ref sig .tc) := [main_v94, main_v95, main_v96, main_v97, main_v98, main_v99, main_cst_14, main_v100]
theorem main_part1_ops8_writes : (main_part1_ops8 : List (HloOp τ sig (Elt F))).Forall fun op => op.writes ⊆ (main_part1_ops8_W.map (Proc.devRef (τ := τ) .tc)).toFinset :=
  StableHlo.forall_writes_sub_of_map rfl
abbrev main_part2_ops0_W : List (Ref sig .tc) := [main_v101, main_v102, main_v103, main_cst_15, main_v104, main_v105, main_v106, main_cst_16]
theorem main_part2_ops0_writes : (main_part2_ops0 : List (HloOp τ sig (Elt F))).Forall fun op => op.writes ⊆ (main_part2_ops0_W.map (Proc.devRef (τ := τ) .tc)).toFinset :=
  StableHlo.forall_writes_sub_of_map rfl
abbrev main_part2_ops1_W : List (Ref sig .tc) := [main_call8_v0, main_call8_v1, main_v107]
theorem main_part2_ops1_writes : (main_part2_ops1 : List (HloOp τ sig (Elt F))).Forall fun op => op.writes ⊆ (main_part2_ops1_W.map (Proc.devRef (τ := τ) .tc)).toFinset :=
  StableHlo.forall_writes_sub_of_map rfl
abbrev main_part2_ops2_W : List (Ref sig .tc) := [main_v108, main_v109, main_cst_17, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_cst_18]
theorem main_part2_ops2_writes : (main_part2_ops2 : List (HloOp τ sig (Elt F))).Forall fun op => op.writes ⊆ (main_part2_ops2_W.map (Proc.devRef (τ := τ) .tc)).toFinset :=
  StableHlo.forall_writes_sub_of_map rfl
abbrev main_part2_ops3_W : List (Ref sig .tc) := [main_call9_v0, main_call9_v1, main_v141]
theorem main_part2_ops3_writes : (main_part2_ops3 : List (HloOp τ sig (Elt F))).Forall fun op => op.writes ⊆ (main_part2_ops3_W.map (Proc.devRef (τ := τ) .tc)).toFinset :=
  StableHlo.forall_writes_sub_of_map rfl
abbrev main_part2_ops4_W : List (Ref sig .tc) := [main_v142, main_v143, main_v144, main_v145, main_v146, main_v147, main_v148, main_v149, main_v150, main_v151, main_v152, main_cst_19, main_v153, main_v154, main_v155]
theorem main_part2_ops4_writes : (main_part2_ops4 : List (HloOp τ sig (Elt F))).Forall fun op => op.writes ⊆ (main_part2_ops4_W.map (Proc.devRef (τ := τ) .tc)).toFinset :=
  StableHlo.forall_writes_sub_of_map rfl
abbrev main_part3_ops0_W : List (Ref sig .tc) := [main_cst_20]
theorem main_part3_ops0_writes : (main_part3_ops0 : List (HloOp τ sig (Elt F))).Forall fun op => op.writes ⊆ (main_part3_ops0_W.map (Proc.devRef (τ := τ) .tc)).toFinset :=
  StableHlo.forall_writes_sub_of_map rfl
abbrev main_part3_ops1_W : List (Ref sig .tc) := [main_call10_v0, main_call10_v1, main_v156]
theorem main_part3_ops1_writes : (main_part3_ops1 : List (HloOp τ sig (Elt F))).Forall fun op => op.writes ⊆ (main_part3_ops1_W.map (Proc.devRef (τ := τ) .tc)).toFinset :=
  StableHlo.forall_writes_sub_of_map rfl
abbrev main_part3_ops2_W : List (Ref sig .tc) := [main_c_21, main_v157, main_c_22, main_v158, main_c_23, main_v159_0, main_v159_1, main_v159_2, main_v159_3, main_v159_4]
theorem main_part3_ops2_writes : (main_part3_ops2 : List (HloOp τ sig (Elt F))).Forall fun op => op.writes ⊆ (main_part3_ops2_W.map (Proc.devRef (τ := τ) .tc)).toFinset :=
  StableHlo.forall_writes_sub_of_map rfl
abbrev main_part3_ops3_W : List (Ref sig .tc) := [main_v160, main_v161, main_v162]
theorem main_part3_ops3_writes : (main_part3_ops3 : List (HloOp τ sig (Elt F))).Forall fun op => op.writes ⊆ (main_part3_ops3_W.map (Proc.devRef (τ := τ) .tc)).toFinset :=
  StableHlo.forall_writes_sub_of_map rfl
abbrev main_part3_ops4_W : List (Ref sig .tc) := [main_call17_c, main_call17_v0, main_call17_v1, main_call17_c_0, main_call17_v2, main_call17_v3, main_call17_v4, main_v163]
theorem main_part3_ops4_writes : (main_part3_ops4 : List (HloOp τ sig (Elt F))).Forall fun op => op.writes ⊆ (main_part3_ops4_W.map (Proc.devRef (τ := τ) .tc)).toFinset :=
  StableHlo.forall_writes_sub_of_map rfl
abbrev main_part3_ops5_W : List (Ref sig .tc) := [main_call18_c, main_call18_v0, main_call18_v1, main_call18_c_0, main_call18_v2, main_call18_v3, main_call18_v4, main_call18_v5, main_v164]
theorem main_part3_ops5_writes : (main_part3_ops5 : List (HloOp τ sig (Elt F))).Forall fun op => op.writes ⊆ (main_part3_ops5_W.map (Proc.devRef (τ := τ) .tc)).toFinset :=
  StableHlo.forall_writes_sub_of_map rfl
abbrev main_part3_ops6_W : List (Ref sig .tc) := [main_call19_c, main_call19_v0, main_call19_v1, main_call19_c_0, main_call19_v2, main_call19_v3, main_call19_v4, main_call19_v5, main_v165]
theorem main_part3_ops6_writes : (main_part3_ops6 : List (HloOp τ sig (Elt F))).Forall fun op => op.writes ⊆ (main_part3_ops6_W.map (Proc.devRef (τ := τ) .tc)).toFinset :=
  StableHlo.forall_writes_sub_of_map rfl
abbrev main_part3_ops7_W : List (Ref sig .tc) := [main_v166, main_v167, main_v168, main_v169, main_v170, main_v171, main_v172, main_v173]
theorem main_part3_ops7_writes : (main_part3_ops7 : List (HloOp τ sig (Elt F))).Forall fun op => op.writes ⊆ (main_part3_ops7_W.map (Proc.devRef (τ := τ) .tc)).toFinset :=
  StableHlo.forall_writes_sub_of_map rfl

/-- No operation of these stretches writes the buffer. -/
abbrev Keeps (b : Ref sig .tc) (L : List (List (HloOp τ sig (Elt F)))) : Prop :=
  ∀ V : Valuation τ sig (Elt F), afterL L V (Proc.devRef .tc b) = V (Proc.devRef .tc b)

theorem Keeps.nil (b : Ref sig .tc) : Keeps (F := F) b [] := fun _ => rfl

theorem Keeps.cons {b : Ref sig .tc} {ops : List (HloOp τ sig (Elt F))} {L : List (List (HloOp τ sig (Elt F)))} {W : List (Ref sig .tc)}
    (hW : ops.Forall fun op => op.writes ⊆ (W.map (Proc.devRef (τ := τ) .tc)).toFinset) (hb : b ∉ W) (h : Keeps b L) : Keeps b (ops :: L) :=
  fun V => (h _).trans (after_of_writes_sub ops V hW hb)

/-- Every buffer the stretches before the loop write. -/
abbrev preW : List (Ref sig .tc) := [main_part0_ops0_W, main_part0_ops1_W, main_part0_ops2_W, main_part0_ops3_W, main_part0_ops4_W, main_part0_ops5_W, main_part0_ops6_W, main_part0_ops7_W, main_part0_ops8_W, main_part1_ops0_W, main_part1_ops1_W, main_part1_ops2_W, main_part1_ops3_W, main_part1_ops4_W, main_part1_ops5_W, main_part1_ops6_W, main_part1_ops7_W, main_part1_ops8_W, main_part2_ops0_W, main_part2_ops1_W, main_part2_ops2_W, main_part2_ops3_W, main_part2_ops4_W, main_part3_ops0_W, main_part3_ops1_W, main_part3_ops2_W].flatten
abbrev bodyW : List (Ref sig .tc) := [while0Ops0_W, while0Ops0_1_W, while0Ops0_2_W, while0Ops0_3_W, while0Ops0_4_W, while0Ops0_5_W, while0Ops0_6_W, while0Ops0_7_W, while0Ops0_8_W, while0Ops0_9_W].flatten
abbrev postW : List (Ref sig .tc) := [main_part3_ops3_W, main_part3_ops4_W, main_part3_ops5_W, main_part3_ops6_W, main_part3_ops7_W].flatten

theorem pre_keeps (b : Ref sig .tc) (hb : b ∉ preW) : Keeps (F := F) b preI := by
  have hw := fun (W : List (Ref sig .tc)) (hW : W ∈ [main_part0_ops0_W, main_part0_ops1_W, main_part0_ops2_W, main_part0_ops3_W, main_part0_ops4_W, main_part0_ops5_W, main_part0_ops6_W, main_part0_ops7_W, main_part0_ops8_W, main_part1_ops0_W, main_part1_ops1_W, main_part1_ops2_W, main_part1_ops3_W, main_part1_ops4_W, main_part1_ops5_W, main_part1_ops6_W, main_part1_ops7_W, main_part1_ops8_W, main_part2_ops0_W, main_part2_ops1_W, main_part2_ops2_W, main_part2_ops3_W, main_part2_ops4_W, main_part3_ops0_W, main_part3_ops1_W, main_part3_ops2_W]) (h : b ∈ W) => hb (List.mem_flatten.mpr ⟨W, hW, h⟩)
  exact .cons main_part0_ops0_writes (hw _ (.head _)) <| .cons main_part0_ops1_writes (hw _ (.tail _ (.head _))) <| .cons main_part0_ops2_writes (hw _ (.tail _ (.tail _ (.head _)))) <| .cons main_part0_ops3_writes (hw _ (.tail _ (.tail _ (.tail _ (.head _))))) <| .cons main_part0_ops4_writes (hw _ (.tail _ (.tail _ (.tail _ (.tail _ (.head _)))))) <| .cons main_part0_ops5_writes (hw _ (.tail _ (.tail _ (.tail _ (.tail _ (.tail _ (.head _))))))) <| .cons main_part0_ops6_writes (hw _ (.tail _ (.tail _ (.tail _ (.tail _ (.tail _ (.tail _ (.head _)))))))) <| .cons main_part0_ops7_writes (hw _ (.tail _ (.tail _ (.tail _ (.tail _ (.tail _ (.tail _ (.tail _ (.head _))))))))) <| .cons main_part0_ops8_writes (hw _ (.tail _ (.tail _ (.tail _ (.tail _ (.tail _ (.tail _ (.tail _ (.tail _ (.head _)))))))))) <| .cons main_part1_ops0_writes (hw _ (.tail _ (.tail _ (.tail _ (.tail _ (.tail _ (.tail _ (.tail _ (.tail _ (.tail _ (.head _))))))))))) <| .cons main_part1_ops1_writes (hw _ (.tail _ (.tail _ (.tail _ (.tail _ (.tail _ (.tail _ (.tail _ (.tail _ (.tail _ (.tail _ (.head _)))))))))))) <| .cons main_part1_ops2_writes (hw _ (.tail _ (.tail _ (.tail _ (.tail _ (.tail _ (.tail _ (.tail _ (.tail _ (.tail _ (.tail _ (.tail _ (.head _))))))))))))) <| .cons main_part1_ops3_writes (hw _ (.tail _ (.tail _ (.tail _ (.tail _ (.tail _ (.tail _ (.tail _ (.tail _ (.tail _ (.tail _ (.tail _ (.tail _ (.head _)))))))))))))) <| .cons main_part1_ops4_writes (hw _ (.tail _ (.tail _ (.tail _ (.tail _ (.tail _ (.tail _ (.tail _ (.tail _ (.tail _ (.tail _ (.tail _ (.tail _ (.tail _ (.head _))))))))))))))) <| .cons main_part1_ops5_writes (hw _ (.tail _ (.tail _ (.tail _ (.tail _ (.tail _ (.tail _ (.tail _ (.tail _ (.tail _ (.tail _ (.tail _ (.tail _ (.tail _ (.tail _ (.head _)))))))))))))))) <| .cons main_part1_ops6_writes (hw _ (.tail _ (.tail _ (.tail _ (.tail _ (.tail _ (.tail _ (.tail _ (.tail _ (.tail _ (.tail _ (.tail _ (.tail _ (.tail _ (.tail _ (.tail _ (.head _))))))))))))))))) <| .cons main_part1_ops7_writes (hw _ (.tail _ (.tail _ (.tail _ (.tail _ (.tail _ (.tail _ (.tail _ (.tail _ (.tail _ (.tail _ (.tail _ (.tail _ (.tail _ (.tail _ (.tail _ (.tail _ (.head _)))))))))))))))))) <| .cons main_part1_ops8_writes (hw _ (.tail _ (.tail _ (.tail _ (.tail _ (.tail _ (.tail _ (.tail _ (.tail _ (.tail _ (.tail _ (.tail _ (.tail _ (.tail _ (.tail _ (.tail _ (.tail _ (.tail _ (.head _))))))))))))))))))) <| .cons main_part2_ops0_writes (hw _ (.tail _ (.tail _ (.tail _ (.tail _ (.tail _ (.tail _ (.tail _ (.tail _ (.tail _ (.tail _ (.tail _ (.tail _ (.tail _ (.tail _ (.tail _ (.tail _ (.tail _ (.tail _ (.head _)))))))))))))))))))) <| .cons main_part2_ops1_writes (hw _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))) <| .cons main_part2_ops2_writes (hw _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))) <| .cons main_part2_ops3_writes (hw _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))) <| .cons main_part2_ops4_writes (hw _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))) <| .cons main_part3_ops0_writes (hw _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))) <| .cons main_part3_ops1_writes (hw _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))) <| .cons main_part3_ops2_writes (hw _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))) <| Keeps.nil b

theorem body_keeps (b : Ref sig .tc) (hb : b ∉ bodyW) : Keeps (F := F) b bodyI := by
  have hw := fun (W : List (Ref sig .tc)) (hW : W ∈ [while0Ops0_W, while0Ops0_1_W, while0Ops0_2_W, while0Ops0_3_W, while0Ops0_4_W, while0Ops0_5_W, while0Ops0_6_W, while0Ops0_7_W, while0Ops0_8_W, while0Ops0_9_W]) (h : b ∈ W) => hb (List.mem_flatten.mpr ⟨W, hW, h⟩)
  exact .cons while0Ops0_writes (hw _ (.head _)) <| .cons while0Ops0_1_writes (hw _ (.tail _ (.head _))) <| .cons while0Ops0_2_writes (hw _ (.tail _ (.tail _ (.head _)))) <| .cons while0Ops0_3_writes (hw _ (.tail _ (.tail _ (.tail _ (.head _))))) <| .cons while0Ops0_4_writes (hw _ (.tail _ (.tail _ (.tail _ (.tail _ (.head _)))))) <| .cons while0Ops0_5_writes (hw _ (.tail _ (.tail _ (.tail _ (.tail _ (.tail _ (.head _))))))) <| .cons while0Ops0_6_writes (hw _ (.tail _ (.tail _ (.tail _ (.tail _ (.tail _ (.tail _ (.head _)))))))) <| .cons while0Ops0_7_writes (hw _ (.tail _ (.tail _ (.tail _ (.tail _ (.tail _ (.tail _ (.tail _ (.head _))))))))) <| .cons while0Ops0_8_writes (hw _ (.tail _ (.tail _ (.tail _ (.tail _ (.tail _ (.tail _ (.tail _ (.tail _ (.head _)))))))))) <| .cons while0Ops0_9_writes (hw _ (.tail _ (.tail _ (.tail _ (.tail _ (.tail _ (.tail _ (.tail _ (.tail _ (.tail _ (.head _))))))))))) <| Keeps.nil b

theorem post_keeps (b : Ref sig .tc) (hb : b ∉ postW) : Keeps (F := F) b postI := by
  have hw := fun (W : List (Ref sig .tc)) (hW : W ∈ [main_part3_ops3_W, main_part3_ops4_W, main_part3_ops5_W, main_part3_ops6_W, main_part3_ops7_W]) (h : b ∈ W) => hb (List.mem_flatten.mpr ⟨W, hW, h⟩)
  exact .cons main_part3_ops3_writes (hw _ (.head _)) <| .cons main_part3_ops4_writes (hw _ (.tail _ (.head _))) <| .cons main_part3_ops5_writes (hw _ (.tail _ (.tail _ (.head _)))) <| .cons main_part3_ops6_writes (hw _ (.tail _ (.tail _ (.tail _ (.head _))))) <| .cons main_part3_ops7_writes (hw _ (.tail _ (.tail _ (.tail _ (.tail _ (.head _)))))) <| Keeps.nil b

theorem trip_keeps (m : (ℓ : Loc nD τ sig) → Buf (Elt F) ℓ) (b : Ref sig .tc) (hb : b ∉ bodyW) (hc : b ∉ condOps_W) (c : Dev nD) :
    ∀ k, atK m k c (Proc.devRef .tc b) = entryContents preI m c (Proc.devRef .tc b)
  | 0 => rfl
  | k + 1 => by
    rw [show atK m (k + 1) c = afterL bodyI (after condOps (atK m k c)) from rfl, body_keeps b hb,
      after_of_writes_sub condOps _ condOps_writes hc, trip_keeps m b hb hc c k]

theorem final_keeps (m : (ℓ : Loc nD τ sig) → Buf (Elt F) ℓ) (b : Ref sig .tc) (h1 : b ∉ preW) (h2 : b ∉ condOps_W) (h3 : b ∉ bodyW)
    (h4 : b ∉ postW) (c : Dev nD) : finalContents condOps preI bodyI postI 100 m c (Proc.devRef .tc b) = m ((c.tc : Thread nD τ).loc b) := by
  refine (post_keeps b h4 _).trans ((after_of_writes_sub condOps _ condOps_writes h2).trans ((trip_keeps m b h3 h2 c 100).trans ?_))
  exact pre_keeps b h1 _

/-- The program has no semaphore, so no counter to raise. -/
theorem no_counters {α : Type} (s s' : GSem nD τ sig → α) : s = s' := by
  funext g
  obtain ⟨t, sm⟩ := g
  cases sm with
  | reg i => exact i.elim0
  | dma i => exact i.elim0

/-- The reference's run: the arguments as they were, every counter at zero, and the result at the fold. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v173) = finalContents condOps preI bodyI postI 100 m c (Proc.devRef .tc main_v173))
      ∧ r.2.sem = fun _ => 0) := by
  refine (θ_run defs _ _).mono (fun r h => ⟨fun c => ⟨⟨?_, ?_, ?_, ?_, ?_⟩, h c main_v173 rfl⟩, no_counters _ _⟩) (run_fold m ρ)
  · exact (h c main_arg0 rfl).trans (final_keeps m main_arg0 (by decide +kernel) (by decide +kernel) (by decide +kernel) (by decide +kernel) c)
  · exact (h c main_arg1 rfl).trans (final_keeps m main_arg1 (by decide +kernel) (by decide +kernel) (by decide +kernel) (by decide +kernel) c)
  · exact (h c main_arg2 rfl).trans (final_keeps m main_arg2 (by decide +kernel) (by decide +kernel) (by decide +kernel) (by decide +kernel) c)
  · exact (h c main_arg3 rfl).trans (final_keeps m main_arg3 (by decide +kernel) (by decide +kernel) (by decide +kernel) (by decide +kernel) c)
  · exact (h c main_arg4 rfl).trans (final_keeps m main_arg4 (by decide +kernel) (by decide +kernel) (by decide +kernel) (by decide +kernel) c)

end Cert.ReferenceIdeal.Value

end
-- ==== Proof.Nms.lean ====
/- Greedy suppression over one image's thousand candidates, in the extended reals: the recursion both programs carry, and
   the small facts about folds they are both read with. -/
module

public import Idealize.ShloMosaic.Lib.Pointwise
public import Idealize.ShloMosaic.Lib.IdealHost
public import Idealize.ShloMosaic.PureOps.Ideal.Laws
public import Idealize.ShloMosaic.Lib.WordCmp

@[expose] public section

set_option maxRecDepth 16384

noncomputable section

namespace Cert.Nms

open Idealize.ShloMosaic

/-- A number of the exact reading. -/
abbrev R := Ideal .f32

/-- The candidates of one image: clipped corners, score, label (as a number), and whether the candidate counts. -/
structure Cand where
  x1 : Fin 1000 → R
  y1 : Fin 1000 → R
  x2 : Fin 1000 → R
  y2 : Fin 1000 → R
  sc : Fin 1000 → R
  lb : Fin 1000 → R
  ok : Fin 1000 → BitVec 1

def zero : R := Ideal.ofBits .f32 0x00000000#32
def one : R := Ideal.ofBits .f32 0x3F800000#32
def negOne : R := Ideal.ofBits .f32 0xBF800000#32
def thr : R := Ideal.ofBits .f32 0x3F19999A#32
def eps : R := Ideal.ofBits .f32 0x3089705F#32
def big : R := Ideal.ofBits .f32 0x47C35000#32

theorem zero_eq : zero = (0 : EReal) := Ideal.ofBits_zero_f32
theorem one_eq : one = (1 : EReal) := Ideal.ofBits_one_f32
theorem negOne_eq : negOne = ((-(1 : ℝ) : ℝ) : EReal) := by
  unfold negOne
  simp [Ideal.ofBits, Ideal.ieee, -EReal.coe_mul, -EReal.coe_neg]; norm_num

/-- The corner moved by its label. -/
def off (C : Cand) (n : Fin 1000) : R := FloatOps.mulf (C.lb n) big
def ox1 (C : Cand) (n : Fin 1000) : R := FloatOps.addf (C.x1 n) (off C n)
def oy1 (C : Cand) (n : Fin 1000) : R := FloatOps.addf (C.y1 n) (off C n)
def ox2 (C : Cand) (n : Fin 1000) : R := FloatOps.addf (C.x2 n) (off C n)
def oy2 (C : Cand) (n : Fin 1000) : R := FloatOps.addf (C.y2 n) (off C n)
def area (C : Cand) (n : Fin 1000) : R :=
  FloatOps.mulf (FloatOps.subf (ox2 C n) (ox1 C n)) (FloatOps.subf (oy2 C n) (oy1 C n))

/-- The overlap of two candidates' boxes. -/
def inter (C : Cand) (i n : Fin 1000) : R :=
  FloatOps.mulf
    (FloatOps.maximumf zero (FloatOps.subf (FloatOps.minimumf (ox2 C i) (ox2 C n)) (FloatOps.maximumf (ox1 C i) (ox1 C n))))
    (FloatOps.maximumf zero (FloatOps.subf (FloatOps.minimumf (oy2 C i) (oy2 C n)) (FloatOps.maximumf (oy1 C i) (oy1 C n))))

/-- Intersection over union. -/
def iou (C : Cand) (i n : Fin 1000) : R :=
  FloatOps.divf (inter C i n)
    (FloatOps.addf (FloatOps.subf (FloatOps.addf (area C i) (area C n)) (inter C i n)) eps)

theorem inter_comm (C : Cand) (i n : Fin 1000) : inter C i n = inter C n i := by
  unfold inter
  rw [Std.Commutative.comm (op := FloatOps.minimumf (F := Ideal) (φ := .f32)) (ox2 C i) (ox2 C n),
    Std.Commutative.comm (op := FloatOps.maximumf (F := Ideal) (φ := .f32)) (ox1 C i) (ox1 C n),
    Std.Commutative.comm (op := FloatOps.minimumf (F := Ideal) (φ := .f32)) (oy2 C i) (oy2 C n),
    Std.Commutative.comm (op := FloatOps.maximumf (F := Ideal) (φ := .f32)) (oy1 C i) (oy1 C n)]

theorem addf_comm (a b : R) : FloatOps.addf a b = FloatOps.addf b a := add_comm (G := EReal) a b

theorem iou_comm (C : Cand) (i n : Fin 1000) : iou C i n = iou C n i := by
  unfold iou
  rw [inter_comm C i n, addf_comm (area C i)]

/-- Candidate `a` is the first of those with the largest score. -/
def IsTop (S : Fin 1000 → R) (a : Fin 1000) : Prop :=
  (∀ n, (S n : EReal) ≤ S a) ∧ ∀ n, n < a → (S n : EReal) < S a

theorem exists_top (S : Fin 1000 → R) : ∃ a, IsTop S a := by
  obtain ⟨M, hM⟩ : ∃ M, ∀ n, (S n : EReal) ≤ S M := Finite.exists_max (α := Fin 1000) (β := EReal) S
  have hne : (Finset.univ.filter fun a : Fin 1000 => (S a : EReal) = S M).Nonempty := ⟨M, by simp⟩
  obtain ⟨a, hm, hmin⟩ : ∃ a, a ∈ (Finset.univ.filter fun a : Fin 1000 => (S a : EReal) = S M) ∧
      ∀ b ∈ (Finset.univ.filter fun a : Fin 1000 => (S a : EReal) = S M), a ≤ b :=
    ⟨_, Finset.min'_mem _ hne, fun b hb => Finset.min'_le _ b hb⟩
  have ha : (S a : EReal) = S M := (Finset.mem_filter.1 hm).2
  refine ⟨a, fun n => by rw [ha]; exact hM n, fun n hn => ?_⟩
  rw [ha]
  refine lt_of_le_of_ne (hM n) fun he => ?_
  exact absurd (hmin n (Finset.mem_filter.2 ⟨Finset.mem_univ _, he⟩)) (not_le.2 hn)

/-- The candidate a trip keeps. -/
def top (S : Fin 1000 → R) : Fin 1000 := Classical.choose (exists_top S)
theorem top_spec (S : Fin 1000 → R) : IsTop S (top S) := Classical.choose_spec (exists_top S)

/-- The scores after one trip. -/
def next (C : Cand) (S : Fin 1000 → R) : Fin 1000 → R :=
  fun n => if (thr : EReal) < iou C (top S) n ∨ n = top S then negOne else S n

/-- The scores before the first trip. -/
def start (C : Cand) : Fin 1000 → R := fun n => Scalar.select (C.ok n) (C.sc n) negOne

/-- The scores before trip `t`. -/
def scores (C : Cand) : ℕ → Fin 1000 → R
  | 0 => start C
  | t + 1 => next C (scores C t)

/-- One if the trip keeps a candidate of positive score, else zero. -/
def keep (S : Fin 1000 → R) : BitVec 1 := FloatOps.cmpf .ogt (S (top S)) zero

/-- Column `j` of candidate `n`. -/
def field (C : Cand) (n : Fin 1000) (j : ℕ) : R :=
  if j = 0 then C.x1 n else if j = 1 then C.y1 n else if j = 2 then C.x2 n else if j = 3 then C.y2 n
  else if j = 4 then C.sc n else C.lb n

/-- Column `j` of the row trip `t` writes. -/
def row (C : Cand) (t j : ℕ) : R :=
  FloatOps.mulf (field C (top (scores C t)) j) (if keep (scores C t) = 1#1 then one else zero)

theorem next_ge (C : Cand) (S : Fin 1000 → R) (h : ∀ n, (negOne : EReal) ≤ S n) (n : Fin 1000) :
    (negOne : EReal) ≤ next C S n := by
  unfold next
  split
  · exact le_refl _
  · exact h n

theorem start_ge (C : Cand) (h : ∀ n, (negOne : EReal) ≤ C.sc n) (n : Fin 1000) : (negOne : EReal) ≤ start C n := by
  unfold start Scalar.select
  split
  · exact h n
  · exact le_refl _

theorem scores_ge (C : Cand) (h : ∀ n, (negOne : EReal) ≤ C.sc n) (t : ℕ) (n : Fin 1000) :
    (negOne : EReal) ≤ scores C t n := by
  induction t generalizing n with
  | zero => exact start_ge C h n
  | succ t ih => exact next_ge C _ ih n

/-- A fold whose operands all lie in a class closed under the operation, one of them absorbing the class, is that one. -/
theorem foldl_absorb {α : Type} (op : α → α → α) (x : α) (P : α → Prop) (hP : ∀ a b, P a → P b → P (op a b))
    (hl : ∀ a, P a → op x a = x) (hr : ∀ a, P a → op a x = x) :
    ∀ (L : List α) (i : α), P i → (∀ a ∈ L, P a) → (i = x ∨ x ∈ L) → L.foldl op i = x
  | [], i, _, _, h => by
    rcases h with h | h
    · exact h
    · cases h
  | a :: L, i, hi, hL, h => by
    have ha := hL a (List.mem_cons_self ..)
    refine foldl_absorb op x P hP hl hr L (op i a) (hP _ _ hi ha) (fun b hb => hL b (List.mem_cons_of_mem _ hb)) ?_
    rcases h with h | h
    · exact .inl (by rw [h]; exact hl a ha)
    · rcases List.mem_cons.1 h with h | h
      · exact .inl (by rw [← h]; exact hr i hi)
      · exact .inr h

end Cert.Nms

end
end
-- ==== Proof.KLanes.lean ====
/- The kernel's reductions over its lanes, in the extended reals: the largest score, the first lane holding it, and the
   sums that read one lane out. -/
module

public import proofs.«01_k».proof.Proof.KBody
public import proofs.«01_k».proof.Proof.Nms

@[expose] public section

set_option maxRecDepth 16384

noncomputable section

namespace Cert.KernelIdeal.Value

open Cert.KernelIdeal Cert.KernelIdeal.Gen Cert.Nms
open Idealize.ShloMosaic Idealize.ShloMosaic.TcCoe

/-- Lane of a source index of the reductions. -/
def lane (i : S1x8x128.Idx) : S8x128.Idx := ix2 (i 1) (i 2)

theorem cast_lane {α : Type} (v : S8x128.Idx → α) (h : S8x128.ShapeCasts S1x8x128) (i : S1x8x128.Idx) :
    shapeCast S1x8x128 v h i = v (lane i) := by
  idx_vars i
  unfold lane
  pointwise [hlo_ix]

theorem cast_one {α : Type} (v : S1.Idx → α) (h : S1.ShapeCasts S1x1x1) (h' : ∀ a, (![0, 0, 0] : Fin 3 → ℕ) a < S1x1x1.size a) :
    ∃ j, extractAt ![0, 0, 0] (shapeCast S1x1x1 v h) h' = v j := ⟨_, rfl⟩

theorem one_size : ∀ b, S1.size b = 1 := by decide

/-- A reduction of every lane to one value which absorbs the class the values lie in. -/
theorem total_fold {α : Type} (h : S1x8x128.Reduces [1, 2] S1) (f : α → α → α) (init : α) (v : S8x128.Idx → α)
    (hc : S8x128.ShapeCasts S1x8x128) (w : α) (P : α → Prop) (hP : ∀ a b, P a → P b → P (f a b))
    (hl : ∀ a, P a → f w a = w) (hr : ∀ a, P a → f a w = w) (hi : P init) (hv : ∀ i, P (v i))
    (hw : ∃ (p : Fin 8) (l : Fin 128), v (ix2 p l) = w) (j : S1.Idx) :
    reduceFold h f init (shapeCast S1x8x128 v hc) j = w := by
  rw [reduceFold_eq_foldl_of_size_one h one_size]
  rw [← List.foldl_map (f := shapeCast S1x8x128 v hc) (g := f)]
  refine foldl_absorb f w P hP hl hr _ _ hi ?_ (.inr ?_)
  · intro a ha
    obtain ⟨i, -, rfl⟩ := List.mem_map.1 ha
    rw [cast_lane]
    exact hv _
  · obtain ⟨p, l, rfl⟩ := hw
    refine List.mem_map.2 ⟨ix3 0 p l, List.mem_map.2 ⟨S1x8x128.rowMajor (ix3 0 p l), List.mem_finRange _, by simp⟩, ?_⟩
    rw [cast_lane]
    rfl

/-- The largest score. -/
theorem pay3_eq (s : FVec Ideal S8x128 .f32) (M : R) (hle : ∀ i, (s i : EReal) ≤ M)
    (hex : ∃ (p : Fin 8) (l : Fin 128), s (ix2 p l) = M) : k0_pay3 s = M := by
  unfold k0_pay3
  obtain ⟨j, hj⟩ := cast_one (multiReduction (F := Ideal) .maximumf [1, 2] S1 (shapeCast S1x8x128 s shapeCasts_S8x128_S1x8x128)
    0xFF800000#32 reduces_S1x8x128_S1 (.inl rfl) rfl) shapeCasts_S1_S1x1x1 inpos_S1x1x1_p0_0_0
  refine hj.trans ?_
  show reduceFold reduces_S1x8x128_S1 FloatOps.maximumf (FloatOps.ofBits .f32 0xFF800000#32)
    (shapeCast S1x8x128 s shapeCasts_S8x128_S1x8x128) j = M
  refine total_fold _ _ _ s _ M (fun a => (a : EReal) ≤ M) (fun a b ha hb => max_le (α := EReal) ha hb)
    (fun a ha => max_eq_left (α := EReal) ha) (fun a ha => max_eq_right (α := EReal) ha) ?_ hle hex j
  have : (FloatOps.ofBits .f32 0xFF800000#32 : R) = (⊥ : EReal) := by
    show Ideal.ofBits .f32 0xFF800000#32 = _
    simp [Ideal.ofBits, Ideal.ieee]
  rw [this]
  exact bot_le

/-- The flat number of a lane. -/
theorem flat_at (p : Fin 8) (l : Fin 128) :
    k0_pay1 rowIota (ix2 p l) = BitVec.ofNat 32 (128 * p.val + l.val) := by
  pointwise [k0_pay1, rowIota, hlo_ix]
  show BitVec.ofNat 32 p.val * 128#32 + BitVec.ofNat 32 l.val = _
  apply BitVec.eq_of_toNat_eq
  rw [BitVec.toNat_add, BitVec.toNat_mul, BitVec.toNat_ofNat, BitVec.toNat_ofNat, BitVec.toNat_ofNat, BitVec.toNat_ofNat]
  omega

theorem toInt_flat (n : ℕ) (h : n < 1073741825) : (BitVec.ofNat 32 n).toInt = n := by
  have hn : (BitVec.ofNat 32 n).toNat = n := by rw [BitVec.toNat_ofNat]; omega
  rw [BitVec.toInt_eq_toNat_of_lt (by omega), hn]

/-- Each lane's candidate for the first place: its own number where it holds the largest score. -/
theorem cand_at (s : FVec Ideal S8x128 .f32) (M : R) (v : IVec S8x128 32) (w : BitVec 32) (i : S8x128.Idx) :
    Idealize.ShloMosaic.select (cmpf .oeq s (broadcast S8x128 M)) v (broadcast S8x128 w) i = if (s i : EReal) = M then v i else w := by
  show Scalar.select (Ideal.cmp .oeq (s i) M) (v i) w = _
  unfold Scalar.select Ideal.cmp
  by_cases h : (s i : EReal) = M
  · rw [if_pos h, if_pos (by simp [h])]
  · rw [if_neg h, if_neg (by simp [h])]

/-- The least of the lanes' numbers. -/
theorem min_at (v : IVec S8x128 32) (N : ℕ) (hN : N < 1024) (hv : ∀ i, (N : ℤ) ≤ (v i).toInt)
    (hw : ∃ (p : Fin 8) (l : Fin 128), v (ix2 p l) = BitVec.ofNat 32 N) (j : S1.Idx) :
    reduceFold reduces_S1x8x128_S1 IntOp.minsi (2147483647#32 : BitVec 32) (shapeCast S1x8x128 v shapeCasts_S8x128_S1x8x128) j
      = BitVec.ofNat 32 N := by
  have hf := toInt_flat N (by omega)
  refine total_fold _ _ _ v _ _ (fun a => (N : ℤ) ≤ a.toInt) ?_ ?_ ?_ ?_ hv hw j
  · intro a b ha hb
    unfold IntOp.minsi
    split <;> assumption
  · intro a ha
    unfold IntOp.minsi
    split
    · rfl
    · next h =>
      apply BitVec.eq_of_toInt_eq
      rw [BitVec.slt_iff_toInt_lt, hf] at h
      rw [hf]
      omega
  · intro a ha
    unfold IntOp.minsi
    split
    · next h =>
      rw [BitVec.slt_iff_toInt_lt, hf] at h
      omega
    · rfl
  · have : (2147483647#32 : BitVec 32).toInt = 2147483647 := by decide
    rw [this]; omega

/-- Which lane has the chosen number. -/
theorem eq_at (v : IVec S8x128 32) (w : BitVec 32) (i : S8x128.Idx) :
    cmpi .eq v (broadcast S8x128 w) i = if v i = w then 1#1 else 0#1 := by
  show IntOp.cmpi .eq (v i) w = _
  unfold IntOp.cmpi
  by_cases h : v i = w
  · simp [h]
  · rw [if_neg h]
    show BitVec.ofBool (v i == w) = _
    rw [beq_false_of_ne h]
    rfl

theorem ofNat_eq_iff (a b : ℕ) (ha : a < 1024) (hb : b < 1024) : BitVec.ofNat 32 a = BitVec.ofNat 32 b ↔ a = b := by
  constructor
  · intro he
    have := congrArg BitVec.toInt he
    rw [toInt_flat _ (by omega), toInt_flat _ (by omega)] at this
    omega
  · rintro rfl; rfl

/-- The chosen lane, given the flat number of the first lane with the largest score. -/
theorem sel_at (s : FVec Ideal S8x128 .f32) (M : R) (hle : ∀ i, (s i : EReal) ≤ M) (p₀ : Fin 8) (l₀ : Fin 128)
    (h₀ : s (ix2 p₀ l₀) = M)
    (hfirst : ∀ (p : Fin 8) (l : Fin 128), (s (ix2 p l) : EReal) = M → 128 * p₀.val + l₀.val ≤ 128 * p.val + l.val)
    (p : Fin 8) (l : Fin 128) :
    sel s (ix2 p l) = if 128 * p.val + l.val = 128 * p₀.val + l₀.val then 1#1 else 0#1 := by
  have h3 := pay3_eq s M hle ⟨p₀, l₀, h₀⟩
  have hsel := fun (p : Fin 8) (l : Fin 128) => (cand_at s M (k0_pay1 rowIota) 1073741824#32 (ix2 p l)).trans
    (congrArg (fun w => if (s (ix2 p l) : EReal) = M then w else 1073741824#32) (flat_at p l))
  unfold sel k0_pay4
  rw [h3]
  generalize hv : Idealize.ShloMosaic.select (cmpf .oeq s (broadcast S8x128 M)) (k0_pay1 rowIota) (broadcast S8x128 1073741824#32) = v at hsel
  obtain ⟨j, hj⟩ := cast_one (multiReductionI .minsi [1, 2] S1 (shapeCast S1x8x128 v shapeCasts_S8x128_S1x8x128)
    2147483647#32 reduces_S1x8x128_S1 rfl) shapeCasts_S1_S1x1x1 inpos_S1x1x1_p0_0_0
  have hw := hj.trans (min_at v (128 * p₀.val + l₀.val) (by omega) (fun i => by
    idx_vars i
    rw [hsel]
    split
    · next h =>
      rw [toInt_flat _ (by omega)]
      exact_mod_cast hfirst _ _ h
    · have : (1073741824#32 : BitVec 32).toInt = 1073741824 := by decide
      rw [this]; omega) ⟨p₀, l₀, by rw [hsel, if_pos h₀]⟩ j)
  show cmpi .eq (k0_pay1 rowIota) (broadcast S8x128 (extractAt _ _ _)) (ix2 p l) = _
  rw [hw, eq_at, flat_at]
  exact if_congr (ofNat_eq_iff _ _ (by omega) (by omega)) rfl rfl

/-- A sum over the lanes of one lane's value and zeros. -/
theorem sum_at (c : IVec S8x128 1) (v : FVec Ideal S8x128 .f32) (p₀ : Fin 8) (l₀ : Fin 128)
    (hc : ∀ p l, c (ix2 p l) = if 128 * p.val + l.val = 128 * p₀.val + l₀.val then 1#1 else 0#1) :
    k0_pay11 (shapeCast S1x8x128 (Idealize.ShloMosaic.select c v (broadcast S8x128 (Scalar.ofBits (F := Ideal) .f32 0x00000000#32)))
      shapeCasts_S8x128_S1x8x128) = v (ix2 p₀ l₀) := by
  unfold k0_pay11
  obtain ⟨j, hj⟩ := cast_one (multiReduction (F := Ideal) .add [1, 2] S1 (shapeCast S1x8x128
      (Idealize.ShloMosaic.select c v (broadcast S8x128 (Scalar.ofBits (F := Ideal) .f32 0x00000000#32))) shapeCasts_S8x128_S1x8x128)
    0x00000000#32 reduces_S1x8x128_S1 (.inl rfl) rfl) shapeCasts_S1_S1x1x1 inpos_S1x1x1_p0_0_0
  refine hj.trans ?_
  refine (Ideal.multiReduction_add_total _ _ _ one_size _ _ j).trans ?_
  have hterm : ∀ i : S1x8x128.Idx, shapeCast S1x8x128
      (Idealize.ShloMosaic.select c v (broadcast S8x128 (Scalar.ofBits (F := Ideal) .f32 0x00000000#32))) shapeCasts_S8x128_S1x8x128 i
        = (if lane i = ix2 p₀ l₀ then v (ix2 p₀ l₀) else (0 : EReal)) := by
    intro i
    rw [cast_lane]
    show Scalar.select (c (lane i)) (v (lane i)) (Ideal.ofBits .f32 0x00000000#32) = _
    rw [Ideal.ofBits_zero_f32]
    by_cases h : lane i = ix2 p₀ l₀
    · rw [if_pos h, h, hc, if_pos rfl]; rfl
    · rw [if_neg h]
      have : c (lane i) = 0#1 := by
        have := hc (i 1) (i 2)
        rw [if_neg] at this
        · exact this
        · intro he
          apply h
          have h1 : (i 2).val < 128 := (i 2).isLt
          have h2 : (i 1).val < 8 := (i 1).isLt
          have e1 : (i 1).val = p₀.val := by omega
          have e2 : (i 2).val = l₀.val := by omega
          unfold lane
          congr 1
          · exact Fin.ext e1
          · exact Fin.ext e2
      rw [this]; rfl
  rw [Finset.sum_congr rfl (fun i _ => hterm i)]
  rw [Finset.sum_eq_single (ix3 0 p₀ l₀ : S1x8x128.Idx)]
  · rw [if_pos (show lane (ix3 0 p₀ l₀) = ix2 p₀ l₀ from rfl)]
  · intro b _ hb
    rw [if_neg]
    intro he
    apply hb
    funext a
    have h1 := congrFun he 0
    have h2 := congrFun he 1
    fin_cases a
    · exact Fin.ext (by have : (b 0).val < 1 := (b 0).isLt; show (b 0).val = 0; omega)
    · exact h1
    · exact h2
  · intro h; exact absurd (Finset.mem_univ _) h

end Cert.KernelIdeal.Value

end
end
-- ==== Proof.KTrip.lean ====
/- One trip of the kernel over its lanes is one trip of greedy suppression over the candidates. -/
module

public import proofs.«01_k».proof.Proof.KLanes

@[expose] public section

set_option maxRecDepth 16384

noncomputable section

namespace Cert.KernelIdeal.Value

open Cert.KernelIdeal Cert.KernelIdeal.Gen Cert.Nms
open Idealize.ShloMosaic Idealize.ShloMosaic.TcCoe

/-- The lanes hold the candidates. -/
structure Reads (C : Cand) (P : Lanes Ideal) : Prop where
  x1 : ∀ (p : Fin 8) (l : Fin 128) (h : 128 * p.val + l.val < 1000), P.x1 (ix2 p l) = C.x1 ⟨128 * p.val + l.val, h⟩
  y1 : ∀ (p : Fin 8) (l : Fin 128) (h : 128 * p.val + l.val < 1000), P.y1 (ix2 p l) = C.y1 ⟨128 * p.val + l.val, h⟩
  x2 : ∀ (p : Fin 8) (l : Fin 128) (h : 128 * p.val + l.val < 1000), P.x2 (ix2 p l) = C.x2 ⟨128 * p.val + l.val, h⟩
  y2 : ∀ (p : Fin 8) (l : Fin 128) (h : 128 * p.val + l.val < 1000), P.y2 (ix2 p l) = C.y2 ⟨128 * p.val + l.val, h⟩
  sc : ∀ (p : Fin 8) (l : Fin 128) (h : 128 * p.val + l.val < 1000), P.sc (ix2 p l) = C.sc ⟨128 * p.val + l.val, h⟩
  lb : ∀ (p : Fin 8) (l : Fin 128) (h : 128 * p.val + l.val < 1000), P.lb (ix2 p l) = C.lb ⟨128 * p.val + l.val, h⟩
  ox1 : ∀ (p : Fin 8) (l : Fin 128) (h : 128 * p.val + l.val < 1000), P.ox1 (ix2 p l) = ox1 C ⟨128 * p.val + l.val, h⟩
  oy1 : ∀ (p : Fin 8) (l : Fin 128) (h : 128 * p.val + l.val < 1000), P.oy1 (ix2 p l) = oy1 C ⟨128 * p.val + l.val, h⟩
  ox2 : ∀ (p : Fin 8) (l : Fin 128) (h : 128 * p.val + l.val < 1000), P.ox2 (ix2 p l) = ox2 C ⟨128 * p.val + l.val, h⟩
  oy2 : ∀ (p : Fin 8) (l : Fin 128) (h : 128 * p.val + l.val < 1000), P.oy2 (ix2 p l) = oy2 C ⟨128 * p.val + l.val, h⟩
  area : ∀ (p : Fin 8) (l : Fin 128) (h : 128 * p.val + l.val < 1000), P.area (ix2 p l) = area C ⟨128 * p.val + l.val, h⟩

/-- The lanes' scores, minus one beyond the candidates. -/
def Holds (S : Fin 1000 → R) (s : FVec Ideal S8x128 .f32) : Prop :=
  ∀ (p : Fin 8) (l : Fin 128), s (ix2 p l) = if h : 128 * p.val + l.val < 1000 then S ⟨128 * p.val + l.val, h⟩ else negOne

/-- The row and the column of a candidate's lane. -/
def hi (a : Fin 1000) : Fin 8 := ⟨a.val / 128, by omega⟩
def lo (a : Fin 1000) : Fin 128 := ⟨a.val % 128, by omega⟩

theorem hi_lo (a : Fin 1000) : 128 * (hi a).val + (lo a).val = a.val := Nat.div_add_mod a.val 128

theorem at_hi_lo {β : Type} (f : Fin 1000 → β) (v : S8x128.Idx → β)
    (hv : ∀ (p : Fin 8) (l : Fin 128) (h : 128 * p.val + l.val < 1000), v (ix2 p l) = f ⟨128 * p.val + l.val, h⟩) (a : Fin 1000) :
    v (ix2 (hi a) (lo a)) = f a := by
  rw [hv _ _ (by rw [hi_lo]; exact a.isLt)]
  congr 1
  exact Fin.ext (hi_lo a)

section
variable {C : Cand} {P : Lanes Ideal} {S : Fin 1000 → R} {s : FVec Ideal S8x128 .f32}

theorem Holds.le (h : Holds S s) (hS : ∀ n, (negOne : EReal) ≤ S n) (i : S8x128.Idx) : (s i : EReal) ≤ S (top S) := by
  idx_vars i
  rw [h]
  split
  · exact (top_spec S).1 _
  · exact hS _

theorem Holds.at_top (h : Holds S s) : s (ix2 (hi (top S)) (lo (top S))) = S (top S) :=
  at_hi_lo S s (fun p l hl => by rw [h, dif_pos hl]) _

theorem Holds.sel (h : Holds S s) (hS : ∀ n, (negOne : EReal) ≤ S n) (p : Fin 8) (l : Fin 128) :
    sel s (ix2 p l) = if 128 * p.val + l.val = 128 * (hi (top S)).val + (lo (top S)).val then 1#1 else 0#1 := by
  refine sel_at s (S (top S)) (h.le hS) _ _ h.at_top (fun p l he => ?_) p l
  rw [hi_lo]
  by_contra hlt
  rw [not_le] at hlt
  rw [h, dif_pos (by omega)] at he
  exact absurd he (ne_of_lt ((top_spec S).2 ⟨128 * p.val + l.val, by omega⟩ hlt))

/-- What a sum over the chosen lane reads. -/
theorem Holds.sum (h : Holds S s) (hS : ∀ n, (negOne : EReal) ≤ S n) (f : Fin 1000 → R) (v : FVec Ideal S8x128 .f32)
    (hv : ∀ (p : Fin 8) (l : Fin 128) (h : 128 * p.val + l.val < 1000), v (ix2 p l) = f ⟨128 * p.val + l.val, h⟩) :
    k0_pay11 (shapeCast S1x8x128 (Idealize.ShloMosaic.select (Value.sel s) v (broadcast S8x128 (Scalar.ofBits (F := Ideal) .f32 0x00000000#32)))
      shapeCasts_S8x128_S1x8x128) = f (top S) :=
  (sum_at (Value.sel s) v _ _ (h.sel hS)).trans (at_hi_lo f v hv _)

end

theorem pay21_at (A s : FVec Ideal S8x128 .f32) (c : IVec S8x128 1) (e : R) (u v w : FVec Ideal S8x128 .f32) (i : S8x128.Idx) :
    k0_pay21 A s c e u v w i
      = Scalar.select (IntOp.ori (FloatOps.cmpf .ogt (FloatOps.divf
          (FloatOps.mulf (FloatOps.maximumf zero (w i)) (FloatOps.maximumf zero (FloatOps.subf (v i) (u i))))
          (FloatOps.addf (FloatOps.subf (FloatOps.addf (A i) e)
            (FloatOps.mulf (FloatOps.maximumf zero (w i)) (FloatOps.maximumf zero (FloatOps.subf (v i) (u i))))) eps)) thr) (c i))
          negOne (s i) := rfl

theorem select_or (c d : Prop) [Decidable c] [Decidable d] (x y : R) :
    Scalar.select (IntOp.ori (BitVec.ofBool (decide c)) (if d then 1#1 else 0#1)) x y = if c ∨ d then x else y := by
  by_cases hc : c <;> by_cases hd : d <;> simp [hc, hd, Scalar.select, IntOp.ori]

/-- One trip. -/
theorem stepS_holds {C : Cand} {P : Lanes Ideal} {S : Fin 1000 → R} {s : FVec Ideal S8x128 .f32} (hP : Reads C P)
    (h : Holds S s) (hS : ∀ n, (negOne : EReal) ≤ S n) : Holds (next C S) (stepS P s) := by
  intro p l
  have e1 : k0_pay6 P.ox1 (k0_pay1 rowIota) s = ox1 C (top S) := h.sum hS _ _ hP.ox1
  have e2 : k0_pay7 P.oy1 (k0_pay1 rowIota) s = oy1 C (top S) := h.sum hS _ _ hP.oy1
  have e3 : k0_pay8 P.ox2 (k0_pay1 rowIota) s = ox2 C (top S) := h.sum hS _ _ hP.ox2
  have e4 : k0_pay9 P.oy2 (k0_pay1 rowIota) s = oy2 C (top S) := h.sum hS _ _ hP.oy2
  have e5 : k0_pay11 (k0_pay10 P.area (k0_pay1 rowIota) s) = area C (top S) := h.sum hS _ _ hP.area
  unfold stepS
  rw [e1, e2, e3, e4, e5, pay21_at, h.sel hS, h]
  have e6 : k0_pay20 P.ox1 P.ox2 (ox1 C (top S)) (ox2 C (top S)) (ix2 p l)
      = FloatOps.subf (FloatOps.minimumf (P.ox2 (ix2 p l)) (ox2 C (top S))) (FloatOps.maximumf (P.ox1 (ix2 p l)) (ox1 C (top S))) := rfl
  have e7 : k0_pay18 P.oy1 (oy1 C (top S)) (ix2 p l) = FloatOps.maximumf (P.oy1 (ix2 p l)) (oy1 C (top S)) := rfl
  have e8 : k0_pay19 P.oy2 (oy2 C (top S)) (ix2 p l) = FloatOps.minimumf (P.oy2 (ix2 p l)) (oy2 C (top S)) := rfl
  rw [e6, e7, e8]
  by_cases hl : 128 * p.val + l.val < 1000
  · rw [dif_pos hl, dif_pos hl, hP.ox1 _ _ hl, hP.oy1 _ _ hl, hP.ox2 _ _ hl, hP.oy2 _ _ hl, hP.area _ _ hl]
    have := select_or ((thr : EReal) < iou C ⟨128 * p.val + l.val, hl⟩ (top S))
      (128 * p.val + l.val = 128 * (hi (top S)).val + (lo (top S)).val) negOne (S ⟨128 * p.val + l.val, hl⟩)
    refine Eq.trans this ?_
    unfold next
    rw [iou_comm, hi_lo]
    refine if_congr (or_congr Iff.rfl ?_) rfl rfl
    exact (Fin.ext_iff (a := ⟨128 * p.val + l.val, hl⟩) (b := top S)).symm
  · rw [dif_neg hl, dif_neg hl]
    exact ite_self _

theorem carry_holds {C : Cand} {P : Lanes Ideal} {s₀ : FVec Ideal S8x128 .f32} (hP : Reads C P)
    (h : Holds (start C) s₀) (hS : ∀ n, (negOne : EReal) ≤ C.sc n) (t : ℕ) : Holds (scores C t) (carry P s₀ t) := by
  induction t with
  | zero => exact h
  | succ t ih => exact stepS_holds hP ih (scores_ge C hS t)

/-- A value in one column of the row and zeros in the others. -/
def inCol (k : ℕ) (v : EReal) (j : ℕ) : EReal := if j = k then v else 0

theorem rows_at (kf lb x1 y1 x2 y2 sc : R) (j : Fin 8) :
    k0_pay2 kf lb (k0_pay22 colIota x1 y1 x2 y2) (k0_pay23 colIota sc) (ix3 0 0 j)
      = ((inCol 0 x1 j.val + inCol 1 y1 j.val + inCol 2 x2 j.val + inCol 3 y2 j.val + inCol 4 sc j.val + inCol 5 lb j.val) * kf : EReal) := by
  have hj : (BitVec.ofNat 32 j.val).toNat = j.val := by rw [BitVec.toNat_ofNat]; omega
  pointwise [k0_pay2, k0_pay22, k0_pay23, colIota, hlo_ix]
  rw [hj]
  rfl

theorem col_sum (a b c d e f : EReal) (j : ℕ) (hj : j < 6) :
    inCol 0 a j + inCol 1 b j + inCol 2 c j + inCol 3 d j + inCol 4 e j + inCol 5 f j
      = if j = 0 then a else if j = 1 then b else if j = 2 then c else if j = 3 then d else if j = 4 then e else f := by
  unfold inCol
  interval_cases j <;> simp

/-- The row a trip writes. -/
theorem rowS_holds {C : Cand} {P : Lanes Ideal} {S : Fin 1000 → R} {s : FVec Ideal S8x128 .f32} (hP : Reads C P)
    (h : Holds S s) (hS : ∀ n, (negOne : EReal) ≤ S n) (j : Fin 8) (hj : j.val < 6) :
    rowS P s (ix3 0 0 j) = FloatOps.mulf (field C (top S) j.val) (if keep S = 1#1 then one else zero) := by
  have e0 : k0_pay5 s = if keep S = 1#1 then one else zero := by
    unfold k0_pay5
    rw [pay3_eq s (S (top S)) (h.le hS) ⟨_, _, h.at_top⟩]
    rfl
  have e1 : k0_pay12 P.lb (Value.sel s) = C.lb (top S) := h.sum hS _ _ hP.lb
  have e2 : k0_pay13 P.sc (Value.sel s) = C.sc (top S) := h.sum hS _ _ hP.sc
  have e3 : k0_pay14 P.x1 (Value.sel s) = C.x1 (top S) := h.sum hS _ _ hP.x1
  have e4 : k0_pay15 P.y1 (Value.sel s) = C.y1 (top S) := h.sum hS _ _ hP.y1
  have e5 : k0_pay16 P.x2 (Value.sel s) = C.x2 (top S) := h.sum hS _ _ hP.x2
  have e6 : k0_pay17 P.y2 (Value.sel s) = C.y2 (top S) := h.sum hS _ _ hP.y2
  unfold rowS
  rw [e0, e1, e2, e3, e4, e5, e6, rows_at]
  exact congrArg (fun v : EReal => v * (if keep S = 1#1 then one else zero : R)) (col_sum _ _ _ _ _ _ j.val hj)

/-- The rows of one image. -/
theorem rows_hold {C : Cand} {P : Lanes Ideal} {s₀ : FVec Ideal S8x128 .f32} (hP : Reads C P)
    (h : Holds (start C) s₀) (hS : ∀ n, (negOne : EReal) ≤ C.sc n) (t : ℕ) (j : Fin 8) (hj : j.val < 6) :
    rowS P (carry P s₀ t) (ix3 0 0 j) = row C t j.val :=
  rowS_holds hP (carry_holds hP h hS t) (scores_ge C hS t) j hj

end Cert.KernelIdeal.Value

end
end
-- ==== Proof.Sim.lean ====
/- Two straight lines of host operations that do the same thing under different buffer names: if the buffers they
   read agree, so do the buffers they write. The kernel's program and the reference's program both begin with the
   same candidate selection; this module is what lets the proof treat the values it produces as one unknown. -/
module

public import Idealize.ShloMosaic.Lib.StableHlo.Run

@[expose] public section

namespace Cert.Sim

open Idealize.ShloMosaic Idealize.ShloMosaic.StableHlo Idealize.SL.Sem

variable {τ₁ τ₂ : Topo} {s₁ s₂ : RefSig} {Val : EltTy → Type}

/-- The pairs of buffers known to hold the same value. -/
abbrev Pairs (s₁ s₂ : RefSig) := List (Ref s₁ .tc × Ref s₂ .tc)

/-- Every listed pair of buffers holds one value. -/
def Agree (ρ : Pairs s₁ s₂) (V : Valuation τ₁ s₁ Val) (W : Valuation τ₂ s₂ Val) : Prop :=
  ∀ p ∈ ρ, HEq (V (Proc.devRef .tc p.1)) (W (Proc.devRef .tc p.2))

/-- Neither buffer of a new pair is in a listed pair. -/
abbrev Fresh (ρ : Pairs s₁ s₂) (y : Ref s₁ .tc) (z : Ref s₂ .tc) : Prop :=
  (ρ.all fun p => !decide (p.1 = y) && !decide (p.2 = z)) = true

/-- Applying functions that are the same up to their types' names to values that are. -/
theorem heq_app {T T' U U' : Type} (hT : T = T') (hU : U = U') {f : T → U} {g : T' → U'} (h : HEq f g)
    {v : T} {w : T'} (hv : HEq v w) : HEq (f v) (g w) := by
  subst hT; subst hU; cases h; cases hv; rfl

/-- The same for two arguments. -/
theorem heq_app2 {T T' S S' U U' : Type} (hT : T = T') (hS : S = S') (hU : U = U') {f : T → S → U} {g : T' → S' → U'}
    (h : HEq f g) {v : T} {w : T'} (hv : HEq v w) {a : S} {b : S'} (ha : HEq a b) : HEq (f v a) (g w b) := by
  subst hT; subst hS; subst hU; cases h; cases hv; cases ha; rfl

/-- The same for three arguments. -/
theorem heq_app3 {T T' S S' R R' U U' : Type} (hT : T = T') (hS : S = S') (hR : R = R') (hU : U = U')
    {f : T → S → R → U} {g : T' → S' → R' → U'}
    (h : HEq f g) {v : T} {w : T'} (hv : HEq v w) {a : S} {b : S'} (ha : HEq a b) {c : R} {d : R'} (hc : HEq c d) :
    HEq (f v a c) (g w b d) := by
  subst hT; subst hS; subst hR; subst hU; cases h; cases hv; cases ha; cases hc; rfl

/-- A pair of results added to an agreement: the earlier buffers are untouched, and the new pair holds one value. -/
theorem Agree.step {ρ : Pairs s₁ s₂} {V V' : Valuation τ₁ s₁ Val} {W W' : Valuation τ₂ s₂ Val} (h : Agree ρ V W)
    {y : Ref s₁ .tc} {z : Ref s₂ .tc} (hf : Fresh ρ y z)
    (hV : ∀ r : Ref s₁ .tc, r ≠ y → V' (Proc.devRef .tc r) = V (Proc.devRef .tc r))
    (hW : ∀ r : Ref s₂ .tc, r ≠ z → W' (Proc.devRef .tc r) = W (Proc.devRef .tc r))
    (hn : HEq (V' (Proc.devRef .tc y)) (W' (Proc.devRef .tc z))) : Agree ((y, z) :: ρ) V' W' := by
  intro p hp
  rcases List.mem_cons.mp hp with rfl | hp
  · exact hn
  · have hq := List.all_eq_true.mp hf p hp
    rw [Bool.and_eq_true, Bool.not_eq_true', Bool.not_eq_true', decide_eq_false_iff_not, decide_eq_false_iff_not] at hq
    rw [hV _ hq.1, hW _ hq.2]; exact h p hp

/-- From agreement on `ρ`, running the lines `l₁` and `l₂` comes to running `r₁` and `r₂` from contents that agree on `ρ'`. -/
def Sims (ρ ρ' : Pairs s₁ s₂) (l₁ r₁ : List (HloOp τ₁ s₁ Val)) (l₂ r₂ : List (HloOp τ₂ s₂ Val)) : Prop :=
  ∀ V W, Agree ρ V W → ∃ V' W', Agree ρ' V' W' ∧ after l₁ V = after r₁ V' ∧ after l₂ W = after r₂ W'

/-- Nothing run. -/
theorem Sims.stop (ρ : Pairs s₁ s₂) (l₁ : List (HloOp τ₁ s₁ Val)) (l₂ : List (HloOp τ₂ s₂ Val)) : Sims ρ ρ l₁ l₁ l₂ l₂ :=
  fun V W h => ⟨V, W, h, rfl, rfl⟩

/-- Nothing run, and some of the agreeing pairs forgotten. -/
theorem Sims.done {ρ ρ' : Pairs s₁ s₂} (h : (ρ'.all fun p => decide (p ∈ ρ)) = true) (l₁ : List (HloOp τ₁ s₁ Val)) (l₂ : List (HloOp τ₂ s₂ Val)) :
    Sims ρ ρ' l₁ l₁ l₂ l₂ :=
  fun V W ha => ⟨V, W, fun p hp => ha p (of_decide_eq_true (List.all_eq_true.mp h p hp)), rfl, rfl⟩

/-- Two runs one after the other. -/
theorem Sims.trans {ρ ρ' ρ'' : Pairs s₁ s₂} {l₁ m₁ r₁ : List (HloOp τ₁ s₁ Val)} {l₂ m₂ r₂ : List (HloOp τ₂ s₂ Val)}
    (h : Sims ρ ρ' l₁ m₁ l₂ m₂) (h' : Sims ρ' ρ'' m₁ r₁ m₂ r₂) : Sims ρ ρ'' l₁ r₁ l₂ r₂ := fun V W ha => by
  obtain ⟨V', W', ha', e₁, e₂⟩ := h V W ha
  obtain ⟨V'', W'', ha'', e₁', e₂'⟩ := h' V' W' ha'
  exact ⟨V'', W'', ha'', e₁.trans e₁', e₂.trans e₂'⟩

/-- One operation on each side, whose results are a new pair that agrees. -/
theorem Sims.one {ρ ρ' : Pairs s₁ s₂} {o₁ : HloOp τ₁ s₁ Val} {o₂ : HloOp τ₂ s₂ Val}
    {l₁ r₁ : List (HloOp τ₁ s₁ Val)} {l₂ r₂ : List (HloOp τ₂ s₂ Val)} {y : Ref s₁ .tc} {z : Ref s₂ .tc} (hf : Fresh ρ y z)
    (h₁ : ∀ V (r : Ref s₁ .tc), r ≠ y → o₁.result V (Proc.devRef .tc r) = V (Proc.devRef .tc r))
    (h₂ : ∀ V (r : Ref s₂ .tc), r ≠ z → o₂.result V (Proc.devRef .tc r) = V (Proc.devRef .tc r))
    (hn : ∀ V W, Agree ρ V W → HEq (o₁.result V (Proc.devRef .tc y)) (o₂.result W (Proc.devRef .tc z)))
    (k : Sims ((y, z) :: ρ) ρ' l₁ r₁ l₂ r₂) : Sims ρ ρ' (o₁ :: l₁) r₁ (o₂ :: l₂) r₂ := fun V W h => by
  obtain ⟨V', W', h', e₁, e₂⟩ := k _ _ (h.step hf (h₁ V) (h₂ W) (hn V W h))
  exact ⟨V', W', h', by rw [after_cons, e₁], by rw [after_cons, e₂]⟩

variable {ρ ρ' : Pairs s₁ s₂} {l₁ r₁ : List (HloOp τ₁ s₁ Val)} {l₂ r₂ : List (HloOp τ₂ s₂ Val)}

/-- The same constant on both sides. -/
theorem Sims.nullary {y : Ref s₁ .tc} {z : Ref s₂ .tc} {v : y.ty.Contents Val} {w : z.ty.Contents Val} {hy hz}
    (hf : Fresh ρ y z) (hv : HEq v w) (k : Sims ((y, z) :: ρ) ρ' l₁ r₁ l₂ r₂) :
    Sims ρ ρ' (StableHlo.nullary (τ := τ₁) y v hy :: l₁) r₁ (StableHlo.nullary (τ := τ₂) z w hz :: l₂) r₂ :=
  Sims.one hf (fun V _ h => nullary_result_ne y v hy V h) (fun W _ h => nullary_result_ne z w hz W h)
    (fun V W _ => by rw [nullary_result y v hy V, nullary_result z w hz W]; exact hv) k

/-- The same function of one operand on both sides. -/
theorem Sims.unary {x y : Ref s₁ .tc} {x' z : Ref s₂ .tc} {f : x.ty.Contents Val → y.ty.Contents Val}
    {g : x'.ty.Contents Val → z.ty.Contents Val} {hx hy hx' hz}
    (hf : Fresh ρ y z) (hm : (x, x') ∈ ρ) (tx : x.ty.Contents Val = x'.ty.Contents Val) (ty : y.ty.Contents Val = z.ty.Contents Val)
    (hv : HEq f g) (k : Sims ((y, z) :: ρ) ρ' l₁ r₁ l₂ r₂) :
    Sims ρ ρ' (StableHlo.unary (τ := τ₁) x y f hx hy :: l₁) r₁ (StableHlo.unary (τ := τ₂) x' z g hx' hz :: l₂) r₂ :=
  Sims.one hf (fun V _ h => unary_result_ne x y f hx hy V h) (fun W _ h => unary_result_ne x' z g hx' hz W h)
    (fun V W ha => by rw [unary_result x y f hx hy V, unary_result x' z g hx' hz W]; exact heq_app tx ty hv (ha _ hm)) k

/-- The same reshape on both sides. -/
theorem Sims.reshape {x y : Ref s₁ .tc} {x' z : Ref s₂ .tc} {he hn hx hy he' hn' hx' hz}
    (hf : Fresh ρ y z) (hm : (x, x') ∈ ρ) (tx : x.ty = x'.ty) (ty : y.ty = z.ty)
    (k : Sims ((y, z) :: ρ) ρ' l₁ r₁ l₂ r₂) :
    Sims ρ ρ' (StableHlo.reshape (Val := Val) (τ := τ₁) x y he hn hx hy :: l₁) r₁
      (StableHlo.reshape (Val := Val) (τ := τ₂) x' z he' hn' hx' hz :: l₂) r₂ :=
  Sims.one hf (fun V _ h => reshape_result_ne x y he hn hx hy V h) (fun W _ h => reshape_result_ne x' z he' hn' hx' hz W h)
    (fun V W ha => by
      rw [reshape_result x y he hn hx hy V, reshape_result x' z he' hn' hx' hz W]
      have hv := ha _ hm
      revert hv
      generalize V (Proc.devRef .tc (x, x').1) = v
      generalize W (Proc.devRef .tc (x, x').2) = w
      intro hv
      have key : ∀ (T T' U U' : BufTy) (_ : T = T') (_ : U = U') (e : T.elt = U.elt) (e' : T'.elt = U'.elt)
          (n : T.shape.ShapeCasts U.shape) (n' : T'.shape.ShapeCasts U'.shape) (v : T.Contents Val) (w : T'.Contents Val), HEq v w →
          HEq (fun i => e ▸ shapeCast U.shape v n i : U.Contents Val) (fun i => e' ▸ shapeCast U'.shape w n' i : U'.Contents Val) := by
        intro T T' U U' h h' e e' n n' v w hv
        subst h; subst h'; cases hv; rfl
      exact key _ _ _ _ tx ty he he' hn hn' v w hv) k

/-- The same function of two operands on both sides. -/
theorem Sims.binary {a b y : Ref s₁ .tc} {a' b' z : Ref s₂ .tc} {f : a.ty.Contents Val → b.ty.Contents Val → y.ty.Contents Val}
    {g : a'.ty.Contents Val → b'.ty.Contents Val → z.ty.Contents Val} {ha hb hy ha' hb' hz}
    (hf : Fresh ρ y z) (ma : (a, a') ∈ ρ) (mb : (b, b') ∈ ρ) (ta : a.ty.Contents Val = a'.ty.Contents Val)
    (tb : b.ty.Contents Val = b'.ty.Contents Val) (ty : y.ty.Contents Val = z.ty.Contents Val)
    (hv : HEq f g) (k : Sims ((y, z) :: ρ) ρ' l₁ r₁ l₂ r₂) :
    Sims ρ ρ' (StableHlo.binary (τ := τ₁) a b y f ha hb hy :: l₁) r₁ (StableHlo.binary (τ := τ₂) a' b' z g ha' hb' hz :: l₂) r₂ :=
  Sims.one hf (fun V _ h => binary_result_ne a b y f ha hb hy V h) (fun W _ h => binary_result_ne a' b' z g ha' hb' hz W h)
    (fun V W hg => by
      rw [binary_result a b y f ha hb hy V, binary_result a' b' z g ha' hb' hz W]
      exact heq_app2 ta tb ty hv (hg _ ma) (hg _ mb)) k

/-- The same function of three operands on both sides. -/
theorem Sims.ternary {c a b y : Ref s₁ .tc} {c' a' b' z : Ref s₂ .tc}
    {f : c.ty.Contents Val → a.ty.Contents Val → b.ty.Contents Val → y.ty.Contents Val}
    {g : c'.ty.Contents Val → a'.ty.Contents Val → b'.ty.Contents Val → z.ty.Contents Val} {hc ha hb hy hc' ha' hb' hz}
    (hf : Fresh ρ y z) (mc : (c, c') ∈ ρ) (ma : (a, a') ∈ ρ) (mb : (b, b') ∈ ρ) (tc : c.ty.Contents Val = c'.ty.Contents Val)
    (ta : a.ty.Contents Val = a'.ty.Contents Val)
    (tb : b.ty.Contents Val = b'.ty.Contents Val) (ty : y.ty.Contents Val = z.ty.Contents Val)
    (hv : HEq f g) (k : Sims ((y, z) :: ρ) ρ' l₁ r₁ l₂ r₂) :
    Sims ρ ρ' (StableHlo.ternary (τ := τ₁) c a b y f hc ha hb hy :: l₁) r₁
      (StableHlo.ternary (τ := τ₂) c' a' b' z g hc' ha' hb' hz :: l₂) r₂ :=
  Sims.one hf (fun V _ h => ternary_result_ne a b c y f hc ha hb hy V h) (fun W _ h => ternary_result_ne a' b' c' z g hc' ha' hb' hz W h)
    (fun V W hg => by
      rw [ternary_result c a b y f hc ha hb hy V, ternary_result c' a' b' z g hc' ha' hb' hz W]
      exact heq_app3 tc ta tb ty hv (hg _ mc) (hg _ ma) (hg _ mb)) k

/-- Equal operands stay equal as contents of their values' types. -/
theorem ofBuf_eq {T : BufTy} (x : StableHlo.TRef s₁ T) (x' : StableHlo.TRef s₂ T) {v : x.ref.ty.Contents Val} {w : x'.ref.ty.Contents Val}
    (h : HEq v w) : x.ofBuf v = x'.ofBuf w :=
  eq_of_heq ((cast_heq _ _).trans (h.trans (cast_heq _ _).symm))

/-- Equal results stay equal as contents of their buffers. -/
theorem toBuf_heq {T : BufTy} (x : StableHlo.TRef s₁ T) (x' : StableHlo.TRef s₂ T) {v w : T.Contents Val}
    (h : v = w) : HEq (x.toBuf v) (x'.toBuf w) := by
  subst h
  exact (cast_heq _ _).trans (cast_heq _ _).symm

/-- The same constant on both sides, at typed references. -/
theorem Sims.tnullary {Y : BufTy} {y : StableHlo.TRef s₁ Y} {z : StableHlo.TRef s₂ Y} {v w : Y.Contents Val}
    (hf : Fresh ρ y.ref z.ref) (hv : v = w) (k : Sims ((y.ref, z.ref) :: ρ) ρ' l₁ r₁ l₂ r₂) :
    Sims ρ ρ' (StableHlo.TRef.nullary (τ := τ₁) y v :: l₁) r₁ (StableHlo.TRef.nullary (τ := τ₂) z w :: l₂) r₂ :=
  Sims.nullary hf (toBuf_heq y z hv) k

/-- The same function of one operand on both sides, at typed references. -/
theorem Sims.tunary {X Y : BufTy} {x : StableHlo.TRef s₁ X} {y : StableHlo.TRef s₁ Y} {x' : StableHlo.TRef s₂ X} {z : StableHlo.TRef s₂ Y}
    {f g : X.Contents Val → Y.Contents Val} (hf : Fresh ρ y.ref z.ref) (hm : (x.ref, x'.ref) ∈ ρ) (hv : f = g)
    (k : Sims ((y.ref, z.ref) :: ρ) ρ' l₁ r₁ l₂ r₂) :
    Sims ρ ρ' (StableHlo.TRef.unary (τ := τ₁) x y f :: l₁) r₁ (StableHlo.TRef.unary (τ := τ₂) x' z g :: l₂) r₂ :=
  Sims.one hf (fun V _ h => unary_result_ne _ _ _ _ _ V h) (fun W _ h => unary_result_ne _ _ _ _ _ W h)
    (fun V W ha => by
      rw [unary_result, unary_result]
      exact toBuf_heq y z (by rw [hv, ofBuf_eq x x' (ha _ hm)])) k

/-- The same function of two operands on both sides, at typed references. -/
theorem Sims.tbinary {A B Y : BufTy} {a : StableHlo.TRef s₁ A} {b : StableHlo.TRef s₁ B} {y : StableHlo.TRef s₁ Y}
    {a' : StableHlo.TRef s₂ A} {b' : StableHlo.TRef s₂ B} {z : StableHlo.TRef s₂ Y}
    {f g : A.Contents Val → B.Contents Val → Y.Contents Val} (hf : Fresh ρ y.ref z.ref) (ma : (a.ref, a'.ref) ∈ ρ) (mb : (b.ref, b'.ref) ∈ ρ)
    (hv : f = g) (k : Sims ((y.ref, z.ref) :: ρ) ρ' l₁ r₁ l₂ r₂) :
    Sims ρ ρ' (StableHlo.TRef.binary (τ := τ₁) a b y f :: l₁) r₁ (StableHlo.TRef.binary (τ := τ₂) a' b' z g :: l₂) r₂ :=
  Sims.one hf (fun V _ h => binary_result_ne _ _ _ _ _ _ _ V h) (fun W _ h => binary_result_ne _ _ _ _ _ _ _ W h)
    (fun V W ha => by
      rw [binary_result, binary_result]
      exact toBuf_heq y z (by rw [hv, ofBuf_eq a a' (ha _ ma), ofBuf_eq b b' (ha _ mb)])) k

/-- The same function of three operands on both sides, at typed references. -/
theorem Sims.tternary {C A B Y : BufTy} {c : StableHlo.TRef s₁ C} {a : StableHlo.TRef s₁ A} {b : StableHlo.TRef s₁ B} {y : StableHlo.TRef s₁ Y}
    {c' : StableHlo.TRef s₂ C} {a' : StableHlo.TRef s₂ A} {b' : StableHlo.TRef s₂ B} {z : StableHlo.TRef s₂ Y}
    {f g : C.Contents Val → A.Contents Val → B.Contents Val → Y.Contents Val} (hf : Fresh ρ y.ref z.ref) (mc : (c.ref, c'.ref) ∈ ρ)
    (ma : (a.ref, a'.ref) ∈ ρ) (mb : (b.ref, b'.ref) ∈ ρ)
    (hv : f = g) (k : Sims ((y.ref, z.ref) :: ρ) ρ' l₁ r₁ l₂ r₂) :
    Sims ρ ρ' (StableHlo.TRef.ternary (τ := τ₁) c a b y f :: l₁) r₁ (StableHlo.TRef.ternary (τ := τ₂) c' a' b' z g :: l₂) r₂ :=
  Sims.one hf (fun V _ h => ternary_result_ne _ _ _ _ _ _ _ _ _ V h) (fun W _ h => ternary_result_ne _ _ _ _ _ _ _ _ _ W h)
    (fun V W ha => by
      rw [ternary_result, ternary_result]
      exact toBuf_heq y z (by rw [hv, ofBuf_eq c c' (ha _ mc), ofBuf_eq a a' (ha _ ma), ofBuf_eq b b' (ha _ mb)])) k

/-- The same reshape on both sides, at typed references. -/
theorem Sims.treshape {X Y : BufTy} {x : StableHlo.TRef s₁ X} {y : StableHlo.TRef s₁ Y} {x' : StableHlo.TRef s₂ X} {z : StableHlo.TRef s₂ Y}
    {he hn he' hn'} (hf : Fresh ρ y.ref z.ref) (hm : (x.ref, x'.ref) ∈ ρ)
    (k : Sims ((y.ref, z.ref) :: ρ) ρ' l₁ r₁ l₂ r₂) :
    Sims ρ ρ' (StableHlo.TRef.reshape (Val := Val) (τ := τ₁) x y he hn :: l₁) r₁ (StableHlo.TRef.reshape (Val := Val) (τ := τ₂) x' z he' hn' :: l₂) r₂ :=
  Sims.reshape hf hm (x.ty_eq.trans x'.ty_eq.symm) (y.ty_eq.trans z.ty_eq.symm) k

end Cert.Sim
-- ==== Proof.PrefixOps.lean ====
/- The kernel's program and the reference's program choose the same thousand candidates per image: their first 155 host
   operations are the same, so what both go on from is the same. -/
module

public import proofs.«01_k».proof.Proof.Sim
public import proofs.«01_k».proof.Proof.RefRun
public import proofs.«01_k».proof.Proof.Gen.KernelIdeal.Launch

@[expose] public section

set_option maxRecDepth 32768
set_option maxHeartbeats 1000000

noncomputable section

namespace Cert.Sim

open Idealize.ShloMosaic Idealize.ShloMosaic.TcCoe Idealize.ShloMosaic.StableHlo Idealize.SL.Sem

variable {F : FTy → Type} [FloatOps F]

section
open Cert.KernelIdeal Cert.KernelIdeal.Gen
/-- The kernel's host operations after the candidate selection. -/
abbrev kRest : List (HloOp τ sig (Elt F)) :=
  [ StableHlo.TRef.unary (.of main_arg4 : StableHlo.TRef sig ⟨S4x2, .i32⟩) (.of main_call0_v65 : StableHlo.TRef sig ⟨S4x1, .i32⟩) (extractStridedSlice S4x1 ![0, 0] · slices_S4x2_S4x1_0_0),
    StableHlo.TRef.reshape (.of main_call0_v65 : StableHlo.TRef sig ⟨S4x1, .i32⟩) (.of main_call0_v66 : StableHlo.TRef sig ⟨S4, .i32⟩) (rfl : (.i32 : EltTy) = .i32) shapeCasts_S4x1_S4,
    StableHlo.TRef.unary (.of main_call0_v66 : StableHlo.TRef sig ⟨S4, .i32⟩) (.of main_call0_v67 : StableHlo.TRef sig ⟨S4, .f32⟩) (sitofp .f32),
    StableHlo.TRef.nullary (.of main_call0_cst_8 : StableHlo.TRef sig ⟨S_, .f32⟩) (constant S_ .f32 0x3F800000#32),
    StableHlo.TRef.unary (.of main_call0_cst_8 : StableHlo.TRef sig ⟨S_, .f32⟩) (.of main_call0_v68 : StableHlo.TRef sig ⟨S4, .f32⟩) (broadcastInDim S4 ![] bcast_S_S4),
    StableHlo.TRef.binary (.of main_call0_v67 : StableHlo.TRef sig ⟨S4, .f32⟩) (.of main_call0_v68 : StableHlo.TRef sig ⟨S4, .f32⟩) (.of main_call0_v69 : StableHlo.TRef sig ⟨S4, .f32⟩) subf,
    StableHlo.TRef.unary (.of main_call0_v69 : StableHlo.TRef sig ⟨S4, .f32⟩) (.of main_call0_v70 : StableHlo.TRef sig ⟨S4x1, .f32⟩) (broadcastInDim S4x1 ![0] bcast_S4_S4x1_0),
    StableHlo.TRef.unary (.of main_arg4 : StableHlo.TRef sig ⟨S4x2, .i32⟩) (.of main_call0_v71 : StableHlo.TRef sig ⟨S4x1, .i32⟩) (extractStridedSlice S4x1 ![0, 1] · slices_S4x2_S4x1_0_1),
    StableHlo.TRef.reshape (.of main_call0_v71 : StableHlo.TRef sig ⟨S4x1, .i32⟩) (.of main_call0_v72 : StableHlo.TRef sig ⟨S4, .i32⟩) (rfl : (.i32 : EltTy) = .i32) shapeCasts_S4x1_S4,
    StableHlo.TRef.unary (.of main_call0_v72 : StableHlo.TRef sig ⟨S4, .i32⟩) (.of main_call0_v73 : StableHlo.TRef sig ⟨S4, .f32⟩) (sitofp .f32),
    StableHlo.TRef.nullary (.of main_call0_cst_9 : StableHlo.TRef sig ⟨S_, .f32⟩) (constant S_ .f32 0x3F800000#32),
    StableHlo.TRef.unary (.of main_call0_cst_9 : StableHlo.TRef sig ⟨S_, .f32⟩) (.of main_call0_v74 : StableHlo.TRef sig ⟨S4, .f32⟩) (broadcastInDim S4 ![] bcast_S_S4),
    StableHlo.TRef.binary (.of main_call0_v73 : StableHlo.TRef sig ⟨S4, .f32⟩) (.of main_call0_v74 : StableHlo.TRef sig ⟨S4, .f32⟩) (.of main_call0_v75 : StableHlo.TRef sig ⟨S4, .f32⟩) subf,
    StableHlo.TRef.unary (.of main_call0_v75 : StableHlo.TRef sig ⟨S4, .f32⟩) (.of main_call0_v76 : StableHlo.TRef sig ⟨S4x1, .f32⟩) (broadcastInDim S4x1 ![0] bcast_S4_S4x1_0),
    StableHlo.TRef.nullary (.of main_call0_cst_10 : StableHlo.TRef sig ⟨S_, .f32⟩) (constant S_ .f32 0x00000000#32),
    StableHlo.TRef.unary (.of main_call0_cst_10 : StableHlo.TRef sig ⟨S_, .f32⟩) (.of main_call0_call4_v0 : StableHlo.TRef sig ⟨S_, .f32⟩) id,
    StableHlo.TRef.unary (.of main_call0_call4_v0 : StableHlo.TRef sig ⟨S_, .f32⟩) (.of main_call0_call4_v1 : StableHlo.TRef sig ⟨S4x1000, .f32⟩) (broadcastInDim S4x1000 ![] bcast_S_S4x1000),
    StableHlo.TRef.binary (.of main_call0_call4_v1 : StableHlo.TRef sig ⟨S4x1000, .f32⟩) (.of main_call0_v49 : StableHlo.TRef sig ⟨S4x1000, .f32⟩) (.of main_call0_call4_v2 : StableHlo.TRef sig ⟨S4x1000, .f32⟩) maximumf,
    StableHlo.TRef.unary (.of main_call0_v70 : StableHlo.TRef sig ⟨S4x1, .f32⟩) (.of main_call0_call4_v3 : StableHlo.TRef sig ⟨S4x1000, .f32⟩) (broadcastInDim S4x1000 ![0, 1] bcast_S4x1_S4x1000_0_1),
    StableHlo.TRef.binary (.of main_call0_call4_v3 : StableHlo.TRef sig ⟨S4x1000, .f32⟩) (.of main_call0_call4_v2 : StableHlo.TRef sig ⟨S4x1000, .f32⟩) (.of main_call0_v77 : StableHlo.TRef sig ⟨S4x1000, .f32⟩) minimumf,
    StableHlo.TRef.nullary (.of main_call0_cst_11 : StableHlo.TRef sig ⟨S_, .f32⟩) (constant S_ .f32 0x00000000#32),
    StableHlo.TRef.unary (.of main_call0_cst_11 : StableHlo.TRef sig ⟨S_, .f32⟩) (.of main_call0_call5_v0 : StableHlo.TRef sig ⟨S_, .f32⟩) id,
    StableHlo.TRef.unary (.of main_call0_call5_v0 : StableHlo.TRef sig ⟨S_, .f32⟩) (.of main_call0_call5_v1 : StableHlo.TRef sig ⟨S4x1000, .f32⟩) (broadcastInDim S4x1000 ![] bcast_S_S4x1000),
    StableHlo.TRef.binary (.of main_call0_call5_v1 : StableHlo.TRef sig ⟨S4x1000, .f32⟩) (.of main_call0_v54 : StableHlo.TRef sig ⟨S4x1000, .f32⟩) (.of main_call0_call5_v2 : StableHlo.TRef sig ⟨S4x1000, .f32⟩) maximumf,
    StableHlo.TRef.unary (.of main_call0_v76 : StableHlo.TRef sig ⟨S4x1, .f32⟩) (.of main_call0_call5_v3 : StableHlo.TRef sig ⟨S4x1000, .f32⟩) (broadcastInDim S4x1000 ![0, 1] bcast_S4x1_S4x1000_0_1),
    StableHlo.TRef.binary (.of main_call0_call5_v3 : StableHlo.TRef sig ⟨S4x1000, .f32⟩) (.of main_call0_call5_v2 : StableHlo.TRef sig ⟨S4x1000, .f32⟩) (.of main_call0_v78 : StableHlo.TRef sig ⟨S4x1000, .f32⟩) minimumf,
    StableHlo.TRef.nullary (.of main_call0_cst_12 : StableHlo.TRef sig ⟨S_, .f32⟩) (constant S_ .f32 0x00000000#32),
    StableHlo.TRef.unary (.of main_call0_cst_12 : StableHlo.TRef sig ⟨S_, .f32⟩) (.of main_call0_call6_v0 : StableHlo.TRef sig ⟨S_, .f32⟩) id,
    StableHlo.TRef.unary (.of main_call0_call6_v0 : StableHlo.TRef sig ⟨S_, .f32⟩) (.of main_call0_call6_v1 : StableHlo.TRef sig ⟨S4x1000, .f32⟩) (broadcastInDim S4x1000 ![] bcast_S_S4x1000),
    StableHlo.TRef.binary (.of main_call0_call6_v1 : StableHlo.TRef sig ⟨S4x1000, .f32⟩) (.of main_call0_v59 : StableHlo.TRef sig ⟨S4x1000, .f32⟩) (.of main_call0_call6_v2 : StableHlo.TRef sig ⟨S4x1000, .f32⟩) maximumf,
    StableHlo.TRef.unary (.of main_call0_v70 : StableHlo.TRef sig ⟨S4x1, .f32⟩) (.of main_call0_call6_v3 : StableHlo.TRef sig ⟨S4x1000, .f32⟩) (broadcastInDim S4x1000 ![0, 1] bcast_S4x1_S4x1000_0_1),
    StableHlo.TRef.binary (.of main_call0_call6_v3 : StableHlo.TRef sig ⟨S4x1000, .f32⟩) (.of main_call0_call6_v2 : StableHlo.TRef sig ⟨S4x1000, .f32⟩) (.of main_call0_v79 : StableHlo.TRef sig ⟨S4x1000, .f32⟩) minimumf,
    StableHlo.TRef.nullary (.of main_call0_cst_13 : StableHlo.TRef sig ⟨S_, .f32⟩) (constant S_ .f32 0x00000000#32),
    StableHlo.TRef.unary (.of main_call0_cst_13 : StableHlo.TRef sig ⟨S_, .f32⟩) (.of main_call0_call7_v0 : StableHlo.TRef sig ⟨S_, .f32⟩) id,
    StableHlo.TRef.unary (.of main_call0_call7_v0 : StableHlo.TRef sig ⟨S_, .f32⟩) (.of main_call0_call7_v1 : StableHlo.TRef sig ⟨S4x1000, .f32⟩) (broadcastInDim S4x1000 ![] bcast_S_S4x1000),
    StableHlo.TRef.binary (.of main_call0_call7_v1 : StableHlo.TRef sig ⟨S4x1000, .f32⟩) (.of main_call0_v64 : StableHlo.TRef sig ⟨S4x1000, .f32⟩) (.of main_call0_call7_v2 : StableHlo.TRef sig ⟨S4x1000, .f32⟩) maximumf,
    StableHlo.TRef.unary (.of main_call0_v76 : StableHlo.TRef sig ⟨S4x1, .f32⟩) (.of main_call0_call7_v3 : StableHlo.TRef sig ⟨S4x1000, .f32⟩) (broadcastInDim S4x1000 ![0, 1] bcast_S4x1_S4x1000_0_1),
    StableHlo.TRef.binary (.of main_call0_call7_v3 : StableHlo.TRef sig ⟨S4x1000, .f32⟩) (.of main_call0_call7_v2 : StableHlo.TRef sig ⟨S4x1000, .f32⟩) (.of main_call0_v80 : StableHlo.TRef sig ⟨S4x1000, .f32⟩) minimumf,
    StableHlo.TRef.binary main_call0_call6.v4 main_call0_call4.v4 (.of main_call0_v81 : StableHlo.TRef sig ⟨S4x1000, .f32⟩) subf,
    StableHlo.TRef.nullary (.of main_call0_cst_14 : StableHlo.TRef sig ⟨S_, .f32⟩) (constant S_ .f32 0x00000000#32),
    StableHlo.TRef.unary (.of main_call0_cst_14 : StableHlo.TRef sig ⟨S_, .f32⟩) (.of main_call0_v82 : StableHlo.TRef sig ⟨S4x1000, .f32⟩) (broadcastInDim S4x1000 ![] bcast_S_S4x1000),
    StableHlo.TRef.binary (.of main_call0_v81 : StableHlo.TRef sig ⟨S4x1000, .f32⟩) (.of main_call0_v82 : StableHlo.TRef sig ⟨S4x1000, .f32⟩) (.of main_call0_v83 : StableHlo.TRef sig ⟨S4x1000, .i1⟩) (cmpf .oge),
    StableHlo.TRef.binary main_call0_call2.v15 (.of main_call0_v83 : StableHlo.TRef sig ⟨S4x1000, .i1⟩) (.of main_call0_v84 : StableHlo.TRef sig ⟨S4x1000, .i1⟩) andi,
    StableHlo.TRef.binary main_call0_call7.v4 main_call0_call5.v4 (.of main_call0_v85 : StableHlo.TRef sig ⟨S4x1000, .f32⟩) subf,
    StableHlo.TRef.nullary (.of main_call0_cst_15 : StableHlo.TRef sig ⟨S_, .f32⟩) (constant S_ .f32 0x00000000#32),
    StableHlo.TRef.unary (.of main_call0_cst_15 : StableHlo.TRef sig ⟨S_, .f32⟩) (.of main_call0_v86 : StableHlo.TRef sig ⟨S4x1000, .f32⟩) (broadcastInDim S4x1000 ![] bcast_S_S4x1000),
    StableHlo.TRef.binary (.of main_call0_v85 : StableHlo.TRef sig ⟨S4x1000, .f32⟩) (.of main_call0_v86 : StableHlo.TRef sig ⟨S4x1000, .f32⟩) (.of main_call0_v87 : StableHlo.TRef sig ⟨S4x1000, .i1⟩) (cmpf .oge),
    StableHlo.TRef.binary (.of main_call0_v84 : StableHlo.TRef sig ⟨S4x1000, .i1⟩) (.of main_call0_v87 : StableHlo.TRef sig ⟨S4x1000, .i1⟩) (.of main_call0_v88 : StableHlo.TRef sig ⟨S4x1000, .i1⟩) andi,
    StableHlo.TRef.nullary (.of main_call0_cst_16 : StableHlo.TRef sig ⟨S_, .f32⟩) (constant S_ .f32 0x2B8CBCCC#32),
    StableHlo.TRef.unary (.of main_call0_cst_16 : StableHlo.TRef sig ⟨S_, .f32⟩) (.of main_call0_call8_v0 : StableHlo.TRef sig ⟨S_, .f32⟩) id,
    StableHlo.TRef.unary (.of main_call0_call8_v0 : StableHlo.TRef sig ⟨S_, .f32⟩) (.of main_call0_call8_v1 : StableHlo.TRef sig ⟨S4x1000, .f32⟩) (broadcastInDim S4x1000 ![] bcast_S_S4x1000),
    StableHlo.TRef.binary (.of main_call0_call8_v1 : StableHlo.TRef sig ⟨S4x1000, .f32⟩) (.of main_call0_values : StableHlo.TRef sig ⟨S4x1000, .f32⟩) (.of main_call0_v89 : StableHlo.TRef sig ⟨S4x1000, .f32⟩) maximumf,
    StableHlo.TRef.unary main_call0_call8.v2 (.of main_call0_v90 : StableHlo.TRef sig ⟨S4x1000, .f32⟩) Host.sqrt,
    StableHlo.TRef.unary (.of main_call0_v33 : StableHlo.TRef sig ⟨S4x1000, .i32⟩) (.of main_call0_v91 : StableHlo.TRef sig ⟨S4x1000, .f32⟩) (sitofp .f32),
    StableHlo.TRef.unary (.of main_call0_v88 : StableHlo.TRef sig ⟨S4x1000, .i1⟩) (.of main_call0_v92 : StableHlo.TRef sig ⟨S4x1000, .f32⟩) (uitofp .f32),
    StableHlo.TRef.unary main_call0_call4.v4 (.of main_call0_v93 : StableHlo.TRef sig ⟨S4x1x1000, .f32⟩) (broadcastInDim S4x1x1000 ![0, 2] bcast_S4x1000_S4x1x1000_0_2),
    StableHlo.TRef.unary main_call0_call5.v4 (.of main_call0_v94 : StableHlo.TRef sig ⟨S4x1x1000, .f32⟩) (broadcastInDim S4x1x1000 ![0, 2] bcast_S4x1000_S4x1x1000_0_2),
    StableHlo.TRef.unary main_call0_call6.v4 (.of main_call0_v95 : StableHlo.TRef sig ⟨S4x1x1000, .f32⟩) (broadcastInDim S4x1x1000 ![0, 2] bcast_S4x1000_S4x1x1000_0_2),
    StableHlo.TRef.unary main_call0_call7.v4 (.of main_call0_v96 : StableHlo.TRef sig ⟨S4x1x1000, .f32⟩) (broadcastInDim S4x1x1000 ![0, 2] bcast_S4x1000_S4x1x1000_0_2),
    StableHlo.TRef.unary (.of main_call0_v90 : StableHlo.TRef sig ⟨S4x1000, .f32⟩) (.of main_call0_v97 : StableHlo.TRef sig ⟨S4x1x1000, .f32⟩) (broadcastInDim S4x1x1000 ![0, 2] bcast_S4x1000_S4x1x1000_0_2),
    StableHlo.TRef.unary (.of main_call0_v91 : StableHlo.TRef sig ⟨S4x1000, .f32⟩) (.of main_call0_v98 : StableHlo.TRef sig ⟨S4x1x1000, .f32⟩) (broadcastInDim S4x1x1000 ![0, 2] bcast_S4x1000_S4x1x1000_0_2),
    StableHlo.TRef.unary (.of main_call0_v92 : StableHlo.TRef sig ⟨S4x1000, .f32⟩) (.of main_call0_v99 : StableHlo.TRef sig ⟨S4x1x1000, .f32⟩) (broadcastInDim S4x1x1000 ![0, 2] bcast_S4x1000_S4x1x1000_0_2),
    StableHlo.TRef.nary ![(.of main_call0_v93 : StableHlo.TRef sig ⟨S4x1x1000, .f32⟩), (.of main_call0_v94 : StableHlo.TRef sig ⟨S4x1x1000, .f32⟩), (.of main_call0_v95 : StableHlo.TRef sig ⟨S4x1x1000, .f32⟩), (.of main_call0_v96 : StableHlo.TRef sig ⟨S4x1x1000, .f32⟩), (.of main_call0_v97 : StableHlo.TRef sig ⟨S4x1x1000, .f32⟩), (.of main_call0_v98 : StableHlo.TRef sig ⟨S4x1x1000, .f32⟩), (.of main_call0_v99 : StableHlo.TRef sig ⟨S4x1x1000, .f32⟩)] (.of main_call0_v100 : StableHlo.TRef sig ⟨S4x7x1000, .f32⟩) (fun u => (concatenate S4x7x1000 1 [⟨S4x1x1000, (u 0 : (⟨S4x1x1000, .f32⟩ : BufTy).Contents (Elt F))⟩, ⟨S4x1x1000, (u 1 : (⟨S4x1x1000, .f32⟩ : BufTy).Contents (Elt F))⟩, ⟨S4x1x1000, (u 2 : (⟨S4x1x1000, .f32⟩ : BufTy).Contents (Elt F))⟩, ⟨S4x1x1000, (u 3 : (⟨S4x1x1000, .f32⟩ : BufTy).Contents (Elt F))⟩, ⟨S4x1x1000, (u 4 : (⟨S4x1x1000, .f32⟩ : BufTy).Contents (Elt F))⟩, ⟨S4x1x1000, (u 5 : (⟨S4x1x1000, .f32⟩ : BufTy).Contents (Elt F))⟩, ⟨S4x1x1000, (u 6 : (⟨S4x1x1000, .f32⟩ : BufTy).Contents (Elt F))⟩] concatenates_S4x1x1000_S4x1x1000_S4x1x1000_S4x1x1000_S4x1x1000_S4x1x1000_S4x1x1000_S4x7x1000_d1 : (⟨S4x7x1000, .f32⟩ : BufTy).Contents (Elt F))),
    StableHlo.TRef.nullary (.of main_call0_c_17 : StableHlo.TRef sig ⟨S_, .i32⟩) (constantI S_ 32 0#32),
    StableHlo.TRef.unary (.of main_call0_c_17 : StableHlo.TRef sig ⟨S_, .i32⟩) (.of main_call0_call9_v0 : StableHlo.TRef sig ⟨S_, .f32⟩) (sitofp .f32),
    StableHlo.TRef.binary (.of main_call0_v100 : StableHlo.TRef sig ⟨S4x7x1000, .f32⟩) (.of main_call0_call9_v0 : StableHlo.TRef sig ⟨S_, .f32⟩) (.of main_call0_v101 : StableHlo.TRef sig ⟨S4x7x1024, .f32⟩) (fun x v => pad S4x7x1024 ![0, 0, 0] ![0, 0, 24] ![0, 0, 0] x v pads_S4x7x1000_S4x7x1024_000_000_0240 h_S_),
    StableHlo.TRef.reshape main_call0_call9.v1 (.of main_call0_v102 : StableHlo.TRef sig ⟨S4x7x8x128, .f32⟩) (rfl : (.f32 : EltTy) = .f32) shapeCasts_S4x7x1024_S4x7x8x128 ]
end

section
open Cert.ReferenceIdeal Cert.ReferenceIdeal.Gen
/-- The reference's host operations between the candidate selection and its loop. -/
abbrev rRest : List (HloOp τ sig (Elt F)) :=
  [ StableHlo.unary main_v49 main_v65 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v54 main_v66 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v59 main_v67 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v64 main_v68 (broadcastInDim S4x1000x1 ![0, 1] bcast_S4x1000_S4x1000x1_0_1 : (⟨S4x1000, .f32⟩ : BufTy).Contents (Elt F) → (⟨S4x1000x1, .f32⟩ : BufTy).Contents (Elt F)),
    StableHlo.nary ![main_v65, main_v66, main_v67, main_v68] main_v69 (fun u => (concatenate S4x1000x4 2 [⟨S4x1000x1, (u 0 : (⟨S4x1000x1, .f32⟩ : BufTy).Contents (Elt F))⟩, ⟨S4x1000x1, (u 1 : (⟨S4x1000x1, .f32⟩ : BufTy).Contents (Elt F))⟩, ⟨S4x1000x1, (u 2 : (⟨S4x1000x1, .f32⟩ : BufTy).Contents (Elt F))⟩, ⟨S4x1000x1, (u 3 : (⟨S4x1000x1, .f32⟩ : BufTy).Contents (Elt F))⟩] concatenates_S4x1000x1_S4x1000x1_S4x1000x1_S4x1000x1_S4x1000x4_d2 : (⟨S4x1000x4, .f32⟩ : BufTy).Contents (Elt F))),
    StableHlo.unary main_arg4 main_v70 ((extractStridedSlice S4x1 ![0, 0] · slices_S4x2_S4x1_0_0) : (⟨S4x2, .i32⟩ : BufTy).Contents (Elt F) → (⟨S4x1, .i32⟩ : BufTy).Contents (Elt F)),
    StableHlo.reshape main_v70 main_v71 (rfl : (.i32 : EltTy) = .i32) shapeCasts_S4x1_S4,
    StableHlo.unary main_v71 main_v72 (sitofp .f32 : (⟨S4, .i32⟩ : BufTy).Contents (Elt F) → (⟨S4, .f32⟩ : BufTy).Contents (Elt F)),
    StableHlo.nullary main_cst_8 (constant S_ .f32 0x3F800000#32),
    StableHlo.unary main_cst_8 main_v73 (broadcastInDim S4 ![] bcast_S_S4 : (⟨S_, .f32⟩ : BufTy).Contents (Elt F) → (⟨S4, .f32⟩ : BufTy).Contents (Elt F)),
    StableHlo.binary main_v72 main_v73 main_v74 (subf : (⟨S4, .f32⟩ : BufTy).Contents (Elt F) → (⟨S4, .f32⟩ : BufTy).Contents (Elt F) → (⟨S4, .f32⟩ : BufTy).Contents (Elt F)),
    StableHlo.unary main_v74 main_v75 (broadcastInDim S4x1 ![0] bcast_S4_S4x1_0 : (⟨S4, .f32⟩ : BufTy).Contents (Elt F) → (⟨S4x1, .f32⟩ : BufTy).Contents (Elt F)),
    StableHlo.unary main_arg4 main_v76 ((extractStridedSlice S4x1 ![0, 1] · slices_S4x2_S4x1_0_1) : (⟨S4x2, .i32⟩ : BufTy).Contents (Elt F) → (⟨S4x1, .i32⟩ : BufTy).Contents (Elt F)),
    StableHlo.reshape main_v76 main_v77 (rfl : (.i32 : EltTy) = .i32) shapeCasts_S4x1_S4,
    StableHlo.unary main_v77 main_v78 (sitofp .f32 : (⟨S4, .i32⟩ : BufTy).Contents (Elt F) → (⟨S4, .f32⟩ : BufTy).Contents (Elt F)),
    StableHlo.nullary main_cst_9 (constant S_ .f32 0x3F800000#32),
    StableHlo.unary main_cst_9 main_v79 (broadcastInDim S4 ![] bcast_S_S4 : (⟨S_, .f32⟩ : BufTy).Contents (Elt F) → (⟨S4, .f32⟩ : BufTy).Contents (Elt F)),
    StableHlo.binary main_v78 main_v79 main_v80 (subf : (⟨S4, .f32⟩ : BufTy).Contents (Elt F) → (⟨S4, .f32⟩ : BufTy).Contents (Elt F) → (⟨S4, .f32⟩ : BufTy).Contents (Elt F)),
    StableHlo.unary main_v80 main_v81 (broadcastInDim S4x1 ![0] bcast_S4_S4x1_0 : (⟨S4, .f32⟩ : BufTy).Contents (Elt F) → (⟨S4x1, .f32⟩ : BufTy).Contents (Elt F)),
    StableHlo.unary main_v69 main_v82 ((extractStridedSlice S4x1000x1 ![0, 0, 0] · slices_S4x1000x4_S4x1000x1_0_0_0) : (⟨S4x1000x4, .f32⟩ : BufTy).Contents (Elt F) → (⟨S4x1000x1, .f32⟩ : BufTy).Contents (Elt F)),
    StableHlo.reshape main_v82 main_v83 (rfl : (.f32 : EltTy) = .f32) shapeCasts_S4x1000x1_S4x1000,
    StableHlo.nullary main_cst_10 (constant S_ .f32 0x00000000#32),
    StableHlo.TRef.unary (.of main_cst_10 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S4x1000, .f32⟩) (broadcastInDim S4x1000 ![] bcast_S_S4x1000),
    StableHlo.TRef.binary (.of main_call4_v1 : StableHlo.TRef sig ⟨S4x1000, .f32⟩) (.of main_v83 : StableHlo.TRef sig ⟨S4x1000, .f32⟩) (.of main_call4_v2 : StableHlo.TRef sig ⟨S4x1000, .f32⟩) maximumf,
    StableHlo.TRef.unary (.of main_v75 : StableHlo.TRef sig ⟨S4x1, .f32⟩) (.of main_call4_v3 : StableHlo.TRef sig ⟨S4x1000, .f32⟩) (broadcastInDim S4x1000 ![0, 1] bcast_S4x1_S4x1000_0_1),
    StableHlo.TRef.binary (.of main_call4_v3 : StableHlo.TRef sig ⟨S4x1000, .f32⟩) (.of main_call4_v2 : StableHlo.TRef sig ⟨S4x1000, .f32⟩) (.of main_v84 : StableHlo.TRef sig ⟨S4x1000, .f32⟩) minimumf,
    StableHlo.unary main_v69 main_v85 ((extractStridedSlice S4x1000x1 ![0, 0, 1] · slices_S4x1000x4_S4x1000x1_0_0_1) : (⟨S4x1000x4, .f32⟩ : BufTy).Contents (Elt F) → (⟨S4x1000x1, .f32⟩ : BufTy).Contents (Elt F)),
    StableHlo.reshape main_v85 main_v86 (rfl : (.f32 : EltTy) = .f32) shapeCasts_S4x1000x1_S4x1000,
    StableHlo.nullary main_cst_11 (constant S_ .f32 0x00000000#32),
    StableHlo.TRef.unary (.of main_cst_11 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S4x1000, .f32⟩) (broadcastInDim S4x1000 ![] bcast_S_S4x1000),
    StableHlo.TRef.binary (.of main_call5_v1 : StableHlo.TRef sig ⟨S4x1000, .f32⟩) (.of main_v86 : StableHlo.TRef sig ⟨S4x1000, .f32⟩) (.of main_call5_v2 : StableHlo.TRef sig ⟨S4x1000, .f32⟩) maximumf,
    StableHlo.TRef.unary (.of main_v81 : StableHlo.TRef sig ⟨S4x1, .f32⟩) (.of main_call5_v3 : StableHlo.TRef sig ⟨S4x1000, .f32⟩) (broadcastInDim S4x1000 ![0, 1] bcast_S4x1_S4x1000_0_1),
    StableHlo.TRef.binary (.of main_call5_v3 : StableHlo.TRef sig ⟨S4x1000, .f32⟩) (.of main_call5_v2 : StableHlo.TRef sig ⟨S4x1000, .f32⟩) (.of main_v87 : StableHlo.TRef sig ⟨S4x1000, .f32⟩) minimumf,
    StableHlo.unary main_v69 main_v88 ((extractStridedSlice S4x1000x1 ![0, 0, 2] · slices_S4x1000x4_S4x1000x1_0_0_2) : (⟨S4x1000x4, .f32⟩ : BufTy).Contents (Elt F) → (⟨S4x1000x1, .f32⟩ : BufTy).Contents (Elt F)),
    StableHlo.reshape main_v88 main_v89 (rfl : (.f32 : EltTy) = .f32) shapeCasts_S4x1000x1_S4x1000,
    StableHlo.nullary main_cst_12 (constant S_ .f32 0x00000000#32),
    StableHlo.TRef.unary (.of main_cst_12 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S4x1000, .f32⟩) (broadcastInDim S4x1000 ![] bcast_S_S4x1000),
    StableHlo.TRef.binary (.of main_call6_v1 : StableHlo.TRef sig ⟨S4x1000, .f32⟩) (.of main_v89 : StableHlo.TRef sig ⟨S4x1000, .f32⟩) (.of main_call6_v2 : StableHlo.TRef sig ⟨S4x1000, .f32⟩) maximumf,
    StableHlo.TRef.unary (.of main_v75 : StableHlo.TRef sig ⟨S4x1, .f32⟩) (.of main_call6_v3 : StableHlo.TRef sig ⟨S4x1000, .f32⟩) (broadcastInDim S4x1000 ![0, 1] bcast_S4x1_S4x1000_0_1),
    StableHlo.TRef.binary (.of main_call6_v3 : StableHlo.TRef sig ⟨S4x1000, .f32⟩) (.of main_call6_v2 : StableHlo.TRef sig ⟨S4x1000, .f32⟩) (.of main_v90 : StableHlo.TRef sig ⟨S4x1000, .f32⟩) minimumf,
    StableHlo.unary main_v69 main_v91 ((extractStridedSlice S4x1000x1 ![0, 0, 3] · slices_S4x1000x4_S4x1000x1_0_0_3) : (⟨S4x1000x4, .f32⟩ : BufTy).Contents (Elt F) → (⟨S4x1000x1, .f32⟩ : BufTy).Contents (Elt F)),
    StableHlo.reshape main_v91 main_v92 (rfl : (.f32 : EltTy) = .f32) shapeCasts_S4x1000x1_S4x1000,
    StableHlo.nullary main_cst_13 (constant S_ .f32 0x00000000#32),
    StableHlo.TRef.unary (.of main_cst_13 : StableHlo.TRef sig ⟨S_, .f32⟩) (.of main_call7_v0 : StableHlo.TRef sig ⟨S_, .f32⟩) id,
    StableHlo.TRef.unary (.of main_call7_v0 : StableHlo.TRef sig ⟨S_, .f32⟩) (.of main_call7_v1 : StableHlo.TRef sig ⟨S4x1000, .f32⟩) (broadcastInDim S4x1000 ![] bcast_S_S4x1000),
    StableHlo.TRef.binary (.of main_call7_v1 : StableHlo.TRef sig ⟨S4x1000, .f32⟩) (.of main_v92 : StableHlo.TRef sig ⟨S4x1000, .f32⟩) (.of main_call7_v2 : StableHlo.TRef sig ⟨S4x1000, .f32⟩) maximumf,
    StableHlo.TRef.unary (.of main_v81 : StableHlo.TRef sig ⟨S4x1, .f32⟩) (.of main_call7_v3 : StableHlo.TRef sig ⟨S4x1000, .f32⟩) (broadcastInDim S4x1000 ![0, 1] bcast_S4x1_S4x1000_0_1),
    StableHlo.TRef.binary (.of main_call7_v3 : StableHlo.TRef sig ⟨S4x1000, .f32⟩) (.of main_call7_v2 : StableHlo.TRef sig ⟨S4x1000, .f32⟩) (.of main_v93 : StableHlo.TRef sig ⟨S4x1000, .f32⟩) minimumf,
    StableHlo.unary main_v84 main_v94 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v87 main_v95 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v90 main_v96 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v93 main_v97 (broadcastInDim S4x1000x1 ![0, 1] bcast_S4x1000_S4x1000x1_0_1 : (⟨S4x1000, .f32⟩ : BufTy).Contents (Elt F) → (⟨S4x1000x1, .f32⟩ : BufTy).Contents (Elt F)),
    StableHlo.nary ![main_v94, main_v95, main_v96, main_v97] main_v98 (fun u => (concatenate S4x1000x4 2 [⟨S4x1000x1, (u 0 : (⟨S4x1000x1, .f32⟩ : BufTy).Contents (Elt F))⟩, ⟨S4x1000x1, (u 1 : (⟨S4x1000x1, .f32⟩ : BufTy).Contents (Elt F))⟩, ⟨S4x1000x1, (u 2 : (⟨S4x1000x1, .f32⟩ : BufTy).Contents (Elt F))⟩, ⟨S4x1000x1, (u 3 : (⟨S4x1000x1, .f32⟩ : BufTy).Contents (Elt F))⟩] concatenates_S4x1000x1_S4x1000x1_S4x1000x1_S4x1000x1_S4x1000x4_d2 : (⟨S4x1000x4, .f32⟩ : BufTy).Contents (Elt F))),
    StableHlo.binary main_v90 main_v84 main_v99 (subf : (⟨S4x1000, .f32⟩ : BufTy).Contents (Elt F) → (⟨S4x1000, .f32⟩ : BufTy).Contents (Elt F) → (⟨S4x1000, .f32⟩ : BufTy).Contents (Elt F)),
    StableHlo.nullary main_cst_14 (constant S_ .f32 0x00000000#32),
    StableHlo.unary main_cst_14 main_v100 (broadcastInDim S4x1000 ![] bcast_S_S4x1000 : (⟨S_, .f32⟩ : BufTy).Contents (Elt F) → (⟨S4x1000, .f32⟩ : BufTy).Contents (Elt F)),
    StableHlo.binary main_v99 main_v100 main_v101 (cmpf .oge : (⟨S4x1000, .f32⟩ : BufTy).Contents (Elt F) → (⟨S4x1000, .f32⟩ : BufTy).Contents (Elt F) → (⟨S4x1000, .i1⟩ : BufTy).Contents (Elt F)),
    StableHlo.binary main_v35 main_v101 main_v102 (andi : (⟨S4x1000, .i1⟩ : BufTy).Contents (Elt F) → (⟨S4x1000, .i1⟩ : BufTy).Contents (Elt F) → (⟨S4x1000, .i1⟩ : BufTy).Contents (Elt F)),
    StableHlo.binary main_v93 main_v87 main_v103 (subf : (⟨S4x1000, .f32⟩ : BufTy).Contents (Elt F) → (⟨S4x1000, .f32⟩ : BufTy).Contents (Elt F) → (⟨S4x1000, .f32⟩ : BufTy).Contents (Elt F)),
    StableHlo.nullary main_cst_15 (constant S_ .f32 0x00000000#32),
    StableHlo.unary main_cst_15 main_v104 (broadcastInDim S4x1000 ![] bcast_S_S4x1000 : (⟨S_, .f32⟩ : BufTy).Contents (Elt F) → (⟨S4x1000, .f32⟩ : BufTy).Contents (Elt F)),
    StableHlo.binary main_v103 main_v104 main_v105 (cmpf .oge : (⟨S4x1000, .f32⟩ : BufTy).Contents (Elt F) → (⟨S4x1000, .f32⟩ : BufTy).Contents (Elt F) → (⟨S4x1000, .i1⟩ : BufTy).Contents (Elt F)),
    StableHlo.binary main_v102 main_v105 main_v106 (andi : (⟨S4x1000, .i1⟩ : BufTy).Contents (Elt F) → (⟨S4x1000, .i1⟩ : BufTy).Contents (Elt F) → (⟨S4x1000, .i1⟩ : BufTy).Contents (Elt F)),
    StableHlo.nullary main_cst_16 (constant S_ .f32 0x2B8CBCCC#32),
    StableHlo.TRef.unary (.of main_cst_16 : StableHlo.TRef sig ⟨S_, .f32⟩) (.of main_call8_v0 : StableHlo.TRef sig ⟨S_, .f32⟩) id,
    StableHlo.TRef.unary (.of main_call8_v0 : StableHlo.TRef sig ⟨S_, .f32⟩) (.of main_call8_v1 : StableHlo.TRef sig ⟨S4x1000, .f32⟩) (broadcastInDim S4x1000 ![] bcast_S_S4x1000),
    StableHlo.TRef.binary (.of main_call8_v1 : StableHlo.TRef sig ⟨S4x1000, .f32⟩) (.of main_values : StableHlo.TRef sig ⟨S4x1000, .f32⟩) (.of main_v107 : StableHlo.TRef sig ⟨S4x1000, .f32⟩) maximumf,
    StableHlo.unary main_v107 main_v108 (Host.sqrt : (⟨S4x1000, .f32⟩ : BufTy).Contents (Elt F) → (⟨S4x1000, .f32⟩ : BufTy).Contents (Elt F)),
    StableHlo.unary main_v33 main_v109 (sitofp .f32 : (⟨S4x1000, .i32⟩ : BufTy).Contents (Elt F) → (⟨S4x1000, .f32⟩ : BufTy).Contents (Elt F)),
    StableHlo.nullary main_cst_17 (constant S_ .f32 0x47C35000#32),
    StableHlo.unary main_cst_17 main_v110 (broadcastInDim S4x1000 ![] bcast_S_S4x1000 : (⟨S_, .f32⟩ : BufTy).Contents (Elt F) → (⟨S4x1000, .f32⟩ : BufTy).Contents (Elt F)),
    StableHlo.binary main_v109 main_v110 main_v111 (mulf : (⟨S4x1000, .f32⟩ : BufTy).Contents (Elt F) → (⟨S4x1000, .f32⟩ : BufTy).Contents (Elt F) → (⟨S4x1000, .f32⟩ : BufTy).Contents (Elt F)),
    StableHlo.unary main_v111 main_v112 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v112 main_v113 (broadcastInDim S4x1000x4 ![0, 1, 2] bcast_S4x1000x1_S4x1000x4_0_1_2 : (⟨S4x1000x1, .f32⟩ : BufTy).Contents (Elt F) → (⟨S4x1000x4, .f32⟩ : BufTy).Contents (Elt F)),
    StableHlo.binary main_v98 main_v113 main_v114 (addf : (⟨S4x1000x4, .f32⟩ : BufTy).Contents (Elt F) → (⟨S4x1000x4, .f32⟩ : BufTy).Contents (Elt F) → (⟨S4x1000x4, .f32⟩ : BufTy).Contents (Elt F)),
    StableHlo.unary main_v114 main_v115 ((extractStridedSlice S4x1000x1 ![0, 0, 2] · slices_S4x1000x4_S4x1000x1_0_0_2) : (⟨S4x1000x4, .f32⟩ : BufTy).Contents (Elt F) → (⟨S4x1000x1, .f32⟩ : BufTy).Contents (Elt F)),
    StableHlo.reshape main_v115 main_v116 (rfl : (.f32 : EltTy) = .f32) shapeCasts_S4x1000x1_S4x1000,
    StableHlo.unary main_v114 main_v117 ((extractStridedSlice S4x1000x1 ![0, 0, 0] · slices_S4x1000x4_S4x1000x1_0_0_0) : (⟨S4x1000x4, .f32⟩ : BufTy).Contents (Elt F) → (⟨S4x1000x1, .f32⟩ : BufTy).Contents (Elt F)),
    StableHlo.reshape main_v117 main_v118 (rfl : (.f32 : EltTy) = .f32) shapeCasts_S4x1000x1_S4x1000,
    StableHlo.binary main_v116 main_v118 main_v119 (subf : (⟨S4x1000, .f32⟩ : BufTy).Contents (Elt F) → (⟨S4x1000, .f32⟩ : BufTy).Contents (Elt F) → (⟨S4x1000, .f32⟩ : BufTy).Contents (Elt F)),
    StableHlo.unary main_v114 main_v120 ((extractStridedSlice S4x1000x1 ![0, 0, 3] · slices_S4x1000x4_S4x1000x1_0_0_3) : (⟨S4x1000x4, .f32⟩ : BufTy).Contents (Elt F) → (⟨S4x1000x1, .f32⟩ : BufTy).Contents (Elt F)),
    StableHlo.reshape main_v120 main_v121 (rfl : (.f32 : EltTy) = .f32) shapeCasts_S4x1000x1_S4x1000,
    StableHlo.unary main_v114 main_v122 ((extractStridedSlice S4x1000x1 ![0, 0, 1] · slices_S4x1000x4_S4x1000x1_0_0_1) : (⟨S4x1000x4, .f32⟩ : BufTy).Contents (Elt F) → (⟨S4x1000x1, .f32⟩ : BufTy).Contents (Elt F)),
    StableHlo.reshape main_v122 main_v123 (rfl : (.f32 : EltTy) = .f32) shapeCasts_S4x1000x1_S4x1000,
    StableHlo.binary main_v121 main_v123 main_v124 (subf : (⟨S4x1000, .f32⟩ : BufTy).Contents (Elt F) → (⟨S4x1000, .f32⟩ : BufTy).Contents (Elt F) → (⟨S4x1000, .f32⟩ : BufTy).Contents (Elt F)),
    StableHlo.binary main_v119 main_v124 main_v125 (mulf : (⟨S4x1000, .f32⟩ : BufTy).Contents (Elt F) → (⟨S4x1000, .f32⟩ : BufTy).Contents (Elt F) → (⟨S4x1000, .f32⟩ : BufTy).Contents (Elt F)),
    StableHlo.unary main_v114 main_v126 ((extractStridedSlice S4x1000x2 ![0, 0, 0] · slices_S4x1000x4_S4x1000x2_0_0_0) : (⟨S4x1000x4, .f32⟩ : BufTy).Contents (Elt F) → (⟨S4x1000x2, .f32⟩ : BufTy).Contents (Elt F)),
    StableHlo.unary main_v126 main_v127 (broadcastInDim S4x1000x1x2 ![0, 1, 3] bcast_S4x1000x2_S4x1000x1x2_0_1_3 : (⟨S4x1000x2, .f32⟩ : BufTy).Contents (Elt F) → (⟨S4x1000x1x2, .f32⟩ : BufTy).Contents (Elt F)),
    StableHlo.unary main_v114 main_v128 ((extractStridedSlice S4x1000x2 ![0, 0, 0] · slices_S4x1000x4_S4x1000x2_0_0_0) : (⟨S4x1000x4, .f32⟩ : BufTy).Contents (Elt F) → (⟨S4x1000x2, .f32⟩ : BufTy).Contents (Elt F)),
    StableHlo.unary main_v128 main_v129 (broadcastInDim S4x1x1000x2 ![0, 2, 3] bcast_S4x1000x2_S4x1x1000x2_0_2_3 : (⟨S4x1000x2, .f32⟩ : BufTy).Contents (Elt F) → (⟨S4x1x1000x2, .f32⟩ : BufTy).Contents (Elt F)),
    StableHlo.unary main_v127 main_v130 (broadcastInDim S4x1000x1000x2 ![0, 1, 2, 3] bcast_S4x1000x1x2_S4x1000x1000x2_0_1_2_3 : (⟨S4x1000x1x2, .f32⟩ : BufTy).Contents (Elt F) → (⟨S4x1000x1000x2, .f32⟩ : BufTy).Contents (Elt F)),
    StableHlo.unary main_v129 main_v131 (broadcastInDim S4x1000x1000x2 ![0, 1, 2, 3] bcast_S4x1x1000x2_S4x1000x1000x2_0_1_2_3 : (⟨S4x1x1000x2, .f32⟩ : BufTy).Contents (Elt F) → (⟨S4x1000x1000x2, .f32⟩ : BufTy).Contents (Elt F)),
    StableHlo.binary main_v130 main_v131 main_v132 (maximumf : (⟨S4x1000x1000x2, .f32⟩ : BufTy).Contents (Elt F) → (⟨S4x1000x1000x2, .f32⟩ : BufTy).Contents (Elt F) → (⟨S4x1000x1000x2, .f32⟩ : BufTy).Contents (Elt F)),
    StableHlo.unary main_v114 main_v133 ((extractStridedSlice S4x1000x2 ![0, 0, 2] · slices_S4x1000x4_S4x1000x2_0_0_2) : (⟨S4x1000x4, .f32⟩ : BufTy).Contents (Elt F) → (⟨S4x1000x2, .f32⟩ : BufTy).Contents (Elt F)),
    StableHlo.unary main_v133 main_v134 (broadcastInDim S4x1000x1x2 ![0, 1, 3] bcast_S4x1000x2_S4x1000x1x2_0_1_3 : (⟨S4x1000x2, .f32⟩ : BufTy).Contents (Elt F) → (⟨S4x1000x1x2, .f32⟩ : BufTy).Contents (Elt F)),
    StableHlo.unary main_v114 main_v135 ((extractStridedSlice S4x1000x2 ![0, 0, 2] · slices_S4x1000x4_S4x1000x2_0_0_2) : (⟨S4x1000x4, .f32⟩ : BufTy).Contents (Elt F) → (⟨S4x1000x2, .f32⟩ : BufTy).Contents (Elt F)),
    StableHlo.unary main_v135 main_v136 (broadcastInDim S4x1x1000x2 ![0, 2, 3] bcast_S4x1000x2_S4x1x1000x2_0_2_3 : (⟨S4x1000x2, .f32⟩ : BufTy).Contents (Elt F) → (⟨S4x1x1000x2, .f32⟩ : BufTy).Contents (Elt F)),
    StableHlo.unary main_v134 main_v137 (broadcastInDim S4x1000x1000x2 ![0, 1, 2, 3] bcast_S4x1000x1x2_S4x1000x1000x2_0_1_2_3 : (⟨S4x1000x1x2, .f32⟩ : BufTy).Contents (Elt F) → (⟨S4x1000x1000x2, .f32⟩ : BufTy).Contents (Elt F)),
    StableHlo.unary main_v136 main_v138 (broadcastInDim S4x1000x1000x2 ![0, 1, 2, 3] bcast_S4x1x1000x2_S4x1000x1000x2_0_1_2_3 : (⟨S4x1x1000x2, .f32⟩ : BufTy).Contents (Elt F) → (⟨S4x1000x1000x2, .f32⟩ : BufTy).Contents (Elt F)),
    StableHlo.binary main_v137 main_v138 main_v139 (minimumf : (⟨S4x1000x1000x2, .f32⟩ : BufTy).Contents (Elt F) → (⟨S4x1000x1000x2, .f32⟩ : BufTy).Contents (Elt F) → (⟨S4x1000x1000x2, .f32⟩ : BufTy).Contents (Elt F)),
    StableHlo.binary main_v139 main_v132 main_v140 (subf : (⟨S4x1000x1000x2, .f32⟩ : BufTy).Contents (Elt F) → (⟨S4x1000x1000x2, .f32⟩ : BufTy).Contents (Elt F) → (⟨S4x1000x1000x2, .f32⟩ : BufTy).Contents (Elt F)),
    StableHlo.nullary main_cst_18 (constant S_ .f32 0x00000000#32),
    StableHlo.TRef.unary (.of main_cst_18 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S4x1000x1000x2, .f32⟩) (broadcastInDim S4x1000x1000x2 ![] bcast_S_S4x1000x1000x2),
    StableHlo.TRef.binary (.of main_call9_v1 : StableHlo.TRef sig ⟨S4x1000x1000x2, .f32⟩) (.of main_v140 : StableHlo.TRef sig ⟨S4x1000x1000x2, .f32⟩) (.of main_v141 : StableHlo.TRef sig ⟨S4x1000x1000x2, .f32⟩) maximumf,
    StableHlo.unary main_v141 main_v142 ((extractStridedSlice S4x1000x1000x1 ![0, 0, 0, 0] · slices_S4x1000x1000x2_S4x1000x1000x1_0_0_0_0) : (⟨S4x1000x1000x2, .f32⟩ : BufTy).Contents (Elt F) → (⟨S4x1000x1000x1, .f32⟩ : BufTy).Contents (Elt F)),
    StableHlo.reshape main_v142 main_v143 (rfl : (.f32 : EltTy) = .f32) shapeCasts_S4x1000x1000x1_S4x1000x1000,
    StableHlo.unary main_v141 main_v144 ((extractStridedSlice S4x1000x1000x1 ![0, 0, 0, 1] · slices_S4x1000x1000x2_S4x1000x1000x1_0_0_0_1) : (⟨S4x1000x1000x2, .f32⟩ : BufTy).Contents (Elt F) → (⟨S4x1000x1000x1, .f32⟩ : BufTy).Contents (Elt F)),
    StableHlo.reshape main_v144 main_v145 (rfl : (.f32 : EltTy) = .f32) shapeCasts_S4x1000x1000x1_S4x1000x1000,
    StableHlo.binary main_v143 main_v145 main_v146 (mulf : (⟨S4x1000x1000, .f32⟩ : BufTy).Contents (Elt F) → (⟨S4x1000x1000, .f32⟩ : BufTy).Contents (Elt F) → (⟨S4x1000x1000, .f32⟩ : BufTy).Contents (Elt F)),
    StableHlo.unary main_v125 main_v147 (broadcastInDim S4x1000x1 ![0, 1] bcast_S4x1000_S4x1000x1_0_1 : (⟨S4x1000, .f32⟩ : BufTy).Contents (Elt F) → (⟨S4x1000x1, .f32⟩ : BufTy).Contents (Elt F)),
    StableHlo.unary main_v125 main_v148 (broadcastInDim S4x1x1000 ![0, 2] bcast_S4x1000_S4x1x1000_0_2 : (⟨S4x1000, .f32⟩ : BufTy).Contents (Elt F) → (⟨S4x1x1000, .f32⟩ : BufTy).Contents (Elt F)),
    StableHlo.unary main_v147 main_v149 (broadcastInDim S4x1000x1000 ![0, 1, 2] bcast_S4x1000x1_S4x1000x1000_0_1_2 : (⟨S4x1000x1, .f32⟩ : BufTy).Contents (Elt F) → (⟨S4x1000x1000, .f32⟩ : BufTy).Contents (Elt F)),
    StableHlo.unary main_v148 main_v150 (broadcastInDim S4x1000x1000 ![0, 1, 2] bcast_S4x1x1000_S4x1000x1000_0_1_2 : (⟨S4x1x1000, .f32⟩ : BufTy).Contents (Elt F) → (⟨S4x1000x1000, .f32⟩ : BufTy).Contents (Elt F)),
    StableHlo.binary main_v149 main_v150 main_v151 (addf : (⟨S4x1000x1000, .f32⟩ : BufTy).Contents (Elt F) → (⟨S4x1000x1000, .f32⟩ : BufTy).Contents (Elt F) → (⟨S4x1000x1000, .f32⟩ : BufTy).Contents (Elt F)),
    StableHlo.binary main_v151 main_v146 main_v152 (subf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_19 (constant S_ .f32 0x3089705F#32),
    StableHlo.unary main_cst_19 main_v153 (broadcastInDim S4x1000x1000 ![] bcast_S_S4x1000x1000 : (⟨S_, .f32⟩ : BufTy).Contents (Elt F) → (⟨S4x1000x1000, .f32⟩ : BufTy).Contents (Elt F)),
    StableHlo.binary main_v152 main_v153 main_v154 (addf : (⟨S4x1000x1000, .f32⟩ : BufTy).Contents (Elt F) → (⟨S4x1000x1000, .f32⟩ : BufTy).Contents (Elt F) → (⟨S4x1000x1000, .f32⟩ : BufTy).Contents (Elt F)),
    StableHlo.binary main_v146 main_v154 main_v155 (Host.divf : (⟨S4x1000x1000, .f32⟩ : BufTy).Contents (Elt F) → (⟨S4x1000x1000, .f32⟩ : BufTy).Contents (Elt F) → (⟨S4x1000x1000, .f32⟩ : BufTy).Contents (Elt F)),
    StableHlo.nullary main_cst_20 (constant S_ .f32 0xBF800000#32),
    StableHlo.TRef.unary (.of main_cst_20 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S4x1000, .f32⟩) (broadcastInDim S4x1000 ![] bcast_S_S4x1000),
    StableHlo.TRef.ternary (.of main_v106 : StableHlo.TRef sig ⟨S4x1000, .i1⟩) (.of main_v108 : StableHlo.TRef sig ⟨S4x1000, .f32⟩) (.of main_call10_v1 : StableHlo.TRef sig ⟨S4x1000, .f32⟩) (.of main_v156 : StableHlo.TRef sig ⟨S4x1000, .f32⟩) select,
    StableHlo.nullary main_c_21 (constantI S_ 32 0#32),
    StableHlo.unary main_c_21 main_v157 (broadcastInDim S100x4 ![] bcast_S_S100x4 : (⟨S_, .i32⟩ : BufTy).Contents (Elt F) → (⟨S100x4, .i32⟩ : BufTy).Contents (Elt F)),
    StableHlo.nullary main_c_22 (constantI S_ 1 0#1),
    StableHlo.unary main_c_22 main_v158 (broadcastInDim S100x4 ![] bcast_S_S100x4 : (⟨S_, .i1⟩ : BufTy).Contents (Elt F) → (⟨S100x4, .i1⟩ : BufTy).Contents (Elt F)),
    StableHlo.nullary main_c_23 (constantI S_ 32 0#32),
    StableHlo.unary main_v155 main_v159_0 id,
    StableHlo.unary main_c_23 main_v159_1 id,
    StableHlo.unary main_v156 main_v159_2 id,
    StableHlo.unary main_v157 main_v159_3 id,
    StableHlo.unary main_v158 main_v159_4 id ]
end

/-- The arguments, paired. -/
abbrev argPairs : Pairs Cert.KernelIdeal.sig Cert.ReferenceIdeal.sig :=
  [(Cert.KernelIdeal.main_arg0, Cert.ReferenceIdeal.main_arg0), (Cert.KernelIdeal.main_arg1, Cert.ReferenceIdeal.main_arg1), (Cert.KernelIdeal.main_arg2, Cert.ReferenceIdeal.main_arg2), (Cert.KernelIdeal.main_arg3, Cert.ReferenceIdeal.main_arg3), (Cert.KernelIdeal.main_arg4, Cert.ReferenceIdeal.main_arg4)]
/-- The buffers both programs go on from, paired. -/
abbrev cutPairs : Pairs Cert.KernelIdeal.sig Cert.ReferenceIdeal.sig :=
  [(Cert.KernelIdeal.main_call0_v49, Cert.ReferenceIdeal.main_v49), (Cert.KernelIdeal.main_call0_v54, Cert.ReferenceIdeal.main_v54), (Cert.KernelIdeal.main_call0_v59, Cert.ReferenceIdeal.main_v59), (Cert.KernelIdeal.main_call0_v64, Cert.ReferenceIdeal.main_v64), (Cert.KernelIdeal.main_call0_v33, Cert.ReferenceIdeal.main_v33), (Cert.KernelIdeal.main_call0_v35, Cert.ReferenceIdeal.main_v35), (Cert.KernelIdeal.main_call0_values, Cert.ReferenceIdeal.main_values), (Cert.KernelIdeal.main_arg4, Cert.ReferenceIdeal.main_arg4)]

section
open Cert.KernelIdeal Cert.KernelIdeal.Gen
/-- The kernel's operations, part 0. -/
abbrev kc0 (r : List (HloOp τ sig (Elt F))) : List (HloOp τ sig (Elt F)) :=
  StableHlo.TRef.reshape (.of main_arg0 : StableHlo.TRef sig ⟨S4x80x100x152, .f32⟩) (.of main_call0_v0 : StableHlo.TRef sig ⟨S4x1x80x100x152, .f32⟩) (rfl : (.f32 : EltTy) = .f32) shapeCasts_S4x80x100x152_S4x1x80x100x152 ::
    StableHlo.TRef.unary (.of main_call0_v0 : StableHlo.TRef sig ⟨S4x1x80x100x152, .f32⟩) (.of main_call0_v1 : StableHlo.TRef sig ⟨S4x100x152x1x80, .f32⟩) (transpose S4x100x152x1x80 [0, 3, 4, 1, 2] · transposes_S4x1x80x100x152_S4x100x152x1x80_0_3_4_1_2) ::
    StableHlo.TRef.reshape (.of main_call0_v1 : StableHlo.TRef sig ⟨S4x100x152x1x80, .f32⟩) (.of main_call0_v2 : StableHlo.TRef sig ⟨S4x15200x80, .f32⟩) (rfl : (.f32 : EltTy) = .f32) shapeCasts_S4x100x152x1x80_S4x15200x80 ::
    StableHlo.TRef.unary (.of main_call0_v2 : StableHlo.TRef sig ⟨S4x15200x80, .f32⟩) (.of main_call0_v3 : StableHlo.TRef sig ⟨S4x15200x80, .f32⟩) Host.negf ::
    StableHlo.TRef.unary (.of main_call0_v3 : StableHlo.TRef sig ⟨S4x15200x80, .f32⟩) (.of main_call0_v4 : StableHlo.TRef sig ⟨S4x15200x80, .f32⟩) Host.exp ::
    StableHlo.TRef.nullary (.of main_call0_cst : StableHlo.TRef sig ⟨S_, .f32⟩) (constant S_ .f32 0x3F800000#32) ::
    StableHlo.TRef.unary (.of main_call0_cst : StableHlo.TRef sig ⟨S_, .f32⟩) (.of main_call0_v5 : StableHlo.TRef sig ⟨S4x15200x80, .f32⟩) (broadcastInDim S4x15200x80 ![] bcast_S_S4x15200x80) ::
    StableHlo.TRef.binary (.of main_call0_v5 : StableHlo.TRef sig ⟨S4x15200x80, .f32⟩) (.of main_call0_v4 : StableHlo.TRef sig ⟨S4x15200x80, .f32⟩) (.of main_call0_v6 : StableHlo.TRef sig ⟨S4x15200x80, .f32⟩) addf ::
    StableHlo.TRef.nullary (.of main_call0_cst_0 : StableHlo.TRef sig ⟨S_, .f32⟩) (constant S_ .f32 0x3F800000#32) ::
    StableHlo.TRef.unary (.of main_call0_cst_0 : StableHlo.TRef sig ⟨S_, .f32⟩) (.of main_call0_v7 : StableHlo.TRef sig ⟨S4x15200x80, .f32⟩) (broadcastInDim S4x15200x80 ![] bcast_S_S4x15200x80) :: r
/-- The kernel's operations, part 1. -/
abbrev kc1 (r : List (HloOp τ sig (Elt F))) : List (HloOp τ sig (Elt F)) :=
  StableHlo.TRef.binary (.of main_call0_v7 : StableHlo.TRef sig ⟨S4x15200x80, .f32⟩) (.of main_call0_v6 : StableHlo.TRef sig ⟨S4x15200x80, .f32⟩) (.of main_call0_v8 : StableHlo.TRef sig ⟨S4x15200x80, .f32⟩) Host.divf ::
    StableHlo.TRef.reshape (.of main_arg1 : StableHlo.TRef sig ⟨S4x4x100x152, .f32⟩) (.of main_call0_v9 : StableHlo.TRef sig ⟨S4x1x4x100x152, .f32⟩) (rfl : (.f32 : EltTy) = .f32) shapeCasts_S4x4x100x152_S4x1x4x100x152 ::
    StableHlo.TRef.unary (.of main_call0_v9 : StableHlo.TRef sig ⟨S4x1x4x100x152, .f32⟩) (.of main_call0_v10 : StableHlo.TRef sig ⟨S4x100x152x1x4, .f32⟩) (transpose S4x100x152x1x4 [0, 3, 4, 1, 2] · transposes_S4x1x4x100x152_S4x100x152x1x4_0_3_4_1_2) ::
    StableHlo.TRef.reshape (.of main_call0_v10 : StableHlo.TRef sig ⟨S4x100x152x1x4, .f32⟩) (.of main_call0_v11 : StableHlo.TRef sig ⟨S4x15200x4, .f32⟩) (rfl : (.f32 : EltTy) = .f32) shapeCasts_S4x100x152x1x4_S4x15200x4 ::
    StableHlo.TRef.reshape (.of main_arg2 : StableHlo.TRef sig ⟨S4x1x100x152, .f32⟩) (.of main_call0_v12 : StableHlo.TRef sig ⟨S4x1x1x100x152, .f32⟩) (rfl : (.f32 : EltTy) = .f32) shapeCasts_S4x1x100x152_S4x1x1x100x152 ::
    StableHlo.TRef.unary (.of main_call0_v12 : StableHlo.TRef sig ⟨S4x1x1x100x152, .f32⟩) (.of main_call0_v13 : StableHlo.TRef sig ⟨S4x100x152x1x1, .f32⟩) (transpose S4x100x152x1x1 [0, 3, 4, 1, 2] · transposes_S4x1x1x100x152_S4x100x152x1x1_0_3_4_1_2) ::
    StableHlo.TRef.reshape (.of main_call0_v13 : StableHlo.TRef sig ⟨S4x100x152x1x1, .f32⟩) (.of main_call0_v14 : StableHlo.TRef sig ⟨S4x15200x1, .f32⟩) (rfl : (.f32 : EltTy) = .f32) shapeCasts_S4x100x152x1x1_S4x15200x1 ::
    StableHlo.TRef.reshape (.of main_call0_v14 : StableHlo.TRef sig ⟨S4x15200x1, .f32⟩) (.of main_call0_v15 : StableHlo.TRef sig ⟨S4x15200, .f32⟩) (rfl : (.f32 : EltTy) = .f32) shapeCasts_S4x15200x1_S4x15200 ::
    StableHlo.TRef.unary (.of main_call0_v15 : StableHlo.TRef sig ⟨S4x15200, .f32⟩) (.of main_call0_v16 : StableHlo.TRef sig ⟨S4x15200, .f32⟩) Host.negf ::
    StableHlo.TRef.unary (.of main_call0_v16 : StableHlo.TRef sig ⟨S4x15200, .f32⟩) (.of main_call0_v17 : StableHlo.TRef sig ⟨S4x15200, .f32⟩) Host.exp :: r
/-- The kernel's operations, part 2. -/
abbrev kc2 (r : List (HloOp τ sig (Elt F))) : List (HloOp τ sig (Elt F)) :=
  StableHlo.TRef.nullary (.of main_call0_cst_1 : StableHlo.TRef sig ⟨S_, .f32⟩) (constant S_ .f32 0x3F800000#32) ::
    StableHlo.TRef.unary (.of main_call0_cst_1 : StableHlo.TRef sig ⟨S_, .f32⟩) (.of main_call0_v18 : StableHlo.TRef sig ⟨S4x15200, .f32⟩) (broadcastInDim S4x15200 ![] bcast_S_S4x15200) ::
    StableHlo.TRef.binary (.of main_call0_v18 : StableHlo.TRef sig ⟨S4x15200, .f32⟩) (.of main_call0_v17 : StableHlo.TRef sig ⟨S4x15200, .f32⟩) (.of main_call0_v19 : StableHlo.TRef sig ⟨S4x15200, .f32⟩) addf ::
    StableHlo.TRef.nullary (.of main_call0_cst_2 : StableHlo.TRef sig ⟨S_, .f32⟩) (constant S_ .f32 0x3F800000#32) ::
    StableHlo.TRef.unary (.of main_call0_cst_2 : StableHlo.TRef sig ⟨S_, .f32⟩) (.of main_call0_v20 : StableHlo.TRef sig ⟨S4x15200, .f32⟩) (broadcastInDim S4x15200 ![] bcast_S_S4x15200) ::
    StableHlo.TRef.binary (.of main_call0_v20 : StableHlo.TRef sig ⟨S4x15200, .f32⟩) (.of main_call0_v19 : StableHlo.TRef sig ⟨S4x15200, .f32⟩) (.of main_call0_v21 : StableHlo.TRef sig ⟨S4x15200, .f32⟩) Host.divf ::
    StableHlo.TRef.nullary (.of main_call0_cst_3 : StableHlo.TRef sig ⟨S_, .f32⟩) (constant S_ .f32 0x3D4CCCCD#32) ::
    StableHlo.TRef.unary (.of main_call0_cst_3 : StableHlo.TRef sig ⟨S_, .f32⟩) (.of main_call0_v22 : StableHlo.TRef sig ⟨S4x15200x80, .f32⟩) (broadcastInDim S4x15200x80 ![] bcast_S_S4x15200x80) ::
    StableHlo.TRef.binary (.of main_call0_v8 : StableHlo.TRef sig ⟨S4x15200x80, .f32⟩) (.of main_call0_v22 : StableHlo.TRef sig ⟨S4x15200x80, .f32⟩) (.of main_call0_v23 : StableHlo.TRef sig ⟨S4x15200x80, .i1⟩) (cmpf .ogt) ::
    StableHlo.TRef.unary (.of main_call0_v21 : StableHlo.TRef sig ⟨S4x15200, .f32⟩) (.of main_call0_v24 : StableHlo.TRef sig ⟨S4x15200x1, .f32⟩) (broadcastInDim S4x15200x1 ![0, 1] bcast_S4x15200_S4x15200x1_0_1) :: r
/-- The kernel's operations, part 3. -/
abbrev kc3 (r : List (HloOp τ sig (Elt F))) : List (HloOp τ sig (Elt F)) :=
  StableHlo.TRef.unary (.of main_call0_v24 : StableHlo.TRef sig ⟨S4x15200x1, .f32⟩) (.of main_call0_v25 : StableHlo.TRef sig ⟨S4x15200x80, .f32⟩) (broadcastInDim S4x15200x80 ![0, 1, 2] bcast_S4x15200x1_S4x15200x80_0_1_2) ::
    StableHlo.TRef.binary (.of main_call0_v8 : StableHlo.TRef sig ⟨S4x15200x80, .f32⟩) (.of main_call0_v25 : StableHlo.TRef sig ⟨S4x15200x80, .f32⟩) (.of main_call0_v26 : StableHlo.TRef sig ⟨S4x15200x80, .f32⟩) mulf ::
    StableHlo.TRef.unary (.of main_call0_v23 : StableHlo.TRef sig ⟨S4x15200x80, .i1⟩) (.of main_call0_v27 : StableHlo.TRef sig ⟨S4x15200x80, .f32⟩) (uitofp .f32) ::
    StableHlo.TRef.binary (.of main_call0_v26 : StableHlo.TRef sig ⟨S4x15200x80, .f32⟩) (.of main_call0_v27 : StableHlo.TRef sig ⟨S4x15200x80, .f32⟩) (.of main_call0_v28 : StableHlo.TRef sig ⟨S4x15200x80, .f32⟩) mulf ::
    StableHlo.TRef.reshape (.of main_call0_v28 : StableHlo.TRef sig ⟨S4x15200x80, .f32⟩) (.of main_call0_v29 : StableHlo.TRef sig ⟨S4x1216000, .f32⟩) (rfl : (.f32 : EltTy) = .f32) shapeCasts_S4x15200x80_S4x1216000 ::
    StableHlo.TRef.unary (.of main_call0_v29 : StableHlo.TRef sig ⟨S4x1216000, .f32⟩) (.of main_call0_values : StableHlo.TRef sig ⟨S4x1000, .f32⟩) (fun x => (Host.topK S4x1000 1 (FloatOps.cmpfTotal .gt) x sliceFits_S4x1216000_S4x1000).1) ::
    StableHlo.TRef.unary (.of main_call0_v29 : StableHlo.TRef sig ⟨S4x1216000, .f32⟩) (.of main_call0_indices : StableHlo.TRef sig ⟨S4x1000, .i32⟩) (fun x => (Host.topK S4x1000 1 (FloatOps.cmpfTotal .gt) x sliceFits_S4x1216000_S4x1000).2) ::
    StableHlo.TRef.nullary (.of main_call0_c : StableHlo.TRef sig ⟨S_, .i32⟩) (constantI S_ 32 80#32) ::
    StableHlo.TRef.unary (.of main_call0_c : StableHlo.TRef sig ⟨S_, .i32⟩) (.of main_call0_call0_v0 : StableHlo.TRef sig ⟨S_, .i32⟩) id ::
    StableHlo.TRef.unary (.of main_call0_call0_v0 : StableHlo.TRef sig ⟨S_, .i32⟩) (.of main_call0_call0_v1 : StableHlo.TRef sig ⟨S4x1000, .i32⟩) (broadcastInDim S4x1000 ![] bcast_S_S4x1000) :: r
/-- The kernel's operations, part 4. -/
abbrev kc4 (r : List (HloOp τ sig (Elt F))) : List (HloOp τ sig (Elt F)) :=
  StableHlo.TRef.binary (.of main_call0_indices : StableHlo.TRef sig ⟨S4x1000, .i32⟩) (.of main_call0_call0_v1 : StableHlo.TRef sig ⟨S4x1000, .i32⟩) (.of main_call0_call0_v2 : StableHlo.TRef sig ⟨S4x1000, .i32⟩) Host.divsi ::
    StableHlo.TRef.unary (.of main_call0_indices : StableHlo.TRef sig ⟨S4x1000, .i32⟩) (.of main_call0_call0_v3 : StableHlo.TRef sig ⟨S4x1000, .i32⟩) signi ::
    StableHlo.TRef.unary (.of main_call0_call0_v0 : StableHlo.TRef sig ⟨S_, .i32⟩) (.of main_call0_call0_v4 : StableHlo.TRef sig ⟨S_, .i32⟩) signi ::
    StableHlo.TRef.unary (.of main_call0_call0_v4 : StableHlo.TRef sig ⟨S_, .i32⟩) (.of main_call0_call0_v5 : StableHlo.TRef sig ⟨S4x1000, .i32⟩) (broadcastInDim S4x1000 ![] bcast_S_S4x1000) ::
    StableHlo.TRef.binary (.of main_call0_call0_v3 : StableHlo.TRef sig ⟨S4x1000, .i32⟩) (.of main_call0_call0_v5 : StableHlo.TRef sig ⟨S4x1000, .i32⟩) (.of main_call0_call0_v6 : StableHlo.TRef sig ⟨S4x1000, .i1⟩) (cmpi .ne) ::
    StableHlo.TRef.unary (.of main_call0_call0_v0 : StableHlo.TRef sig ⟨S_, .i32⟩) (.of main_call0_call0_v7 : StableHlo.TRef sig ⟨S4x1000, .i32⟩) (broadcastInDim S4x1000 ![] bcast_S_S4x1000) ::
    StableHlo.TRef.binary (.of main_call0_indices : StableHlo.TRef sig ⟨S4x1000, .i32⟩) (.of main_call0_call0_v7 : StableHlo.TRef sig ⟨S4x1000, .i32⟩) (.of main_call0_call0_v8 : StableHlo.TRef sig ⟨S4x1000, .i32⟩) Host.remsi ::
    StableHlo.TRef.nullary (.of main_call0_call0_c : StableHlo.TRef sig ⟨S_, .i32⟩) (constantI S_ 32 0#32) ::
    StableHlo.TRef.unary (.of main_call0_call0_c : StableHlo.TRef sig ⟨S_, .i32⟩) (.of main_call0_call0_v9 : StableHlo.TRef sig ⟨S4x1000, .i32⟩) (broadcastInDim S4x1000 ![] bcast_S_S4x1000) ::
    StableHlo.TRef.binary (.of main_call0_call0_v8 : StableHlo.TRef sig ⟨S4x1000, .i32⟩) (.of main_call0_call0_v9 : StableHlo.TRef sig ⟨S4x1000, .i32⟩) (.of main_call0_call0_v10 : StableHlo.TRef sig ⟨S4x1000, .i1⟩) (cmpi .ne) :: r
/-- The kernel's operations, part 5. -/
abbrev kc5 (r : List (HloOp τ sig (Elt F))) : List (HloOp τ sig (Elt F)) :=
  StableHlo.TRef.binary (.of main_call0_call0_v6 : StableHlo.TRef sig ⟨S4x1000, .i1⟩) (.of main_call0_call0_v10 : StableHlo.TRef sig ⟨S4x1000, .i1⟩) (.of main_call0_call0_v11 : StableHlo.TRef sig ⟨S4x1000, .i1⟩) andi ::
    StableHlo.TRef.nullary (.of main_call0_call0_c_0 : StableHlo.TRef sig ⟨S_, .i32⟩) (constantI S_ 32 1#32) ::
    StableHlo.TRef.unary (.of main_call0_call0_c_0 : StableHlo.TRef sig ⟨S_, .i32⟩) (.of main_call0_call0_v12 : StableHlo.TRef sig ⟨S4x1000, .i32⟩) (broadcastInDim S4x1000 ![] bcast_S_S4x1000) ::
    StableHlo.TRef.binary (.of main_call0_call0_v2 : StableHlo.TRef sig ⟨S4x1000, .i32⟩) (.of main_call0_call0_v12 : StableHlo.TRef sig ⟨S4x1000, .i32⟩) (.of main_call0_call0_v13 : StableHlo.TRef sig ⟨S4x1000, .i32⟩) subi ::
    StableHlo.TRef.ternary (.of main_call0_call0_v11 : StableHlo.TRef sig ⟨S4x1000, .i1⟩) (.of main_call0_call0_v13 : StableHlo.TRef sig ⟨S4x1000, .i32⟩) (.of main_call0_call0_v2 : StableHlo.TRef sig ⟨S4x1000, .i32⟩) (.of main_call0_v30 : StableHlo.TRef sig ⟨S4x1000, .i32⟩) select ::
    StableHlo.TRef.nullary (.of main_call0_c_4 : StableHlo.TRef sig ⟨S_, .i32⟩) (constantI S_ 32 80#32) ::
    StableHlo.TRef.unary (.of main_call0_c_4 : StableHlo.TRef sig ⟨S_, .i32⟩) (.of main_call0_call1_v0 : StableHlo.TRef sig ⟨S_, .i32⟩) id ::
    StableHlo.TRef.nullary (.of main_call0_call1_c : StableHlo.TRef sig ⟨S_, .i32⟩) (constantI S_ 32 0#32) ::
    StableHlo.TRef.binary (.of main_call0_call1_v0 : StableHlo.TRef sig ⟨S_, .i32⟩) (.of main_call0_call1_c : StableHlo.TRef sig ⟨S_, .i32⟩) (.of main_call0_call1_v1 : StableHlo.TRef sig ⟨S_, .i1⟩) (cmpi .eq) ::
    StableHlo.TRef.nullary (.of main_call0_call1_c_0 : StableHlo.TRef sig ⟨S_, .i32⟩) (constantI S_ 32 1#32) :: r
/-- The kernel's operations, part 6. -/
abbrev kc6 (r : List (HloOp τ sig (Elt F))) : List (HloOp τ sig (Elt F)) :=
  StableHlo.TRef.ternary (.of main_call0_call1_v1 : StableHlo.TRef sig ⟨S_, .i1⟩) (.of main_call0_call1_c_0 : StableHlo.TRef sig ⟨S_, .i32⟩) (.of main_call0_call1_v0 : StableHlo.TRef sig ⟨S_, .i32⟩) (.of main_call0_call1_v2 : StableHlo.TRef sig ⟨S_, .i32⟩) select ::
    StableHlo.TRef.unary main_call0_call1_call0.v0 (.of main_call0_call1_v3 : StableHlo.TRef sig ⟨S4x1000, .i32⟩) (broadcastInDim S4x1000 ![] bcast_S_S4x1000) ::
    StableHlo.TRef.binary (.of main_call0_indices : StableHlo.TRef sig ⟨S4x1000, .i32⟩) (.of main_call0_call1_v3 : StableHlo.TRef sig ⟨S4x1000, .i32⟩) (.of main_call0_call1_v4 : StableHlo.TRef sig ⟨S4x1000, .i32⟩) Host.remsi ::
    StableHlo.TRef.nullary (.of main_call0_call1_c_1 : StableHlo.TRef sig ⟨S_, .i32⟩) (constantI S_ 32 0#32) ::
    StableHlo.TRef.unary (.of main_call0_call1_c_1 : StableHlo.TRef sig ⟨S_, .i32⟩) (.of main_call0_call1_v5 : StableHlo.TRef sig ⟨S4x1000, .i32⟩) (broadcastInDim S4x1000 ![] bcast_S_S4x1000) ::
    StableHlo.TRef.binary (.of main_call0_call1_v4 : StableHlo.TRef sig ⟨S4x1000, .i32⟩) (.of main_call0_call1_v5 : StableHlo.TRef sig ⟨S4x1000, .i32⟩) (.of main_call0_call1_v6 : StableHlo.TRef sig ⟨S4x1000, .i1⟩) (cmpi .ne) ::
    StableHlo.TRef.nullary (.of main_call0_call1_c_2 : StableHlo.TRef sig ⟨S_, .i32⟩) (constantI S_ 32 0#32) ::
    StableHlo.TRef.unary (.of main_call0_call1_c_2 : StableHlo.TRef sig ⟨S_, .i32⟩) (.of main_call0_call1_v7 : StableHlo.TRef sig ⟨S4x1000, .i32⟩) (broadcastInDim S4x1000 ![] bcast_S_S4x1000) ::
    StableHlo.TRef.binary (.of main_call0_call1_v4 : StableHlo.TRef sig ⟨S4x1000, .i32⟩) (.of main_call0_call1_v7 : StableHlo.TRef sig ⟨S4x1000, .i32⟩) (.of main_call0_call1_v8 : StableHlo.TRef sig ⟨S4x1000, .i1⟩) (cmpi .slt) ::
    StableHlo.TRef.nullary (.of main_call0_call1_c_3 : StableHlo.TRef sig ⟨S_, .i32⟩) (constantI S_ 32 0#32) :: r
/-- The kernel's operations, part 7. -/
abbrev kc7 (r : List (HloOp τ sig (Elt F))) : List (HloOp τ sig (Elt F)) :=
  StableHlo.TRef.binary main_call0_call1_call0.v0 (.of main_call0_call1_c_3 : StableHlo.TRef sig ⟨S_, .i32⟩) (.of main_call0_call1_v9 : StableHlo.TRef sig ⟨S_, .i1⟩) (cmpi .slt) ::
    StableHlo.TRef.unary (.of main_call0_call1_v9 : StableHlo.TRef sig ⟨S_, .i1⟩) (.of main_call0_call1_v10 : StableHlo.TRef sig ⟨S4x1000, .i1⟩) (broadcastInDim S4x1000 ![] bcast_S_S4x1000) ::
    StableHlo.TRef.binary (.of main_call0_call1_v8 : StableHlo.TRef sig ⟨S4x1000, .i1⟩) (.of main_call0_call1_v10 : StableHlo.TRef sig ⟨S4x1000, .i1⟩) (.of main_call0_call1_v11 : StableHlo.TRef sig ⟨S4x1000, .i1⟩) (cmpi .ne) ::
    StableHlo.TRef.binary (.of main_call0_call1_v11 : StableHlo.TRef sig ⟨S4x1000, .i1⟩) (.of main_call0_call1_v6 : StableHlo.TRef sig ⟨S4x1000, .i1⟩) (.of main_call0_call1_v12 : StableHlo.TRef sig ⟨S4x1000, .i1⟩) andi ::
    StableHlo.TRef.unary main_call0_call1_call0.v0 (.of main_call0_call1_v13 : StableHlo.TRef sig ⟨S4x1000, .i32⟩) (broadcastInDim S4x1000 ![] bcast_S_S4x1000) ::
    StableHlo.TRef.binary (.of main_call0_call1_v4 : StableHlo.TRef sig ⟨S4x1000, .i32⟩) (.of main_call0_call1_v13 : StableHlo.TRef sig ⟨S4x1000, .i32⟩) (.of main_call0_call1_v14 : StableHlo.TRef sig ⟨S4x1000, .i32⟩) addi ::
    StableHlo.TRef.ternary (.of main_call0_call1_v12 : StableHlo.TRef sig ⟨S4x1000, .i1⟩) (.of main_call0_call1_v14 : StableHlo.TRef sig ⟨S4x1000, .i32⟩) (.of main_call0_call1_v4 : StableHlo.TRef sig ⟨S4x1000, .i32⟩) (.of main_call0_v31 : StableHlo.TRef sig ⟨S4x1000, .i32⟩) select ::
    StableHlo.TRef.nullary (.of main_call0_c_5 : StableHlo.TRef sig ⟨S_, .i32⟩) (constantI S_ 32 1#32) ::
    StableHlo.TRef.unary (.of main_call0_c_5 : StableHlo.TRef sig ⟨S_, .i32⟩) (.of main_call0_v32 : StableHlo.TRef sig ⟨S4x1000, .i32⟩) (broadcastInDim S4x1000 ![] bcast_S_S4x1000) ::
    StableHlo.TRef.binary main_call0_call1.v15 (.of main_call0_v32 : StableHlo.TRef sig ⟨S4x1000, .i32⟩) (.of main_call0_v33 : StableHlo.TRef sig ⟨S4x1000, .i32⟩) addi :: r
/-- The kernel's operations, part 8. -/
abbrev kc8 (r : List (HloOp τ sig (Elt F))) : List (HloOp τ sig (Elt F)) :=
  StableHlo.TRef.reshape (.of main_call0_v23 : StableHlo.TRef sig ⟨S4x15200x80, .i1⟩) (.of main_call0_v34 : StableHlo.TRef sig ⟨S4x1216000, .i1⟩) (rfl : (.i1 : EltTy) = .i1) shapeCasts_S4x15200x80_S4x1216000 ::
    StableHlo.TRef.nullary (.of main_call0_call2_c : StableHlo.TRef sig ⟨S_, .i32⟩) (constantI S_ 32 0#32) ::
    StableHlo.TRef.unary (.of main_call0_call2_c : StableHlo.TRef sig ⟨S_, .i32⟩) (.of main_call0_call2_v0 : StableHlo.TRef sig ⟨S4x1000, .i32⟩) (broadcastInDim S4x1000 ![] bcast_S_S4x1000) ::
    StableHlo.TRef.binary (.of main_call0_indices : StableHlo.TRef sig ⟨S4x1000, .i32⟩) (.of main_call0_call2_v0 : StableHlo.TRef sig ⟨S4x1000, .i32⟩) (.of main_call0_call2_v1 : StableHlo.TRef sig ⟨S4x1000, .i1⟩) (cmpi .slt) ::
    StableHlo.TRef.nullary (.of main_call0_call2_c_0 : StableHlo.TRef sig ⟨S_, .i32⟩) (constantI S_ 32 1216000#32) ::
    StableHlo.TRef.unary (.of main_call0_call2_c_0 : StableHlo.TRef sig ⟨S_, .i32⟩) (.of main_call0_call2_v2 : StableHlo.TRef sig ⟨S4x1000, .i32⟩) (broadcastInDim S4x1000 ![] bcast_S_S4x1000) ::
    StableHlo.TRef.binary (.of main_call0_indices : StableHlo.TRef sig ⟨S4x1000, .i32⟩) (.of main_call0_call2_v2 : StableHlo.TRef sig ⟨S4x1000, .i32⟩) (.of main_call0_call2_v3 : StableHlo.TRef sig ⟨S4x1000, .i32⟩) addi ::
    StableHlo.TRef.ternary (.of main_call0_call2_v1 : StableHlo.TRef sig ⟨S4x1000, .i1⟩) (.of main_call0_call2_v3 : StableHlo.TRef sig ⟨S4x1000, .i32⟩) (.of main_call0_indices : StableHlo.TRef sig ⟨S4x1000, .i32⟩) (.of main_call0_call2_v4 : StableHlo.TRef sig ⟨S4x1000, .i32⟩) select ::
    StableHlo.TRef.reshape (.of main_call0_call2_v4 : StableHlo.TRef sig ⟨S4x1000, .i32⟩) (.of main_call0_call2_v5 : StableHlo.TRef sig ⟨S4x1000x1, .i32⟩) (rfl : (.i32 : EltTy) = .i32) shapeCasts_S4x1000_S4x1000x1 ::
    StableHlo.TRef.nullary (.of main_call0_call2_c_1 : StableHlo.TRef sig ⟨S1, .i32⟩) (constantI S1 32 1215999#32) :: r
/-- The kernel's operations, part 9. -/
abbrev kc9 (r : List (HloOp τ sig (Elt F))) : List (HloOp τ sig (Elt F)) :=
  StableHlo.TRef.nullary (.of main_call0_call2_c_2 : StableHlo.TRef sig ⟨S_, .i32⟩) (constantI S_ 32 0#32) ::
    StableHlo.TRef.unary (.of main_call0_call2_c_2 : StableHlo.TRef sig ⟨S_, .i32⟩) (.of main_call0_call2_v6 : StableHlo.TRef sig ⟨S4x1000x1, .i32⟩) (broadcastInDim S4x1000x1 ![] bcast_S_S4x1000x1) ::
    StableHlo.TRef.binary (.of main_call0_call2_v5 : StableHlo.TRef sig ⟨S4x1000x1, .i32⟩) (.of main_call0_call2_v6 : StableHlo.TRef sig ⟨S4x1000x1, .i32⟩) (.of main_call0_call2_v7 : StableHlo.TRef sig ⟨S4x1000x1, .i1⟩) (cmpi .sge) ::
    StableHlo.TRef.unary (.of main_call0_call2_c_1 : StableHlo.TRef sig ⟨S1, .i32⟩) (.of main_call0_call2_v8 : StableHlo.TRef sig ⟨S1x1x1, .i32⟩) (broadcastInDim S1x1x1 ![2] bcast_S1_S1x1x1_2) ::
    StableHlo.TRef.unary (.of main_call0_call2_v8 : StableHlo.TRef sig ⟨S1x1x1, .i32⟩) (.of main_call0_call2_v9 : StableHlo.TRef sig ⟨S4x1000x1, .i32⟩) (broadcastInDim S4x1000x1 ![0, 1, 2] bcast_S1x1x1_S4x1000x1_0_1_2) ::
    StableHlo.TRef.binary (.of main_call0_call2_v5 : StableHlo.TRef sig ⟨S4x1000x1, .i32⟩) (.of main_call0_call2_v9 : StableHlo.TRef sig ⟨S4x1000x1, .i32⟩) (.of main_call0_call2_v10 : StableHlo.TRef sig ⟨S4x1000x1, .i1⟩) (cmpi .sle) ::
    StableHlo.TRef.binary (.of main_call0_call2_v7 : StableHlo.TRef sig ⟨S4x1000x1, .i1⟩) (.of main_call0_call2_v10 : StableHlo.TRef sig ⟨S4x1000x1, .i1⟩) (.of main_call0_call2_v11 : StableHlo.TRef sig ⟨S4x1000x1, .i1⟩) andi ::
    StableHlo.TRef.nullary (.of main_call0_call2_c_3 : StableHlo.TRef sig ⟨S_, .i1⟩) (constantI S_ 1 1#1) ::
    StableHlo.TRef.binary (.of main_call0_call2_v11 : StableHlo.TRef sig ⟨S4x1000x1, .i1⟩) (.of main_call0_call2_c_3 : StableHlo.TRef sig ⟨S_, .i1⟩) (.of main_call0_call2_v12 : StableHlo.TRef sig ⟨S4x1000, .i1⟩) (fun x v => Host.reduce IntOp.andi x v reducesTo_S4x1000x1_S4x1000_d2 h_S_) ::
    StableHlo.TRef.binary (.of main_call0_v34 : StableHlo.TRef sig ⟨S4x1216000, .i1⟩) (.of main_call0_call2_v5 : StableHlo.TRef sig ⟨S4x1000x1, .i32⟩) (.of main_call0_call2_v13 : StableHlo.TRef sig ⟨S4x1000, .i1⟩) (fun x i => Host.gather gather_S4x1216000_S4x1000x1_S4x1000_n_1_0_0_1_2_11 x i) :: r
/-- The kernel's operations, part 10. -/
abbrev kc10 (r : List (HloOp τ sig (Elt F))) : List (HloOp τ sig (Elt F)) :=
  StableHlo.TRef.nullary (.of main_call0_call2_c_4 : StableHlo.TRef sig ⟨S_, .i1⟩) (constantI S_ 1 1#1) ::
    StableHlo.TRef.unary (.of main_call0_call2_c_4 : StableHlo.TRef sig ⟨S_, .i1⟩) (.of main_call0_call2_v14 : StableHlo.TRef sig ⟨S4x1000, .i1⟩) (broadcastInDim S4x1000 ![] bcast_S_S4x1000) ::
    StableHlo.TRef.ternary (.of main_call0_call2_v12 : StableHlo.TRef sig ⟨S4x1000, .i1⟩) (.of main_call0_call2_v13 : StableHlo.TRef sig ⟨S4x1000, .i1⟩) (.of main_call0_call2_v14 : StableHlo.TRef sig ⟨S4x1000, .i1⟩) (.of main_call0_v35 : StableHlo.TRef sig ⟨S4x1000, .i1⟩) select ::
    StableHlo.TRef.nullary (.of main_call0_c_6 : StableHlo.TRef sig ⟨S_, .i32⟩) (constantI S_ 32 0#32) ::
    StableHlo.TRef.unary (.of main_call0_c_6 : StableHlo.TRef sig ⟨S_, .i32⟩) (.of main_call0_v36 : StableHlo.TRef sig ⟨S4x1000, .i32⟩) (broadcastInDim S4x1000 ![] bcast_S_S4x1000) ::
    StableHlo.TRef.binary main_call0_call0.call0.v0 (.of main_call0_v36 : StableHlo.TRef sig ⟨S4x1000, .i32⟩) (.of main_call0_v37 : StableHlo.TRef sig ⟨S4x1000, .i1⟩) (cmpi .slt) ::
    StableHlo.TRef.nullary (.of main_call0_c_7 : StableHlo.TRef sig ⟨S_, .i32⟩) (constantI S_ 32 15200#32) ::
    StableHlo.TRef.unary (.of main_call0_c_7 : StableHlo.TRef sig ⟨S_, .i32⟩) (.of main_call0_v38 : StableHlo.TRef sig ⟨S4x1000, .i32⟩) (broadcastInDim S4x1000 ![] bcast_S_S4x1000) ::
    StableHlo.TRef.binary main_call0_call0.call0.v0 (.of main_call0_v38 : StableHlo.TRef sig ⟨S4x1000, .i32⟩) (.of main_call0_v39 : StableHlo.TRef sig ⟨S4x1000, .i32⟩) addi ::
    StableHlo.TRef.ternary (.of main_call0_v37 : StableHlo.TRef sig ⟨S4x1000, .i1⟩) (.of main_call0_v39 : StableHlo.TRef sig ⟨S4x1000, .i32⟩) main_call0_call0.call0.v0 (.of main_call0_v40 : StableHlo.TRef sig ⟨S4x1000, .i32⟩) select :: r
/-- The kernel's operations, part 11. -/
abbrev kc11 (r : List (HloOp τ sig (Elt F))) : List (HloOp τ sig (Elt F)) :=
  StableHlo.TRef.unary (.of main_call0_v40 : StableHlo.TRef sig ⟨S4x1000, .i32⟩) (.of main_call0_v41 : StableHlo.TRef sig ⟨S4x1000x1, .i32⟩) (broadcastInDim S4x1000x1 ![0, 1] bcast_S4x1000_S4x1000x1_0_1) ::
    StableHlo.TRef.binary (.of main_arg3 : StableHlo.TRef sig ⟨S15200x2, .f32⟩) (.of main_call0_v41 : StableHlo.TRef sig ⟨S4x1000x1, .i32⟩) (.of main_call0_v42 : StableHlo.TRef sig ⟨S4x1000x2, .f32⟩) (fun x i => Host.gather gather_S15200x2_S4x1000x1_S4x1000x2_2_0_n_n_0_2_12 x i) ::
    StableHlo.TRef.unary main_call0_call0.call0.v0 (.of main_call0_v43 : StableHlo.TRef sig ⟨S4x1000x1, .i32⟩) (broadcastInDim S4x1000x1 ![0, 1] bcast_S4x1000_S4x1000x1_0_1) ::
    StableHlo.TRef.nullary (.of main_call0_call3_c : StableHlo.TRef sig ⟨S_, .i32⟩) (constantI S_ 32 0#32) ::
    StableHlo.TRef.unary (.of main_call0_call3_c : StableHlo.TRef sig ⟨S_, .i32⟩) (.of main_call0_call3_v0 : StableHlo.TRef sig ⟨S4x1000x1, .i32⟩) (broadcastInDim S4x1000x1 ![] bcast_S_S4x1000x1) ::
    StableHlo.TRef.binary (.of main_call0_v43 : StableHlo.TRef sig ⟨S4x1000x1, .i32⟩) (.of main_call0_call3_v0 : StableHlo.TRef sig ⟨S4x1000x1, .i32⟩) (.of main_call0_call3_v1 : StableHlo.TRef sig ⟨S4x1000x1, .i1⟩) (cmpi .slt) ::
    StableHlo.TRef.nullary (.of main_call0_call3_c_0 : StableHlo.TRef sig ⟨S_, .i32⟩) (constantI S_ 32 15200#32) ::
    StableHlo.TRef.unary (.of main_call0_call3_c_0 : StableHlo.TRef sig ⟨S_, .i32⟩) (.of main_call0_call3_v2 : StableHlo.TRef sig ⟨S4x1000x1, .i32⟩) (broadcastInDim S4x1000x1 ![] bcast_S_S4x1000x1) ::
    StableHlo.TRef.binary (.of main_call0_v43 : StableHlo.TRef sig ⟨S4x1000x1, .i32⟩) (.of main_call0_call3_v2 : StableHlo.TRef sig ⟨S4x1000x1, .i32⟩) (.of main_call0_call3_v3 : StableHlo.TRef sig ⟨S4x1000x1, .i32⟩) addi ::
    StableHlo.TRef.ternary (.of main_call0_call3_v1 : StableHlo.TRef sig ⟨S4x1000x1, .i1⟩) (.of main_call0_call3_v3 : StableHlo.TRef sig ⟨S4x1000x1, .i32⟩) (.of main_call0_v43 : StableHlo.TRef sig ⟨S4x1000x1, .i32⟩) (.of main_call0_call3_v4 : StableHlo.TRef sig ⟨S4x1000x1, .i32⟩) select :: r
/-- The kernel's operations, part 12. -/
abbrev kc12 (r : List (HloOp τ sig (Elt F))) : List (HloOp τ sig (Elt F)) :=
  StableHlo.TRef.nullary (.of main_call0_call3_c_1 : StableHlo.TRef sig ⟨S1, .i32⟩) (constantI S1 32 15199#32) ::
    StableHlo.TRef.nullary (.of main_call0_call3_c_2 : StableHlo.TRef sig ⟨S_, .i32⟩) (constantI S_ 32 0#32) ::
    StableHlo.TRef.unary (.of main_call0_call3_c_2 : StableHlo.TRef sig ⟨S_, .i32⟩) (.of main_call0_call3_v5 : StableHlo.TRef sig ⟨S4x1000x1, .i32⟩) (broadcastInDim S4x1000x1 ![] bcast_S_S4x1000x1) ::
    StableHlo.TRef.binary (.of main_call0_call3_v4 : StableHlo.TRef sig ⟨S4x1000x1, .i32⟩) (.of main_call0_call3_v5 : StableHlo.TRef sig ⟨S4x1000x1, .i32⟩) (.of main_call0_call3_v6 : StableHlo.TRef sig ⟨S4x1000x1, .i1⟩) (cmpi .sge) ::
    StableHlo.TRef.unary (.of main_call0_call3_c_1 : StableHlo.TRef sig ⟨S1, .i32⟩) (.of main_call0_call3_v7 : StableHlo.TRef sig ⟨S1x1x1, .i32⟩) (broadcastInDim S1x1x1 ![2] bcast_S1_S1x1x1_2) ::
    StableHlo.TRef.unary (.of main_call0_call3_v7 : StableHlo.TRef sig ⟨S1x1x1, .i32⟩) (.of main_call0_call3_v8 : StableHlo.TRef sig ⟨S4x1000x1, .i32⟩) (broadcastInDim S4x1000x1 ![0, 1, 2] bcast_S1x1x1_S4x1000x1_0_1_2) ::
    StableHlo.TRef.binary (.of main_call0_call3_v4 : StableHlo.TRef sig ⟨S4x1000x1, .i32⟩) (.of main_call0_call3_v8 : StableHlo.TRef sig ⟨S4x1000x1, .i32⟩) (.of main_call0_call3_v9 : StableHlo.TRef sig ⟨S4x1000x1, .i1⟩) (cmpi .sle) ::
    StableHlo.TRef.binary (.of main_call0_call3_v6 : StableHlo.TRef sig ⟨S4x1000x1, .i1⟩) (.of main_call0_call3_v9 : StableHlo.TRef sig ⟨S4x1000x1, .i1⟩) (.of main_call0_call3_v10 : StableHlo.TRef sig ⟨S4x1000x1, .i1⟩) andi ::
    StableHlo.TRef.nullary (.of main_call0_call3_c_3 : StableHlo.TRef sig ⟨S_, .i1⟩) (constantI S_ 1 1#1) ::
    StableHlo.TRef.binary (.of main_call0_call3_v10 : StableHlo.TRef sig ⟨S4x1000x1, .i1⟩) (.of main_call0_call3_c_3 : StableHlo.TRef sig ⟨S_, .i1⟩) (.of main_call0_call3_v11 : StableHlo.TRef sig ⟨S4x1000, .i1⟩) (fun x v => Host.reduce IntOp.andi x v reducesTo_S4x1000x1_S4x1000_d2 h_S_) :: r
/-- The kernel's operations, part 13. -/
abbrev kc13 (r : List (HloOp τ sig (Elt F))) : List (HloOp τ sig (Elt F)) :=
  StableHlo.TRef.binary (.of main_call0_v11 : StableHlo.TRef sig ⟨S4x15200x4, .f32⟩) (.of main_call0_call3_v4 : StableHlo.TRef sig ⟨S4x1000x1, .i32⟩) (.of main_call0_call3_v12 : StableHlo.TRef sig ⟨S4x1000x4, .f32⟩) (fun x i => Host.gather gather_S4x15200x4_S4x1000x1_S4x1000x4_2_1_0_0_1_2_114 x i) ::
    StableHlo.TRef.unary (.of main_call0_call3_v11 : StableHlo.TRef sig ⟨S4x1000, .i1⟩) (.of main_call0_call3_v13 : StableHlo.TRef sig ⟨S4x1000x4, .i1⟩) (broadcastInDim S4x1000x4 ![0, 1] bcast_S4x1000_S4x1000x4_0_1) ::
    StableHlo.TRef.nullary (.of main_call0_call3_cst : StableHlo.TRef sig ⟨S_, .f32⟩) (constant S_ .f32 0x7FC00000#32) ::
    StableHlo.TRef.unary (.of main_call0_call3_cst : StableHlo.TRef sig ⟨S_, .f32⟩) (.of main_call0_call3_v14 : StableHlo.TRef sig ⟨S4x1000x4, .f32⟩) (broadcastInDim S4x1000x4 ![] bcast_S_S4x1000x4) ::
    StableHlo.TRef.ternary (.of main_call0_call3_v13 : StableHlo.TRef sig ⟨S4x1000x4, .i1⟩) (.of main_call0_call3_v12 : StableHlo.TRef sig ⟨S4x1000x4, .f32⟩) (.of main_call0_call3_v14 : StableHlo.TRef sig ⟨S4x1000x4, .f32⟩) (.of main_call0_v44 : StableHlo.TRef sig ⟨S4x1000x4, .f32⟩) select ::
    StableHlo.TRef.unary (.of main_call0_v42 : StableHlo.TRef sig ⟨S4x1000x2, .f32⟩) (.of main_call0_v45 : StableHlo.TRef sig ⟨S4x1000x1, .f32⟩) (extractStridedSlice S4x1000x1 ![0, 0, 0] · slices_S4x1000x2_S4x1000x1_0_0_0) ::
    StableHlo.TRef.reshape (.of main_call0_v45 : StableHlo.TRef sig ⟨S4x1000x1, .f32⟩) (.of main_call0_v46 : StableHlo.TRef sig ⟨S4x1000, .f32⟩) (rfl : (.f32 : EltTy) = .f32) shapeCasts_S4x1000x1_S4x1000 ::
    StableHlo.TRef.unary main_call0_call3.v15 (.of main_call0_v47 : StableHlo.TRef sig ⟨S4x1000x1, .f32⟩) (extractStridedSlice S4x1000x1 ![0, 0, 0] · slices_S4x1000x4_S4x1000x1_0_0_0) ::
    StableHlo.TRef.reshape (.of main_call0_v47 : StableHlo.TRef sig ⟨S4x1000x1, .f32⟩) (.of main_call0_v48 : StableHlo.TRef sig ⟨S4x1000, .f32⟩) (rfl : (.f32 : EltTy) = .f32) shapeCasts_S4x1000x1_S4x1000 ::
    StableHlo.TRef.binary (.of main_call0_v46 : StableHlo.TRef sig ⟨S4x1000, .f32⟩) (.of main_call0_v48 : StableHlo.TRef sig ⟨S4x1000, .f32⟩) (.of main_call0_v49 : StableHlo.TRef sig ⟨S4x1000, .f32⟩) subf :: r
/-- The kernel's operations, part 14. -/
abbrev kc14 (r : List (HloOp τ sig (Elt F))) : List (HloOp τ sig (Elt F)) :=
  StableHlo.TRef.unary (.of main_call0_v42 : StableHlo.TRef sig ⟨S4x1000x2, .f32⟩) (.of main_call0_v50 : StableHlo.TRef sig ⟨S4x1000x1, .f32⟩) (extractStridedSlice S4x1000x1 ![0, 0, 1] · slices_S4x1000x2_S4x1000x1_0_0_1) ::
    StableHlo.TRef.reshape (.of main_call0_v50 : StableHlo.TRef sig ⟨S4x1000x1, .f32⟩) (.of main_call0_v51 : StableHlo.TRef sig ⟨S4x1000, .f32⟩) (rfl : (.f32 : EltTy) = .f32) shapeCasts_S4x1000x1_S4x1000 ::
    StableHlo.TRef.unary main_call0_call3.v15 (.of main_call0_v52 : StableHlo.TRef sig ⟨S4x1000x1, .f32⟩) (extractStridedSlice S4x1000x1 ![0, 0, 1] · slices_S4x1000x4_S4x1000x1_0_0_1) ::
    StableHlo.TRef.reshape (.of main_call0_v52 : StableHlo.TRef sig ⟨S4x1000x1, .f32⟩) (.of main_call0_v53 : StableHlo.TRef sig ⟨S4x1000, .f32⟩) (rfl : (.f32 : EltTy) = .f32) shapeCasts_S4x1000x1_S4x1000 ::
    StableHlo.TRef.binary (.of main_call0_v51 : StableHlo.TRef sig ⟨S4x1000, .f32⟩) (.of main_call0_v53 : StableHlo.TRef sig ⟨S4x1000, .f32⟩) (.of main_call0_v54 : StableHlo.TRef sig ⟨S4x1000, .f32⟩) subf ::
    StableHlo.TRef.unary (.of main_call0_v42 : StableHlo.TRef sig ⟨S4x1000x2, .f32⟩) (.of main_call0_v55 : StableHlo.TRef sig ⟨S4x1000x1, .f32⟩) (extractStridedSlice S4x1000x1 ![0, 0, 0] · slices_S4x1000x2_S4x1000x1_0_0_0) ::
    StableHlo.TRef.reshape (.of main_call0_v55 : StableHlo.TRef sig ⟨S4x1000x1, .f32⟩) (.of main_call0_v56 : StableHlo.TRef sig ⟨S4x1000, .f32⟩) (rfl : (.f32 : EltTy) = .f32) shapeCasts_S4x1000x1_S4x1000 ::
    StableHlo.TRef.unary main_call0_call3.v15 (.of main_call0_v57 : StableHlo.TRef sig ⟨S4x1000x1, .f32⟩) (extractStridedSlice S4x1000x1 ![0, 0, 2] · slices_S4x1000x4_S4x1000x1_0_0_2) ::
    StableHlo.TRef.reshape (.of main_call0_v57 : StableHlo.TRef sig ⟨S4x1000x1, .f32⟩) (.of main_call0_v58 : StableHlo.TRef sig ⟨S4x1000, .f32⟩) (rfl : (.f32 : EltTy) = .f32) shapeCasts_S4x1000x1_S4x1000 ::
    StableHlo.TRef.binary (.of main_call0_v56 : StableHlo.TRef sig ⟨S4x1000, .f32⟩) (.of main_call0_v58 : StableHlo.TRef sig ⟨S4x1000, .f32⟩) (.of main_call0_v59 : StableHlo.TRef sig ⟨S4x1000, .f32⟩) addf :: r
/-- The kernel's operations, part 15. -/
abbrev kc15 (r : List (HloOp τ sig (Elt F))) : List (HloOp τ sig (Elt F)) :=
  StableHlo.TRef.unary (.of main_call0_v42 : StableHlo.TRef sig ⟨S4x1000x2, .f32⟩) (.of main_call0_v60 : StableHlo.TRef sig ⟨S4x1000x1, .f32⟩) (extractStridedSlice S4x1000x1 ![0, 0, 1] · slices_S4x1000x2_S4x1000x1_0_0_1) ::
    StableHlo.TRef.reshape (.of main_call0_v60 : StableHlo.TRef sig ⟨S4x1000x1, .f32⟩) (.of main_call0_v61 : StableHlo.TRef sig ⟨S4x1000, .f32⟩) (rfl : (.f32 : EltTy) = .f32) shapeCasts_S4x1000x1_S4x1000 ::
    StableHlo.TRef.unary main_call0_call3.v15 (.of main_call0_v62 : StableHlo.TRef sig ⟨S4x1000x1, .f32⟩) (extractStridedSlice S4x1000x1 ![0, 0, 3] · slices_S4x1000x4_S4x1000x1_0_0_3) ::
    StableHlo.TRef.reshape (.of main_call0_v62 : StableHlo.TRef sig ⟨S4x1000x1, .f32⟩) (.of main_call0_v63 : StableHlo.TRef sig ⟨S4x1000, .f32⟩) (rfl : (.f32 : EltTy) = .f32) shapeCasts_S4x1000x1_S4x1000 ::
    StableHlo.TRef.binary (.of main_call0_v61 : StableHlo.TRef sig ⟨S4x1000, .f32⟩) (.of main_call0_v63 : StableHlo.TRef sig ⟨S4x1000, .f32⟩) (.of main_call0_v64 : StableHlo.TRef sig ⟨S4x1000, .f32⟩) addf :: r
end

section
open Cert.ReferenceIdeal Cert.ReferenceIdeal.Gen
/-- The reference's operations, part 0. -/
abbrev rc0 (r : List (HloOp τ sig (Elt F))) : List (HloOp τ sig (Elt F)) :=
  StableHlo.reshape main_arg0 main_v0 (rfl : (.f32 : EltTy) = .f32) shapeCasts_S4x80x100x152_S4x1x80x100x152 ::
    StableHlo.unary main_v0 main_v1 ((transpose S4x100x152x1x80 [0, 3, 4, 1, 2] · transposes_S4x1x80x100x152_S4x100x152x1x80_0_3_4_1_2) : (⟨S4x1x80x100x152, .f32⟩ : BufTy).Contents (Elt F) → (⟨S4x100x152x1x80, .f32⟩ : BufTy).Contents (Elt F)) ::
    StableHlo.reshape main_v1 main_v2 (rfl : (.f32 : EltTy) = .f32) shapeCasts_S4x100x152x1x80_S4x15200x80 ::
    StableHlo.unary main_v2 main_v3 (Host.negf : (⟨S4x15200x80, .f32⟩ : BufTy).Contents (Elt F) → (⟨S4x15200x80, .f32⟩ : BufTy).Contents (Elt F)) ::
    StableHlo.unary main_v3 main_v4 (Host.exp : (⟨S4x15200x80, .f32⟩ : BufTy).Contents (Elt F) → (⟨S4x15200x80, .f32⟩ : BufTy).Contents (Elt F)) ::
    StableHlo.nullary main_cst (constant S_ .f32 0x3F800000#32) ::
    StableHlo.unary main_cst main_v5 (broadcastInDim S4x15200x80 ![] bcast_S_S4x15200x80 : (⟨S_, .f32⟩ : BufTy).Contents (Elt F) → (⟨S4x15200x80, .f32⟩ : BufTy).Contents (Elt F)) ::
    StableHlo.binary main_v5 main_v4 main_v6 (addf : (⟨S4x15200x80, .f32⟩ : BufTy).Contents (Elt F) → (⟨S4x15200x80, .f32⟩ : BufTy).Contents (Elt F) → (⟨S4x15200x80, .f32⟩ : BufTy).Contents (Elt F)) ::
    StableHlo.nullary main_cst_0 (constant S_ .f32 0x3F800000#32) ::
    StableHlo.unary main_cst_0 main_v7 (broadcastInDim S4x15200x80 ![] bcast_S_S4x15200x80 : (⟨S_, .f32⟩ : BufTy).Contents (Elt F) → (⟨S4x15200x80, .f32⟩ : BufTy).Contents (Elt F)) :: r
/-- The reference's operations, part 1. -/
abbrev rc1 (r : List (HloOp τ sig (Elt F))) : List (HloOp τ sig (Elt F)) :=
  StableHlo.binary main_v7 main_v6 main_v8 (Host.divf : (⟨S4x15200x80, .f32⟩ : BufTy).Contents (Elt F) → (⟨S4x15200x80, .f32⟩ : BufTy).Contents (Elt F) → (⟨S4x15200x80, .f32⟩ : BufTy).Contents (Elt F)) ::
    StableHlo.reshape main_arg1 main_v9 (rfl : (.f32 : EltTy) = .f32) shapeCasts_S4x4x100x152_S4x1x4x100x152 ::
    StableHlo.unary main_v9 main_v10 ((transpose S4x100x152x1x4 [0, 3, 4, 1, 2] · transposes_S4x1x4x100x152_S4x100x152x1x4_0_3_4_1_2) : (⟨S4x1x4x100x152, .f32⟩ : BufTy).Contents (Elt F) → (⟨S4x100x152x1x4, .f32⟩ : BufTy).Contents (Elt F)) ::
    StableHlo.reshape main_v10 main_v11 (rfl : (.f32 : EltTy) = .f32) shapeCasts_S4x100x152x1x4_S4x15200x4 ::
    StableHlo.reshape main_arg2 main_v12 (rfl : (.f32 : EltTy) = .f32) shapeCasts_S4x1x100x152_S4x1x1x100x152 ::
    StableHlo.unary main_v12 main_v13 ((transpose S4x100x152x1x1 [0, 3, 4, 1, 2] · transposes_S4x1x1x100x152_S4x100x152x1x1_0_3_4_1_2) : (⟨S4x1x1x100x152, .f32⟩ : BufTy).Contents (Elt F) → (⟨S4x100x152x1x1, .f32⟩ : BufTy).Contents (Elt F)) ::
    StableHlo.reshape main_v13 main_v14 (rfl : (.f32 : EltTy) = .f32) shapeCasts_S4x100x152x1x1_S4x15200x1 ::
    StableHlo.reshape main_v14 main_v15 (rfl : (.f32 : EltTy) = .f32) shapeCasts_S4x15200x1_S4x15200 ::
    StableHlo.unary main_v15 main_v16 (Host.negf : (⟨S4x15200, .f32⟩ : BufTy).Contents (Elt F) → (⟨S4x15200, .f32⟩ : BufTy).Contents (Elt F)) ::
    StableHlo.unary main_v16 main_v17 (Host.exp : (⟨S4x15200, .f32⟩ : BufTy).Contents (Elt F) → (⟨S4x15200, .f32⟩ : BufTy).Contents (Elt F)) :: r
/-- The reference's operations, part 2. -/
abbrev rc2 (r : List (HloOp τ sig (Elt F))) : List (HloOp τ sig (Elt F)) :=
  StableHlo.nullary main_cst_1 (constant S_ .f32 0x3F800000#32) ::
    StableHlo.unary main_cst_1 main_v18 (broadcastInDim S4x15200 ![] bcast_S_S4x15200 : (⟨S_, .f32⟩ : BufTy).Contents (Elt F) → (⟨S4x15200, .f32⟩ : BufTy).Contents (Elt F)) ::
    StableHlo.binary main_v18 main_v17 main_v19 (addf : (⟨S4x15200, .f32⟩ : BufTy).Contents (Elt F) → (⟨S4x15200, .f32⟩ : BufTy).Contents (Elt F) → (⟨S4x15200, .f32⟩ : BufTy).Contents (Elt F)) ::
    StableHlo.nullary main_cst_2 (constant S_ .f32 0x3F800000#32) ::
    StableHlo.unary main_cst_2 main_v20 (broadcastInDim S4x15200 ![] bcast_S_S4x15200 : (⟨S_, .f32⟩ : BufTy).Contents (Elt F) → (⟨S4x15200, .f32⟩ : BufTy).Contents (Elt F)) ::
    StableHlo.binary main_v20 main_v19 main_v21 (Host.divf : (⟨S4x15200, .f32⟩ : BufTy).Contents (Elt F) → (⟨S4x15200, .f32⟩ : BufTy).Contents (Elt F) → (⟨S4x15200, .f32⟩ : BufTy).Contents (Elt F)) ::
    StableHlo.nullary main_cst_3 (constant S_ .f32 0x3D4CCCCD#32) ::
    StableHlo.unary main_cst_3 main_v22 (broadcastInDim S4x15200x80 ![] bcast_S_S4x15200x80 : (⟨S_, .f32⟩ : BufTy).Contents (Elt F) → (⟨S4x15200x80, .f32⟩ : BufTy).Contents (Elt F)) ::
    StableHlo.binary main_v8 main_v22 main_v23 (cmpf .ogt : (⟨S4x15200x80, .f32⟩ : BufTy).Contents (Elt F) → (⟨S4x15200x80, .f32⟩ : BufTy).Contents (Elt F) → (⟨S4x15200x80, .i1⟩ : BufTy).Contents (Elt F)) ::
    StableHlo.unary main_v21 main_v24 (broadcastInDim S4x15200x1 ![0, 1] bcast_S4x15200_S4x15200x1_0_1 : (⟨S4x15200, .f32⟩ : BufTy).Contents (Elt F) → (⟨S4x15200x1, .f32⟩ : BufTy).Contents (Elt F)) :: r
/-- The reference's operations, part 3. -/
abbrev rc3 (r : List (HloOp τ sig (Elt F))) : List (HloOp τ sig (Elt F)) :=
  StableHlo.unary main_v24 main_v25 (broadcastInDim S4x15200x80 ![0, 1, 2] bcast_S4x15200x1_S4x15200x80_0_1_2 : (⟨S4x15200x1, .f32⟩ : BufTy).Contents (Elt F) → (⟨S4x15200x80, .f32⟩ : BufTy).Contents (Elt F)) ::
    StableHlo.binary main_v8 main_v25 main_v26 (mulf : (⟨S4x15200x80, .f32⟩ : BufTy).Contents (Elt F) → (⟨S4x15200x80, .f32⟩ : BufTy).Contents (Elt F) → (⟨S4x15200x80, .f32⟩ : BufTy).Contents (Elt F)) ::
    StableHlo.unary main_v23 main_v27 (uitofp .f32 : (⟨S4x15200x80, .i1⟩ : BufTy).Contents (Elt F) → (⟨S4x15200x80, .f32⟩ : BufTy).Contents (Elt F)) ::
    StableHlo.binary main_v26 main_v27 main_v28 (mulf : (⟨S4x15200x80, .f32⟩ : BufTy).Contents (Elt F) → (⟨S4x15200x80, .f32⟩ : BufTy).Contents (Elt F) → (⟨S4x15200x80, .f32⟩ : BufTy).Contents (Elt F)) ::
    StableHlo.reshape main_v28 main_v29 (rfl : (.f32 : EltTy) = .f32) shapeCasts_S4x15200x80_S4x1216000 ::
    StableHlo.unary main_v29 main_values ((fun x => (Host.topK S4x1000 1 (FloatOps.cmpfTotal .gt) x sliceFits_S4x1216000_S4x1000).1) : (⟨S4x1216000, .f32⟩ : BufTy).Contents (Elt F) → (⟨S4x1000, .f32⟩ : BufTy).Contents (Elt F)) ::
    StableHlo.unary main_v29 main_indices ((fun x => (Host.topK S4x1000 1 (FloatOps.cmpfTotal .gt) x sliceFits_S4x1216000_S4x1000).2) : (⟨S4x1216000, .f32⟩ : BufTy).Contents (Elt F) → (⟨S4x1000, .i32⟩ : BufTy).Contents (Elt F)) ::
    StableHlo.nullary main_c (constantI S_ 32 80#32) ::
    StableHlo.TRef.unary (.of main_c : StableHlo.TRef sig ⟨S_, .i32⟩) (.of main_call0_v0 : StableHlo.TRef sig ⟨S_, .i32⟩) id ::
    StableHlo.TRef.unary (.of main_call0_v0 : StableHlo.TRef sig ⟨S_, .i32⟩) (.of main_call0_v1 : StableHlo.TRef sig ⟨S4x1000, .i32⟩) (broadcastInDim S4x1000 ![] bcast_S_S4x1000) :: r
/-- The reference's operations, part 4. -/
abbrev rc4 (r : List (HloOp τ sig (Elt F))) : List (HloOp τ sig (Elt F)) :=
  StableHlo.TRef.binary (.of main_indices : StableHlo.TRef sig ⟨S4x1000, .i32⟩) (.of main_call0_v1 : StableHlo.TRef sig ⟨S4x1000, .i32⟩) (.of main_call0_v2 : StableHlo.TRef sig ⟨S4x1000, .i32⟩) Host.divsi ::
    StableHlo.TRef.unary (.of main_indices : StableHlo.TRef sig ⟨S4x1000, .i32⟩) (.of main_call0_v3 : StableHlo.TRef sig ⟨S4x1000, .i32⟩) signi ::
    StableHlo.TRef.unary (.of main_call0_v0 : StableHlo.TRef sig ⟨S_, .i32⟩) (.of main_call0_v4 : StableHlo.TRef sig ⟨S_, .i32⟩) signi ::
    StableHlo.TRef.unary (.of main_call0_v4 : StableHlo.TRef sig ⟨S_, .i32⟩) (.of main_call0_v5 : StableHlo.TRef sig ⟨S4x1000, .i32⟩) (broadcastInDim S4x1000 ![] bcast_S_S4x1000) ::
    StableHlo.TRef.binary (.of main_call0_v3 : StableHlo.TRef sig ⟨S4x1000, .i32⟩) (.of main_call0_v5 : StableHlo.TRef sig ⟨S4x1000, .i32⟩) (.of main_call0_v6 : StableHlo.TRef sig ⟨S4x1000, .i1⟩) (cmpi .ne) ::
    StableHlo.TRef.unary (.of main_call0_v0 : StableHlo.TRef sig ⟨S_, .i32⟩) (.of main_call0_v7 : StableHlo.TRef sig ⟨S4x1000, .i32⟩) (broadcastInDim S4x1000 ![] bcast_S_S4x1000) ::
    StableHlo.TRef.binary (.of main_indices : StableHlo.TRef sig ⟨S4x1000, .i32⟩) (.of main_call0_v7 : StableHlo.TRef sig ⟨S4x1000, .i32⟩) (.of main_call0_v8 : StableHlo.TRef sig ⟨S4x1000, .i32⟩) Host.remsi ::
    StableHlo.TRef.nullary (.of main_call0_c : StableHlo.TRef sig ⟨S_, .i32⟩) (constantI S_ 32 0#32) ::
    StableHlo.TRef.unary (.of main_call0_c : StableHlo.TRef sig ⟨S_, .i32⟩) (.of main_call0_v9 : StableHlo.TRef sig ⟨S4x1000, .i32⟩) (broadcastInDim S4x1000 ![] bcast_S_S4x1000) ::
    StableHlo.TRef.binary (.of main_call0_v8 : StableHlo.TRef sig ⟨S4x1000, .i32⟩) (.of main_call0_v9 : StableHlo.TRef sig ⟨S4x1000, .i32⟩) (.of main_call0_v10 : StableHlo.TRef sig ⟨S4x1000, .i1⟩) (cmpi .ne) :: r
/-- The reference's operations, part 5. -/
abbrev rc5 (r : List (HloOp τ sig (Elt F))) : List (HloOp τ sig (Elt F)) :=
  StableHlo.TRef.binary (.of main_call0_v6 : StableHlo.TRef sig ⟨S4x1000, .i1⟩) (.of main_call0_v10 : StableHlo.TRef sig ⟨S4x1000, .i1⟩) (.of main_call0_v11 : StableHlo.TRef sig ⟨S4x1000, .i1⟩) andi ::
    StableHlo.TRef.nullary (.of main_call0_c_0 : StableHlo.TRef sig ⟨S_, .i32⟩) (constantI S_ 32 1#32) ::
    StableHlo.TRef.unary (.of main_call0_c_0 : StableHlo.TRef sig ⟨S_, .i32⟩) (.of main_call0_v12 : StableHlo.TRef sig ⟨S4x1000, .i32⟩) (broadcastInDim S4x1000 ![] bcast_S_S4x1000) ::
    StableHlo.TRef.binary (.of main_call0_v2 : StableHlo.TRef sig ⟨S4x1000, .i32⟩) (.of main_call0_v12 : StableHlo.TRef sig ⟨S4x1000, .i32⟩) (.of main_call0_v13 : StableHlo.TRef sig ⟨S4x1000, .i32⟩) subi ::
    StableHlo.TRef.ternary (.of main_call0_v11 : StableHlo.TRef sig ⟨S4x1000, .i1⟩) (.of main_call0_v13 : StableHlo.TRef sig ⟨S4x1000, .i32⟩) (.of main_call0_v2 : StableHlo.TRef sig ⟨S4x1000, .i32⟩) (.of main_v30 : StableHlo.TRef sig ⟨S4x1000, .i32⟩) select ::
    StableHlo.nullary main_c_4 (constantI S_ 32 80#32) ::
    StableHlo.TRef.unary (.of main_c_4 : StableHlo.TRef sig ⟨S_, .i32⟩) (.of main_call1_v0 : StableHlo.TRef sig ⟨S_, .i32⟩) id ::
    StableHlo.TRef.nullary (.of main_call1_c : StableHlo.TRef sig ⟨S_, .i32⟩) (constantI S_ 32 0#32) ::
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq) ::
    StableHlo.TRef.nullary (.of main_call1_c_0 : StableHlo.TRef sig ⟨S_, .i32⟩) (constantI S_ 32 1#32) :: r
/-- The reference's operations, part 6. -/
abbrev rc6 (r : List (HloOp τ sig (Elt F))) : List (HloOp τ sig (Elt F)) :=
  StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select ::
    StableHlo.TRef.unary main_call1_call0.v0 (.of main_call1_v3 : StableHlo.TRef sig ⟨S4x1000, .i32⟩) (broadcastInDim S4x1000 ![] bcast_S_S4x1000) ::
    StableHlo.TRef.binary (.of main_indices : StableHlo.TRef sig ⟨S4x1000, .i32⟩) (.of main_call1_v3 : StableHlo.TRef sig ⟨S4x1000, .i32⟩) (.of main_call1_v4 : StableHlo.TRef sig ⟨S4x1000, .i32⟩) Host.remsi ::
    StableHlo.TRef.nullary (.of main_call1_c_1 : StableHlo.TRef sig ⟨S_, .i32⟩) (constantI S_ 32 0#32) ::
    StableHlo.TRef.unary (.of main_call1_c_1 : StableHlo.TRef sig ⟨S_, .i32⟩) (.of main_call1_v5 : StableHlo.TRef sig ⟨S4x1000, .i32⟩) (broadcastInDim S4x1000 ![] bcast_S_S4x1000) ::
    StableHlo.TRef.binary (.of main_call1_v4 : StableHlo.TRef sig ⟨S4x1000, .i32⟩) (.of main_call1_v5 : StableHlo.TRef sig ⟨S4x1000, .i32⟩) (.of main_call1_v6 : StableHlo.TRef sig ⟨S4x1000, .i1⟩) (cmpi .ne) ::
    StableHlo.TRef.nullary (.of main_call1_c_2 : StableHlo.TRef sig ⟨S_, .i32⟩) (constantI S_ 32 0#32) ::
    StableHlo.TRef.unary (.of main_call1_c_2 : StableHlo.TRef sig ⟨S_, .i32⟩) (.of main_call1_v7 : StableHlo.TRef sig ⟨S4x1000, .i32⟩) (broadcastInDim S4x1000 ![] bcast_S_S4x1000) ::
    StableHlo.TRef.binary (.of main_call1_v4 : StableHlo.TRef sig ⟨S4x1000, .i32⟩) (.of main_call1_v7 : StableHlo.TRef sig ⟨S4x1000, .i32⟩) (.of main_call1_v8 : StableHlo.TRef sig ⟨S4x1000, .i1⟩) (cmpi .slt) ::
    StableHlo.TRef.nullary (.of main_call1_c_3 : StableHlo.TRef sig ⟨S_, .i32⟩) (constantI S_ 32 0#32) :: r
/-- The reference's operations, part 7. -/
abbrev rc7 (r : List (HloOp τ sig (Elt F))) : List (HloOp τ sig (Elt F)) :=
  StableHlo.TRef.binary main_call1_call0.v0 (.of main_call1_c_3 : StableHlo.TRef sig ⟨S_, .i32⟩) (.of main_call1_v9 : StableHlo.TRef sig ⟨S_, .i1⟩) (cmpi .slt) ::
    StableHlo.TRef.unary (.of main_call1_v9 : StableHlo.TRef sig ⟨S_, .i1⟩) (.of main_call1_v10 : StableHlo.TRef sig ⟨S4x1000, .i1⟩) (broadcastInDim S4x1000 ![] bcast_S_S4x1000) ::
    StableHlo.TRef.binary (.of main_call1_v8 : StableHlo.TRef sig ⟨S4x1000, .i1⟩) (.of main_call1_v10 : StableHlo.TRef sig ⟨S4x1000, .i1⟩) (.of main_call1_v11 : StableHlo.TRef sig ⟨S4x1000, .i1⟩) (cmpi .ne) ::
    StableHlo.TRef.binary (.of main_call1_v11 : StableHlo.TRef sig ⟨S4x1000, .i1⟩) (.of main_call1_v6 : StableHlo.TRef sig ⟨S4x1000, .i1⟩) (.of main_call1_v12 : StableHlo.TRef sig ⟨S4x1000, .i1⟩) andi ::
    StableHlo.TRef.unary main_call1_call0.v0 (.of main_call1_v13 : StableHlo.TRef sig ⟨S4x1000, .i32⟩) (broadcastInDim S4x1000 ![] bcast_S_S4x1000) ::
    StableHlo.TRef.binary (.of main_call1_v4 : StableHlo.TRef sig ⟨S4x1000, .i32⟩) (.of main_call1_v13 : StableHlo.TRef sig ⟨S4x1000, .i32⟩) (.of main_call1_v14 : StableHlo.TRef sig ⟨S4x1000, .i32⟩) addi ::
    StableHlo.TRef.ternary (.of main_call1_v12 : StableHlo.TRef sig ⟨S4x1000, .i1⟩) (.of main_call1_v14 : StableHlo.TRef sig ⟨S4x1000, .i32⟩) (.of main_call1_v4 : StableHlo.TRef sig ⟨S4x1000, .i32⟩) (.of main_v31 : StableHlo.TRef sig ⟨S4x1000, .i32⟩) select ::
    StableHlo.nullary main_c_5 (constantI S_ 32 1#32) ::
    StableHlo.unary main_c_5 main_v32 (broadcastInDim S4x1000 ![] bcast_S_S4x1000 : (⟨S_, .i32⟩ : BufTy).Contents (Elt F) → (⟨S4x1000, .i32⟩ : BufTy).Contents (Elt F)) ::
    StableHlo.binary main_v31 main_v32 main_v33 (addi : (⟨S4x1000, .i32⟩ : BufTy).Contents (Elt F) → (⟨S4x1000, .i32⟩ : BufTy).Contents (Elt F) → (⟨S4x1000, .i32⟩ : BufTy).Contents (Elt F)) :: r
/-- The reference's operations, part 8. -/
abbrev rc8 (r : List (HloOp τ sig (Elt F))) : List (HloOp τ sig (Elt F)) :=
  StableHlo.reshape main_v23 main_v34 (rfl : (.i1 : EltTy) = .i1) shapeCasts_S4x15200x80_S4x1216000 ::
    StableHlo.TRef.nullary (.of main_call2_c : StableHlo.TRef sig ⟨S_, .i32⟩) (constantI S_ 32 0#32) ::
    StableHlo.TRef.unary (.of main_call2_c : StableHlo.TRef sig ⟨S_, .i32⟩) (.of main_call2_v0 : StableHlo.TRef sig ⟨S4x1000, .i32⟩) (broadcastInDim S4x1000 ![] bcast_S_S4x1000) ::
    StableHlo.TRef.binary (.of main_indices : StableHlo.TRef sig ⟨S4x1000, .i32⟩) (.of main_call2_v0 : StableHlo.TRef sig ⟨S4x1000, .i32⟩) (.of main_call2_v1 : StableHlo.TRef sig ⟨S4x1000, .i1⟩) (cmpi .slt) ::
    StableHlo.TRef.nullary (.of main_call2_c_0 : StableHlo.TRef sig ⟨S_, .i32⟩) (constantI S_ 32 1216000#32) ::
    StableHlo.TRef.unary (.of main_call2_c_0 : StableHlo.TRef sig ⟨S_, .i32⟩) (.of main_call2_v2 : StableHlo.TRef sig ⟨S4x1000, .i32⟩) (broadcastInDim S4x1000 ![] bcast_S_S4x1000) ::
    StableHlo.TRef.binary (.of main_indices : StableHlo.TRef sig ⟨S4x1000, .i32⟩) (.of main_call2_v2 : StableHlo.TRef sig ⟨S4x1000, .i32⟩) (.of main_call2_v3 : StableHlo.TRef sig ⟨S4x1000, .i32⟩) addi ::
    StableHlo.TRef.ternary (.of main_call2_v1 : StableHlo.TRef sig ⟨S4x1000, .i1⟩) (.of main_call2_v3 : StableHlo.TRef sig ⟨S4x1000, .i32⟩) (.of main_indices : StableHlo.TRef sig ⟨S4x1000, .i32⟩) (.of main_call2_v4 : StableHlo.TRef sig ⟨S4x1000, .i32⟩) select ::
    StableHlo.TRef.reshape (.of main_call2_v4 : StableHlo.TRef sig ⟨S4x1000, .i32⟩) (.of main_call2_v5 : StableHlo.TRef sig ⟨S4x1000x1, .i32⟩) (rfl : (.i32 : EltTy) = .i32) shapeCasts_S4x1000_S4x1000x1 ::
    StableHlo.TRef.nullary (.of main_call2_c_1 : StableHlo.TRef sig ⟨S1, .i32⟩) (constantI S1 32 1215999#32) :: r
/-- The reference's operations, part 9. -/
abbrev rc9 (r : List (HloOp τ sig (Elt F))) : List (HloOp τ sig (Elt F)) :=
  StableHlo.TRef.nullary (.of main_call2_c_2 : StableHlo.TRef sig ⟨S_, .i32⟩) (constantI S_ 32 0#32) ::
    StableHlo.TRef.unary (.of main_call2_c_2 : StableHlo.TRef sig ⟨S_, .i32⟩) (.of main_call2_v6 : StableHlo.TRef sig ⟨S4x1000x1, .i32⟩) (broadcastInDim S4x1000x1 ![] bcast_S_S4x1000x1) ::
    StableHlo.TRef.binary (.of main_call2_v5 : StableHlo.TRef sig ⟨S4x1000x1, .i32⟩) (.of main_call2_v6 : StableHlo.TRef sig ⟨S4x1000x1, .i32⟩) (.of main_call2_v7 : StableHlo.TRef sig ⟨S4x1000x1, .i1⟩) (cmpi .sge) ::
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2) ::
    StableHlo.TRef.unary (.of main_call2_v8 : StableHlo.TRef sig ⟨S1x1x1, .i32⟩) (.of main_call2_v9 : StableHlo.TRef sig ⟨S4x1000x1, .i32⟩) (broadcastInDim S4x1000x1 ![0, 1, 2] bcast_S1x1x1_S4x1000x1_0_1_2) ::
    StableHlo.TRef.binary (.of main_call2_v5 : StableHlo.TRef sig ⟨S4x1000x1, .i32⟩) (.of main_call2_v9 : StableHlo.TRef sig ⟨S4x1000x1, .i32⟩) (.of main_call2_v10 : StableHlo.TRef sig ⟨S4x1000x1, .i1⟩) (cmpi .sle) ::
    StableHlo.TRef.binary (.of main_call2_v7 : StableHlo.TRef sig ⟨S4x1000x1, .i1⟩) (.of main_call2_v10 : StableHlo.TRef sig ⟨S4x1000x1, .i1⟩) (.of main_call2_v11 : StableHlo.TRef sig ⟨S4x1000x1, .i1⟩) andi ::
    StableHlo.TRef.nullary (.of main_call2_c_3 : StableHlo.TRef sig ⟨S_, .i1⟩) (constantI S_ 1 1#1) ::
    StableHlo.TRef.binary (.of main_call2_v11 : StableHlo.TRef sig ⟨S4x1000x1, .i1⟩) (.of main_call2_c_3 : StableHlo.TRef sig ⟨S_, .i1⟩) (.of main_call2_v12 : StableHlo.TRef sig ⟨S4x1000, .i1⟩) (fun x v => Host.reduce IntOp.andi x v reducesTo_S4x1000x1_S4x1000_d2 h_S_) ::
    StableHlo.TRef.binary (.of main_v34 : StableHlo.TRef sig ⟨S4x1216000, .i1⟩) (.of main_call2_v5 : StableHlo.TRef sig ⟨S4x1000x1, .i32⟩) (.of main_call2_v13 : StableHlo.TRef sig ⟨S4x1000, .i1⟩) (fun x i => Host.gather gather_S4x1216000_S4x1000x1_S4x1000_n_1_0_0_1_2_11 x i) :: r
/-- The reference's operations, part 10. -/
abbrev rc10 (r : List (HloOp τ sig (Elt F))) : List (HloOp τ sig (Elt F)) :=
  StableHlo.TRef.nullary (.of main_call2_c_4 : StableHlo.TRef sig ⟨S_, .i1⟩) (constantI S_ 1 1#1) ::
    StableHlo.TRef.unary (.of main_call2_c_4 : StableHlo.TRef sig ⟨S_, .i1⟩) (.of main_call2_v14 : StableHlo.TRef sig ⟨S4x1000, .i1⟩) (broadcastInDim S4x1000 ![] bcast_S_S4x1000) ::
    StableHlo.TRef.ternary (.of main_call2_v12 : StableHlo.TRef sig ⟨S4x1000, .i1⟩) (.of main_call2_v13 : StableHlo.TRef sig ⟨S4x1000, .i1⟩) (.of main_call2_v14 : StableHlo.TRef sig ⟨S4x1000, .i1⟩) (.of main_v35 : StableHlo.TRef sig ⟨S4x1000, .i1⟩) select ::
    StableHlo.nullary main_c_6 (constantI S_ 32 0#32) ::
    StableHlo.unary main_c_6 main_v36 (broadcastInDim S4x1000 ![] bcast_S_S4x1000 : (⟨S_, .i32⟩ : BufTy).Contents (Elt F) → (⟨S4x1000, .i32⟩ : BufTy).Contents (Elt F)) ::
    StableHlo.binary main_v30 main_v36 main_v37 (cmpi .slt : (⟨S4x1000, .i32⟩ : BufTy).Contents (Elt F) → (⟨S4x1000, .i32⟩ : BufTy).Contents (Elt F) → (⟨S4x1000, .i1⟩ : BufTy).Contents (Elt F)) ::
    StableHlo.nullary main_c_7 (constantI S_ 32 15200#32) ::
    StableHlo.unary main_c_7 main_v38 (broadcastInDim S4x1000 ![] bcast_S_S4x1000 : (⟨S_, .i32⟩ : BufTy).Contents (Elt F) → (⟨S4x1000, .i32⟩ : BufTy).Contents (Elt F)) ::
    StableHlo.binary main_v30 main_v38 main_v39 (addi : (⟨S4x1000, .i32⟩ : BufTy).Contents (Elt F) → (⟨S4x1000, .i32⟩ : BufTy).Contents (Elt F) → (⟨S4x1000, .i32⟩ : BufTy).Contents (Elt F)) ::
    StableHlo.ternary main_v37 main_v39 main_v30 main_v40 (select : (⟨S4x1000, .i1⟩ : BufTy).Contents (Elt F) → (⟨S4x1000, .i32⟩ : BufTy).Contents (Elt F) → (⟨S4x1000, .i32⟩ : BufTy).Contents (Elt F) → (⟨S4x1000, .i32⟩ : BufTy).Contents (Elt F)) :: r
/-- The reference's operations, part 11. -/
abbrev rc11 (r : List (HloOp τ sig (Elt F))) : List (HloOp τ sig (Elt F)) :=
  StableHlo.unary main_v40 main_v41 (broadcastInDim S4x1000x1 ![0, 1] bcast_S4x1000_S4x1000x1_0_1 : (⟨S4x1000, .i32⟩ : BufTy).Contents (Elt F) → (⟨S4x1000x1, .i32⟩ : BufTy).Contents (Elt F)) ::
    StableHlo.binary main_arg3 main_v41 main_v42 ((fun x i => Host.gather gather_S15200x2_S4x1000x1_S4x1000x2_2_0_n_n_0_2_12 x i) : (⟨S15200x2, .f32⟩ : BufTy).Contents (Elt F) → (⟨S4x1000x1, .i32⟩ : BufTy).Contents (Elt F) → (⟨S4x1000x2, .f32⟩ : BufTy).Contents (Elt F)) ::
    StableHlo.unary main_v30 main_v43 (broadcastInDim S4x1000x1 ![0, 1] bcast_S4x1000_S4x1000x1_0_1 : (⟨S4x1000, .i32⟩ : BufTy).Contents (Elt F) → (⟨S4x1000x1, .i32⟩ : BufTy).Contents (Elt F)) ::
    StableHlo.TRef.nullary (.of main_call3_c : StableHlo.TRef sig ⟨S_, .i32⟩) (constantI S_ 32 0#32) ::
    StableHlo.TRef.unary (.of main_call3_c : StableHlo.TRef sig ⟨S_, .i32⟩) (.of main_call3_v0 : StableHlo.TRef sig ⟨S4x1000x1, .i32⟩) (broadcastInDim S4x1000x1 ![] bcast_S_S4x1000x1) ::
    StableHlo.TRef.binary (.of main_v43 : StableHlo.TRef sig ⟨S4x1000x1, .i32⟩) (.of main_call3_v0 : StableHlo.TRef sig ⟨S4x1000x1, .i32⟩) (.of main_call3_v1 : StableHlo.TRef sig ⟨S4x1000x1, .i1⟩) (cmpi .slt) ::
    StableHlo.TRef.nullary (.of main_call3_c_0 : StableHlo.TRef sig ⟨S_, .i32⟩) (constantI S_ 32 15200#32) ::
    StableHlo.TRef.unary (.of main_call3_c_0 : StableHlo.TRef sig ⟨S_, .i32⟩) (.of main_call3_v2 : StableHlo.TRef sig ⟨S4x1000x1, .i32⟩) (broadcastInDim S4x1000x1 ![] bcast_S_S4x1000x1) ::
    StableHlo.TRef.binary (.of main_v43 : StableHlo.TRef sig ⟨S4x1000x1, .i32⟩) (.of main_call3_v2 : StableHlo.TRef sig ⟨S4x1000x1, .i32⟩) (.of main_call3_v3 : StableHlo.TRef sig ⟨S4x1000x1, .i32⟩) addi ::
    StableHlo.TRef.ternary (.of main_call3_v1 : StableHlo.TRef sig ⟨S4x1000x1, .i1⟩) (.of main_call3_v3 : StableHlo.TRef sig ⟨S4x1000x1, .i32⟩) (.of main_v43 : StableHlo.TRef sig ⟨S4x1000x1, .i32⟩) (.of main_call3_v4 : StableHlo.TRef sig ⟨S4x1000x1, .i32⟩) select :: r
/-- The reference's operations, part 12. -/
abbrev rc12 (r : List (HloOp τ sig (Elt F))) : List (HloOp τ sig (Elt F)) :=
  StableHlo.TRef.nullary (.of main_call3_c_1 : StableHlo.TRef sig ⟨S1, .i32⟩) (constantI S1 32 15199#32) ::
    StableHlo.TRef.nullary (.of main_call3_c_2 : StableHlo.TRef sig ⟨S_, .i32⟩) (constantI S_ 32 0#32) ::
    StableHlo.TRef.unary (.of main_call3_c_2 : StableHlo.TRef sig ⟨S_, .i32⟩) (.of main_call3_v5 : StableHlo.TRef sig ⟨S4x1000x1, .i32⟩) (broadcastInDim S4x1000x1 ![] bcast_S_S4x1000x1) ::
    StableHlo.TRef.binary (.of main_call3_v4 : StableHlo.TRef sig ⟨S4x1000x1, .i32⟩) (.of main_call3_v5 : StableHlo.TRef sig ⟨S4x1000x1, .i32⟩) (.of main_call3_v6 : StableHlo.TRef sig ⟨S4x1000x1, .i1⟩) (cmpi .sge) ::
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2) ::
    StableHlo.TRef.unary (.of main_call3_v7 : StableHlo.TRef sig ⟨S1x1x1, .i32⟩) (.of main_call3_v8 : StableHlo.TRef sig ⟨S4x1000x1, .i32⟩) (broadcastInDim S4x1000x1 ![0, 1, 2] bcast_S1x1x1_S4x1000x1_0_1_2) ::
    StableHlo.TRef.binary (.of main_call3_v4 : StableHlo.TRef sig ⟨S4x1000x1, .i32⟩) (.of main_call3_v8 : StableHlo.TRef sig ⟨S4x1000x1, .i32⟩) (.of main_call3_v9 : StableHlo.TRef sig ⟨S4x1000x1, .i1⟩) (cmpi .sle) ::
    StableHlo.TRef.binary (.of main_call3_v6 : StableHlo.TRef sig ⟨S4x1000x1, .i1⟩) (.of main_call3_v9 : StableHlo.TRef sig ⟨S4x1000x1, .i1⟩) (.of main_call3_v10 : StableHlo.TRef sig ⟨S4x1000x1, .i1⟩) andi ::
    StableHlo.TRef.nullary (.of main_call3_c_3 : StableHlo.TRef sig ⟨S_, .i1⟩) (constantI S_ 1 1#1) ::
    StableHlo.TRef.binary (.of main_call3_v10 : StableHlo.TRef sig ⟨S4x1000x1, .i1⟩) (.of main_call3_c_3 : StableHlo.TRef sig ⟨S_, .i1⟩) (.of main_call3_v11 : StableHlo.TRef sig ⟨S4x1000, .i1⟩) (fun x v => Host.reduce IntOp.andi x v reducesTo_S4x1000x1_S4x1000_d2 h_S_) :: r
/-- The reference's operations, part 13. -/
abbrev rc13 (r : List (HloOp τ sig (Elt F))) : List (HloOp τ sig (Elt F)) :=
  StableHlo.TRef.binary (.of main_v11 : StableHlo.TRef sig ⟨S4x15200x4, .f32⟩) (.of main_call3_v4 : StableHlo.TRef sig ⟨S4x1000x1, .i32⟩) (.of main_call3_v12 : StableHlo.TRef sig ⟨S4x1000x4, .f32⟩) (fun x i => Host.gather gather_S4x15200x4_S4x1000x1_S4x1000x4_2_1_0_0_1_2_114 x i) ::
    StableHlo.TRef.unary (.of main_call3_v11 : StableHlo.TRef sig ⟨S4x1000, .i1⟩) (.of main_call3_v13 : StableHlo.TRef sig ⟨S4x1000x4, .i1⟩) (broadcastInDim S4x1000x4 ![0, 1] bcast_S4x1000_S4x1000x4_0_1) ::
    StableHlo.TRef.nullary (.of main_call3_cst : StableHlo.TRef sig ⟨S_, .f32⟩) (constant S_ .f32 0x7FC00000#32) ::
    StableHlo.TRef.unary (.of main_call3_cst : StableHlo.TRef sig ⟨S_, .f32⟩) (.of main_call3_v14 : StableHlo.TRef sig ⟨S4x1000x4, .f32⟩) (broadcastInDim S4x1000x4 ![] bcast_S_S4x1000x4) ::
    StableHlo.TRef.ternary (.of main_call3_v13 : StableHlo.TRef sig ⟨S4x1000x4, .i1⟩) (.of main_call3_v12 : StableHlo.TRef sig ⟨S4x1000x4, .f32⟩) (.of main_call3_v14 : StableHlo.TRef sig ⟨S4x1000x4, .f32⟩) (.of main_v44 : StableHlo.TRef sig ⟨S4x1000x4, .f32⟩) select ::
    StableHlo.unary main_v42 main_v45 ((extractStridedSlice S4x1000x1 ![0, 0, 0] · slices_S4x1000x2_S4x1000x1_0_0_0) : (⟨S4x1000x2, .f32⟩ : BufTy).Contents (Elt F) → (⟨S4x1000x1, .f32⟩ : BufTy).Contents (Elt F)) ::
    StableHlo.reshape main_v45 main_v46 (rfl : (.f32 : EltTy) = .f32) shapeCasts_S4x1000x1_S4x1000 ::
    StableHlo.unary main_v44 main_v47 ((extractStridedSlice S4x1000x1 ![0, 0, 0] · slices_S4x1000x4_S4x1000x1_0_0_0) : (⟨S4x1000x4, .f32⟩ : BufTy).Contents (Elt F) → (⟨S4x1000x1, .f32⟩ : BufTy).Contents (Elt F)) ::
    StableHlo.reshape main_v47 main_v48 (rfl : (.f32 : EltTy) = .f32) shapeCasts_S4x1000x1_S4x1000 ::
    StableHlo.binary main_v46 main_v48 main_v49 (subf : (⟨S4x1000, .f32⟩ : BufTy).Contents (Elt F) → (⟨S4x1000, .f32⟩ : BufTy).Contents (Elt F) → (⟨S4x1000, .f32⟩ : BufTy).Contents (Elt F)) :: r
/-- The reference's operations, part 14. -/
abbrev rc14 (r : List (HloOp τ sig (Elt F))) : List (HloOp τ sig (Elt F)) :=
  StableHlo.unary main_v42 main_v50 ((extractStridedSlice S4x1000x1 ![0, 0, 1] · slices_S4x1000x2_S4x1000x1_0_0_1) : (⟨S4x1000x2, .f32⟩ : BufTy).Contents (Elt F) → (⟨S4x1000x1, .f32⟩ : BufTy).Contents (Elt F)) ::
    StableHlo.reshape main_v50 main_v51 (rfl : (.f32 : EltTy) = .f32) shapeCasts_S4x1000x1_S4x1000 ::
    StableHlo.unary main_v44 main_v52 ((extractStridedSlice S4x1000x1 ![0, 0, 1] · slices_S4x1000x4_S4x1000x1_0_0_1) : (⟨S4x1000x4, .f32⟩ : BufTy).Contents (Elt F) → (⟨S4x1000x1, .f32⟩ : BufTy).Contents (Elt F)) ::
    StableHlo.reshape main_v52 main_v53 (rfl : (.f32 : EltTy) = .f32) shapeCasts_S4x1000x1_S4x1000 ::
    StableHlo.binary main_v51 main_v53 main_v54 (subf : (⟨S4x1000, .f32⟩ : BufTy).Contents (Elt F) → (⟨S4x1000, .f32⟩ : BufTy).Contents (Elt F) → (⟨S4x1000, .f32⟩ : BufTy).Contents (Elt F)) ::
    StableHlo.unary main_v42 main_v55 ((extractStridedSlice S4x1000x1 ![0, 0, 0] · slices_S4x1000x2_S4x1000x1_0_0_0) : (⟨S4x1000x2, .f32⟩ : BufTy).Contents (Elt F) → (⟨S4x1000x1, .f32⟩ : BufTy).Contents (Elt F)) ::
    StableHlo.reshape main_v55 main_v56 (rfl : (.f32 : EltTy) = .f32) shapeCasts_S4x1000x1_S4x1000 ::
    StableHlo.unary main_v44 main_v57 ((extractStridedSlice S4x1000x1 ![0, 0, 2] · slices_S4x1000x4_S4x1000x1_0_0_2) : (⟨S4x1000x4, .f32⟩ : BufTy).Contents (Elt F) → (⟨S4x1000x1, .f32⟩ : BufTy).Contents (Elt F)) ::
    StableHlo.reshape main_v57 main_v58 (rfl : (.f32 : EltTy) = .f32) shapeCasts_S4x1000x1_S4x1000 ::
    StableHlo.binary main_v56 main_v58 main_v59 (addf : (⟨S4x1000, .f32⟩ : BufTy).Contents (Elt F) → (⟨S4x1000, .f32⟩ : BufTy).Contents (Elt F) → (⟨S4x1000, .f32⟩ : BufTy).Contents (Elt F)) :: r
/-- The reference's operations, part 15. -/
abbrev rc15 (r : List (HloOp τ sig (Elt F))) : List (HloOp τ sig (Elt F)) :=
  StableHlo.unary main_v42 main_v60 ((extractStridedSlice S4x1000x1 ![0, 0, 1] · slices_S4x1000x2_S4x1000x1_0_0_1) : (⟨S4x1000x2, .f32⟩ : BufTy).Contents (Elt F) → (⟨S4x1000x1, .f32⟩ : BufTy).Contents (Elt F)) ::
    StableHlo.reshape main_v60 main_v61 (rfl : (.f32 : EltTy) = .f32) shapeCasts_S4x1000x1_S4x1000 ::
    StableHlo.unary main_v44 main_v62 ((extractStridedSlice S4x1000x1 ![0, 0, 3] · slices_S4x1000x4_S4x1000x1_0_0_3) : (⟨S4x1000x4, .f32⟩ : BufTy).Contents (Elt F) → (⟨S4x1000x1, .f32⟩ : BufTy).Contents (Elt F)) ::
    StableHlo.reshape main_v62 main_v63 (rfl : (.f32 : EltTy) = .f32) shapeCasts_S4x1000x1_S4x1000 ::
    StableHlo.binary main_v61 main_v63 main_v64 (addf : (⟨S4x1000, .f32⟩ : BufTy).Contents (Elt F) → (⟨S4x1000, .f32⟩ : BufTy).Contents (Elt F) → (⟨S4x1000, .f32⟩ : BufTy).Contents (Elt F)) :: r
end

/-- The pairs still to be read after part 0. -/
abbrev live1 : Pairs Cert.KernelIdeal.sig Cert.ReferenceIdeal.sig :=
  [(Cert.KernelIdeal.main_arg1, Cert.ReferenceIdeal.main_arg1),
   (Cert.KernelIdeal.main_arg2, Cert.ReferenceIdeal.main_arg2),
   (Cert.KernelIdeal.main_arg3, Cert.ReferenceIdeal.main_arg3),
   (Cert.KernelIdeal.main_arg4, Cert.ReferenceIdeal.main_arg4),
   (Cert.KernelIdeal.main_call0_v6, Cert.ReferenceIdeal.main_v6),
   (Cert.KernelIdeal.main_call0_v7, Cert.ReferenceIdeal.main_v7)]
/-- The pairs still to be read after part 1. -/
abbrev live2 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v8, Cert.ReferenceIdeal.main_v8),
   (Cert.KernelIdeal.main_call0_v11, Cert.ReferenceIdeal.main_v11),
   (Cert.KernelIdeal.main_call0_v17, Cert.ReferenceIdeal.main_v17)]
/-- The pairs still to be read after part 2. -/
abbrev live3 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v8, Cert.ReferenceIdeal.main_v8),
   (Cert.KernelIdeal.main_call0_v11, Cert.ReferenceIdeal.main_v11),
   (Cert.KernelIdeal.main_call0_v23, Cert.ReferenceIdeal.main_v23),
   (Cert.KernelIdeal.main_call0_v24, Cert.ReferenceIdeal.main_v24)]
/-- The pairs still to be read after part 3. -/
abbrev live4 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v11, Cert.ReferenceIdeal.main_v11),
   (Cert.KernelIdeal.main_call0_v23, Cert.ReferenceIdeal.main_v23),
   (Cert.KernelIdeal.main_call0_values, Cert.ReferenceIdeal.main_values),
   (Cert.KernelIdeal.main_call0_indices, Cert.ReferenceIdeal.main_indices),
   (Cert.KernelIdeal.main_call0_call0_v0, Cert.ReferenceIdeal.main_call0_v0),
   (Cert.KernelIdeal.main_call0_call0_v1, Cert.ReferenceIdeal.main_call0_v1)]
/-- The pairs still to be read after part 4. -/
abbrev live5 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v11, Cert.ReferenceIdeal.main_v11),
   (Cert.KernelIdeal.main_call0_v23, Cert.ReferenceIdeal.main_v23),
   (Cert.KernelIdeal.main_call0_values, Cert.ReferenceIdeal.main_values),
   (Cert.KernelIdeal.main_call0_indices, Cert.ReferenceIdeal.main_indices),
   (Cert.KernelIdeal.main_call0_call0_v2, Cert.ReferenceIdeal.main_call0_v2),
   (Cert.KernelIdeal.main_call0_call0_v6, Cert.ReferenceIdeal.main_call0_v6),
   (Cert.KernelIdeal.main_call0_call0_v10, Cert.ReferenceIdeal.main_call0_v10)]
/-- The pairs still to be read after part 5. -/
abbrev live6 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v11, Cert.ReferenceIdeal.main_v11),
   (Cert.KernelIdeal.main_call0_v23, Cert.ReferenceIdeal.main_v23),
   (Cert.KernelIdeal.main_call0_values, Cert.ReferenceIdeal.main_values),
   (Cert.KernelIdeal.main_call0_indices, Cert.ReferenceIdeal.main_indices),
   (Cert.KernelIdeal.main_call0_v30, Cert.ReferenceIdeal.main_v30),
   (Cert.KernelIdeal.main_call0_call1_v0, Cert.ReferenceIdeal.main_call1_v0),
   (Cert.KernelIdeal.main_call0_call1_v1, Cert.ReferenceIdeal.main_call1_v1),
   (Cert.KernelIdeal.main_call0_call1_c_0, Cert.ReferenceIdeal.main_call1_c_0)]
/-- The pairs still to be read after part 6. -/
abbrev live7 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v11, Cert.ReferenceIdeal.main_v11),
   (Cert.KernelIdeal.main_call0_v23, Cert.ReferenceIdeal.main_v23),
   (Cert.KernelIdeal.main_call0_values, Cert.ReferenceIdeal.main_values),
   (Cert.KernelIdeal.main_call0_indices, Cert.ReferenceIdeal.main_indices),
   (Cert.KernelIdeal.main_call0_v30, Cert.ReferenceIdeal.main_v30),
   (Cert.KernelIdeal.main_call0_call1_v2, Cert.ReferenceIdeal.main_call1_v2),
   (Cert.KernelIdeal.main_call0_call1_v4, Cert.ReferenceIdeal.main_call1_v4),
   (Cert.KernelIdeal.main_call0_call1_v6, Cert.ReferenceIdeal.main_call1_v6),
   (Cert.KernelIdeal.main_call0_call1_v8, Cert.ReferenceIdeal.main_call1_v8),
   (Cert.KernelIdeal.main_call0_call1_c_3, Cert.ReferenceIdeal.main_call1_c_3)]
/-- The pairs still to be read after part 7. -/
abbrev live8 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v11, Cert.ReferenceIdeal.main_v11),
   (Cert.KernelIdeal.main_call0_v23, Cert.ReferenceIdeal.main_v23),
   (Cert.KernelIdeal.main_call0_values, Cert.ReferenceIdeal.main_values),
   (Cert.KernelIdeal.main_call0_indices, Cert.ReferenceIdeal.main_indices),
   (Cert.KernelIdeal.main_call0_v30, Cert.ReferenceIdeal.main_v30),
   (Cert.KernelIdeal.main_call0_v33, Cert.ReferenceIdeal.main_v33)]
/-- The pairs still to be read after part 8. -/
abbrev live9 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v11, Cert.ReferenceIdeal.main_v11),
   (Cert.KernelIdeal.main_call0_values, Cert.ReferenceIdeal.main_values),
   (Cert.KernelIdeal.main_call0_v30, Cert.ReferenceIdeal.main_v30),
   (Cert.KernelIdeal.main_call0_v33, Cert.ReferenceIdeal.main_v33),
   (Cert.KernelIdeal.main_call0_v34, Cert.ReferenceIdeal.main_v34),
   (Cert.KernelIdeal.main_call0_call2_v5, Cert.ReferenceIdeal.main_call2_v5),
   (Cert.KernelIdeal.main_call0_call2_c_1, Cert.ReferenceIdeal.main_call2_c_1)]
/-- The pairs still to be read after part 9. -/
abbrev live10 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v11, Cert.ReferenceIdeal.main_v11),
   (Cert.KernelIdeal.main_call0_values, Cert.ReferenceIdeal.main_values),
   (Cert.KernelIdeal.main_call0_v30, Cert.ReferenceIdeal.main_v30),
   (Cert.KernelIdeal.main_call0_v33, Cert.ReferenceIdeal.main_v33),
   (Cert.KernelIdeal.main_call0_call2_v12, Cert.ReferenceIdeal.main_call2_v12),
   (Cert.KernelIdeal.main_call0_call2_v13, Cert.ReferenceIdeal.main_call2_v13)]
/-- The pairs still to be read after part 10. -/
abbrev live11 : Pairs Cert.KernelIdeal.sig Cert.ReferenceIdeal.sig :=
  [(Cert.KernelIdeal.main_arg3, Cert.ReferenceIdeal.main_arg3),
   (Cert.KernelIdeal.main_arg4, Cert.ReferenceIdeal.main_arg4),
   (Cert.KernelIdeal.main_call0_v11, Cert.ReferenceIdeal.main_v11),
   (Cert.KernelIdeal.main_call0_values, Cert.ReferenceIdeal.main_values),
   (Cert.KernelIdeal.main_call0_v30, Cert.ReferenceIdeal.main_v30),
   (Cert.KernelIdeal.main_call0_v33, Cert.ReferenceIdeal.main_v33),
   (Cert.KernelIdeal.main_call0_v35, Cert.ReferenceIdeal.main_v35),
   (Cert.KernelIdeal.main_call0_v40, Cert.ReferenceIdeal.main_v40)]
/-- The pairs still to be read after part 11. -/
abbrev live12 : Pairs Cert.KernelIdeal.sig Cert.ReferenceIdeal.sig :=
  [(Cert.KernelIdeal.main_arg4, Cert.ReferenceIdeal.main_arg4),
   (Cert.KernelIdeal.main_call0_v11, Cert.ReferenceIdeal.main_v11),
   (Cert.KernelIdeal.main_call0_values, Cert.ReferenceIdeal.main_values),
   (Cert.KernelIdeal.main_call0_v33, Cert.ReferenceIdeal.main_v33),
   (Cert.KernelIdeal.main_call0_v35, Cert.ReferenceIdeal.main_v35),
   (Cert.KernelIdeal.main_call0_v42, Cert.ReferenceIdeal.main_v42),
   (Cert.KernelIdeal.main_call0_call3_v4, Cert.ReferenceIdeal.main_call3_v4)]
/-- The pairs still to be read after part 12. -/
abbrev live13 : Pairs Cert.KernelIdeal.sig Cert.ReferenceIdeal.sig :=
  [(Cert.KernelIdeal.main_arg4, Cert.ReferenceIdeal.main_arg4),
   (Cert.KernelIdeal.main_call0_v11, Cert.ReferenceIdeal.main_v11),
   (Cert.KernelIdeal.main_call0_values, Cert.ReferenceIdeal.main_values),
   (Cert.KernelIdeal.main_call0_v33, Cert.ReferenceIdeal.main_v33),
   (Cert.KernelIdeal.main_call0_v35, Cert.ReferenceIdeal.main_v35),
   (Cert.KernelIdeal.main_call0_v42, Cert.ReferenceIdeal.main_v42),
   (Cert.KernelIdeal.main_call0_call3_v4, Cert.ReferenceIdeal.main_call3_v4),
   (Cert.KernelIdeal.main_call0_call3_v11, Cert.ReferenceIdeal.main_call3_v11)]
/-- The pairs still to be read after part 13. -/
abbrev live14 : Pairs Cert.KernelIdeal.sig Cert.ReferenceIdeal.sig :=
  [(Cert.KernelIdeal.main_arg4, Cert.ReferenceIdeal.main_arg4),
   (Cert.KernelIdeal.main_call0_values, Cert.ReferenceIdeal.main_values),
   (Cert.KernelIdeal.main_call0_v33, Cert.ReferenceIdeal.main_v33),
   (Cert.KernelIdeal.main_call0_v35, Cert.ReferenceIdeal.main_v35),
   (Cert.KernelIdeal.main_call0_v42, Cert.ReferenceIdeal.main_v42),
   (Cert.KernelIdeal.main_call0_v44, Cert.ReferenceIdeal.main_v44),
   (Cert.KernelIdeal.main_call0_v49, Cert.ReferenceIdeal.main_v49)]
/-- The pairs still to be read after part 14. -/
abbrev live15 : Pairs Cert.KernelIdeal.sig Cert.ReferenceIdeal.sig :=
  [(Cert.KernelIdeal.main_arg4, Cert.ReferenceIdeal.main_arg4),
   (Cert.KernelIdeal.main_call0_values, Cert.ReferenceIdeal.main_values),
   (Cert.KernelIdeal.main_call0_v33, Cert.ReferenceIdeal.main_v33),
   (Cert.KernelIdeal.main_call0_v35, Cert.ReferenceIdeal.main_v35),
   (Cert.KernelIdeal.main_call0_v42, Cert.ReferenceIdeal.main_v42),
   (Cert.KernelIdeal.main_call0_v44, Cert.ReferenceIdeal.main_v44),
   (Cert.KernelIdeal.main_call0_v49, Cert.ReferenceIdeal.main_v49),
   (Cert.KernelIdeal.main_call0_v54, Cert.ReferenceIdeal.main_v54),
   (Cert.KernelIdeal.main_call0_v59, Cert.ReferenceIdeal.main_v59)]

end Cert.Sim

end
-- ==== Proof.Prefix.lean ====
/- The kernel's program and the reference's program choose the same thousand candidates per image: their first 155 host
   operations are the same, so what both go on from is the same. -/
module

public import proofs.«01_k».proof.Proof.PrefixOps

@[expose] public section

set_option maxRecDepth 32768
set_option maxHeartbeats 1000000

noncomputable section

namespace Cert.Sim

open Idealize.ShloMosaic Idealize.ShloMosaic.TcCoe Idealize.ShloMosaic.StableHlo Idealize.SL.Sem

variable {F : FTy → Type} [FloatOps F]

/-- Part 0 of the two programs. -/
theorem part0 (r : List (HloOp Cert.KernelIdeal.τ Cert.KernelIdeal.sig (Elt F))) (r' : List (HloOp Cert.ReferenceIdeal.τ Cert.ReferenceIdeal.sig (Elt F))) :
    Sims argPairs live1 (kc0 r) r (rc0 r') r' := by
  refine Sims.reshape (by decide +kernel) (by decide +kernel) rfl rfl ?_
  refine Sims.unary (by decide +kernel) (by decide +kernel) rfl rfl HEq.rfl ?_
  refine Sims.reshape (by decide +kernel) (by decide +kernel) rfl rfl ?_
  refine Sims.unary (by decide +kernel) (by decide +kernel) rfl rfl HEq.rfl ?_
  refine Sims.unary (by decide +kernel) (by decide +kernel) rfl rfl HEq.rfl ?_
  refine Sims.nullary (by decide +kernel) HEq.rfl ?_
  refine Sims.unary (by decide +kernel) (by decide +kernel) rfl rfl HEq.rfl ?_
  refine Sims.binary (by decide +kernel) (by decide +kernel) (by decide +kernel) rfl rfl rfl HEq.rfl ?_
  refine Sims.nullary (by decide +kernel) HEq.rfl ?_
  refine Sims.unary (by decide +kernel) (by decide +kernel) rfl rfl HEq.rfl ?_
  exact Sims.done (by decide +kernel) _ _

/-- Part 1 of the two programs. -/
theorem part1 (r : List (HloOp Cert.KernelIdeal.τ Cert.KernelIdeal.sig (Elt F))) (r' : List (HloOp Cert.ReferenceIdeal.τ Cert.ReferenceIdeal.sig (Elt F))) :
    Sims live1 live2 (kc1 r) r (rc1 r') r' := by
  refine Sims.binary (by decide +kernel) (by decide +kernel) (by decide +kernel) rfl rfl rfl HEq.rfl ?_
  refine Sims.reshape (by decide +kernel) (by decide +kernel) rfl rfl ?_
  refine Sims.unary (by decide +kernel) (by decide +kernel) rfl rfl HEq.rfl ?_
  refine Sims.reshape (by decide +kernel) (by decide +kernel) rfl rfl ?_
  refine Sims.reshape (by decide +kernel) (by decide +kernel) rfl rfl ?_
  refine Sims.unary (by decide +kernel) (by decide +kernel) rfl rfl HEq.rfl ?_
  refine Sims.reshape (by decide +kernel) (by decide +kernel) rfl rfl ?_
  refine Sims.reshape (by decide +kernel) (by decide +kernel) rfl rfl ?_
  refine Sims.unary (by decide +kernel) (by decide +kernel) rfl rfl HEq.rfl ?_
  refine Sims.unary (by decide +kernel) (by decide +kernel) rfl rfl HEq.rfl ?_
  exact Sims.done (by decide +kernel) _ _

/-- Part 2 of the two programs. -/
theorem part2 (r : List (HloOp Cert.KernelIdeal.τ Cert.KernelIdeal.sig (Elt F))) (r' : List (HloOp Cert.ReferenceIdeal.τ Cert.ReferenceIdeal.sig (Elt F))) :
    Sims live2 live3 (kc2 r) r (rc2 r') r' := by
  refine Sims.nullary (by decide +kernel) HEq.rfl ?_
  refine Sims.unary (by decide +kernel) (by decide +kernel) rfl rfl HEq.rfl ?_
  refine Sims.binary (by decide +kernel) (by decide +kernel) (by decide +kernel) rfl rfl rfl HEq.rfl ?_
  refine Sims.nullary (by decide +kernel) HEq.rfl ?_
  refine Sims.unary (by decide +kernel) (by decide +kernel) rfl rfl HEq.rfl ?_
  refine Sims.binary (by decide +kernel) (by decide +kernel) (by decide +kernel) rfl rfl rfl HEq.rfl ?_
  refine Sims.nullary (by decide +kernel) HEq.rfl ?_
  refine Sims.unary (by decide +kernel) (by decide +kernel) rfl rfl HEq.rfl ?_
  refine Sims.binary (by decide +kernel) (by decide +kernel) (by decide +kernel) rfl rfl rfl HEq.rfl ?_
  refine Sims.unary (by decide +kernel) (by decide +kernel) rfl rfl HEq.rfl ?_
  exact Sims.done (by decide +kernel) _ _

/-- Part 3 of the two programs. -/
theorem part3 (r : List (HloOp Cert.KernelIdeal.τ Cert.KernelIdeal.sig (Elt F))) (r' : List (HloOp Cert.ReferenceIdeal.τ Cert.ReferenceIdeal.sig (Elt F))) :
    Sims live3 live4 (kc3 r) r (rc3 r') r' := by
  refine Sims.unary (by decide +kernel) (by decide +kernel) rfl rfl HEq.rfl ?_
  refine Sims.binary (by decide +kernel) (by decide +kernel) (by decide +kernel) rfl rfl rfl HEq.rfl ?_
  refine Sims.unary (by decide +kernel) (by decide +kernel) rfl rfl HEq.rfl ?_
  refine Sims.binary (by decide +kernel) (by decide +kernel) (by decide +kernel) rfl rfl rfl HEq.rfl ?_
  refine Sims.reshape (by decide +kernel) (by decide +kernel) rfl rfl ?_
  refine Sims.unary (by decide +kernel) (by decide +kernel) rfl rfl HEq.rfl ?_
  refine Sims.unary (by decide +kernel) (by decide +kernel) rfl rfl HEq.rfl ?_
  refine Sims.nullary (by decide +kernel) HEq.rfl ?_
  refine Sims.tunary (by decide +kernel) (by decide +kernel) rfl ?_
  refine Sims.tunary (by decide +kernel) (by decide +kernel) rfl ?_
  exact Sims.done (by decide +kernel) _ _

/-- Part 4 of the two programs. -/
theorem part4 (r : List (HloOp Cert.KernelIdeal.τ Cert.KernelIdeal.sig (Elt F))) (r' : List (HloOp Cert.ReferenceIdeal.τ Cert.ReferenceIdeal.sig (Elt F))) :
    Sims live4 live5 (kc4 r) r (rc4 r') r' := by
  refine Sims.tbinary (by decide +kernel) (by decide +kernel) (by decide +kernel) rfl ?_
  refine Sims.tunary (by decide +kernel) (by decide +kernel) rfl ?_
  refine Sims.tunary (by decide +kernel) (by decide +kernel) rfl ?_
  refine Sims.tunary (by decide +kernel) (by decide +kernel) rfl ?_
  refine Sims.tbinary (by decide +kernel) (by decide +kernel) (by decide +kernel) rfl ?_
  refine Sims.tunary (by decide +kernel) (by decide +kernel) rfl ?_
  refine Sims.tbinary (by decide +kernel) (by decide +kernel) (by decide +kernel) rfl ?_
  refine Sims.tnullary (by decide +kernel) rfl ?_
  refine Sims.tunary (by decide +kernel) (by decide +kernel) rfl ?_
  refine Sims.tbinary (by decide +kernel) (by decide +kernel) (by decide +kernel) rfl ?_
  exact Sims.done (by decide +kernel) _ _

/-- Part 5 of the two programs. -/
theorem part5 (r : List (HloOp Cert.KernelIdeal.τ Cert.KernelIdeal.sig (Elt F))) (r' : List (HloOp Cert.ReferenceIdeal.τ Cert.ReferenceIdeal.sig (Elt F))) :
    Sims live5 live6 (kc5 r) r (rc5 r') r' := by
  refine Sims.tbinary (by decide +kernel) (by decide +kernel) (by decide +kernel) rfl ?_
  refine Sims.tnullary (by decide +kernel) rfl ?_
  refine Sims.tunary (by decide +kernel) (by decide +kernel) rfl ?_
  refine Sims.tbinary (by decide +kernel) (by decide +kernel) (by decide +kernel) rfl ?_
  refine Sims.tternary (by decide +kernel) (by decide +kernel) (by decide +kernel) (by decide +kernel) rfl ?_
  refine Sims.nullary (by decide +kernel) HEq.rfl ?_
  refine Sims.tunary (by decide +kernel) (by decide +kernel) rfl ?_
  refine Sims.tnullary (by decide +kernel) rfl ?_
  refine Sims.tbinary (by decide +kernel) (by decide +kernel) (by decide +kernel) rfl ?_
  refine Sims.tnullary (by decide +kernel) rfl ?_
  exact Sims.done (by decide +kernel) _ _

/-- Part 6 of the two programs. -/
theorem part6 (r : List (HloOp Cert.KernelIdeal.τ Cert.KernelIdeal.sig (Elt F))) (r' : List (HloOp Cert.ReferenceIdeal.τ Cert.ReferenceIdeal.sig (Elt F))) :
    Sims live6 live7 (kc6 r) r (rc6 r') r' := by
  refine Sims.tternary (by decide +kernel) (by decide +kernel) (by decide +kernel) (by decide +kernel) rfl ?_
  refine Sims.tunary (by decide +kernel) (by decide +kernel) rfl ?_
  refine Sims.tbinary (by decide +kernel) (by decide +kernel) (by decide +kernel) rfl ?_
  refine Sims.tnullary (by decide +kernel) rfl ?_
  refine Sims.tunary (by decide +kernel) (by decide +kernel) rfl ?_
  refine Sims.tbinary (by decide +kernel) (by decide +kernel) (by decide +kernel) rfl ?_
  refine Sims.tnullary (by decide +kernel) rfl ?_
  refine Sims.tunary (by decide +kernel) (by decide +kernel) rfl ?_
  refine Sims.tbinary (by decide +kernel) (by decide +kernel) (by decide +kernel) rfl ?_
  refine Sims.tnullary (by decide +kernel) rfl ?_
  exact Sims.done (by decide +kernel) _ _

/-- Part 7 of the two programs. -/
theorem part7 (r : List (HloOp Cert.KernelIdeal.τ Cert.KernelIdeal.sig (Elt F))) (r' : List (HloOp Cert.ReferenceIdeal.τ Cert.ReferenceIdeal.sig (Elt F))) :
    Sims live7 live8 (kc7 r) r (rc7 r') r' := by
  refine Sims.tbinary (by decide +kernel) (by decide +kernel) (by decide +kernel) rfl ?_
  refine Sims.tunary (by decide +kernel) (by decide +kernel) rfl ?_
  refine Sims.tbinary (by decide +kernel) (by decide +kernel) (by decide +kernel) rfl ?_
  refine Sims.tbinary (by decide +kernel) (by decide +kernel) (by decide +kernel) rfl ?_
  refine Sims.tunary (by decide +kernel) (by decide +kernel) rfl ?_
  refine Sims.tbinary (by decide +kernel) (by decide +kernel) (by decide +kernel) rfl ?_
  refine Sims.tternary (by decide +kernel) (by decide +kernel) (by decide +kernel) (by decide +kernel) rfl ?_
  refine Sims.nullary (by decide +kernel) HEq.rfl ?_
  refine Sims.unary (by decide +kernel) (by decide +kernel) rfl rfl HEq.rfl ?_
  refine Sims.binary (by decide +kernel) (by decide +kernel) (by decide +kernel) rfl rfl rfl HEq.rfl ?_
  exact Sims.done (by decide +kernel) _ _

/-- Part 8 of the two programs. -/
theorem part8 (r : List (HloOp Cert.KernelIdeal.τ Cert.KernelIdeal.sig (Elt F))) (r' : List (HloOp Cert.ReferenceIdeal.τ Cert.ReferenceIdeal.sig (Elt F))) :
    Sims live8 live9 (kc8 r) r (rc8 r') r' := by
  refine Sims.reshape (by decide +kernel) (by decide +kernel) rfl rfl ?_
  refine Sims.tnullary (by decide +kernel) rfl ?_
  refine Sims.tunary (by decide +kernel) (by decide +kernel) rfl ?_
  refine Sims.tbinary (by decide +kernel) (by decide +kernel) (by decide +kernel) rfl ?_
  refine Sims.tnullary (by decide +kernel) rfl ?_
  refine Sims.tunary (by decide +kernel) (by decide +kernel) rfl ?_
  refine Sims.tbinary (by decide +kernel) (by decide +kernel) (by decide +kernel) rfl ?_
  refine Sims.tternary (by decide +kernel) (by decide +kernel) (by decide +kernel) (by decide +kernel) rfl ?_
  refine Sims.treshape (by decide +kernel) (by decide +kernel) ?_
  refine Sims.tnullary (by decide +kernel) rfl ?_
  exact Sims.done (by decide +kernel) _ _

/-- Part 9 of the two programs. -/
theorem part9 (r : List (HloOp Cert.KernelIdeal.τ Cert.KernelIdeal.sig (Elt F))) (r' : List (HloOp Cert.ReferenceIdeal.τ Cert.ReferenceIdeal.sig (Elt F))) :
    Sims live9 live10 (kc9 r) r (rc9 r') r' := by
  refine Sims.tnullary (by decide +kernel) rfl ?_
  refine Sims.tunary (by decide +kernel) (by decide +kernel) rfl ?_
  refine Sims.tbinary (by decide +kernel) (by decide +kernel) (by decide +kernel) rfl ?_
  refine Sims.tunary (by decide +kernel) (by decide +kernel) rfl ?_
  refine Sims.tunary (by decide +kernel) (by decide +kernel) rfl ?_
  refine Sims.tbinary (by decide +kernel) (by decide +kernel) (by decide +kernel) rfl ?_
  refine Sims.tbinary (by decide +kernel) (by decide +kernel) (by decide +kernel) rfl ?_
  refine Sims.tnullary (by decide +kernel) rfl ?_
  refine Sims.tbinary (by decide +kernel) (by decide +kernel) (by decide +kernel) rfl ?_
  refine Sims.tbinary (by decide +kernel) (by decide +kernel) (by decide +kernel) rfl ?_
  exact Sims.done (by decide +kernel) _ _

/-- Part 10 of the two programs. -/
theorem part10 (r : List (HloOp Cert.KernelIdeal.τ Cert.KernelIdeal.sig (Elt F))) (r' : List (HloOp Cert.ReferenceIdeal.τ Cert.ReferenceIdeal.sig (Elt F))) :
    Sims live10 live11 (kc10 r) r (rc10 r') r' := by
  refine Sims.tnullary (by decide +kernel) rfl ?_
  refine Sims.tunary (by decide +kernel) (by decide +kernel) rfl ?_
  refine Sims.tternary (by decide +kernel) (by decide +kernel) (by decide +kernel) (by decide +kernel) rfl ?_
  refine Sims.nullary (by decide +kernel) HEq.rfl ?_
  refine Sims.unary (by decide +kernel) (by decide +kernel) rfl rfl HEq.rfl ?_
  refine Sims.binary (by decide +kernel) (by decide +kernel) (by decide +kernel) rfl rfl rfl HEq.rfl ?_
  refine Sims.nullary (by decide +kernel) HEq.rfl ?_
  refine Sims.unary (by decide +kernel) (by decide +kernel) rfl rfl HEq.rfl ?_
  refine Sims.binary (by decide +kernel) (by decide +kernel) (by decide +kernel) rfl rfl rfl HEq.rfl ?_
  refine Sims.ternary (by decide +kernel) (by decide +kernel) (by decide +kernel) (by decide +kernel) rfl rfl rfl rfl HEq.rfl ?_
  exact Sims.done (by decide +kernel) _ _

/-- Part 11 of the two programs. -/
theorem part11 (r : List (HloOp Cert.KernelIdeal.τ Cert.KernelIdeal.sig (Elt F))) (r' : List (HloOp Cert.ReferenceIdeal.τ Cert.ReferenceIdeal.sig (Elt F))) :
    Sims live11 live12 (kc11 r) r (rc11 r') r' := by
  refine Sims.unary (by decide +kernel) (by decide +kernel) rfl rfl HEq.rfl ?_
  refine Sims.binary (by decide +kernel) (by decide +kernel) (by decide +kernel) rfl rfl rfl HEq.rfl ?_
  refine Sims.unary (by decide +kernel) (by decide +kernel) rfl rfl HEq.rfl ?_
  refine Sims.tnullary (by decide +kernel) rfl ?_
  refine Sims.tunary (by decide +kernel) (by decide +kernel) rfl ?_
  refine Sims.tbinary (by decide +kernel) (by decide +kernel) (by decide +kernel) rfl ?_
  refine Sims.tnullary (by decide +kernel) rfl ?_
  refine Sims.tunary (by decide +kernel) (by decide +kernel) rfl ?_
  refine Sims.tbinary (by decide +kernel) (by decide +kernel) (by decide +kernel) rfl ?_
  refine Sims.tternary (by decide +kernel) (by decide +kernel) (by decide +kernel) (by decide +kernel) rfl ?_
  exact Sims.done (by decide +kernel) _ _

/-- Part 12 of the two programs. -/
theorem part12 (r : List (HloOp Cert.KernelIdeal.τ Cert.KernelIdeal.sig (Elt F))) (r' : List (HloOp Cert.ReferenceIdeal.τ Cert.ReferenceIdeal.sig (Elt F))) :
    Sims live12 live13 (kc12 r) r (rc12 r') r' := by
  refine Sims.tnullary (by decide +kernel) rfl ?_
  refine Sims.tnullary (by decide +kernel) rfl ?_
  refine Sims.tunary (by decide +kernel) (by decide +kernel) rfl ?_
  refine Sims.tbinary (by decide +kernel) (by decide +kernel) (by decide +kernel) rfl ?_
  refine Sims.tunary (by decide +kernel) (by decide +kernel) rfl ?_
  refine Sims.tunary (by decide +kernel) (by decide +kernel) rfl ?_
  refine Sims.tbinary (by decide +kernel) (by decide +kernel) (by decide +kernel) rfl ?_
  refine Sims.tbinary (by decide +kernel) (by decide +kernel) (by decide +kernel) rfl ?_
  refine Sims.tnullary (by decide +kernel) rfl ?_
  refine Sims.tbinary (by decide +kernel) (by decide +kernel) (by decide +kernel) rfl ?_
  exact Sims.done (by decide +kernel) _ _

/-- Part 13 of the two programs. -/
theorem part13 (r : List (HloOp Cert.KernelIdeal.τ Cert.KernelIdeal.sig (Elt F))) (r' : List (HloOp Cert.ReferenceIdeal.τ Cert.ReferenceIdeal.sig (Elt F))) :
    Sims live13 live14 (kc13 r) r (rc13 r') r' := by
  refine Sims.tbinary (by decide +kernel) (by decide +kernel) (by decide +kernel) rfl ?_
  refine Sims.tunary (by decide +kernel) (by decide +kernel) rfl ?_
  refine Sims.tnullary (by decide +kernel) rfl ?_
  refine Sims.tunary (by decide +kernel) (by decide +kernel) rfl ?_
  refine Sims.tternary (by decide +kernel) (by decide +kernel) (by decide +kernel) (by decide +kernel) rfl ?_
  refine Sims.unary (by decide +kernel) (by decide +kernel) rfl rfl HEq.rfl ?_
  refine Sims.reshape (by decide +kernel) (by decide +kernel) rfl rfl ?_
  refine Sims.unary (by decide +kernel) (by decide +kernel) rfl rfl HEq.rfl ?_
  refine Sims.reshape (by decide +kernel) (by decide +kernel) rfl rfl ?_
  refine Sims.binary (by decide +kernel) (by decide +kernel) (by decide +kernel) rfl rfl rfl HEq.rfl ?_
  exact Sims.done (by decide +kernel) _ _

/-- Part 14 of the two programs. -/
theorem part14 (r : List (HloOp Cert.KernelIdeal.τ Cert.KernelIdeal.sig (Elt F))) (r' : List (HloOp Cert.ReferenceIdeal.τ Cert.ReferenceIdeal.sig (Elt F))) :
    Sims live14 live15 (kc14 r) r (rc14 r') r' := by
  refine Sims.unary (by decide +kernel) (by decide +kernel) rfl rfl HEq.rfl ?_
  refine Sims.reshape (by decide +kernel) (by decide +kernel) rfl rfl ?_
  refine Sims.unary (by decide +kernel) (by decide +kernel) rfl rfl HEq.rfl ?_
  refine Sims.reshape (by decide +kernel) (by decide +kernel) rfl rfl ?_
  refine Sims.binary (by decide +kernel) (by decide +kernel) (by decide +kernel) rfl rfl rfl HEq.rfl ?_
  refine Sims.unary (by decide +kernel) (by decide +kernel) rfl rfl HEq.rfl ?_
  refine Sims.reshape (by decide +kernel) (by decide +kernel) rfl rfl ?_
  refine Sims.unary (by decide +kernel) (by decide +kernel) rfl rfl HEq.rfl ?_
  refine Sims.reshape (by decide +kernel) (by decide +kernel) rfl rfl ?_
  refine Sims.binary (by decide +kernel) (by decide +kernel) (by decide +kernel) rfl rfl rfl HEq.rfl ?_
  exact Sims.done (by decide +kernel) _ _

/-- Part 15 of the two programs. -/
theorem part15 (r : List (HloOp Cert.KernelIdeal.τ Cert.KernelIdeal.sig (Elt F))) (r' : List (HloOp Cert.ReferenceIdeal.τ Cert.ReferenceIdeal.sig (Elt F))) :
    Sims live15 cutPairs (kc15 r) r (rc15 r') r' := by
  refine Sims.unary (by decide +kernel) (by decide +kernel) rfl rfl HEq.rfl ?_
  refine Sims.reshape (by decide +kernel) (by decide +kernel) rfl rfl ?_
  refine Sims.unary (by decide +kernel) (by decide +kernel) rfl rfl HEq.rfl ?_
  refine Sims.reshape (by decide +kernel) (by decide +kernel) rfl rfl ?_
  refine Sims.binary (by decide +kernel) (by decide +kernel) (by decide +kernel) rfl rfl rfl HEq.rfl ?_
  exact Sims.done (by decide +kernel) _ _

/-- The kernel's host operations are the parts and the rest. -/
theorem kernel_parts : (Cert.KernelIdeal.Gen.hostOps0 (F := F)) = (kc0 (kc1 (kc2 (kc3 (kc4 (kc5 (kc6 (kc7 (kc8 (kc9 (kc10 (kc11 (kc12 (kc13 (kc14 (kc15 kRest)))))))))))))))) := rfl

/-- The reference's host operations are the parts and the rest. -/
theorem reference_parts : List.flatten (Cert.ReferenceIdeal.Value.preI (F := F)) = (rc0 (rc1 (rc2 (rc3 (rc4 (rc5 (rc6 (rc7 (rc8 (rc9 (rc10 (rc11 (rc12 (rc13 (rc14 (rc15 rRest)))))))))))))))) := rfl

/-- The two programs up to the end of the candidate selection. -/
theorem prefix_sims : Sims (Val := Elt F) argPairs cutPairs Cert.KernelIdeal.Gen.hostOps0 kRest (List.flatten Cert.ReferenceIdeal.Value.preI) rRest := by
  rw [kernel_parts, reference_parts]
  exact ((part0 _ _).trans ((part1 _ _).trans ((part2 _ _).trans ((part3 _ _).trans ((part4 _ _).trans ((part5 _ _).trans ((part6 _ _).trans ((part7 _ _).trans ((part8 _ _).trans ((part9 _ _).trans ((part10 _ _).trans ((part11 _ _).trans ((part12 _ _).trans ((part13 _ _).trans ((part14 _ _).trans (part15 _ _))))))))))))))))

end Cert.Sim

end
-- ==== Proof.Cut.lean ====
/- What both programs go on from once the thousand candidates of each image are chosen, and the candidates it makes. -/
module

public import proofs.«01_k».proof.Proof.Prefix
public import proofs.«01_k».proof.Proof.Nms
public import Idealize.ShloMosaic.Lib.StableHlo.RunRead
public import Idealize.ShloMosaic.Lib.StableHlo.ReadAt

@[expose] public section

set_option maxRecDepth 16384

noncomputable section

namespace Cert.Nms

open Idealize.ShloMosaic Idealize.ShloMosaic.TcCoe Idealize.SL.Sem

/-- The chosen candidates of every image: raw corners, score before its square root, label, whether it passed the size and
    score tests, and the images' sizes. -/
structure Cut where
  a1 : FVec Ideal ⟨2, ![4, 1000]⟩ .f32
  a2 : FVec Ideal ⟨2, ![4, 1000]⟩ .f32
  a3 : FVec Ideal ⟨2, ![4, 1000]⟩ .f32
  a4 : FVec Ideal ⟨2, ![4, 1000]⟩ .f32
  lab : IVec ⟨2, ![4, 1000]⟩ 32
  ok : IVec ⟨2, ![4, 1000]⟩ 1
  val : FVec Ideal ⟨2, ![4, 1000]⟩ .f32
  sz : IVec ⟨2, ![4, 2]⟩ 32

/-- The largest coordinate inside an image. -/
def edge (T : Cut) (b : Fin 4) (k : Fin 2) : R := FloatOps.subf (FloatOps.sitofp .f32 (T.sz (ix2 b k))) one

/-- A coordinate kept inside the image. -/
def clip (T : Cut) (b : Fin 4) (k : Fin 2) (x : R) : R := FloatOps.minimumf (edge T b k) (FloatOps.maximumf zero x)

/-- One image's candidates. -/
def candOf (T : Cut) (b : Fin 4) : Cand where
  x1 n := clip T b 0 (T.a1 (ix2 b n))
  y1 n := clip T b 1 (T.a2 (ix2 b n))
  x2 n := clip T b 0 (T.a3 (ix2 b n))
  y2 n := clip T b 1 (T.a4 (ix2 b n))
  sc n := Ideal.sqrt (FloatOps.maximumf (Ideal.ofBits .f32 0x2B8CBCCC#32) (T.val (ix2 b n)) : R)
  lb n := FloatOps.sitofp .f32 (T.lab (ix2 b n))
  ok n := IntOp.andi (IntOp.andi (T.ok (ix2 b n))
      (FloatOps.cmpf .oge (FloatOps.subf (clip T b 0 (T.a3 (ix2 b n))) (clip T b 0 (T.a1 (ix2 b n)))) zero))
    (FloatOps.cmpf .oge (FloatOps.subf (clip T b 1 (T.a4 (ix2 b n))) (clip T b 1 (T.a2 (ix2 b n)))) zero)

/-- The kernel's buffers at the cut. -/
def cutK (V : Valuation Cert.KernelIdeal.τ Cert.KernelIdeal.sig (Elt Ideal)) : Cut where
  a1 := V (Proc.devRef .tc Cert.KernelIdeal.main_call0_v49)
  a2 := V (Proc.devRef .tc Cert.KernelIdeal.main_call0_v54)
  a3 := V (Proc.devRef .tc Cert.KernelIdeal.main_call0_v59)
  a4 := V (Proc.devRef .tc Cert.KernelIdeal.main_call0_v64)
  lab := V (Proc.devRef .tc Cert.KernelIdeal.main_call0_v33)
  ok := V (Proc.devRef .tc Cert.KernelIdeal.main_call0_v35)
  val := V (Proc.devRef .tc Cert.KernelIdeal.main_call0_values)
  sz := V (Proc.devRef .tc Cert.KernelIdeal.main_arg4)

/-- The reference's. -/
def cutR (V : Valuation Cert.ReferenceIdeal.τ Cert.ReferenceIdeal.sig (Elt Ideal)) : Cut where
  a1 := V (Proc.devRef .tc Cert.ReferenceIdeal.main_v49)
  a2 := V (Proc.devRef .tc Cert.ReferenceIdeal.main_v54)
  a3 := V (Proc.devRef .tc Cert.ReferenceIdeal.main_v59)
  a4 := V (Proc.devRef .tc Cert.ReferenceIdeal.main_v64)
  lab := V (Proc.devRef .tc Cert.ReferenceIdeal.main_v33)
  ok := V (Proc.devRef .tc Cert.ReferenceIdeal.main_v35)
  val := V (Proc.devRef .tc Cert.ReferenceIdeal.main_values)
  sz := V (Proc.devRef .tc Cert.ReferenceIdeal.main_arg4)

/-- Buffers that agree make one cut. -/
theorem cut_eq (V : Valuation Cert.KernelIdeal.τ Cert.KernelIdeal.sig (Elt Ideal))
    (W : Valuation Cert.ReferenceIdeal.τ Cert.ReferenceIdeal.sig (Elt Ideal)) (h : Cert.Sim.Agree Cert.Sim.cutPairs V W) :
    cutK V = cutR W := by
  have h1 := h (Cert.KernelIdeal.main_call0_v49, Cert.ReferenceIdeal.main_v49) (by simp)
  have h2 := h (Cert.KernelIdeal.main_call0_v54, Cert.ReferenceIdeal.main_v54) (by simp)
  have h3 := h (Cert.KernelIdeal.main_call0_v59, Cert.ReferenceIdeal.main_v59) (by simp)
  have h4 := h (Cert.KernelIdeal.main_call0_v64, Cert.ReferenceIdeal.main_v64) (by simp)
  have h5 := h (Cert.KernelIdeal.main_call0_v33, Cert.ReferenceIdeal.main_v33) (by simp)
  have h6 := h (Cert.KernelIdeal.main_call0_v35, Cert.ReferenceIdeal.main_v35) (by simp)
  have h7 := h (Cert.KernelIdeal.main_call0_values, Cert.ReferenceIdeal.main_values) (by simp)
  have h8 := h (Cert.KernelIdeal.main_arg4, Cert.ReferenceIdeal.main_arg4) (by simp)
  unfold cutK cutR
  rw [Cut.mk.injEq]
  exact ⟨eq_of_heq h1, eq_of_heq h2, eq_of_heq h3, eq_of_heq h4, eq_of_heq h5, eq_of_heq h6, eq_of_heq h7, eq_of_heq h8⟩

/-- Plane `r` of an image's block at candidate `n`. -/
def plane (C : Cand) (r : ℕ) (n : Fin 1000) : R :=
  if r = 0 then C.x1 n else if r = 1 then C.y1 n else if r = 2 then C.x2 n else if r = 3 then C.y2 n
  else if r = 4 then C.sc n else if r = 5 then C.lb n else FloatOps.uitofp .f32 (C.ok n)

end Cert.Nms

end
end
-- ==== Proof.KRead.lean ====
/- The kernel's block of each image, from the cut. -/
module

public import proofs.«01_k».proof.Proof.Cut

@[expose] public section

set_option maxRecDepth 32768

noncomputable section

namespace Cert.Nms

open Idealize.ShloMosaic Idealize.ShloMosaic.TcCoe Idealize.SL.Sem Idealize.ShloMosaic.StableHlo

section
open Cert.KernelIdeal Cert.KernelIdeal.Gen

set_option maxHeartbeats 2000000 in
theorem v102_at (V : Valuation τ sig (Elt Ideal)) (b : Fin 4) (r : Fin 7) (p : Fin 8) (l : Fin 128) :
    (after (Sim.kRest (F := Ideal)) V (Proc.devRef .tc main_call0_v102) : FVec Ideal S4x7x8x128 .f32) (ix4 b r p l)
      = if h : p.val * 128 + l.val < 1000 then plane (candOf (cutK V) b) r.val ⟨p.val * 128 + l.val, h⟩ else (0 : EReal) := by
  after_reads_at
  by_cases hn : p.val * 128 + l.val < 1000
  · rw [dif_pos hn, dif_pos hn]
    obtain ⟨r, hr⟩ := r
    interval_cases r
    all_goals simp only [Nat.reduceSub, Nat.reduceLT, dif_pos, dif_neg, not_false_eq_true]
    all_goals after_reads_at
    all_goals try simp only [id_eq]
    all_goals refine (congrFun (cast_eq _ _) _).trans ?_
    all_goals pointwise [plane]
    all_goals simp only [candOf, clip, edge, one_eq, zero_eq, cutK]
    all_goals rfl
  · rw [dif_neg hn, dif_neg hn]
    show (((0#32 : BitVec 32).toInt : ℝ) : EReal) = 0
    simp
end

end Cert.Nms

end
end
-- ==== Proof.KRows.lean ====
/- The kernel's rows, from the candidates its launch packed. -/
module

public import proofs.«01_k».proof.Proof.KTrip
public import proofs.«01_k».proof.Proof.KRun
public import proofs.«01_k».proof.Proof.KRead

@[expose] public section

set_option maxRecDepth 16384

noncomputable section

namespace Cert.KernelIdeal.Value

open Cert.KernelIdeal Cert.KernelIdeal.Gen Cert.Nms
open Idealize.ShloMosaic Idealize.ShloMosaic.TcCoe Idealize.SL.Sem Idealize.ShloMosaic.StableHlo

theorem ld_row (x0 : Vec Ideal S1x7x8x128 .f32) (k : Fin 7) (inb) (p : Fin 8) (l : Fin 128) :
    View.ld x0 (Rect.unit (s := S1x7x8x128) ![0, k.val, 0, 0] S1x1x8x128.size inb) (ix4 0 0 p l) = x0 (ix4 0 k p l) := by
  show x0 ((Rect.unit (s := S1x7x8x128) ![0, k.val, 0, 0] S1x1x8x128.size inb).idx (ix4 0 0 p l)) = _
  congr 1
  funext a
  refine Fin.ext ?_
  match a with
  | ⟨0, _⟩ => rfl
  | ⟨1, _⟩ => rfl
  | ⟨2, _⟩ => show 0 + 1 * p.val = p.val; omega
  | ⟨3, _⟩ => show 0 + 1 * l.val = l.val; omega

section planes
variable (x0 : Vec Ideal S1x7x8x128 .f32) (p : Fin 8) (l : Fin 128)

theorem plane0 : k0_pay24 (F := Ideal) (row0 x0) (ix2 p l) = x0 (ix4 0 0 p l) := by
  pointwise [k0_pay24]
  exact ld_row x0 0 _ p l
theorem plane1 : k0_pay25 (F := Ideal) (row1 x0) (ix2 p l) = x0 (ix4 0 1 p l) := by
  pointwise [k0_pay25]
  exact ld_row x0 1 _ p l
theorem plane2 : k0_pay26 (F := Ideal) (row2 x0) (ix2 p l) = x0 (ix4 0 2 p l) := by
  pointwise [k0_pay26]
  exact ld_row x0 2 _ p l
theorem plane3 : k0_pay27 (F := Ideal) (row3 x0) (ix2 p l) = x0 (ix4 0 3 p l) := by
  pointwise [k0_pay27]
  exact ld_row x0 3 _ p l
theorem plane4 : k0_pay28 (F := Ideal) (row4 x0) (ix2 p l) = x0 (ix4 0 4 p l) := by
  pointwise [k0_pay28]
  exact ld_row x0 4 _ p l
theorem plane5 : k0_pay29 (F := Ideal) (row5 x0) (ix2 p l) = x0 (ix4 0 5 p l) := by
  pointwise [k0_pay29]
  exact ld_row x0 5 _ p l
theorem shift : k0_pay30 (F := Ideal) (row5 x0) (ix2 p l) = FloatOps.mulf (x0 (ix4 0 5 p l) : R) big := by
  rw [← plane5 x0 p l]
  rfl
theorem off0 : k0_pay31 (F := Ideal) (row0 x0) (row5 x0) (ix2 p l)
    = FloatOps.addf (x0 (ix4 0 0 p l) : R) (FloatOps.mulf (x0 (ix4 0 5 p l) : R) big) := by
  rw [← shift x0 p l, ← plane0 x0 p l]
  rfl
theorem off1 : k0_pay32 (F := Ideal) (row1 x0) (row5 x0) (ix2 p l)
    = FloatOps.addf (x0 (ix4 0 1 p l) : R) (FloatOps.mulf (x0 (ix4 0 5 p l) : R) big) := by
  rw [← shift x0 p l, ← plane1 x0 p l]
  rfl
theorem off2 : k0_pay33 (F := Ideal) (row2 x0) (row5 x0) (ix2 p l)
    = FloatOps.addf (x0 (ix4 0 2 p l) : R) (FloatOps.mulf (x0 (ix4 0 5 p l) : R) big) := by
  rw [← shift x0 p l, ← plane2 x0 p l]
  rfl
theorem off3 : k0_pay34 (F := Ideal) (row3 x0) (row5 x0) (ix2 p l)
    = FloatOps.addf (x0 (ix4 0 3 p l) : R) (FloatOps.mulf (x0 (ix4 0 5 p l) : R) big) := by
  rw [← shift x0 p l, ← plane3 x0 p l]
  rfl
theorem init_at : initS x0 (ix2 p l) = Scalar.select (FloatOps.cmpf .ogt (x0 (ix4 0 6 p l) : R) zero) (x0 (ix4 0 4 p l) : R) negOne := by
  rw [← plane4 x0 p l, zero_eq]
  pointwise [initS, k0_pay36]
  rw [show row6 x0 (ix4 0 0 p l) = x0 (ix4 0 6 p l) from ld_row x0 6 _ p l]
  rfl
theorem area_at : (lanesOf x0).area (ix2 p l)
    = FloatOps.mulf (F := Ideal) (φ := .f32) (FloatOps.subf ((lanesOf x0).ox2 (ix2 p l)) ((lanesOf x0).ox1 (ix2 p l))) (FloatOps.subf ((lanesOf x0).oy2 (ix2 p l)) ((lanesOf x0).oy1 (ix2 p l))) := by
  rfl
end planes

/-- A block that holds the candidates' planes, zero beyond them. -/
def Packed (C : Cand) (x0 : Vec Ideal S1x7x8x128 .f32) : Prop :=
  ∀ (r : Fin 7) (p : Fin 8) (l : Fin 128), x0 (ix4 0 r p l) = if h : 128 * p.val + l.val < 1000 then plane C r.val ⟨128 * p.val + l.val, h⟩ else (0 : EReal)

theorem Packed.get {C : Cand} {x0 : Vec Ideal S1x7x8x128 .f32} (h : Packed C x0) (r : Fin 7) (p : Fin 8) (l : Fin 128)
    (hl : 128 * p.val + l.val < 1000) : x0 (ix4 0 r p l) = plane C r.val ⟨128 * p.val + l.val, hl⟩ := by
  rw [h r p l, dif_pos hl]

theorem reads_of {C : Cand} {x0 : Vec Ideal S1x7x8x128 .f32} (h : Packed C x0) : Reads C (lanesOf x0) := by
  have o1 : ∀ (p : Fin 8) (l : Fin 128) (hl : 128 * p.val + l.val < 1000), (lanesOf x0).ox1 (ix2 p l) = ox1 C ⟨128 * p.val + l.val, hl⟩ := fun p l hl => by
    refine (off0 x0 p l).trans ?_
    rw [h.get 0 p l hl, h.get 5 p l hl]; rfl
  have o2 : ∀ (p : Fin 8) (l : Fin 128) (hl : 128 * p.val + l.val < 1000), (lanesOf x0).oy1 (ix2 p l) = oy1 C ⟨128 * p.val + l.val, hl⟩ := fun p l hl => by
    refine (off1 x0 p l).trans ?_
    rw [h.get 1 p l hl, h.get 5 p l hl]; rfl
  have o3 : ∀ (p : Fin 8) (l : Fin 128) (hl : 128 * p.val + l.val < 1000), (lanesOf x0).ox2 (ix2 p l) = ox2 C ⟨128 * p.val + l.val, hl⟩ := fun p l hl => by
    refine (off2 x0 p l).trans ?_
    rw [h.get 2 p l hl, h.get 5 p l hl]; rfl
  have o4 : ∀ (p : Fin 8) (l : Fin 128) (hl : 128 * p.val + l.val < 1000), (lanesOf x0).oy2 (ix2 p l) = oy2 C ⟨128 * p.val + l.val, hl⟩ := fun p l hl => by
    refine (off3 x0 p l).trans ?_
    rw [h.get 3 p l hl, h.get 5 p l hl]; rfl
  refine ⟨?_, ?_, ?_, ?_, ?_, ?_, o1, o2, o3, o4, ?_⟩
  · intro p l hl; exact (plane0 x0 p l).trans (h.get 0 p l hl)
  · intro p l hl; exact (plane1 x0 p l).trans (h.get 1 p l hl)
  · intro p l hl; exact (plane2 x0 p l).trans (h.get 2 p l hl)
  · intro p l hl; exact (plane3 x0 p l).trans (h.get 3 p l hl)
  · intro p l hl; exact (plane4 x0 p l).trans (h.get 4 p l hl)
  · intro p l hl; exact (plane5 x0 p l).trans (h.get 5 p l hl)
  · intro p l hl
    rw [area_at, o1 p l hl, o2 p l hl, o3 p l hl, o4 p l hl]
    rfl

theorem pos_bit (k : BitVec 1) : FloatOps.cmpf (F := Ideal) (φ := .f32) .ogt (FloatOps.uitofp .f32 k) zero = k := by
  rw [zero_eq]
  show BitVec.ofBool (decide ((0 : EReal) < ((k.toNat : ℝ) : EReal))) = k
  rcases (by decide +revert : k = 0#1 ∨ k = 1#1) with h | h
  · subst h; simp
  · subst h; simp

theorem holds_of {C : Cand} {x0 : Vec Ideal S1x7x8x128 .f32} (h : Packed C x0) : Holds (start C) (initS x0) := by
  intro p l
  rw [init_at]
  split
  · next hl =>
    rw [h.get 6 p l hl, h.get 4 p l hl]
    show Scalar.select (FloatOps.cmpf .ogt (FloatOps.uitofp .f32 (C.ok _) : R) zero) (C.sc _) negOne = _
    rw [pos_bit]
    rfl
  · next hl =>
    rw [h 6 p l, dif_neg hl, zero_eq]
    show (if BitVec.ofBool (decide ((0 : EReal) < 0)) = 1#1 then _ else negOne) = negOne
    simp

theorem root_ge (x : R) : (negOne : EReal) ≤ Ideal.sqrt (FloatOps.maximumf (Ideal.ofBits .f32 0x2B8CBCCC#32) x : R) := by
  have hp : (0 : EReal) ≤ (FloatOps.maximumf (Ideal.ofBits .f32 0x2B8CBCCC#32) x : R) :=
    le_trans (by show (0 : EReal) ≤ Ideal.ofBits .f32 0x2B8CBCCC#32; simp [Ideal.ofBits, Ideal.ieee]; exact mul_nonneg (EReal.coe_nonneg.2 (by norm_num)) (EReal.coe_nonneg.2 (by positivity))) (le_max_left (α := EReal) _ _)
  generalize (FloatOps.maximumf (Ideal.ofBits .f32 0x2B8CBCCC#32) x : R) = y at hp
  have h1 : (negOne : EReal) ≤ 0 := by rw [negOne_eq]; exact_mod_cast (by norm_num : (-(1 : ℝ)) ≤ 0)
  refine h1.trans ?_
  change (0 : EReal) ≤ Ideal.sqrt (y : EReal)
  change EReal at y
  induction y using EReal.rec with
  | bot => exact absurd hp (by simp)
  | top => exact le_top
  | coe r =>
    have hr : ¬ r < 0 := not_lt.2 (by exact_mod_cast hp)
    show (0 : EReal) ≤ if r < 0 then ⊥ else (Real.sqrt r : EReal)
    rw [if_neg hr]
    exact_mod_cast Real.sqrt_nonneg r

/-- The kernel's rows, from the cut its list of operations passes. -/
theorem outRow_eq (m : (ℓ : Loc nD τ sig) → Buf (Elt Ideal) ℓ) (c : Dev nD) (W : Valuation τ sig (Elt Ideal))
    (hW : after (hostOps0 (F := Ideal)) (launchContents m c) = after (Cert.Sim.kRest (F := Ideal)) W) (b : Fin 4) (t : ℕ) (j : Fin 8) (hj : j.val < 6) :
    outRow m c b t j = row (candOf (cutK W) b) t j.val := by
  have hp : Packed (candOf (cutK W) b) (img m c b) := by
    intro r p l
    show (V m c main_call0_v102 : (⟨S4x7x8x128, .f32⟩ : BufTy).Contents (Elt Ideal)) (ix4 b r p l) = _
    rw [show V m c main_call0_v102 = after (hostOps0 (F := Ideal)) (launchContents m c) (Proc.devRef .tc main_call0_v102) from by
      show after (List.flatten [hostOps0]) _ _ = _
      rw [List.flatten_cons, List.flatten_nil, List.append_nil], hW]
    refine (v102_at W b r p l).trans ?_
    simp only [Nat.mul_comm p.val 128]
  exact rows_hold (reads_of hp) (holds_of hp) (fun n => root_ge _) t j hj

end Cert.KernelIdeal.Value

end
end
-- ==== Proof.RefArg.lean ====
/- The reference's argmax and its gathers, at an index. -/
module

public import proofs.«01_k».proof.Proof.Cut

@[expose] public section

set_option maxRecDepth 32768

noncomputable section

namespace Cert.Nms

open Idealize.ShloMosaic Idealize.ShloMosaic.TcCoe Idealize.SL.Sem Idealize.ShloMosaic.StableHlo
open Cert.ReferenceIdeal Cert.ReferenceIdeal.Gen

/-- The comparison the argmax makes: the greater value first, then the smaller place. -/
theorem reducer_eq (a b : R × BitVec 32) :
    reducer_argmax_f32_i32 a b
      = if (b.1 : EReal) < a.1 ∨ ((a.1 : EReal) = b.1 ∧ a.2.toInt < b.2.toInt) then a else b := by
  obtain ⟨v, p⟩ := a
  obtain ⟨w, q⟩ := b
  simp only [reducer_argmax_f32_i32, Ideal.cmpf_def, Ideal.cmp, IntOp.ori, IntOp.andi, IntOp.cmpi, Scalar.select]
  rcases lt_trichotomy (α := EReal) v w with h | h | h
  · have h1 : ¬ (w : EReal) < v := not_lt.2 h.le
    have h2 : ¬ (v : EReal) = w := h.ne
    simp [h1, h2]
  · have h' : v = w := h
    subst h'
    by_cases hq : p.toInt < q.toInt
    · simp [hq, BitVec.slt]
    · simp [hq, BitVec.slt]
  · have h2 : ¬ (v : EReal) = w := h.ne'
    simp [h, h2]

theorem toInt_place (n : Fin 1000) : (BitVec.ofNat 32 n.val).toInt = (n.val : ℤ) := by
  have := n.isLt
  rw [BitVec.toInt_ofNat']
  norm_num
  unfold Int.bmod
  simp only []
  split <;> omega

theorem argmax_at (x : FVec Ideal S4x1000 .f32) (b : Fin 4) (u : FVec Ideal S_ .f32) (v : IVec S_ 32)
    (hu : ∀ i, (u i : EReal) = ⊥) (hv : ∀ i, v i = 0#32) :
    (Host.argReduce reducer_argmax_f32_i32 x (iotaInDim S4x1000 32 1) u v reducesTo_S4x1000_S4_d1 h_S_ (ix1 b)).2
      = BitVec.ofNat 32 (top (fun n => x (ix2 b n))).val := by
  have hT := top_spec (fun n => x (ix2 b n))
  generalize hA : top (fun n => x (ix2 b n)) = A at hT ⊢
  rw [Ideal.argReduce_eq_reduce2, Host.reduce2_eq_foldl_fiber]
  refine (congrArg Prod.snd (foldl_absorb (α := R × BitVec 32) reducer_argmax_f32_i32
    ((x (ix2 b A) : R), BitVec.ofNat 32 A.val)
    (fun a => (a.1 : EReal) < x (ix2 b A) ∨ ((a.1 : EReal) = x (ix2 b A) ∧ (A.val : ℤ) ≤ a.2.toInt))
    ?_ ?_ ?_ _ _ ?_ ?_ ?_)).trans rfl
  · intro a c ha hc
    rw [reducer_eq]
    split
    · exact ha
    · exact hc
  · rintro ⟨w, q⟩ ha
    rw [reducer_eq]
    simp only [toInt_place]
    rcases ha with h | ⟨h, hq⟩
    · rw [if_pos (.inl h)]
    · have h' : w = x (ix2 b A) := h
      subst h'
      by_cases hlt : (A.val : ℤ) < q.toInt
      · rw [if_pos (.inr ⟨rfl, hlt⟩)]
      · rw [if_neg (by rintro (h1 | h1); exact lt_irrefl _ h1; exact hlt h1.2)]
        have : q.toInt = (BitVec.ofNat 32 A.val).toInt := by rw [toInt_place]; exact le_antisymm (not_lt.1 hlt) hq
        rw [BitVec.eq_of_toInt_eq this]
  · rintro ⟨w, q⟩ ha
    rw [reducer_eq]
    simp only [toInt_place]
    rcases ha with h | ⟨h, hq⟩
    · rw [if_neg]
      rintro (h1 | h1)
      · exact lt_asymm h h1
      · exact h.ne h1.1
    · rw [if_neg]
      rintro (h1 | h1)
      · exact h1.ne' h
      · exact absurd hq (not_le.2 h1.2)
  · show (u _ : EReal) < _ ∨ ((u _ : EReal) = _ ∧ _)
    rw [hu, hv]
    rcases eq_or_ne (x (ix2 b A) : EReal) ⊥ with h | h
    · refine .inr ⟨h.symm, ?_⟩
      have : A.val = 0 := by
        by_contra hne
        have := hT.2 0 (Fin.pos_iff_ne_zero.2 fun e => hne (by rw [e]; rfl))
        exact not_lt_bot (this.trans_eq h)
      rw [this]; decide
    · exact .inl (bot_lt_iff_ne_bot.2 h)
  · intro a ha
    simp only [Host.argReduceFiber, List.mem_map, List.mem_filter] at ha
    obtain ⟨k, ⟨-, hk⟩, rfl⟩ := ha
    generalize hi : S4x1000.rowMajor.symm k = i at hk ⊢
    idx_vars i
    have hb : i0 = b := by
      have := congrFun (of_decide_eq_true hk) 0
      exact this
    subst hb
    show ((x (ix2 i0 i1) : EReal) < _) ∨ ((x (ix2 i0 i1) : EReal) = _ ∧ (A.val : ℤ) ≤ (BitVec.ofNat 32 i1.val).toInt)
    rw [toInt_place]
    rcases lt_or_eq_of_le (hT.1 i1) with h | h
    · exact .inl h
    · refine .inr ⟨h, ?_⟩
      by_contra hlt
      exact (hT.2 i1 (Fin.lt_def.2 (by omega))).ne h
  · right
    simp only [Host.argReduceFiber, List.mem_map, List.mem_filter]
    refine ⟨S4x1000.rowMajor (ix2 b A), ⟨List.mem_finRange _, ?_⟩, ?_⟩
    · rw [Equiv.symm_apply_apply]
      refine decide_eq_true ?_
      funext a
      match a with | ⟨0, _⟩ => rfl
    · rw [Equiv.symm_apply_apply]
      rfl

section gathers
variable {α : Type}

theorem gatherS_at (x : S4x1000.Idx → α) (i : IVec S4x1x1 32) (b : Fin 4) (n : Fin 1000)
    (h : i (ix3 b 0 0) = BitVec.ofNat 32 n.val) (z : Fin 1) :
    Host.gather gather_S4x1000_S4x1x1_S4x1_n_1_0_0_1_2_11 x i (ix2 b z) = x (ix2 b n) := by
  unfold Host.gather
  congr 1
  funext a
  refine Fin.ext ?_
  match a with
  | ⟨0, _⟩ => exact Nat.zero_add _
  | ⟨1, _⟩ =>
    have hs : (i (gather_S4x1000_S4x1x1_S4x1_n_1_0_0_1_2_11.siIdx (ix2 b z) ⟨0, by decide⟩)) = BitVec.ofNat 32 n.val := by
      rw [← h]
      congr 1
      funext c
      match c with
      | ⟨0, _⟩ => rfl
      | ⟨1, _⟩ => exact Subsingleton.elim (α := Fin 1) _ _
      | ⟨2, _⟩ => rfl
    show min (i (gather_S4x1000_S4x1x1_S4x1_n_1_0_0_1_2_11.siIdx (ix2 b z) ⟨0, by decide⟩)).toInt.toNat 999 + 0 + 0 = n.val
    rw [hs, toInt_place]
    have := n.isLt
    simp only [Int.toNat_natCast]
    omega

theorem gatherRow_at (x : S4x1000x1000.Idx → α) (i : IVec S4x1x1 32) (b : Fin 4) (n : Fin 1000)
    (h : i (ix3 b 0 0) = BitVec.ofNat 32 n.val) (z : Fin 1) (k : Fin 1000) :
    Host.gather gather_S4x1000x1000_S4x1x1_S4x1x1000_2_1_0_0_1_2_111000 x i (ix3 b z k) = x (ix3 b n k) := by
  unfold Host.gather
  congr 1
  funext a
  refine Fin.ext ?_
  match a with
  | ⟨0, _⟩ => exact Nat.zero_add _
  | ⟨1, _⟩ =>
    have hs : (i (gather_S4x1000x1000_S4x1x1_S4x1x1000_2_1_0_0_1_2_111000.siIdx (ix3 b z k) ⟨0, by decide⟩)) = BitVec.ofNat 32 n.val := by
      rw [← h]
      congr 1
      funext c
      match c with
      | ⟨0, _⟩ => rfl
      | ⟨1, _⟩ => exact Subsingleton.elim (α := Fin 1) _ _
      | ⟨2, _⟩ => rfl
    show min (i (gather_S4x1000x1000_S4x1x1_S4x1x1000_2_1_0_0_1_2_111000.siIdx (ix3 b z k) ⟨0, by decide⟩)).toInt.toNat 999 + 0 + 0 = n.val
    rw [hs, toInt_place]
    have := n.isLt
    simp only [Int.toNat_natCast]
    omega
  | ⟨2, _⟩ => exact Nat.zero_add _

theorem gatherBox_at (x : S4x1000x4.Idx → α) (i : IVec S4x100x1 32) (b : Fin 4) (t : Fin 100) (n : Fin 1000)
    (h : i (ix3 b t 0) = BitVec.ofNat 32 n.val) (j : Fin 4) :
    Host.gather gather_S4x1000x4_S4x100x1_S4x100x4_2_1_0_0_1_2_114 x i (ix3 b t j) = x (ix3 b n j) := by
  unfold Host.gather
  congr 1
  funext a
  refine Fin.ext ?_
  match a with
  | ⟨0, _⟩ => exact Nat.zero_add _
  | ⟨1, _⟩ =>
    have hs : (i (gather_S4x1000x4_S4x100x1_S4x100x4_2_1_0_0_1_2_114.siIdx (ix3 b t j) ⟨0, by decide⟩)) = BitVec.ofNat 32 n.val := by
      rw [← h]
      congr 1
      funext c
      match c with
      | ⟨0, _⟩ => rfl
      | ⟨1, _⟩ => rfl
      | ⟨2, _⟩ => rfl
    show min (i (gather_S4x1000x4_S4x100x1_S4x100x4_2_1_0_0_1_2_114.siIdx (ix3 b t j) ⟨0, by decide⟩)).toInt.toNat 999 + 0 + 0 = n.val
    rw [hs, toInt_place]
    have := n.isLt
    simp only [Int.toNat_natCast]
    omega
  | ⟨2, _⟩ => exact Nat.zero_add _

theorem gatherCol_at (x : S4x1000.Idx → α) (i : IVec S4x100x1 32) (b : Fin 4) (t : Fin 100) (n : Fin 1000)
    (h : i (ix3 b t 0) = BitVec.ofNat 32 n.val) :
    Host.gather gather_S4x1000_S4x100x1_S4x100_n_1_0_0_1_2_11 x i (ix2 b t) = x (ix2 b n) := by
  unfold Host.gather
  congr 1
  funext a
  refine Fin.ext ?_
  match a with
  | ⟨0, _⟩ => exact Nat.zero_add _
  | ⟨1, _⟩ =>
    have hs : (i (gather_S4x1000_S4x100x1_S4x100_n_1_0_0_1_2_11.siIdx (ix2 b t) ⟨0, by decide⟩)) = BitVec.ofNat 32 n.val := by
      rw [← h]
      congr 1
      funext c
      match c with
      | ⟨0, _⟩ => rfl
      | ⟨1, _⟩ => rfl
      | ⟨2, _⟩ => rfl
    show min (i (gather_S4x1000_S4x100x1_S4x100_n_1_0_0_1_2_11.siIdx (ix2 b t) ⟨0, by decide⟩)).toInt.toNat 999 + 0 + 0 = n.val
    rw [hs, toInt_place]
    have := n.isLt
    simp only [Int.toNat_natCast]
    omega

end gathers

/-- A row written into a table of rows, at an index. -/
theorem put_row_at {α : Type} (x : S100x4.Idx → α) (u : S1x4.Idx → α) (st : Fin 2 → ℤ) (k : ℕ) (hk : k < 100)
    (h0 : st 0 = (k : ℤ)) (h1 : st 1 = 0) (t : Fin 100) (b : Fin 4) :
    Host.dynamicUpdateSlice x u st updateFits_S100x4_S1x4 (ix2 t b)
      = if t.val = k then u (ix2 0 b) else x (ix2 t b) := by
  rw [Host.dynamicUpdateSlice_apply]
  have c0 : Host.clampedStart S100x4 S1x4 updateFits_S100x4_S1x4.1 st 0 = k := by
    show (min (max (st 0) 0) ((100 - 1 : ℕ) : ℤ)).toNat = k
    rw [h0]
    omega
  have c1 : Host.clampedStart S100x4 S1x4 updateFits_S100x4_S1x4.1 st 1 = 0 := by
    show (min (max (st 1) 0) ((4 - 4 : ℕ) : ℤ)).toNat = 0
    rw [h1]
    rfl
  by_cases ht : t.val = k
  · rw [if_pos ht, dif_pos]
    · congr 1
      funext a
      refine Fin.ext ?_
      match a with
      | ⟨0, _⟩ => exact Nat.lt_one_iff.1 (Fin.isLt _)
      | ⟨1, _⟩ =>
        show b.val - Host.clampedStart S100x4 S1x4 updateFits_S100x4_S1x4.1 st 1 = b.val
        rw [c1]; rfl
    · intro a
      match a with
      | ⟨0, _⟩ =>
        show Host.clampedStart S100x4 S1x4 updateFits_S100x4_S1x4.1 st 0 ≤ t.val ∧ t.val < Host.clampedStart S100x4 S1x4 updateFits_S100x4_S1x4.1 st 0 + 1
        rw [c0]; omega
      | ⟨1, _⟩ =>
        show Host.clampedStart S100x4 S1x4 updateFits_S100x4_S1x4.1 st 1 ≤ b.val ∧ b.val < Host.clampedStart S100x4 S1x4 updateFits_S100x4_S1x4.1 st 1 + 4
        rw [c1]; have := b.isLt; omega
  · rw [if_neg ht, dif_neg]
    intro h
    have h := h 0
    have h : Host.clampedStart S100x4 S1x4 updateFits_S100x4_S1x4.1 st 0 ≤ t.val ∧ t.val < Host.clampedStart S100x4 S1x4 updateFits_S100x4_S1x4.1 st 0 + 1 := h
    rw [c0] at h
    omega

/-- Counting from the end never happens for a place. -/
theorem wrap_place (n : Fin 1000) (m : BitVec 32) :
    Scalar.select (IntOp.cmpi .slt (BitVec.ofNat 32 n.val) 0#32) m (BitVec.ofNat 32 n.val) = BitVec.ofNat 32 n.val := by
  have h : (BitVec.ofNat 32 n.val).slt 0#32 = false := by
    rw [BitVec.slt, toInt_place]
    simp
  simp [Scalar.select, IntOp.cmpi, h]

end Cert.Nms

end
end
-- ==== Proof.RefBody.lean ====
/- One trip of the reference's loop, read at an index, stretch by stretch. -/
module

public import proofs.«01_k».proof.Proof.RefArg
public import proofs.«01_k».proof.Proof.RefFrame

@[expose] public section

set_option maxRecDepth 32768

noncomputable section

namespace Cert.Nms

open Idealize.ShloMosaic Idealize.ShloMosaic.TcCoe Idealize.SL.Sem Idealize.ShloMosaic.StableHlo
open Cert.ReferenceIdeal Cert.ReferenceIdeal.Gen Cert.ReferenceIdeal.Value

set_option maxHeartbeats 1000000 in
/-- The place the trip keeps. -/
theorem v174_at (V : Valuation τ sig (Elt Ideal)) (b : Fin 4) :
    (after (while0Ops0 (F := Ideal)) V (Proc.devRef .tc main_while0b_v174) : IVec S4 32) (ix1 b)
      = BitVec.ofNat 32 (top (fun n => (V (Proc.devRef .tc main_v159_2) : FVec Ideal S4x1000 .f32) (ix2 b n))).val := by
  after_reads_at
  refine Eq.trans ?_ (argmax_at (V (Proc.devRef .tc main_v159_2) : FVec Ideal S4x1000 .f32) b
    (constant S_ .f32 0xFF800000#32) (constantI S_ 32 0#32) ?_ ?_)
  · rfl
  · intro i
    show (Ideal.ofBits .f32 0xFF800000#32 : EReal) = ⊥
    simp [Ideal.ofBits, Ideal.ieee]
  · intro i
    rfl

theorem iv_int (k : ℕ) (hk : k < 100) : (Scf.iv 0#32 1#32 k).toInt = (k : ℤ) := by
  have h : (Scf.iv 0#32 1#32 k) = BitVec.ofNat 32 k := by simp [Scf.iv]
  rw [h]
  exact toInt_place ⟨k, by omega⟩

theorem or_bits (p q : Prop) [Decidable p] [Decidable q] :
    (BitVec.ofBool (decide p) ||| BitVec.ofBool (decide q)) = 1#1 ↔ p ∨ q := by
  by_cases hp : p <;> by_cases hq : q <;> simp [hp, hq]

theorem drop_at (x : R) (s : R) (n a : Fin 1000) :
    Scalar.select (IntOp.ori (FloatOps.cmpf .ogt x (Ideal.ofBits .f32 0x3F19999A#32))
        (IntOp.cmpi .eq (BitVec.ofNat 32 n.val) (BitVec.ofNat 32 a.val))) (Ideal.ofBits .f32 0xBF800000#32) s
      = if (thr : EReal) < x ∨ n = a then negOne else s := by
  have e : (BitVec.ofNat 32 n.val == BitVec.ofNat 32 a.val) = decide (n = a) := by
    by_cases h : n = a
    · simp [h]
    · rw [beq_false_of_ne, decide_eq_false h]
      intro h'
      have h2 := congrArg BitVec.toInt h'
      rw [toInt_place, toInt_place] at h2
      exact h (Fin.ext (by omega))
  simp only [Scalar.select, IntOp.ori, IntOp.cmpi, e]
  show (if (BitVec.ofBool (decide ((thr : EReal) < x)) ||| BitVec.ofBool (decide (n = a))) = 1#1 then negOne else s) = _
  exact if_congr (or_bits _ _) rfl rfl

/-- The operations between the argmax and the writes. -/
abbrev midOps : List (List (HloOp τ sig (Elt Ideal))) := [while0Ops0_1, while0Ops0_2, while0Ops0_3, while0Ops0_4, while0Ops0_5, while0Ops0_6]

set_option maxHeartbeats 1000000 in
theorem v192_at (V : Valuation τ sig (Elt Ideal)) (b : Fin 4) (n a : Fin 1000)
    (ha : (V (Proc.devRef .tc main_while0b_v174) : IVec S4 32) (ix1 b) = BitVec.ofNat 32 a.val) :
    (afterL midOps V (Proc.devRef .tc main_while0b_v192) : FVec Ideal S4x1000 .f32) (ix2 b n)
      = if (thr : EReal) < (V (Proc.devRef .tc main_v159_0) : FVec Ideal S4x1000x1000 .f32) (ix3 b a n) ∨ n = a then negOne
        else (V (Proc.devRef .tc main_v159_2) : FVec Ideal S4x1000 .f32) (ix2 b n) := by
  simp only [afterL_cons, afterL_nil]
  after_reads_at
  try after_reads_at
  try simp only [id_eq]
  try clean_types
  try pointwise
  rw [gatherRow_at _ _ b a ?h, ha]
  case h =>
    pointwise
    rw [ha]
    exact wrap_place a _
  exact drop_at _ _ n a

set_option maxHeartbeats 1000000 in
theorem v179_at (V : Valuation τ sig (Elt Ideal)) (b : Fin 4) (a : Fin 1000)
    (ha : (V (Proc.devRef .tc main_while0b_v174) : IVec S4 32) (ix1 b) = BitVec.ofNat 32 a.val) :
    (afterL midOps V (Proc.devRef .tc main_while0b_v179) : IVec S4 1) (ix1 b)
      = FloatOps.cmpf .ogt ((V (Proc.devRef .tc main_v159_2) : FVec Ideal S4x1000 .f32) (ix2 b a)) zero := by
  simp only [afterL_cons, afterL_nil]
  after_reads_at
  try after_reads_at
  try simp only [id_eq]
  try clean_types
  try pointwise
  rw [gatherS_at _ _ b a ?h]
  case h =>
    pointwise
    rw [ha]
    exact wrap_place a _
  rw [zero_eq]

set_option maxHeartbeats 1000000 in
theorem v193_at (V : Valuation τ sig (Elt Ideal)) (k : ℕ) (hk : k < 100)
    (hc : V (Proc.devRef .tc main_v159_1) = fun _ => Scf.iv 0#32 1#32 k) (t : Fin 100) (b : Fin 4) :
    (after (while0Ops0_7 (F := Ideal)) V (Proc.devRef .tc main_while0b_v193) : IVec S100x4 32) (ix2 t b)
      = if t.val = k then (V (Proc.devRef .tc main_while0b_v174) : IVec S4 32) (ix1 b)
        else (V (Proc.devRef .tc main_v159_3) : IVec S100x4 32) (ix2 t b) := by
  after_reads_simp
  refine (put_row_at _ _ _ k hk ?_ ?_ t b).trans ?_
  · show BitVec.toInt ((upto (while0Ops0_7 (F := Ideal)) V 2 (Proc.devRef .tc main_v159_1) : IVec S_ 32) (Shape.Idx.first h_S_)) = _
    after_reads_at
    rw [hc]
    exact iv_int k hk
  · show BitVec.toInt ((upto (while0Ops0_7 (F := Ideal)) V 2 (Proc.devRef .tc main_while0b_call15_c) : IVec S_ 32) (Shape.Idx.first h_S_)) = _
    after_reads_at
    rfl
  · refine if_congr Iff.rfl ?_ rfl
    show (broadcastInDim S1x4 ![1] bcast_S4_S1x4_1 (V (Proc.devRef .tc main_while0b_v174) : IVec S4 32)) (ix2 0 b) = _
    pointwise

set_option maxHeartbeats 1000000 in
theorem v194_at (V : Valuation τ sig (Elt Ideal)) (k : ℕ) (hk : k < 100)
    (hc : V (Proc.devRef .tc main_v159_1) = fun _ => Scf.iv 0#32 1#32 k) (t : Fin 100) (b : Fin 4) :
    (after (while0Ops0_8 (F := Ideal)) V (Proc.devRef .tc main_while0b_v194) : IVec S100x4 1) (ix2 t b)
      = if t.val = k then (V (Proc.devRef .tc main_while0b_v179) : IVec S4 1) (ix1 b)
        else (V (Proc.devRef .tc main_v159_4) : IVec S100x4 1) (ix2 t b) := by
  after_reads_simp
  refine (put_row_at _ _ _ k hk ?_ ?_ t b).trans ?_
  · show BitVec.toInt ((upto (while0Ops0_8 (F := Ideal)) V 2 (Proc.devRef .tc main_v159_1) : IVec S_ 32) (Shape.Idx.first h_S_)) = _
    after_reads_at
    rw [hc]
    exact iv_int k hk
  · show BitVec.toInt ((upto (while0Ops0_8 (F := Ideal)) V 2 (Proc.devRef .tc main_while0b_call16_c) : IVec S_ 32) (Shape.Idx.first h_S_)) = _
    after_reads_at
    rfl
  · refine if_congr Iff.rfl ?_ rfl
    show (broadcastInDim S1x4 ![1] bcast_S4_S1x4_1 (V (Proc.devRef .tc main_while0b_v179) : IVec S4 1)) (ix2 0 b) = _
    pointwise

section keeps
variable (V : Valuation τ sig (Elt Ideal))

theorem arg_v159_0 : after (while0Ops0 (F := Ideal)) V (Proc.devRef .tc main_v159_0) = V (Proc.devRef .tc main_v159_0) :=
  after_of_writes_sub while0Ops0 V while0Ops0_writes (by decide +kernel)
theorem arg_v159_1 : after (while0Ops0 (F := Ideal)) V (Proc.devRef .tc main_v159_1) = V (Proc.devRef .tc main_v159_1) :=
  after_of_writes_sub while0Ops0 V while0Ops0_writes (by decide +kernel)
theorem arg_v159_2 : after (while0Ops0 (F := Ideal)) V (Proc.devRef .tc main_v159_2) = V (Proc.devRef .tc main_v159_2) :=
  after_of_writes_sub while0Ops0 V while0Ops0_writes (by decide +kernel)
theorem arg_v159_3 : after (while0Ops0 (F := Ideal)) V (Proc.devRef .tc main_v159_3) = V (Proc.devRef .tc main_v159_3) :=
  after_of_writes_sub while0Ops0 V while0Ops0_writes (by decide +kernel)
theorem arg_v159_4 : after (while0Ops0 (F := Ideal)) V (Proc.devRef .tc main_v159_4) = V (Proc.devRef .tc main_v159_4) :=
  after_of_writes_sub while0Ops0 V while0Ops0_writes (by decide +kernel)

/-- A buffer the operations between leave alone. -/
theorem mid_keeps (r : Ref sig .tc) (h : r ∉ [while0Ops0_1_W, while0Ops0_2_W, while0Ops0_3_W, while0Ops0_4_W, while0Ops0_5_W, while0Ops0_6_W].flatten) :
    afterL midOps V (Proc.devRef .tc r) = V (Proc.devRef .tc r) := by
  simp only [List.flatten_cons, List.flatten_nil, List.mem_append, not_or] at h
  obtain ⟨h1, h2, h3, h4, h5, h6, -⟩ := h
  simp only [afterL_cons, afterL_nil]
  rw [after_of_writes_sub while0Ops0_6 _ while0Ops0_6_writes h6, after_of_writes_sub while0Ops0_5 _ while0Ops0_5_writes h5,
    after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1]

/-- The operations that write the trip's results back. -/
abbrev endOps : List (List (HloOp τ sig (Elt Ideal))) := [while0Ops0_7, while0Ops0_8, while0Ops0_9]

set_option maxHeartbeats 1000000 in
theorem end_scores (b : Fin 4) (n : Fin 1000) :
    (afterL endOps V (Proc.devRef .tc main_v159_2) : FVec Ideal S4x1000 .f32) (ix2 b n)
      = (V (Proc.devRef .tc main_while0b_v192) : FVec Ideal S4x1000 .f32) (ix2 b n) := by
  simp only [afterL_cons, afterL_nil]
  after_reads_at
  try rfl

theorem put9 (W : Valuation τ sig (Elt Ideal)) :
    after (while0Ops0_9 (F := Ideal)) W (Proc.devRef .tc main_v159_3) = W (Proc.devRef .tc main_while0b_v193)
      ∧ after (while0Ops0_9 (F := Ideal)) W (Proc.devRef .tc main_v159_4) = W (Proc.devRef .tc main_while0b_v194) := by
  constructor
  · after_reads_simp
    rfl
  · after_reads_simp
    rfl

theorem end_places (k : ℕ) (hk : k < 100)
    (hc : V (Proc.devRef .tc main_v159_1) = fun _ => Scf.iv 0#32 1#32 k) (t : Fin 100) (b : Fin 4) :
    (afterL endOps V (Proc.devRef .tc main_v159_3) : IVec S100x4 32) (ix2 t b)
      = if t.val = k then (V (Proc.devRef .tc main_while0b_v174) : IVec S4 32) (ix1 b)
        else (V (Proc.devRef .tc main_v159_3) : IVec S100x4 32) (ix2 t b) := by
  simp only [afterL_cons, afterL_nil]
  rw [(put9 _).1, after_of_writes_sub while0Ops0_8 _ while0Ops0_8_writes (by decide +kernel)]
  exact v193_at V k hk hc t b

theorem end_masks (k : ℕ) (hk : k < 100)
    (hc : V (Proc.devRef .tc main_v159_1) = fun _ => Scf.iv 0#32 1#32 k) (t : Fin 100) (b : Fin 4) :
    (afterL endOps V (Proc.devRef .tc main_v159_4) : IVec S100x4 1) (ix2 t b)
      = if t.val = k then (V (Proc.devRef .tc main_while0b_v179) : IVec S4 1) (ix1 b)
        else (V (Proc.devRef .tc main_v159_4) : IVec S100x4 1) (ix2 t b) := by
  simp only [afterL_cons, afterL_nil]
  rw [(put9 _).2]
  refine (v194_at _ k hk ?_ t b).trans ?_
  · rw [after_of_writes_sub while0Ops0_7 _ while0Ops0_7_writes (by decide +kernel), hc]
  · rw [after_of_writes_sub while0Ops0_7 _ while0Ops0_7_writes (show main_while0b_v179 ∉ _ by decide +kernel),
      after_of_writes_sub while0Ops0_7 _ while0Ops0_7_writes (show main_v159_4 ∉ _ by decide +kernel)]

end keeps

/-- What the loop's buffers hold before trip `k`. -/
structure Loop (C : Fin 4 → Cand) (k : ℕ) (V : Valuation τ sig (Elt Ideal)) : Prop where
  iou : ∀ (b : Fin 4) (i n : Fin 1000), (V (Proc.devRef .tc main_v159_0) : FVec Ideal S4x1000x1000 .f32) (ix3 b i n) = Nms.iou (C b) i n
  ctr : V (Proc.devRef .tc main_v159_1) = fun _ => Scf.iv 0#32 1#32 k
  sc : ∀ (b : Fin 4) (n : Fin 1000), (V (Proc.devRef .tc main_v159_2) : FVec Ideal S4x1000 .f32) (ix2 b n) = scores (C b) k n
  place : ∀ (t : Fin 100) (b : Fin 4), t.val < k → (V (Proc.devRef .tc main_v159_3) : IVec S100x4 32) (ix2 t b) = BitVec.ofNat 32 (top (scores (C b) t.val)).val
  mask : ∀ (t : Fin 100) (b : Fin 4), t.val < k → (V (Proc.devRef .tc main_v159_4) : IVec S100x4 1) (ix2 t b) = keep (scores (C b) t.val)

theorem Loop.cond {C : Fin 4 → Cand} {k : ℕ} {V : Valuation τ sig (Elt Ideal)} (h : Loop C k V) : Loop C k (after (condOps (F := Ideal)) V) where
  iou b i n := by rw [after_of_writes_sub condOps _ condOps_writes (by decide +kernel)]; exact h.iou b i n
  ctr := by rw [after_of_writes_sub condOps _ condOps_writes (by decide +kernel)]; exact h.ctr
  sc b n := by rw [after_of_writes_sub condOps _ condOps_writes (by decide +kernel)]; exact h.sc b n
  place t b ht := by rw [after_of_writes_sub condOps _ condOps_writes (by decide +kernel)]; exact h.place t b ht
  mask t b ht := by rw [after_of_writes_sub condOps _ condOps_writes (by decide +kernel)]; exact h.mask t b ht

theorem Loop.step {C : Fin 4 → Cand} {k : ℕ} {V : Valuation τ sig (Elt Ideal)} (h : Loop C k V) (hk : k < 100)
    (hc : afterL (bodyI (F := Ideal)) V (Proc.devRef .tc main_v159_1) = fun _ => Scf.iv 0#32 1#32 (k + 1)) :
    Loop C (k + 1) (afterL (bodyI (F := Ideal)) V) := by
  have hsp : afterL (bodyI (F := Ideal)) V = afterL endOps (afterL midOps (after while0Ops0 V)) := rfl
  generalize hX : after (while0Ops0 (F := Ideal)) V = X at hsp
  have ha : ∀ b : Fin 4, (X (Proc.devRef .tc main_while0b_v174) : IVec S4 32) (ix1 b) = BitVec.ofNat 32 (top (scores (C b) k)).val := by
    intro b
    rw [← hX]
    refine (v174_at V b).trans ?_
    rw [show (fun n => (V (Proc.devRef .tc main_v159_2) : FVec Ideal S4x1000 .f32) (ix2 b n)) = scores (C b) k from funext (h.sc b)]
  have x0 : X (Proc.devRef .tc main_v159_0) = V (Proc.devRef .tc main_v159_0) := by rw [← hX]; exact arg_v159_0 V
  have x1 : X (Proc.devRef .tc main_v159_1) = V (Proc.devRef .tc main_v159_1) := by rw [← hX]; exact arg_v159_1 V
  have x2 : X (Proc.devRef .tc main_v159_2) = V (Proc.devRef .tc main_v159_2) := by rw [← hX]; exact arg_v159_2 V
  have x3 : X (Proc.devRef .tc main_v159_3) = V (Proc.devRef .tc main_v159_3) := by rw [← hX]; exact arg_v159_3 V
  have x4 : X (Proc.devRef .tc main_v159_4) = V (Proc.devRef .tc main_v159_4) := by rw [← hX]; exact arg_v159_4 V
  have y1 := (mid_keeps X main_v159_1 (by decide +kernel)).trans (x1.trans h.ctr)
  refine ⟨?_, hc, ?_, ?_, ?_⟩
  · intro b i n
    rw [body_keeps main_v159_0 (by decide +kernel) V]
    exact h.iou b i n
  · intro b n
    rw [hsp]
    refine (end_scores _ b n).trans ((v192_at X b n _ (ha b)).trans ?_)
    rw [x0, x2, h.iou, h.sc]
    rfl
  · intro t b ht
    rw [hsp]
    refine (end_places _ k hk y1 t b).trans ?_
    rw [mid_keeps X main_while0b_v174 (by decide +kernel), mid_keeps X main_v159_3 (by decide +kernel), x3, ha]
    split
    · next e => rw [e]
    · next e => exact h.place t b (by omega)
  · intro t b ht
    rw [hsp]
    refine (end_masks _ k hk y1 t b).trans ?_
    rw [v179_at X b _ (ha b), mid_keeps X main_v159_4 (by decide +kernel), x4, x2, h.sc]
    split
    · next e => rw [e]; rfl
    · next e => exact h.mask t b (by omega)

end Cert.Nms

end
end
-- ==== Proof.RRead.lean ====
/- What the reference's loop starts from, from the cut. -/
module

public import proofs.«01_k».proof.Proof.Cut

@[expose] public section

set_option maxRecDepth 32768

noncomputable section

namespace Cert.Nms

open Idealize.ShloMosaic Idealize.ShloMosaic.TcCoe Idealize.SL.Sem Idealize.ShloMosaic.StableHlo

section
open Cert.ReferenceIdeal Cert.ReferenceIdeal.Gen

set_option maxHeartbeats 1000000 in
theorem v98_at (V : Valuation τ sig (Elt Ideal)) (b : Fin 4) (n : Fin 1000) (j : Fin 4) :
    (after (Sim.rRest (F := Ideal)) V (Proc.devRef .tc main_v98) : FVec Ideal S4x1000x4 .f32) (ix3 b n j) = field (candOf (cutR V) b) n j.val := by
  after_reads_at
  try after_reads_at
  try after_reads_at
  try simp only [id_eq]
  try clean_types
  try pointwise
  fin_cases j
  all_goals simp only [field, candOf, clip, edge, one_eq, zero_eq, cutR]
  all_goals rfl

set_option maxHeartbeats 1000000 in
theorem v108_at (V : Valuation τ sig (Elt Ideal)) (b : Fin 4) (n : Fin 1000) :
    (after (Sim.rRest (F := Ideal)) V (Proc.devRef .tc main_v108) : FVec Ideal S4x1000 .f32) (ix2 b n) = (candOf (cutR V) b).sc n := by
  after_reads_at
  try after_reads_at
  try after_reads_at
  try simp only [id_eq]
  try clean_types
  try pointwise
  simp only [inter, iou, area, ox1, ox2, oy1, oy2, off, field, start, candOf, clip, edge, one_eq, zero_eq, cutR]
  rfl

set_option maxHeartbeats 1000000 in
theorem v155_at (V : Valuation τ sig (Elt Ideal)) (b : Fin 4) (i n : Fin 1000) :
    (after (Sim.rRest (F := Ideal)) V (Proc.devRef .tc main_v159_0) : FVec Ideal S4x1000x1000 .f32) (ix3 b i n) = iou (candOf (cutR V) b) i n := by
  after_reads_at
  try after_reads_at
  try after_reads_at
  try simp only [id_eq]
  try clean_types
  try pointwise
  simp only [inter, iou, area, ox1, ox2, oy1, oy2, off, field, start, candOf, clip, edge, one_eq, zero_eq, cutR]
  rfl

set_option maxHeartbeats 1000000 in
theorem v156_at (V : Valuation τ sig (Elt Ideal)) (b : Fin 4) (n : Fin 1000) :
    (after (Sim.rRest (F := Ideal)) V (Proc.devRef .tc main_v159_2) : FVec Ideal S4x1000 .f32) (ix2 b n) = start (candOf (cutR V) b) n := by
  after_reads_at
  try after_reads_at
  try after_reads_at
  try simp only [id_eq]
  try clean_types
  try pointwise
  simp only [inter, iou, area, ox1, ox2, oy1, oy2, off, field, start, candOf, clip, edge, one_eq, zero_eq, cutR]
  rfl

theorem v33_at (V : Valuation τ sig (Elt Ideal)) :
    after (Sim.rRest (F := Ideal)) V (Proc.devRef .tc main_v33) = V (Proc.devRef .tc main_v33) := by
  after_reads_simp

end

end Cert.Nms

end
end
-- ==== Proof.RefOut.lean ====
/- The reference's result: the rows its loop picks. -/
module

public import proofs.«01_k».proof.Proof.RefBody
public import proofs.«01_k».proof.Proof.RRead

@[expose] public section

set_option maxRecDepth 32768

noncomputable section

namespace Cert.Nms

open Idealize.ShloMosaic Idealize.ShloMosaic.TcCoe Idealize.SL.Sem Idealize.ShloMosaic.StableHlo
open Cert.ReferenceIdeal Cert.ReferenceIdeal.Gen Cert.ReferenceIdeal.Value

theorem loop_at (m : (ℓ : Loc nD τ sig) → Buf (Elt Ideal) ℓ) (c : Dev nD) (C : Fin 4 → Cand)
    (h0 : Loop C 0 (entryContents preI m c)) : ∀ k, k ≤ 100 → Loop C k (atK m k c)
  | 0, _ => h0
  | k + 1, hk => (loop_at m c C h0 k (by omega)).cond.step (by omega) (atK_ctr m c (k + 1))

set_option maxHeartbeats 1000000 in
theorem v173_at (V : Valuation τ sig (Elt Ideal)) (b : Fin 4) (t : Fin 100) (a : Fin 1000) (j : Fin 6)
    (ha : (V (Proc.devRef .tc main_v159_3) : IVec S100x4 32) (ix2 t b) = BitVec.ofNat 32 a.val) :
    (afterL (postI (F := Ideal)) V (Proc.devRef .tc main_v173) : FVec Ideal S4x100x6 .f32) (ix3 b t j)
      = FloatOps.mulf (F := Ideal) (φ := .f32) (if h : j.val < 4 then (V (Proc.devRef .tc main_v98) : FVec Ideal S4x1000x4 .f32) (ix3 b a ⟨j.val, h⟩)
          else if j.val = 4 then (V (Proc.devRef .tc main_v108) : FVec Ideal S4x1000 .f32) (ix2 b a)
          else FloatOps.sitofp (F := Ideal) .f32 ((V (Proc.devRef .tc main_v33) : IVec S4x1000 32) (ix2 b a)))
        (FloatOps.uitofp (F := Ideal) .f32 ((V (Proc.devRef .tc main_v159_4) : IVec S100x4 1) (ix2 t b))) := by
  simp only [afterL_cons, afterL_nil]
  fin_cases j
  all_goals
    after_reads_at
    try after_reads_at
    try after_reads_at
    try simp only [id_eq]
    try clean_types
    try pointwise
  · rw [gatherBox_at _ _ b t a ?h]
    case h =>
      pointwise
      rw [ha]
      exact wrap_place a _
  · rw [gatherBox_at _ _ b t a ?h]
    case h =>
      pointwise
      rw [ha]
      exact wrap_place a _
  · rw [gatherBox_at _ _ b t a ?h]
    case h =>
      pointwise
      rw [ha]
      exact wrap_place a _
  · rw [gatherBox_at _ _ b t a ?h]
    case h =>
      pointwise
      rw [ha]
      exact wrap_place a _
  · rw [gatherCol_at _ _ b t a ?h]
    case h =>
      show Scalar.select (IntOp.cmpi .slt ((V (Proc.devRef .tc main_v159_3) : IVec S100x4 32) (ix2 t b)) 0#32) _ ((V (Proc.devRef .tc main_v159_3) : IVec S100x4 32) (ix2 t b)) = _
      rw [ha]
      exact wrap_place a _
  · rw [gatherCol_at _ _ b t a ?h]
    case h =>
      show Scalar.select (IntOp.cmpi .slt ((V (Proc.devRef .tc main_v159_3) : IVec S100x4 32) (ix2 t b)) 0#32) _ ((V (Proc.devRef .tc main_v159_3) : IVec S100x4 32) (ix2 t b)) = _
      rw [ha]
      exact wrap_place a _

theorem bit_eq (k : BitVec 1) : (FloatOps.uitofp (F := Ideal) .f32 k : R) = if k = 1#1 then one else zero := by
  rw [one_eq, zero_eq]
  rcases (by decide +revert : k = 0#1 ∨ k = 1#1) with h | h
  · subst h
    show (((0#1).toNat : ℝ) : EReal) = _
    simp
  · subst h
    show (((1#1).toNat : ℝ) : EReal) = _
    simp

/-- The reference's result, from the cut its list of operations passes. -/
theorem result_at (m : (ℓ : Loc nD τ sig) → Buf (Elt Ideal) ℓ) (c : Dev nD) (W : Valuation τ sig (Elt Ideal))
    (hW : after (List.flatten (preI (F := Ideal))) (launchContents m c) = after (Sim.rRest (F := Ideal)) W)
    (b : Fin 4) (t : Fin 100) (j : Fin 6) :
    (finalContents condOps preI bodyI postI 100 m c (Proc.devRef .tc main_v173) : FVec Ideal S4x100x6 .f32) (ix3 b t j)
      = row (candOf (cutR W) b) t.val j.val := by
  have he : entryContents preI m c = after (Sim.rRest (F := Ideal)) W :=
    (show entryContents preI m c = afterL preI (launchContents m c) from rfl).trans ((afterL_eq_after_flatten _ _).trans hW)
  have h0 : Loop (fun b => candOf (cutR W) b) 0 (entryContents preI m c) := by
    refine ⟨?_, atK_ctr m c 0, ?_, ?_, ?_⟩
    · intro b i n
      rw [he]
      exact v155_at W b i n
    · intro b n
      rw [he]
      exact v156_at W b n
    · intro t b ht
      exact absurd ht (Nat.not_lt_zero _)
    · intro t b ht
      exact absurd ht (Nat.not_lt_zero _)
  have hL := (loop_at m c _ h0 100 (le_refl _)).cond
  have e98 : after (condOps (F := Ideal)) (atK m 100 c) (Proc.devRef .tc main_v98) = after (Sim.rRest (F := Ideal)) W (Proc.devRef .tc main_v98) := by
    rw [after_of_writes_sub condOps _ condOps_writes (by decide +kernel), trip_keeps m main_v98 (by decide +kernel) (by decide +kernel) c 100, he]
  have e108 : after (condOps (F := Ideal)) (atK m 100 c) (Proc.devRef .tc main_v108) = after (Sim.rRest (F := Ideal)) W (Proc.devRef .tc main_v108) := by
    rw [after_of_writes_sub condOps _ condOps_writes (by decide +kernel), trip_keeps m main_v108 (by decide +kernel) (by decide +kernel) c 100, he]
  have e33 : after (condOps (F := Ideal)) (atK m 100 c) (Proc.devRef .tc main_v33) = after (Sim.rRest (F := Ideal)) W (Proc.devRef .tc main_v33) := by
    rw [after_of_writes_sub condOps _ condOps_writes (by decide +kernel), trip_keeps m main_v33 (by decide +kernel) (by decide +kernel) c 100, he]
  generalize hU : after (condOps (F := Ideal)) (atK m 100 c) = U at hL e98 e108 e33
  have hf : finalContents condOps preI bodyI postI 100 m c = afterL (postI (F := Ideal)) U := by
    rw [← hU]
  rw [hf]
  refine (v173_at U b t _ j (hL.place t b t.isLt)).trans ?_
  rw [e98, e108, e33, hL.mask t b t.isLt, bit_eq]
  unfold row
  congr 1
  split
  · next h => exact v98_at W b _ ⟨j.val, h⟩
  · next h =>
    split
    · next h4 =>
      rw [h4]
      exact v108_at W b _
    · next h4 =>
      have h5 : j.val = 5 := by omega
      rw [h5, v33_at W]
      rfl

end Cert.Nms

end
end
-- ==== Proof.Same.lean ====
/- The kernel and the reference end with one result. -/
module

public import proofs.«01_k».proof.Proof.KRows
public import proofs.«01_k».proof.Proof.RefOut

@[expose] public section

set_option maxRecDepth 16384

noncomputable section

namespace Cert.Nms

open Idealize.ShloMosaic Idealize.ShloMosaic.TcCoe Idealize.SL.Sem Idealize.ShloMosaic.StableHlo

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories that agree on the arguments, the reference's result is the kernel's rows. -/
theorem same (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (b : Fin 4) (t : Fin 100) (j : Fin 6) :
    Cert.KernelIdeal.Value.outRow m c b t.val ⟨j.val, by omega⟩
      = (finalContents Cert.ReferenceIdeal.Value.condOps Cert.ReferenceIdeal.Value.preI Cert.ReferenceIdeal.Value.bodyI
          Cert.ReferenceIdeal.Value.postI 100 m' c (Proc.devRef .tc Cert.ReferenceIdeal.main_v173)
          : FVec Ideal Cert.ReferenceIdeal.S4x100x6 .f32) (ix3 b t j) := by
  have hA : Cert.Sim.Agree Cert.Sim.argPairs (launchContents m c) (launchContents m' c) := by
    intro p hp
    simp only [List.mem_cons, List.not_mem_nil, or_false] at hp
    rcases hp with rfl | rfl | rfl | rfl | rfl
    · exact heq_of_eq h0.symm
    · exact heq_of_eq h1.symm
    · exact heq_of_eq h2.symm
    · exact heq_of_eq h3.symm
    · exact heq_of_eq h4.symm
  obtain ⟨V, W, hVW, hV, hW⟩ := Cert.Sim.prefix_sims (F := Ideal) _ _ hA
  rw [Cert.KernelIdeal.Value.outRow_eq m c V hV b t.val ⟨j.val, by omega⟩ j.isLt, cut_eq V W hVW]
  exact (result_at m' c W hW b t j).symm
end

end Cert.Nms

end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.PRun
public import proofs.«01_k».proof.Proof.KRun
public import proofs.«01_k».proof.Proof.RefFrame
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo Cert.Kernel

/-- The kernel as printed: its arguments unchanged, every counter at zero. -/
theorem frame_kernel : Cert.quiescent_Kernel (hKernel := Cert.Kernel.Gen.facts) :=
  fun m g _ => (θ_run _ _ _).mono (fun _ h => ⟨fun c => (h.1 c).1, h.2⟩) (Cert.Kernel.Value.run m g)

/-- The idealized kernel: its arguments unchanged, every counter at zero. -/
theorem frame_kernelIdeal : Cert.quiescent_KernelIdeal (hKernelIdeal := Cert.KernelIdeal.Gen.facts) :=
  fun m g _ => (θ_run _ _ _).mono (fun _ h => ⟨fun c => (h.1 c).1, h.2⟩) (Cert.KernelIdeal.Value.run m g)

/-- The reference: its arguments unchanged, every counter at zero. -/
theorem frame_referenceIdeal : Cert.quiescent_ReferenceIdeal (hReferenceIdeal := Cert.ReferenceIdeal.Gen.facts) :=
  fun m g _ => (θ_run _ _ _).mono (fun _ h => ⟨fun c => (h.1 c).1, h.2⟩) (Cert.ReferenceIdeal.Value.run m g)

/-- The idealized kernel and the reference end with one result on the extended reals. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => (finalContents Cert.ReferenceIdeal.Value.condOps Cert.ReferenceIdeal.Value.preI Cert.ReferenceIdeal.Value.bodyI
      Cert.ReferenceIdeal.Value.postI 100 m' c (Proc.devRef .tc Cert.ReferenceIdeal.main_v173)
      : FVec Ideal Cert.ReferenceIdeal.S4x100x6 .f32), ?_, ?_⟩
  · refine (θ_run _ _ _).mono (fun r hr c => ⟨?_, (hr.1 c).1⟩) (Cert.KernelIdeal.Value.run m g)
    obtain ⟨h0, h1, h2, h3, h4⟩ := h c
    funext (i : Cert.ReferenceIdeal.S4x100x6.Idx)
    idx_vars i
    exact ((hr.1 c).2 i0 i1 i2).trans (Cert.Nms.same m m' c h0 h1 h2 h3 h4 i0 i1 i2)
  · exact (θ_run _ _ _).mono (fun r hr c => ⟨(hr.1 c).2, (hr.1 c).1⟩) (Cert.ReferenceIdeal.Value.run m' g')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
